-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Ffn2 (m : (ℓ : Loc Cert.Ffn2.nD Cert.Ffn2.τ Cert.Ffn2.sig) → Buf (Elt Bits) ℓ) : Prop :=
  True

def Pre_Ffn2Ideal (m : (ℓ : Loc Cert.Ffn2Ideal.nD Cert.Ffn2Ideal.τ Cert.Ffn2Ideal.sig) → Buf (Elt Ideal) ℓ) : Prop :=
  True

def Pre_Ffn2ReferenceIdeal (m : (ℓ : Loc Cert.Ffn2ReferenceIdeal.nD Cert.Ffn2ReferenceIdeal.τ Cert.Ffn2ReferenceIdeal.sig) → Buf (Elt Ideal) ℓ) : Prop :=
  True

def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_Ffn1ReferenceIdeal (m : (ℓ : Loc Cert.Ffn1ReferenceIdeal.nD Cert.Ffn1ReferenceIdeal.τ Cert.Ffn1ReferenceIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvReferenceIdeal (m : (ℓ : Loc Cert.MemKvReferenceIdeal.nD Cert.MemKvReferenceIdeal.τ Cert.MemKvReferenceIdeal.sig) → Buf (Elt Ideal) ℓ) : Prop :=
  True

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnReferenceIdeal (m : (ℓ : Loc Cert.MemAttnReferenceIdeal.nD Cert.MemAttnReferenceIdeal.τ Cert.MemAttnReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_GluWeight (m : (ℓ : Loc Cert.GluWeight.nD Cert.GluWeight.τ Cert.GluWeight.sig) → Buf (Elt Bits) ℓ) : Prop :=
  True

def Pre_GluWeightIdeal (m : (ℓ : Loc Cert.GluWeightIdeal.nD Cert.GluWeightIdeal.τ Cert.GluWeightIdeal.sig) → Buf (Elt Ideal) ℓ) : Prop :=
  True

def Pre_GluWeightReferenceIdeal (m : (ℓ : Loc Cert.GluWeightReferenceIdeal.nD Cert.GluWeightReferenceIdeal.τ Cert.GluWeightReferenceIdeal.sig) → Buf (Elt Ideal) ℓ) : Prop :=
  True

def Pre_GateWeight (m : (ℓ : Loc Cert.GateWeight.nD Cert.GateWeight.τ Cert.GateWeight.sig) → Buf (Elt Bits) ℓ) : Prop :=
  True

def Pre_GateWeightIdeal (m : (ℓ : Loc Cert.GateWeightIdeal.nD Cert.GateWeightIdeal.τ Cert.GateWeightIdeal.sig) → Buf (Elt Ideal) ℓ) : Prop :=
  True

def Pre_GateWeightReferenceIdeal (m : (ℓ : Loc Cert.GateWeightReferenceIdeal.nD Cert.GateWeightReferenceIdeal.τ Cert.GateWeightReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn2 [hFfn2 : Cert.Ffn2.Facts] : Prop :=
  ∀ (m : (ℓ : Loc Cert.Ffn2.nD Cert.Ffn2.τ Cert.Ffn2.sig) → Buf (Elt Bits) ℓ) (g : Dev Cert.Ffn2.nD → PrngReg), Pre_Ffn2 m →
    θ_run (Cert.Ffn2.defs (F := Bits)) (onTc (τ := Cert.Ffn2.τ) (Cert.Ffn2.main (F := Bits))) ⟨m, fun _ => 0, g⟩ (fun r => (∀ c : Dev Cert.Ffn2.nD,
      r.2.mem ((c.tc : Thread Cert.Ffn2.nD Cert.Ffn2.τ).loc Cert.Ffn2.main_arg0) = m ((c.tc : Thread Cert.Ffn2.nD Cert.Ffn2.τ).loc Cert.Ffn2.main_arg0)
      ∧ r.2.mem ((c.tc : Thread Cert.Ffn2.nD Cert.Ffn2.τ).loc Cert.Ffn2.main_arg1) = m ((c.tc : Thread Cert.Ffn2.nD Cert.Ffn2.τ).loc Cert.Ffn2.main_arg1)
      ∧ r.2.mem ((c.tc : Thread Cert.Ffn2.nD Cert.Ffn2.τ).loc Cert.Ffn2.main_arg2) = m ((c.tc : Thread Cert.Ffn2.nD Cert.Ffn2.τ).loc Cert.Ffn2.main_arg2)
      ∧ r.2.mem ((c.tc : Thread Cert.Ffn2.nD Cert.Ffn2.τ).loc Cert.Ffn2.main_arg3) = m ((c.tc : Thread Cert.Ffn2.nD Cert.Ffn2.τ).loc Cert.Ffn2.main_arg3))
      ∧ r.2.sem = fun _ => 0)

def quiescent_Ffn2Ideal [hFfn2Ideal : Cert.Ffn2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
      ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
      ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3))
      ∧ r.2.sem = fun _ => 0)

def quiescent_Ffn2ReferenceIdeal [hFfn2ReferenceIdeal : Cert.Ffn2ReferenceIdeal.Facts] : Prop :=
  ∀ (m : (ℓ : Loc Cert.Ffn2ReferenceIdeal.nD Cert.Ffn2ReferenceIdeal.τ Cert.Ffn2ReferenceIdeal.sig) → Buf (Elt Ideal) ℓ) (g : Dev Cert.Ffn2ReferenceIdeal.nD → PrngReg), Pre_Ffn2ReferenceIdeal m →
    θ_run (Cert.Ffn2ReferenceIdeal.defs (F := Ideal)) (onTc (τ := Cert.Ffn2ReferenceIdeal.τ) (Cert.Ffn2ReferenceIdeal.main (F := Ideal))) ⟨m, fun _ => 0, g⟩ (fun r => (∀ c : Dev Cert.Ffn2ReferenceIdeal.nD,
      r.2.mem ((c.tc : Thread Cert.Ffn2ReferenceIdeal.nD Cert.Ffn2ReferenceIdeal.τ).loc Cert.Ffn2ReferenceIdeal.main_arg0) = m ((c.tc : Thread Cert.Ffn2ReferenceIdeal.nD Cert.Ffn2ReferenceIdeal.τ).loc Cert.Ffn2ReferenceIdeal.main_arg0)
      ∧ r.2.mem ((c.tc : Thread Cert.Ffn2ReferenceIdeal.nD Cert.Ffn2ReferenceIdeal.τ).loc Cert.Ffn2ReferenceIdeal.main_arg1) = m ((c.tc : Thread Cert.Ffn2ReferenceIdeal.nD Cert.Ffn2ReferenceIdeal.τ).loc Cert.Ffn2ReferenceIdeal.main_arg1)
      ∧ r.2.mem ((c.tc : Thread Cert.Ffn2ReferenceIdeal.nD Cert.Ffn2ReferenceIdeal.τ).loc Cert.Ffn2ReferenceIdeal.main_arg2) = m ((c.tc : Thread Cert.Ffn2ReferenceIdeal.nD Cert.Ffn2ReferenceIdeal.τ).loc Cert.Ffn2ReferenceIdeal.main_arg2)
      ∧ r.2.mem ((c.tc : Thread Cert.Ffn2ReferenceIdeal.nD Cert.Ffn2ReferenceIdeal.τ).loc Cert.Ffn2ReferenceIdeal.main_arg3) = m ((c.tc : Thread Cert.Ffn2ReferenceIdeal.nD Cert.Ffn2ReferenceIdeal.τ).loc Cert.Ffn2ReferenceIdeal.main_arg3))
      ∧ r.2.sem = fun _ => 0)

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1)
      ∧ r.2.mem ((c.tc : Thread Cert.Ffn1.nD Cert.Ffn1.τ).loc Cert.Ffn1.main_arg2) = m ((c.tc : Thread Cert.Ffn1.nD Cert.Ffn1.τ).loc Cert.Ffn1.main_arg2)
      ∧ r.2.mem ((c.tc : Thread Cert.Ffn1.nD Cert.Ffn1.τ).loc Cert.Ffn1.main_arg3) = m ((c.tc : Thread Cert.Ffn1.nD Cert.Ffn1.τ).loc Cert.Ffn1.main_arg3)
      ∧ r.2.mem ((c.tc : Thread Cert.Ffn1.nD Cert.Ffn1.τ).loc Cert.Ffn1.main_arg4) = m ((c.tc : Thread Cert.Ffn1.nD Cert.Ffn1.τ).loc Cert.Ffn1.main_arg4))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
      ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4))
      ∧ r.2.sem = fun _ => 0)

def quiescent_Ffn1ReferenceIdeal [hFfn1ReferenceIdeal : Cert.Ffn1ReferenceIdeal.Facts] : Prop :=
  ∀ (m : (ℓ : Loc Cert.Ffn1ReferenceIdeal.nD Cert.Ffn1ReferenceIdeal.τ Cert.Ffn1ReferenceIdeal.sig) → Buf (Elt Ideal) ℓ) (g : Dev Cert.Ffn1ReferenceIdeal.nD → PrngReg), Pre_Ffn1ReferenceIdeal m →
    θ_run (Cert.Ffn1ReferenceIdeal.defs (F := Ideal)) (onTc (τ := Cert.Ffn1ReferenceIdeal.τ) (Cert.Ffn1ReferenceIdeal.main (F := Ideal))) ⟨m, fun _ => 0, g⟩ (fun r => (∀ c : Dev Cert.Ffn1ReferenceIdeal.nD,
      r.2.mem ((c.tc : Thread Cert.Ffn1ReferenceIdeal.nD Cert.Ffn1ReferenceIdeal.τ).loc Cert.Ffn1ReferenceIdeal.main_arg0) = m ((c.tc : Thread Cert.Ffn1ReferenceIdeal.nD Cert.Ffn1ReferenceIdeal.τ).loc Cert.Ffn1ReferenceIdeal.main_arg0)
      ∧ r.2.mem ((c.tc : Thread Cert.Ffn1ReferenceIdeal.nD Cert.Ffn1ReferenceIdeal.τ).loc Cert.Ffn1ReferenceIdeal.main_arg1) = m ((c.tc : Thread Cert.Ffn1ReferenceIdeal.nD Cert.Ffn1ReferenceIdeal.τ).loc Cert.Ffn1ReferenceIdeal.main_arg1)
      ∧ r.2.mem ((c.tc : Thread Cert.Ffn1ReferenceIdeal.nD Cert.Ffn1ReferenceIdeal.τ).loc Cert.Ffn1ReferenceIdeal.main_arg2) = m ((c.tc : Thread Cert.Ffn1ReferenceIdeal.nD Cert.Ffn1ReferenceIdeal.τ).loc Cert.Ffn1ReferenceIdeal.main_arg2)
      ∧ r.2.mem ((c.tc : Thread Cert.Ffn1ReferenceIdeal.nD Cert.Ffn1ReferenceIdeal.τ).loc Cert.Ffn1ReferenceIdeal.main_arg3) = m ((c.tc : Thread Cert.Ffn1ReferenceIdeal.nD Cert.Ffn1ReferenceIdeal.τ).loc Cert.Ffn1ReferenceIdeal.main_arg3)
      ∧ r.2.mem ((c.tc : Thread Cert.Ffn1ReferenceIdeal.nD Cert.Ffn1ReferenceIdeal.τ).loc Cert.Ffn1ReferenceIdeal.main_arg4) = m ((c.tc : Thread Cert.Ffn1ReferenceIdeal.nD Cert.Ffn1ReferenceIdeal.τ).loc Cert.Ffn1ReferenceIdeal.main_arg4))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvReferenceIdeal [hMemKvReferenceIdeal : Cert.MemKvReferenceIdeal.Facts] : Prop :=
  ∀ (m : (ℓ : Loc Cert.MemKvReferenceIdeal.nD Cert.MemKvReferenceIdeal.τ Cert.MemKvReferenceIdeal.sig) → Buf (Elt Ideal) ℓ) (g : Dev Cert.MemKvReferenceIdeal.nD → PrngReg), Pre_MemKvReferenceIdeal m →
    θ_run (Cert.MemKvReferenceIdeal.defs (F := Ideal)) (onTc (τ := Cert.MemKvReferenceIdeal.τ) (Cert.MemKvReferenceIdeal.main (F := Ideal))) ⟨m, fun _ => 0, g⟩ (fun r => (∀ c : Dev Cert.MemKvReferenceIdeal.nD,
      r.2.mem ((c.tc : Thread Cert.MemKvReferenceIdeal.nD Cert.MemKvReferenceIdeal.τ).loc Cert.MemKvReferenceIdeal.main_arg0) = m ((c.tc : Thread Cert.MemKvReferenceIdeal.nD Cert.MemKvReferenceIdeal.τ).loc Cert.MemKvReferenceIdeal.main_arg0)
      ∧ r.2.mem ((c.tc : Thread Cert.MemKvReferenceIdeal.nD Cert.MemKvReferenceIdeal.τ).loc Cert.MemKvReferenceIdeal.main_arg1) = m ((c.tc : Thread Cert.MemKvReferenceIdeal.nD Cert.MemKvReferenceIdeal.τ).loc Cert.MemKvReferenceIdeal.main_arg1)
      ∧ r.2.mem ((c.tc : Thread Cert.MemKvReferenceIdeal.nD Cert.MemKvReferenceIdeal.τ).loc Cert.MemKvReferenceIdeal.main_arg2) = m ((c.tc : Thread Cert.MemKvReferenceIdeal.nD Cert.MemKvReferenceIdeal.τ).loc Cert.MemKvReferenceIdeal.main_arg2)
      ∧ r.2.mem ((c.tc : Thread Cert.MemKvReferenceIdeal.nD Cert.MemKvReferenceIdeal.τ).loc Cert.MemKvReferenceIdeal.main_arg3) = m ((c.tc : Thread Cert.MemKvReferenceIdeal.nD Cert.MemKvReferenceIdeal.τ).loc Cert.MemKvReferenceIdeal.main_arg3))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1)
      ∧ r.2.mem ((c.tc : Thread Cert.MemAttn.nD Cert.MemAttn.τ).loc Cert.MemAttn.main_arg2) = m ((c.tc : Thread Cert.MemAttn.nD Cert.MemAttn.τ).loc Cert.MemAttn.main_arg2))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2))
      ∧ r.2.sem = fun _ => 0)

def quiescent_MemAttnReferenceIdeal [hMemAttnReferenceIdeal : Cert.MemAttnReferenceIdeal.Facts] : Prop :=
  ∀ (m : (ℓ : Loc Cert.MemAttnReferenceIdeal.nD Cert.MemAttnReferenceIdeal.τ Cert.MemAttnReferenceIdeal.sig) → Buf (Elt Ideal) ℓ) (g : Dev Cert.MemAttnReferenceIdeal.nD → PrngReg), Pre_MemAttnReferenceIdeal m →
    θ_run (Cert.MemAttnReferenceIdeal.defs (F := Ideal)) (onTc (τ := Cert.MemAttnReferenceIdeal.τ) (Cert.MemAttnReferenceIdeal.main (F := Ideal))) ⟨m, fun _ => 0, g⟩ (fun r => (∀ c : Dev Cert.MemAttnReferenceIdeal.nD,
      r.2.mem ((c.tc : Thread Cert.MemAttnReferenceIdeal.nD Cert.MemAttnReferenceIdeal.τ).loc Cert.MemAttnReferenceIdeal.main_arg0) = m ((c.tc : Thread Cert.MemAttnReferenceIdeal.nD Cert.MemAttnReferenceIdeal.τ).loc Cert.MemAttnReferenceIdeal.main_arg0)
      ∧ r.2.mem ((c.tc : Thread Cert.MemAttnReferenceIdeal.nD Cert.MemAttnReferenceIdeal.τ).loc Cert.MemAttnReferenceIdeal.main_arg1) = m ((c.tc : Thread Cert.MemAttnReferenceIdeal.nD Cert.MemAttnReferenceIdeal.τ).loc Cert.MemAttnReferenceIdeal.main_arg1)
      ∧ r.2.mem ((c.tc : Thread Cert.MemAttnReferenceIdeal.nD Cert.MemAttnReferenceIdeal.τ).loc Cert.MemAttnReferenceIdeal.main_arg2) = m ((c.tc : Thread Cert.MemAttnReferenceIdeal.nD Cert.MemAttnReferenceIdeal.τ).loc Cert.MemAttnReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2))
      ∧ r.2.sem = fun _ => 0)

def quiescent_GluWeight [hGluWeight : Cert.GluWeight.Facts] : Prop :=
  ∀ (m : (ℓ : Loc Cert.GluWeight.nD Cert.GluWeight.τ Cert.GluWeight.sig) → Buf (Elt Bits) ℓ) (g : Dev Cert.GluWeight.nD → PrngReg), Pre_GluWeight m →
    θ_run (Cert.GluWeight.defs (F := Bits)) (onTc (τ := Cert.GluWeight.τ) (Cert.GluWeight.main (F := Bits))) ⟨m, fun _ => 0, g⟩ (fun r => (∀ c : Dev Cert.GluWeight.nD,
      r.2.mem ((c.tc : Thread Cert.GluWeight.nD Cert.GluWeight.τ).loc Cert.GluWeight.main_arg0) = m ((c.tc : Thread Cert.GluWeight.nD Cert.GluWeight.τ).loc Cert.GluWeight.main_arg0))
      ∧ r.2.sem = fun _ => 0)

def quiescent_GluWeightIdeal [hGluWeightIdeal : Cert.GluWeightIdeal.Facts] : Prop :=
  ∀ (m : (ℓ : Loc Cert.GluWeightIdeal.nD Cert.GluWeightIdeal.τ Cert.GluWeightIdeal.sig) → Buf (Elt Ideal) ℓ) (g : Dev Cert.GluWeightIdeal.nD → PrngReg), Pre_GluWeightIdeal m →
    θ_run (Cert.GluWeightIdeal.defs (F := Ideal)) (onTc (τ := Cert.GluWeightIdeal.τ) (Cert.GluWeightIdeal.main (F := Ideal))) ⟨m, fun _ => 0, g⟩ (fun r => (∀ c : Dev Cert.GluWeightIdeal.nD,
      r.2.mem ((c.tc : Thread Cert.GluWeightIdeal.nD Cert.GluWeightIdeal.τ).loc Cert.GluWeightIdeal.main_arg0) = m ((c.tc : Thread Cert.GluWeightIdeal.nD Cert.GluWeightIdeal.τ).loc Cert.GluWeightIdeal.main_arg0))
      ∧ r.2.sem = fun _ => 0)

def quiescent_GluWeightReferenceIdeal [hGluWeightReferenceIdeal : Cert.GluWeightReferenceIdeal.Facts] : Prop :=
  ∀ (m : (ℓ : Loc Cert.GluWeightReferenceIdeal.nD Cert.GluWeightReferenceIdeal.τ Cert.GluWeightReferenceIdeal.sig) → Buf (Elt Ideal) ℓ) (g : Dev Cert.GluWeightReferenceIdeal.nD → PrngReg), Pre_GluWeightReferenceIdeal m →
    θ_run (Cert.GluWeightReferenceIdeal.defs (F := Ideal)) (onTc (τ := Cert.GluWeightReferenceIdeal.τ) (Cert.GluWeightReferenceIdeal.main (F := Ideal))) ⟨m, fun _ => 0, g⟩ (fun r => (∀ c : Dev Cert.GluWeightReferenceIdeal.nD,
      r.2.mem ((c.tc : Thread Cert.GluWeightReferenceIdeal.nD Cert.GluWeightReferenceIdeal.τ).loc Cert.GluWeightReferenceIdeal.main_arg0) = m ((c.tc : Thread Cert.GluWeightReferenceIdeal.nD Cert.GluWeightReferenceIdeal.τ).loc Cert.GluWeightReferenceIdeal.main_arg0))
      ∧ r.2.sem = fun _ => 0)

def quiescent_GateWeight [hGateWeight : Cert.GateWeight.Facts] : Prop :=
  ∀ (m : (ℓ : Loc Cert.GateWeight.nD Cert.GateWeight.τ Cert.GateWeight.sig) → Buf (Elt Bits) ℓ) (g : Dev Cert.GateWeight.nD → PrngReg), Pre_GateWeight m →
    θ_run (Cert.GateWeight.defs (F := Bits)) (onTc (τ := Cert.GateWeight.τ) (Cert.GateWeight.main (F := Bits))) ⟨m, fun _ => 0, g⟩ (fun r => (∀ c : Dev Cert.GateWeight.nD,
      r.2.mem ((c.tc : Thread Cert.GateWeight.nD Cert.GateWeight.τ).loc Cert.GateWeight.main_arg0) = m ((c.tc : Thread Cert.GateWeight.nD Cert.GateWeight.τ).loc Cert.GateWeight.main_arg0))
      ∧ r.2.sem = fun _ => 0)

def quiescent_GateWeightIdeal [hGateWeightIdeal : Cert.GateWeightIdeal.Facts] : Prop :=
  ∀ (m : (ℓ : Loc Cert.GateWeightIdeal.nD Cert.GateWeightIdeal.τ Cert.GateWeightIdeal.sig) → Buf (Elt Ideal) ℓ) (g : Dev Cert.GateWeightIdeal.nD → PrngReg), Pre_GateWeightIdeal m →
    θ_run (Cert.GateWeightIdeal.defs (F := Ideal)) (onTc (τ := Cert.GateWeightIdeal.τ) (Cert.GateWeightIdeal.main (F := Ideal))) ⟨m, fun _ => 0, g⟩ (fun r => (∀ c : Dev Cert.GateWeightIdeal.nD,
      r.2.mem ((c.tc : Thread Cert.GateWeightIdeal.nD Cert.GateWeightIdeal.τ).loc Cert.GateWeightIdeal.main_arg0) = m ((c.tc : Thread Cert.GateWeightIdeal.nD Cert.GateWeightIdeal.τ).loc Cert.GateWeightIdeal.main_arg0))
      ∧ r.2.sem = fun _ => 0)

def quiescent_GateWeightReferenceIdeal [hGateWeightReferenceIdeal : Cert.GateWeightReferenceIdeal.Facts] : Prop :=
  ∀ (m : (ℓ : Loc Cert.GateWeightReferenceIdeal.nD Cert.GateWeightReferenceIdeal.τ Cert.GateWeightReferenceIdeal.sig) → Buf (Elt Ideal) ℓ) (g : Dev Cert.GateWeightReferenceIdeal.nD → PrngReg), Pre_GateWeightReferenceIdeal m →
    θ_run (Cert.GateWeightReferenceIdeal.defs (F := Ideal)) (onTc (τ := Cert.GateWeightReferenceIdeal.τ) (Cert.GateWeightReferenceIdeal.main (F := Ideal))) ⟨m, fun _ => 0, g⟩ (fun r => (∀ c : Dev Cert.GateWeightReferenceIdeal.nD,
      r.2.mem ((c.tc : Thread Cert.GateWeightReferenceIdeal.nD Cert.GateWeightReferenceIdeal.τ).loc Cert.GateWeightReferenceIdeal.main_arg0) = m ((c.tc : Thread Cert.GateWeightReferenceIdeal.nD Cert.GateWeightReferenceIdeal.τ).loc Cert.GateWeightReferenceIdeal.main_arg0))
      ∧ r.2.sem = fun _ => 0)

def preserves_Kernel_KernelIdeal : Prop :=
  IdealRules.named_const.Statement Cert.KernelIdeal.κ "scale_log2e" .f32 0x3DD53B95#32 (((Real.sqrt 192)⁻¹ * (Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn2_Ffn2Ideal : Prop :=
  True

def algebraic_Ffn2Ideal_Ffn2ReferenceIdeal [hFfn2Ideal : Cert.Ffn2Ideal.Facts] [hFfn2ReferenceIdeal : Cert.Ffn2ReferenceIdeal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg)
    (m' : (ℓ : Loc Cert.Ffn2ReferenceIdeal.nD Cert.Ffn2ReferenceIdeal.τ Cert.Ffn2ReferenceIdeal.sig) → Buf (Elt Ideal) ℓ) (g' : Dev Cert.Ffn2ReferenceIdeal.nD → PrngReg), Pre_Ffn2Ideal m →
    (∀ c : Dev Cert.Ffn2Ideal.nD,
      m' ((c.tc : Thread Cert.Ffn2ReferenceIdeal.nD Cert.Ffn2ReferenceIdeal.τ).loc Cert.Ffn2ReferenceIdeal.main_arg0) = m ((c.tc : Thread Cert.Ffn2Ideal.nD Cert.Ffn2Ideal.τ).loc Cert.Ffn2Ideal.main_arg0)
      ∧ m' ((c.tc : Thread Cert.Ffn2ReferenceIdeal.nD Cert.Ffn2ReferenceIdeal.τ).loc Cert.Ffn2ReferenceIdeal.main_arg1) = m ((c.tc : Thread Cert.Ffn2Ideal.nD Cert.Ffn2Ideal.τ).loc Cert.Ffn2Ideal.main_arg1)
      ∧ m' ((c.tc : Thread Cert.Ffn2ReferenceIdeal.nD Cert.Ffn2ReferenceIdeal.τ).loc Cert.Ffn2ReferenceIdeal.main_arg2) = m ((c.tc : Thread Cert.Ffn2Ideal.nD Cert.Ffn2Ideal.τ).loc Cert.Ffn2Ideal.main_arg2)
      ∧ m' ((c.tc : Thread Cert.Ffn2ReferenceIdeal.nD Cert.Ffn2ReferenceIdeal.τ).loc Cert.Ffn2ReferenceIdeal.main_arg3) = m ((c.tc : Thread Cert.Ffn2Ideal.nD Cert.Ffn2Ideal.τ).loc Cert.Ffn2Ideal.main_arg3)) →
    ∃ (v0 : (c : Dev Cert.Ffn2Ideal.nD) → Buf (Elt Ideal) ((c.tc : Thread Cert.Ffn2Ideal.nD Cert.Ffn2Ideal.τ).loc Cert.Ffn2Ideal.main_v9)),
      θ_run (Cert.Ffn2Ideal.defs (F := Ideal)) (onTc (τ := Cert.Ffn2Ideal.τ) (Cert.Ffn2Ideal.main (F := Ideal))) ⟨m, fun _ => 0, g⟩ (fun r => ∀ c : Dev Cert.Ffn2Ideal.nD,
          r.2.mem ((c.tc : Thread Cert.Ffn2Ideal.nD Cert.Ffn2Ideal.τ).loc Cert.Ffn2Ideal.main_v9) = v0 c
          ∧ r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
          ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
          ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
          ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3))
      ∧ θ_run (Cert.Ffn2ReferenceIdeal.defs (F := Ideal)) (onTc (τ := Cert.Ffn2ReferenceIdeal.τ) (Cert.Ffn2ReferenceIdeal.main (F := Ideal))) ⟨m', fun _ => 0, g'⟩ (fun r => ∀ c : Dev Cert.Ffn2ReferenceIdeal.nD,
          r.2.mem ((c.tc : Thread Cert.Ffn2ReferenceIdeal.nD Cert.Ffn2ReferenceIdeal.τ).loc Cert.Ffn2ReferenceIdeal.main_v25) = v0 c
          ∧ r.2.mem ((c.tc : Thread Cert.Ffn2ReferenceIdeal.nD Cert.Ffn2ReferenceIdeal.τ).loc Cert.Ffn2ReferenceIdeal.main_arg0) = m' ((c.tc : Thread Cert.Ffn2ReferenceIdeal.nD Cert.Ffn2ReferenceIdeal.τ).loc Cert.Ffn2ReferenceIdeal.main_arg0)
          ∧ r.2.mem ((c.tc : Thread Cert.Ffn2ReferenceIdeal.nD Cert.Ffn2ReferenceIdeal.τ).loc Cert.Ffn2ReferenceIdeal.main_arg1) = m' ((c.tc : Thread Cert.Ffn2ReferenceIdeal.nD Cert.Ffn2ReferenceIdeal.τ).loc Cert.Ffn2ReferenceIdeal.main_arg1)
          ∧ r.2.mem ((c.tc : Thread Cert.Ffn2ReferenceIdeal.nD Cert.Ffn2ReferenceIdeal.τ).loc Cert.Ffn2ReferenceIdeal.main_arg2) = m' ((c.tc : Thread Cert.Ffn2ReferenceIdeal.nD Cert.Ffn2ReferenceIdeal.τ).loc Cert.Ffn2ReferenceIdeal.main_arg2)
          ∧ r.2.mem ((c.tc : Thread Cert.Ffn2ReferenceIdeal.nD Cert.Ffn2ReferenceIdeal.τ).loc Cert.Ffn2ReferenceIdeal.main_arg3) = m' ((c.tc : Thread Cert.Ffn2ReferenceIdeal.nD Cert.Ffn2ReferenceIdeal.τ).loc Cert.Ffn2ReferenceIdeal.main_arg3))

def preserves_Ffn1_Ffn1Ideal : Prop :=
  True

def algebraic_Ffn1Ideal_Ffn1ReferenceIdeal [hFfn1Ideal : Cert.Ffn1Ideal.Facts] [hFfn1ReferenceIdeal : Cert.Ffn1ReferenceIdeal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.Ffn1ReferenceIdeal.nD Cert.Ffn1ReferenceIdeal.τ Cert.Ffn1ReferenceIdeal.sig) → Buf (Elt Ideal) ℓ) (g' : Dev Cert.Ffn1ReferenceIdeal.nD → PrngReg), Pre_Ffn1Ideal m →
    (∀ c : Dev Cert.Ffn1Ideal.nD,
      m' ((c.tc : Thread Cert.Ffn1ReferenceIdeal.nD Cert.Ffn1ReferenceIdeal.τ).loc Cert.Ffn1ReferenceIdeal.main_arg0) = m ((c.tc : Thread Cert.Ffn1Ideal.nD Cert.Ffn1Ideal.τ).loc Cert.Ffn1Ideal.main_arg0)
      ∧ m' ((c.tc : Thread Cert.Ffn1ReferenceIdeal.nD Cert.Ffn1ReferenceIdeal.τ).loc Cert.Ffn1ReferenceIdeal.main_arg1) = m ((c.tc : Thread Cert.Ffn1Ideal.nD Cert.Ffn1Ideal.τ).loc Cert.Ffn1Ideal.main_arg1)
      ∧ m' ((c.tc : Thread Cert.Ffn1ReferenceIdeal.nD Cert.Ffn1ReferenceIdeal.τ).loc Cert.Ffn1ReferenceIdeal.main_arg2) = m ((c.tc : Thread Cert.Ffn1Ideal.nD Cert.Ffn1Ideal.τ).loc Cert.Ffn1Ideal.main_arg2)
      ∧ m' ((c.tc : Thread Cert.Ffn1ReferenceIdeal.nD Cert.Ffn1ReferenceIdeal.τ).loc Cert.Ffn1ReferenceIdeal.main_arg3) = m ((c.tc : Thread Cert.Ffn1Ideal.nD Cert.Ffn1Ideal.τ).loc Cert.Ffn1Ideal.main_arg3)
      ∧ m' ((c.tc : Thread Cert.Ffn1ReferenceIdeal.nD Cert.Ffn1ReferenceIdeal.τ).loc Cert.Ffn1ReferenceIdeal.main_arg4) = m ((c.tc : Thread Cert.Ffn1Ideal.nD Cert.Ffn1Ideal.τ).loc Cert.Ffn1Ideal.main_arg4)) →
    ∃ (v0 : (c : Dev Cert.Ffn1Ideal.nD) → Buf (Elt Ideal) ((c.tc : Thread Cert.Ffn1Ideal.nD Cert.Ffn1Ideal.τ).loc Cert.Ffn1Ideal.main_v9_0)) (v1 : (c : Dev Cert.Ffn1Ideal.nD) → Buf (Elt Ideal) ((c.tc : Thread Cert.Ffn1Ideal.nD Cert.Ffn1Ideal.τ).loc Cert.Ffn1Ideal.main_v9_1)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v9_0) = v0 c
          ∧ r.2.mem ((c.tc : Thread Cert.Ffn1Ideal.nD Cert.Ffn1Ideal.τ).loc Cert.Ffn1Ideal.main_v9_1) = v1 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
          ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
          ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
          ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4))
      ∧ θ_run (Cert.Ffn1ReferenceIdeal.defs (F := Ideal)) (onTc (τ := Cert.Ffn1ReferenceIdeal.τ) (Cert.Ffn1ReferenceIdeal.main (F := Ideal))) ⟨m', fun _ => 0, g'⟩ (fun r => ∀ c : Dev Cert.Ffn1ReferenceIdeal.nD,
          r.2.mem ((c.tc : Thread Cert.Ffn1ReferenceIdeal.nD Cert.Ffn1ReferenceIdeal.τ).loc Cert.Ffn1ReferenceIdeal.main_v25) = v0 c
          ∧ r.2.mem ((c.tc : Thread Cert.Ffn1ReferenceIdeal.nD Cert.Ffn1ReferenceIdeal.τ).loc Cert.Ffn1ReferenceIdeal.main_v40) = v1 c
          ∧ r.2.mem ((c.tc : Thread Cert.Ffn1ReferenceIdeal.nD Cert.Ffn1ReferenceIdeal.τ).loc Cert.Ffn1ReferenceIdeal.main_arg0) = m' ((c.tc : Thread Cert.Ffn1ReferenceIdeal.nD Cert.Ffn1ReferenceIdeal.τ).loc Cert.Ffn1ReferenceIdeal.main_arg0)
          ∧ r.2.mem ((c.tc : Thread Cert.Ffn1ReferenceIdeal.nD Cert.Ffn1ReferenceIdeal.τ).loc Cert.Ffn1ReferenceIdeal.main_arg1) = m' ((c.tc : Thread Cert.Ffn1ReferenceIdeal.nD Cert.Ffn1ReferenceIdeal.τ).loc Cert.Ffn1ReferenceIdeal.main_arg1)
          ∧ r.2.mem ((c.tc : Thread Cert.Ffn1ReferenceIdeal.nD Cert.Ffn1ReferenceIdeal.τ).loc Cert.Ffn1ReferenceIdeal.main_arg2) = m' ((c.tc : Thread Cert.Ffn1ReferenceIdeal.nD Cert.Ffn1ReferenceIdeal.τ).loc Cert.Ffn1ReferenceIdeal.main_arg2)
          ∧ r.2.mem ((c.tc : Thread Cert.Ffn1ReferenceIdeal.nD Cert.Ffn1ReferenceIdeal.τ).loc Cert.Ffn1ReferenceIdeal.main_arg3) = m' ((c.tc : Thread Cert.Ffn1ReferenceIdeal.nD Cert.Ffn1ReferenceIdeal.τ).loc Cert.Ffn1ReferenceIdeal.main_arg3)
          ∧ r.2.mem ((c.tc : Thread Cert.Ffn1ReferenceIdeal.nD Cert.Ffn1ReferenceIdeal.τ).loc Cert.Ffn1ReferenceIdeal.main_arg4) = m' ((c.tc : Thread Cert.Ffn1ReferenceIdeal.nD Cert.Ffn1ReferenceIdeal.τ).loc Cert.Ffn1ReferenceIdeal.main_arg4))

def preserves_MemKv_MemKvIdeal : Prop :=
  True

def algebraic_MemKvIdeal_MemKvReferenceIdeal [hMemKvIdeal : Cert.MemKvIdeal.Facts] [hMemKvReferenceIdeal : Cert.MemKvReferenceIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvReferenceIdeal.nD Cert.MemKvReferenceIdeal.τ Cert.MemKvReferenceIdeal.sig) → Buf (Elt Ideal) ℓ) (g' : Dev Cert.MemKvReferenceIdeal.nD → PrngReg), Pre_MemKvIdeal m →
    (∀ c : Dev Cert.MemKvIdeal.nD,
      m' ((c.tc : Thread Cert.MemKvReferenceIdeal.nD Cert.MemKvReferenceIdeal.τ).loc Cert.MemKvReferenceIdeal.main_arg0) = m ((c.tc : Thread Cert.MemKvIdeal.nD Cert.MemKvIdeal.τ).loc Cert.MemKvIdeal.main_arg0)
      ∧ m' ((c.tc : Thread Cert.MemKvReferenceIdeal.nD Cert.MemKvReferenceIdeal.τ).loc Cert.MemKvReferenceIdeal.main_arg1) = m ((c.tc : Thread Cert.MemKvIdeal.nD Cert.MemKvIdeal.τ).loc Cert.MemKvIdeal.main_arg1)
      ∧ m' ((c.tc : Thread Cert.MemKvReferenceIdeal.nD Cert.MemKvReferenceIdeal.τ).loc Cert.MemKvReferenceIdeal.main_arg2) = m ((c.tc : Thread Cert.MemKvIdeal.nD Cert.MemKvIdeal.τ).loc Cert.MemKvIdeal.main_arg2)
      ∧ m' ((c.tc : Thread Cert.MemKvReferenceIdeal.nD Cert.MemKvReferenceIdeal.τ).loc Cert.MemKvReferenceIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v7_0)) (v1 : (c : Dev Cert.MemKvIdeal.nD) → Buf (Elt Ideal) ((c.tc : Thread Cert.MemKvIdeal.nD Cert.MemKvIdeal.τ).loc Cert.MemKvIdeal.main_v7_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v7_0) = v0 c
          ∧ r.2.mem ((c.tc : Thread Cert.MemKvIdeal.nD Cert.MemKvIdeal.τ).loc Cert.MemKvIdeal.main_v7_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvReferenceIdeal.defs (F := Ideal)) (onTc (τ := Cert.MemKvReferenceIdeal.τ) (Cert.MemKvReferenceIdeal.main (F := Ideal))) ⟨m', fun _ => 0, g'⟩ (fun r => ∀ c : Dev Cert.MemKvReferenceIdeal.nD,
          r.2.mem ((c.tc : Thread Cert.MemKvReferenceIdeal.nD Cert.MemKvReferenceIdeal.τ).loc Cert.MemKvReferenceIdeal.main_v35) = v0 c
          ∧ r.2.mem ((c.tc : Thread Cert.MemKvReferenceIdeal.nD Cert.MemKvReferenceIdeal.τ).loc Cert.MemKvReferenceIdeal.main_v36) = v1 c
          ∧ r.2.mem ((c.tc : Thread Cert.MemKvReferenceIdeal.nD Cert.MemKvReferenceIdeal.τ).loc Cert.MemKvReferenceIdeal.main_arg0) = m' ((c.tc : Thread Cert.MemKvReferenceIdeal.nD Cert.MemKvReferenceIdeal.τ).loc Cert.MemKvReferenceIdeal.main_arg0)
          ∧ r.2.mem ((c.tc : Thread Cert.MemKvReferenceIdeal.nD Cert.MemKvReferenceIdeal.τ).loc Cert.MemKvReferenceIdeal.main_arg1) = m' ((c.tc : Thread Cert.MemKvReferenceIdeal.nD Cert.MemKvReferenceIdeal.τ).loc Cert.MemKvReferenceIdeal.main_arg1)
          ∧ r.2.mem ((c.tc : Thread Cert.MemKvReferenceIdeal.nD Cert.MemKvReferenceIdeal.τ).loc Cert.MemKvReferenceIdeal.main_arg2) = m' ((c.tc : Thread Cert.MemKvReferenceIdeal.nD Cert.MemKvReferenceIdeal.τ).loc Cert.MemKvReferenceIdeal.main_arg2)
          ∧ r.2.mem ((c.tc : Thread Cert.MemKvReferenceIdeal.nD Cert.MemKvReferenceIdeal.τ).loc Cert.MemKvReferenceIdeal.main_arg3) = m' ((c.tc : Thread Cert.MemKvReferenceIdeal.nD Cert.MemKvReferenceIdeal.τ).loc Cert.MemKvReferenceIdeal.main_arg3))

def preserves_MemAttn_MemAttnIdeal : Prop :=
  True

def algebraic_MemAttnIdeal_MemAttnReferenceIdeal [hMemAttnIdeal : Cert.MemAttnIdeal.Facts] [hMemAttnReferenceIdeal : Cert.MemAttnReferenceIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnReferenceIdeal.nD Cert.MemAttnReferenceIdeal.τ Cert.MemAttnReferenceIdeal.sig) → Buf (Elt Ideal) ℓ) (g' : Dev Cert.MemAttnReferenceIdeal.nD → PrngReg), Pre_MemAttnIdeal m →
    (∀ c : Dev Cert.MemAttnIdeal.nD,
      m' ((c.tc : Thread Cert.MemAttnReferenceIdeal.nD Cert.MemAttnReferenceIdeal.τ).loc Cert.MemAttnReferenceIdeal.main_arg0) = m ((c.tc : Thread Cert.MemAttnIdeal.nD Cert.MemAttnIdeal.τ).loc Cert.MemAttnIdeal.main_arg0)
      ∧ m' ((c.tc : Thread Cert.MemAttnReferenceIdeal.nD Cert.MemAttnReferenceIdeal.τ).loc Cert.MemAttnReferenceIdeal.main_arg1) = m ((c.tc : Thread Cert.MemAttnIdeal.nD Cert.MemAttnIdeal.τ).loc Cert.MemAttnIdeal.main_arg1)
      ∧ m' ((c.tc : Thread Cert.MemAttnReferenceIdeal.nD Cert.MemAttnReferenceIdeal.τ).loc Cert.MemAttnReferenceIdeal.main_arg2) = m ((c.tc : Thread Cert.MemAttnIdeal.nD Cert.MemAttnIdeal.τ).loc Cert.MemAttnIdeal.main_arg2)) →
    ∃ (v0 : (c : Dev Cert.MemAttnIdeal.nD) → Buf (Elt Ideal) ((c.tc : Thread Cert.MemAttnIdeal.nD Cert.MemAttnIdeal.τ).loc Cert.MemAttnIdeal.main_v8)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v8) = v0 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
          ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2))
      ∧ θ_run (Cert.MemAttnReferenceIdeal.defs (F := Ideal)) (onTc (τ := Cert.MemAttnReferenceIdeal.τ) (Cert.MemAttnReferenceIdeal.main (F := Ideal))) ⟨m', fun _ => 0, g'⟩ (fun r => ∀ c : Dev Cert.MemAttnReferenceIdeal.nD,
          r.2.mem ((c.tc : Thread Cert.MemAttnReferenceIdeal.nD Cert.MemAttnReferenceIdeal.τ).loc Cert.MemAttnReferenceIdeal.main_v17) = v0 c
          ∧ r.2.mem ((c.tc : Thread Cert.MemAttnReferenceIdeal.nD Cert.MemAttnReferenceIdeal.τ).loc Cert.MemAttnReferenceIdeal.main_arg0) = m' ((c.tc : Thread Cert.MemAttnReferenceIdeal.nD Cert.MemAttnReferenceIdeal.τ).loc Cert.MemAttnReferenceIdeal.main_arg0)
          ∧ r.2.mem ((c.tc : Thread Cert.MemAttnReferenceIdeal.nD Cert.MemAttnReferenceIdeal.τ).loc Cert.MemAttnReferenceIdeal.main_arg1) = m' ((c.tc : Thread Cert.MemAttnReferenceIdeal.nD Cert.MemAttnReferenceIdeal.τ).loc Cert.MemAttnReferenceIdeal.main_arg1)
          ∧ r.2.mem ((c.tc : Thread Cert.MemAttnReferenceIdeal.nD Cert.MemAttnReferenceIdeal.τ).loc Cert.MemAttnReferenceIdeal.main_arg2) = m' ((c.tc : Thread Cert.MemAttnReferenceIdeal.nD Cert.MemAttnReferenceIdeal.τ).loc Cert.MemAttnReferenceIdeal.main_arg2))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v14)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v14) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v21) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v5)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v5) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v4) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2))

def preserves_GluWeight_GluWeightIdeal : Prop :=
  True

def algebraic_GluWeightIdeal_GluWeightReferenceIdeal [hGluWeightIdeal : Cert.GluWeightIdeal.Facts] [hGluWeightReferenceIdeal : Cert.GluWeightReferenceIdeal.Facts] : Prop :=
  ∀ (m : (ℓ : Loc Cert.GluWeightIdeal.nD Cert.GluWeightIdeal.τ Cert.GluWeightIdeal.sig) → Buf (Elt Ideal) ℓ) (g : Dev Cert.GluWeightIdeal.nD → PrngReg)
    (m' : (ℓ : Loc Cert.GluWeightReferenceIdeal.nD Cert.GluWeightReferenceIdeal.τ Cert.GluWeightReferenceIdeal.sig) → Buf (Elt Ideal) ℓ) (g' : Dev Cert.GluWeightReferenceIdeal.nD → PrngReg), Pre_GluWeightIdeal m →
    (∀ c : Dev Cert.GluWeightIdeal.nD,
      m' ((c.tc : Thread Cert.GluWeightReferenceIdeal.nD Cert.GluWeightReferenceIdeal.τ).loc Cert.GluWeightReferenceIdeal.main_arg0) = m ((c.tc : Thread Cert.GluWeightIdeal.nD Cert.GluWeightIdeal.τ).loc Cert.GluWeightIdeal.main_arg0)) →
    ∃ (v0 : (c : Dev Cert.GluWeightIdeal.nD) → Buf (Elt Ideal) ((c.tc : Thread Cert.GluWeightIdeal.nD Cert.GluWeightIdeal.τ).loc Cert.GluWeightIdeal.main_v2)),
      θ_run (Cert.GluWeightIdeal.defs (F := Ideal)) (onTc (τ := Cert.GluWeightIdeal.τ) (Cert.GluWeightIdeal.main (F := Ideal))) ⟨m, fun _ => 0, g⟩ (fun r => ∀ c : Dev Cert.GluWeightIdeal.nD,
          r.2.mem ((c.tc : Thread Cert.GluWeightIdeal.nD Cert.GluWeightIdeal.τ).loc Cert.GluWeightIdeal.main_v2) = v0 c
          ∧ r.2.mem ((c.tc : Thread Cert.GluWeightIdeal.nD Cert.GluWeightIdeal.τ).loc Cert.GluWeightIdeal.main_arg0) = m ((c.tc : Thread Cert.GluWeightIdeal.nD Cert.GluWeightIdeal.τ).loc Cert.GluWeightIdeal.main_arg0))
      ∧ θ_run (Cert.GluWeightReferenceIdeal.defs (F := Ideal)) (onTc (τ := Cert.GluWeightReferenceIdeal.τ) (Cert.GluWeightReferenceIdeal.main (F := Ideal))) ⟨m', fun _ => 0, g'⟩ (fun r => ∀ c : Dev Cert.GluWeightReferenceIdeal.nD,
          r.2.mem ((c.tc : Thread Cert.GluWeightReferenceIdeal.nD Cert.GluWeightReferenceIdeal.τ).loc Cert.GluWeightReferenceIdeal.main_v2) = v0 c
          ∧ r.2.mem ((c.tc : Thread Cert.GluWeightReferenceIdeal.nD Cert.GluWeightReferenceIdeal.τ).loc Cert.GluWeightReferenceIdeal.main_arg0) = m' ((c.tc : Thread Cert.GluWeightReferenceIdeal.nD Cert.GluWeightReferenceIdeal.τ).loc Cert.GluWeightReferenceIdeal.main_arg0))

def preserves_GateWeight_GateWeightIdeal : Prop :=
  True

def algebraic_GateWeightIdeal_GateWeightReferenceIdeal [hGateWeightIdeal : Cert.GateWeightIdeal.Facts] [hGateWeightReferenceIdeal : Cert.GateWeightReferenceIdeal.Facts] : Prop :=
  ∀ (m : (ℓ : Loc Cert.GateWeightIdeal.nD Cert.GateWeightIdeal.τ Cert.GateWeightIdeal.sig) → Buf (Elt Ideal) ℓ) (g : Dev Cert.GateWeightIdeal.nD → PrngReg)
    (m' : (ℓ : Loc Cert.GateWeightReferenceIdeal.nD Cert.GateWeightReferenceIdeal.τ Cert.GateWeightReferenceIdeal.sig) → Buf (Elt Ideal) ℓ) (g' : Dev Cert.GateWeightReferenceIdeal.nD → PrngReg), Pre_GateWeightIdeal m →
    (∀ c : Dev Cert.GateWeightIdeal.nD,
      m' ((c.tc : Thread Cert.GateWeightReferenceIdeal.nD Cert.GateWeightReferenceIdeal.τ).loc Cert.GateWeightReferenceIdeal.main_arg0) = m ((c.tc : Thread Cert.GateWeightIdeal.nD Cert.GateWeightIdeal.τ).loc Cert.GateWeightIdeal.main_arg0)) →
    ∃ (v0 : (c : Dev Cert.GateWeightIdeal.nD) → Buf (Elt Ideal) ((c.tc : Thread Cert.GateWeightIdeal.nD Cert.GateWeightIdeal.τ).loc Cert.GateWeightIdeal.main_v2)),
      θ_run (Cert.GateWeightIdeal.defs (F := Ideal)) (onTc (τ := Cert.GateWeightIdeal.τ) (Cert.GateWeightIdeal.main (F := Ideal))) ⟨m, fun _ => 0, g⟩ (fun r => ∀ c : Dev Cert.GateWeightIdeal.nD,
          r.2.mem ((c.tc : Thread Cert.GateWeightIdeal.nD Cert.GateWeightIdeal.τ).loc Cert.GateWeightIdeal.main_v2) = v0 c
          ∧ r.2.mem ((c.tc : Thread Cert.GateWeightIdeal.nD Cert.GateWeightIdeal.τ).loc Cert.GateWeightIdeal.main_arg0) = m ((c.tc : Thread Cert.GateWeightIdeal.nD Cert.GateWeightIdeal.τ).loc Cert.GateWeightIdeal.main_arg0))
      ∧ θ_run (Cert.GateWeightReferenceIdeal.defs (F := Ideal)) (onTc (τ := Cert.GateWeightReferenceIdeal.τ) (Cert.GateWeightReferenceIdeal.main (F := Ideal))) ⟨m', fun _ => 0, g'⟩ (fun r => ∀ c : Dev Cert.GateWeightReferenceIdeal.nD,
          r.2.mem ((c.tc : Thread Cert.GateWeightReferenceIdeal.nD Cert.GateWeightReferenceIdeal.τ).loc Cert.GateWeightReferenceIdeal.main_v2) = v0 c
          ∧ r.2.mem ((c.tc : Thread Cert.GateWeightReferenceIdeal.nD Cert.GateWeightReferenceIdeal.τ).loc Cert.GateWeightReferenceIdeal.main_arg0) = m' ((c.tc : Thread Cert.GateWeightReferenceIdeal.nD Cert.GateWeightReferenceIdeal.τ).loc Cert.GateWeightReferenceIdeal.main_arg0))

def Claim : Prop :=
  ∃ (hKernel : Cert.Kernel.Facts) (hKernelIdeal : Cert.KernelIdeal.Facts) (hReferenceIdeal : Cert.ReferenceIdeal.Facts) (hFfn2 : Cert.Ffn2.Facts) (hFfn2Ideal : Cert.Ffn2Ideal.Facts) (hFfn2ReferenceIdeal : Cert.Ffn2ReferenceIdeal.Facts) (hFfn1 : Cert.Ffn1.Facts) (hFfn1Ideal : Cert.Ffn1Ideal.Facts) (hFfn1ReferenceIdeal : Cert.Ffn1ReferenceIdeal.Facts) (hMemKv : Cert.MemKv.Facts) (hMemKvIdeal : Cert.MemKvIdeal.Facts) (hMemKvReferenceIdeal : Cert.MemKvReferenceIdeal.Facts) (hMemAttn : Cert.MemAttn.Facts) (hMemAttnIdeal : Cert.MemAttnIdeal.Facts) (hMemAttnReferenceIdeal : Cert.MemAttnReferenceIdeal.Facts) (hMerge : Cert.Merge.Facts) (hMergeIdeal : Cert.MergeIdeal.Facts) (hMergeReferenceIdeal : Cert.MergeReferenceIdeal.Facts) (hOutProj : Cert.OutProj.Facts) (hOutProjIdeal : Cert.OutProjIdeal.Facts) (hOutProjReferenceIdeal : Cert.OutProjReferenceIdeal.Facts) (hGluWeight : Cert.GluWeight.Facts) (hGluWeightIdeal : Cert.GluWeightIdeal.Facts) (hGluWeightReferenceIdeal : Cert.GluWeightReferenceIdeal.Facts) (hGateWeight : Cert.GateWeight.Facts) (hGateWeightIdeal : Cert.GateWeightIdeal.Facts) (hGateWeightReferenceIdeal : Cert.GateWeightReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Ffn2 (hFfn2 := hFfn2)
    ∧ quiescent_Ffn2Ideal (hFfn2Ideal := hFfn2Ideal)
    ∧ quiescent_Ffn2ReferenceIdeal (hFfn2ReferenceIdeal := hFfn2ReferenceIdeal)
    ∧ quiescent_Ffn1 (hFfn1 := hFfn1)
    ∧ quiescent_Ffn1Ideal (hFfn1Ideal := hFfn1Ideal)
    ∧ quiescent_Ffn1ReferenceIdeal (hFfn1ReferenceIdeal := hFfn1ReferenceIdeal)
    ∧ quiescent_MemKv (hMemKv := hMemKv)
    ∧ quiescent_MemKvIdeal (hMemKvIdeal := hMemKvIdeal)
    ∧ quiescent_MemKvReferenceIdeal (hMemKvReferenceIdeal := hMemKvReferenceIdeal)
    ∧ quiescent_MemAttn (hMemAttn := hMemAttn)
    ∧ quiescent_MemAttnIdeal (hMemAttnIdeal := hMemAttnIdeal)
    ∧ quiescent_MemAttnReferenceIdeal (hMemAttnReferenceIdeal := hMemAttnReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_GluWeight (hGluWeight := hGluWeight)
    ∧ quiescent_GluWeightIdeal (hGluWeightIdeal := hGluWeightIdeal)
    ∧ quiescent_GluWeightReferenceIdeal (hGluWeightReferenceIdeal := hGluWeightReferenceIdeal)
    ∧ quiescent_GateWeight (hGateWeight := hGateWeight)
    ∧ quiescent_GateWeightIdeal (hGateWeightIdeal := hGateWeightIdeal)
    ∧ quiescent_GateWeightReferenceIdeal (hGateWeightReferenceIdeal := hGateWeightReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Ffn2_Ffn2Ideal
    ∧ algebraic_Ffn2Ideal_Ffn2ReferenceIdeal (hFfn2Ideal := hFfn2Ideal) (hFfn2ReferenceIdeal := hFfn2ReferenceIdeal)
    ∧ preserves_Ffn1_Ffn1Ideal
    ∧ algebraic_Ffn1Ideal_Ffn1ReferenceIdeal (hFfn1Ideal := hFfn1Ideal) (hFfn1ReferenceIdeal := hFfn1ReferenceIdeal)
    ∧ preserves_MemKv_MemKvIdeal
    ∧ algebraic_MemKvIdeal_MemKvReferenceIdeal (hMemKvIdeal := hMemKvIdeal) (hMemKvReferenceIdeal := hMemKvReferenceIdeal)
    ∧ preserves_MemAttn_MemAttnIdeal
    ∧ algebraic_MemAttnIdeal_MemAttnReferenceIdeal (hMemAttnIdeal := hMemAttnIdeal) (hMemAttnReferenceIdeal := hMemAttnReferenceIdeal)
    ∧ preserves_Merge_MergeIdeal
    ∧ algebraic_MergeIdeal_MergeReferenceIdeal (hMergeIdeal := hMergeIdeal) (hMergeReferenceIdeal := hMergeReferenceIdeal)
    ∧ preserves_OutProj_OutProjIdeal
    ∧ algebraic_OutProjIdeal_OutProjReferenceIdeal (hOutProjIdeal := hOutProjIdeal) (hOutProjReferenceIdeal := hOutProjReferenceIdeal)
    ∧ preserves_GluWeight_GluWeightIdeal
    ∧ algebraic_GluWeightIdeal_GluWeightReferenceIdeal (hGluWeightIdeal := hGluWeightIdeal) (hGluWeightReferenceIdeal := hGluWeightReferenceIdeal)
    ∧ preserves_GateWeight_GateWeightIdeal
    ∧ algebraic_GateWeightIdeal_GateWeightReferenceIdeal (hGateWeightIdeal := hGateWeightIdeal) (hGateWeightReferenceIdeal := hGateWeightReferenceIdeal)
-- ==== Pre_finite_scores.lean ====
abbrev S1x16384x12x192 : Shape := ⟨4, ![1, 16384, 12, 192]⟩
abbrev S1x16384x12x128 : Shape := ⟨4, ![1, 16384, 12, 128]⟩
abbrev S1x192 : Shape := ⟨2, ![1, 192]⟩
abbrev S_ : Shape := ⟨0, ![]⟩

class Facts : Prop where
  bcast_S_S1x16384x12x192 : S_.BroadcastsInDim S1x16384x12x192 (![] : Fin 0 → Fin S1x16384x12x192.rank)

variable [Facts]

def fn {F : FTy → Type} [FloatOps F] (main_arg0 : FVec F S1x16384x12x192 .f32) (main_arg1 : FVec F S1x16384x12x192 .f32) (main_arg2 : FVec F S1x16384x12x128 .f32) (main_arg3 : FVec F S1x192 .f32) (main_arg4 : FVec F S1x192 .f32) : IVec S1x16384x12x192 1 :=
  let main_v0 : FVec F S1x16384x12x192 .f32 := Host.absf main_arg0
  let main_cst : FVec F S_ .f32 := constant S_ .f32 0x7F800000#32
  let main_v1 : FVec F S1x16384x12x192 .f32 := broadcastInDim S1x16384x12x192 ![] bcast_S_S1x16384x12x192 main_cst
  let main_v2 : IVec S1x16384x12x192 1 := cmpf .olt main_v0 main_v1
  let main_v3 : FVec F S1x16384x12x192 .f32 := Host.absf main_arg1
  let main_cst_0 : FVec F S_ .f32 := constant S_ .f32 0x7F800000#32
  let main_v4 : FVec F S1x16384x12x192 .f32 := broadcastInDim S1x16384x12x192 ![] bcast_S_S1x16384x12x192 main_cst_0
  let main_v5 : IVec S1x16384x12x192 1 := cmpf .olt main_v3 main_v4
  let main_v6 : IVec S1x16384x12x192 1 := andi main_v2 main_v5
  main_v6
-- ==== Kernel.lean ====
abbrev S1x16384x12x192 : Shape := ⟨4, ![1, 16384, 12, 192]⟩
abbrev S1x16384x12x128 : Shape := ⟨4, ![1, 16384, 12, 128]⟩
abbrev S1x192 : Shape := ⟨2, ![1, 192]⟩
abbrev S192 : Shape := ⟨1, ![192]⟩
abbrev S_ : Shape := ⟨0, ![]⟩
abbrev S1 : Shape := ⟨1, ![1]⟩
abbrev S2 : Shape := ⟨1, ![2]⟩
abbrev S16384x12x192 : Shape := ⟨3, ![16384, 12, 192]⟩
abbrev S12x16384x192 : Shape := ⟨3, ![12, 16384, 192]⟩
abbrev S16384x12x128 : Shape := ⟨3, ![16384, 12, 128]⟩
abbrev S12x16384x128 : Shape := ⟨3, ![12, 16384, 128]⟩
abbrev S16384x1536 : Shape := ⟨2, ![16384, 1536]⟩
abbrev S1x2048x192 : Shape := ⟨3, ![1, 2048, 192]⟩
abbrev S1x16384x192 : Shape := ⟨3, ![1, 16384, 192]⟩
abbrev S1x16384x128 : Shape := ⟨3, ![1, 16384, 128]⟩
abbrev S2048x128 : Shape := ⟨2, ![2048, 128]⟩
abbrev S2048x1 : Shape := ⟨2, ![2048, 1]⟩
abbrev S2048x192 : Shape := ⟨2, ![2048, 192]⟩
abbrev S1x512x192 : Shape := ⟨3, ![1, 512, 192]⟩
abbrev S512x192 : Shape := ⟨2, ![512, 192]⟩
abbrev S1x512x128 : Shape := ⟨3, ![1, 512, 128]⟩
abbrev S512x128 : Shape := ⟨2, ![512, 128]⟩
abbrev S2048x512 : Shape := ⟨2, ![2048, 512]⟩
abbrev S1536x192 : Shape := ⟨2, ![1536, 192]⟩
abbrev S1536x512 : Shape := ⟨2, ![1536, 512]⟩
abbrev S1536x128 : Shape := ⟨2, ![1536, 128]⟩
abbrev S1024x192 : Shape := ⟨2, ![1024, 192]⟩
abbrev S1024x512 : Shape := ⟨2, ![1024, 512]⟩
abbrev S1024x128 : Shape := ⟨2, ![1024, 128]⟩
abbrev S512x512 : Shape := ⟨2, ![512, 512]⟩
abbrev S2048 : Shape := ⟨1, ![2048]⟩

abbrev nBuf : Space → Nat
  | .hbm => 31
  | .vmem => 11
  | .smem => 1
  | _ => 0

abbrev bufTy : (tb : Table) → Fin (tcTables nBuf tb) → BufTy
  | .hbm, ⟨0, _⟩ => ⟨S1x16384x12x192, .f32⟩
  | .hbm, ⟨1, _⟩ => ⟨S1x16384x12x192, .f32⟩
  | .hbm, ⟨2, _⟩ => ⟨S1x16384x12x128, .f32⟩
  | .hbm, ⟨3, _⟩ => ⟨S1x192, .f32⟩
  | .hbm, ⟨4, _⟩ => ⟨S1x192, .f32⟩
  | .hbm, ⟨5, _⟩ => ⟨S192, .f32⟩
  | .hbm, ⟨6, _⟩ => ⟨S192, .f32⟩
  | .hbm, ⟨7, _⟩ => ⟨S192, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .i1⟩
  | .hbm, ⟨18, _⟩ => ⟨S_, .f32⟩
  | .hbm, ⟨19, _⟩ => ⟨S1, .f32⟩
  | .hbm, ⟨20, _⟩ => ⟨S1, .f32⟩
  | .hbm, ⟨21, _⟩ => ⟨S2, .f32⟩
  | .hbm, ⟨22, _⟩ => ⟨S16384x12x192, .f32⟩
  | .hbm, ⟨23, _⟩ => ⟨S12x16384x192, .f32⟩
  | .hbm, ⟨24, _⟩ => ⟨S16384x12x192, .f32⟩
  | .hbm, ⟨25, _⟩ => ⟨S12x16384x192, .f32⟩
  | .hbm, ⟨26, _⟩ => ⟨S12x16384x192, .bf16⟩
  | .hbm, ⟨27, _⟩ => ⟨S16384x12x128, .f32⟩
  | .hbm, ⟨28, _⟩ => ⟨S12x16384x128, .f32⟩
  | .hbm, ⟨29, _⟩ => ⟨S12x16384x128, .bf16⟩
  | .hbm, ⟨30, _⟩ => ⟨S16384x1536, .bf16⟩
  | .local _ .vmem, ⟨0, _⟩ => ⟨S1x2048x192, .f32⟩
  | .local _ .vmem, ⟨1, _⟩ => ⟨S1x2048x192, .f32⟩
  | .local _ .vmem, ⟨2, _⟩ => ⟨S1x16384x192, .bf16⟩
  | .local _ .vmem, ⟨3, _⟩ => ⟨S1x16384x192, .bf16⟩
  | .local _ .vmem, ⟨4, _⟩ => ⟨S1x16384x128, .bf16⟩
  | .local _ .vmem, ⟨5, _⟩ => ⟨S1x16384x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S2048x128, .f32⟩
  | .local _ .vmem, ⟨10, _⟩ => ⟨S2048x1, .f32⟩
  | .local _ .smem, ⟨0, _⟩ => ⟨S2, .f32⟩
  | _, _ => ⟨S1x16384x12x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![12, 8], ![false, false]⟩

@[reducible] def k0_t1_loop (i : grid0.Coords) : Scf.Loop 32 :=
  let c0_i32_20 : BitVec 32 := 0#32
  let arg1 : BitVec 32 := BitVec.ofNat 32 (i 1).val
  let c4_i32 : BitVec 32 := 4#32
  let v5 : BitVec 32 := Scalar.muli arg1 c4_i32
  let c0_i32_14 : BitVec 32 := 0#32
  let v24 : BitVec 1 := Scalar.cmpi .sgt v5 c0_i32_14
  let v25 : BitVec 32 := Scalar.extui v24
  let c0_i32_15 : BitVec 32 := 0#32
  let v26 : BitVec 1 := Scalar.cmpi .slt v5 c0_i32_15
  let v27 : BitVec 32 := Scalar.extui v26
  let v28 : BitVec 32 := Scalar.subi v25 v27
  let c4_i32_13 : BitVec 32 := 4#32
  let c0_i32_16 : BitVec 32 := 0#32
  let v29 : BitVec 1 := Scalar.cmpi .sgt c4_i32_13 c0_i32_16
  let v30 : BitVec 32 := Scalar.extui v29
  let c0_i32_17 : BitVec 32 := 0#32
  let v31 : BitVec 1 := Scalar.cmpi .slt c4_i32_13 c0_i32_17
  let v32 : BitVec 32 := Scalar.extui v31
  let v33 : BitVec 32 := Scalar.subi v30 v32
  let v34 : BitVec 1 := Scalar.cmpi .ne v28 v33
  let v35 : BitVec 32 := Scalar.remsi v5 c4_i32_13
  let c0_i32_18 : BitVec 32 := 0#32
  let v36 : BitVec 1 := Scalar.cmpi .ne v35 c0_i32_18
  let v37 : BitVec 1 := Scalar.andi v34 v36
  let v23 : BitVec 32 := Scalar.divsi v5 c4_i32_13
  let c1_i32 : BitVec 32 := 1#32
  let v38 : BitVec 32 := Scalar.subi v23 c1_i32
  let v39 : BitVec 32 := Scalar.select v37 v38 v23
  let v40 : BitVec 32 := Scalar.subi v39 c0_i32_20
  let c1_i32_21 : BitVec 32 := 1#32
  let v42 : BitVec 32 := Scalar.divsi v40 c1_i32_21
  let v43 : BitVec 32 := Scalar.muli v42 c1_i32_21
  let v44 : BitVec 32 := Scalar.addi c0_i32_20 v43
  let c1_i32_22 : BitVec 32 := 1#32
  ⟨c0_i32_20, v44, c1_i32_22⟩
def k0_mult1 (i : grid0.Coords) (k0_t1 : Fin (k0_t1_loop i).trips) : BitVec 32 :=
  let c0_i32_20 : BitVec 32 := 0#32
  let c1_i32_22 : BitVec 32 := 1#32
  let arg10 : BitVec 32 := Scf.iv c0_i32_20 c1_i32_22 k0_t1
  let c4_i32_107 : BitVec 32 := 4#32
  let v238 : BitVec 32 := Scalar.muli arg10 c4_i32_107
  let c512_i32_108 : BitVec 32 := 512#32
  let v239 : BitVec 32 := Scalar.muli v238 c512_i32_108
  v239
def k0_off1 (i : grid0.Coords) (k0_t1 : Fin (k0_t1_loop i).trips) : Fin 3 → Nat :=
  let c0_109 : Index := 0#32
  let c0_i32_20 : BitVec 32 := 0#32
  let c1_i32_22 : BitVec 32 := 1#32
  let arg10 : BitVec 32 := Scf.iv c0_i32_20 c1_i32_22 k0_t1
  let c4_i32_107 : BitVec 32 := 4#32
  let v238 : BitVec 32 := Scalar.muli arg10 c4_i32_107
  let c512_i32_108 : BitVec 32 := 512#32
  let v239 : BitVec 32 := Scalar.muli v238 c512_i32_108
  let v240 : BitVec 32 := v239
  let v241 : Index := Scalar.indexCast v240
  let c0_110 : Index := 0#32
  ![0, v241.toNat, 0]
def k0_off2 (i : grid0.Coords) (k0_t1 : Fin (k0_t1_loop i).trips) : Fin 3 → Nat :=
  let c0_111 : Index := 0#32
  let c0_i32_20 : BitVec 32 := 0#32
  let c1_i32_22 : BitVec 32 := 1#32
  let arg10 : BitVec 32 := Scf.iv c0_i32_20 c1_i32_22 k0_t1
  let c4_i32_107 : BitVec 32 := 4#32
  let v238 : BitVec 32 := Scalar.muli arg10 c4_i32_107
  let c512_i32_108 : BitVec 32 := 512#32
  let v239 : BitVec 32 := Scalar.muli v238 c512_i32_108
  let v240 : BitVec 32 := v239
  let v244 : Index := Scalar.indexCast v240
  let c0_112 : Index := 0#32
  ![0, v244.toNat, 0]
def k0_mult2 (i : grid0.Coords) (k0_t1 : Fin (k0_t1_loop i).trips) : BitVec 32 :=
  let c0_i32_20 : BitVec 32 := 0#32
  let c1_i32_22 : BitVec 32 := 1#32
  let arg10 : BitVec 32 := Scf.iv c0_i32_20 c1_i32_22 k0_t1
  let c4_i32_107 : BitVec 32 := 4#32
  let v238 : BitVec 32 := Scalar.muli arg10 c4_i32_107
  let c1_i32_115 : BitVec 32 := 1#32
  let v260 : BitVec 32 := Scalar.addi v238 c1_i32_115
  let c512_i32_116 : BitVec 32 := 512#32
  let v261 : BitVec 32 := Scalar.muli v260 c512_i32_116
  v261
def k0_off3 (i : grid0.Coords) (k0_t1 : Fin (k0_t1_loop i).trips) (c1_i32_115 : BitVec 32) : Fin 3 → Nat :=
  let c0_117 : Index := 0#32
  let c0_i32_20 : BitVec 32 := 0#32
  let c1_i32_22 : BitVec 32 := 1#32
  let arg10 : BitVec 32 := Scf.iv c0_i32_20 c1_i32_22 k0_t1
  let c4_i32_107 : BitVec 32 := 4#32
  let v238 : BitVec 32 := Scalar.muli arg10 c4_i32_107
  let v260 : BitVec 32 := Scalar.addi v238 c1_i32_115
  let c512_i32_116 : BitVec 32 := 512#32
  let v261 : BitVec 32 := Scalar.muli v260 c512_i32_116
  let v262 : BitVec 32 := v261
  let v263 : Index := Scalar.indexCast v262
  let c0_118 : Index := 0#32
  ![0, v263.toNat, 0]
def k0_off4 (i : grid0.Coords) (k0_t1 : Fin (k0_t1_loop i).trips) (c1_i32_115 : BitVec 32) : Fin 3 → Nat :=
  let c0_119 : Index := 0#32
  let c0_i32_20 : BitVec 32 := 0#32
  let c1_i32_22 : BitVec 32 := 1#32
  let arg10 : BitVec 32 := Scf.iv c0_i32_20 c1_i32_22 k0_t1
  let c4_i32_107 : BitVec 32 := 4#32
  let v238 : BitVec 32 := Scalar.muli arg10 c4_i32_107
  let v260 : BitVec 32 := Scalar.addi v238 c1_i32_115
  let c512_i32_116 : BitVec 32 := 512#32
  let v261 : BitVec 32 := Scalar.muli v260 c512_i32_116
  let v262 : BitVec 32 := v261
  let v266 : Index := Scalar.indexCast v262
  let c0_120 : Index := 0#32
  ![0, v266.toNat, 0]
def k0_mult3 (i : grid0.Coords) (k0_t1 : Fin (k0_t1_loop i).trips) : BitVec 32 :=
  let c0_i32_20 : BitVec 32 := 0#32
  let c1_i32_22 : BitVec 32 := 1#32
  let arg10 : BitVec 32 := Scf.iv c0_i32_20 c1_i32_22 k0_t1
  let c4_i32_107 : BitVec 32 := 4#32
  let v238 : BitVec 32 := Scalar.muli arg10 c4_i32_107
  let c2_i32_123 : BitVec 32 := 2#32
  let v284 : BitVec 32 := Scalar.addi v238 c2_i32_123
  let c512_i32_124 : BitVec 32 := 512#32
  let v285 : BitVec 32 := Scalar.muli v284 c512_i32_124
  v285
def k0_mult4 (i : grid0.Coords) (k0_t1 : Fin (k0_t1_loop i).trips) : BitVec 32 :=
  let c0_i32_20 : BitVec 32 := 0#32
  let c1_i32_22 : BitVec 32 := 1#32
  let arg10 : BitVec 32 := Scf.iv c0_i32_20 c1_i32_22 k0_t1
  let c4_i32_107 : BitVec 32 := 4#32
  let v238 : BitVec 32 := Scalar.muli arg10 c4_i32_107
  let c3_i32_131 : BitVec 32 := 3#32
  let v308 : BitVec 32 := Scalar.addi v238 c3_i32_131
  let c512_i32_132 : BitVec 32 := 512#32
  let v309 : BitVec 32 := Scalar.muli v308 c512_i32_132
  v309
@[reducible] def k0_t2_loop (i : grid0.Coords) : Scf.Loop 32 :=
  let c0_i32_20 : BitVec 32 := 0#32
  let arg1 : BitVec 32 := BitVec.ofNat 32 (i 1).val
  let c4_i32 : BitVec 32 := 4#32
  let v5 : BitVec 32 := Scalar.muli arg1 c4_i32
  let c0_i32_14 : BitVec 32 := 0#32
  let v24 : BitVec 1 := Scalar.cmpi .sgt v5 c0_i32_14
  let v25 : BitVec 32 := Scalar.extui v24
  let c0_i32_15 : BitVec 32 := 0#32
  let v26 : BitVec 1 := Scalar.cmpi .slt v5 c0_i32_15
  let v27 : BitVec 32 := Scalar.extui v26
  let v28 : BitVec 32 := Scalar.subi v25 v27
  let c4_i32_13 : BitVec 32 := 4#32
  let c0_i32_16 : BitVec 32 := 0#32
  let v29 : BitVec 1 := Scalar.cmpi .sgt c4_i32_13 c0_i32_16
  let v30 : BitVec 32 := Scalar.extui v29
  let c0_i32_17 : BitVec 32 := 0#32
  let v31 : BitVec 1 := Scalar.cmpi .slt c4_i32_13 c0_i32_17
  let v32 : BitVec 32 := Scalar.extui v31
  let v33 : BitVec 32 := Scalar.subi v30 v32
  let v34 : BitVec 1 := Scalar.cmpi .ne v28 v33
  let v35 : BitVec 32 := Scalar.remsi v5 c4_i32_13
  let c0_i32_18 : BitVec 32 := 0#32
  let v36 : BitVec 1 := Scalar.cmpi .ne v35 c0_i32_18
  let v37 : BitVec 1 := Scalar.andi v34 v36
  let v23 : BitVec 32 := Scalar.divsi v5 c4_i32_13
  let c1_i32 : BitVec 32 := 1#32
  let v38 : BitVec 32 := Scalar.subi v23 c1_i32
  let v39 : BitVec 32 := Scalar.select v37 v38 v23
  let v40 : BitVec 32 := Scalar.subi v39 c0_i32_20
  let c1_i32_21 : BitVec 32 := 1#32
  let v42 : BitVec 32 := Scalar.divsi v40 c1_i32_21
  let v43 : BitVec 32 := Scalar.muli v42 c1_i32_21
  let v44 : BitVec 32 := Scalar.addi c0_i32_20 v43
  let v41 : BitVec 32 := Scalar.addi c0_i32_20 v40
  let c1_i32_23 : BitVec 32 := 1#32
  ⟨v44, v41, c1_i32_23⟩
def k0_mult5 (i : grid0.Coords) (k0_t2 : Fin (k0_t2_loop i).trips) : BitVec 32 :=
  let c0_i32_20 : BitVec 32 := 0#32
  let arg1 : BitVec 32 := BitVec.ofNat 32 (i 1).val
  let c4_i32 : BitVec 32 := 4#32
  let v5 : BitVec 32 := Scalar.muli arg1 c4_i32
  let c0_i32_14 : BitVec 32 := 0#32
  let v24 : BitVec 1 := Scalar.cmpi .sgt v5 c0_i32_14
  let v25 : BitVec 32 := Scalar.extui v24
  let c0_i32_15 : BitVec 32 := 0#32
  let v26 : BitVec 1 := Scalar.cmpi .slt v5 c0_i32_15
  let v27 : BitVec 32 := Scalar.extui v26
  let v28 : BitVec 32 := Scalar.subi v25 v27
  let c4_i32_13 : BitVec 32 := 4#32
  let c0_i32_16 : BitVec 32 := 0#32
  let v29 : BitVec 1 := Scalar.cmpi .sgt c4_i32_13 c0_i32_16
  let v30 : BitVec 32 := Scalar.extui v29
  let c0_i32_17 : BitVec 32 := 0#32
  let v31 : BitVec 1 := Scalar.cmpi .slt c4_i32_13 c0_i32_17
  let v32 : BitVec 32 := Scalar.extui v31
  let v33 : BitVec 32 := Scalar.subi v30 v32
  let v34 : BitVec 1 := Scalar.cmpi .ne v28 v33
  let v35 : BitVec 32 := Scalar.remsi v5 c4_i32_13
  let c0_i32_18 : BitVec 32 := 0#32
  let v36 : BitVec 1 := Scalar.cmpi .ne v35 c0_i32_18
  let v37 : BitVec 1 := Scalar.andi v34 v36
  let v23 : BitVec 32 := Scalar.divsi v5 c4_i32_13
  let c1_i32 : BitVec 32 := 1#32
  let v38 : BitVec 32 := Scalar.subi v23 c1_i32
  let v39 : BitVec 32 := Scalar.select v37 v38 v23
  let v40 : BitVec 32 := Scalar.subi v39 c0_i32_20
  let c1_i32_21 : BitVec 32 := 1#32
  let v42 : BitVec 32 := Scalar.divsi v40 c1_i32_21
  let v43 : BitVec 32 := Scalar.muli v42 c1_i32_21
  let v44 : BitVec 32 := Scalar.addi c0_i32_20 v43
  let c1_i32_23 : BitVec 32 := 1#32
  let arg10 : BitVec 32 := Scf.iv v44 c1_i32_23 k0_t2
  let c4_i32_107 : BitVec 32 := 4#32
  let v238 : BitVec 32 := Scalar.muli arg10 c4_i32_107
  let c512_i32_108 : BitVec 32 := 512#32
  let v239 : BitVec 32 := Scalar.muli v238 c512_i32_108
  v239
def k0_off5 (i : grid0.Coords) (k0_t2 : Fin (k0_t2_loop i).trips) : Fin 3 → Nat :=
  let c0_109 : Index := 0#32
  let c0_i32_20 : BitVec 32 := 0#32
  let arg1 : BitVec 32 := BitVec.ofNat 32 (i 1).val
  let c4_i32 : BitVec 32 := 4#32
  let v5 : BitVec 32 := Scalar.muli arg1 c4_i32
  let c0_i32_14 : BitVec 32 := 0#32
  let v24 : BitVec 1 := Scalar.cmpi .sgt v5 c0_i32_14
  let v25 : BitVec 32 := Scalar.extui v24
  let c0_i32_15 : BitVec 32 := 0#32
  let v26 : BitVec 1 := Scalar.cmpi .slt v5 c0_i32_15
  let v27 : BitVec 32 := Scalar.extui v26
  let v28 : BitVec 32 := Scalar.subi v25 v27
  let c4_i32_13 : BitVec 32 := 4#32
  let c0_i32_16 : BitVec 32 := 0#32
  let v29 : BitVec 1 := Scalar.cmpi .sgt c4_i32_13 c0_i32_16
  let v30 : BitVec 32 := Scalar.extui v29
  let c0_i32_17 : BitVec 32 := 0#32
  let v31 : BitVec 1 := Scalar.cmpi .slt c4_i32_13 c0_i32_17
  let v32 : BitVec 32 := Scalar.extui v31
  let v33 : BitVec 32 := Scalar.subi v30 v32
  let v34 : BitVec 1 := Scalar.cmpi .ne v28 v33
  let v35 : BitVec 32 := Scalar.remsi v5 c4_i32_13
  let c0_i32_18 : BitVec 32 := 0#32
  let v36 : BitVec 1 := Scalar.cmpi .ne v35 c0_i32_18
  let v37 : BitVec 1 := Scalar.andi v34 v36
  let v23 : BitVec 32 := Scalar.divsi v5 c4_i32_13
  let c1_i32 : BitVec 32 := 1#32
  let v38 : BitVec 32 := Scalar.subi v23 c1_i32
  let v39 : BitVec 32 := Scalar.select v37 v38 v23
  let v40 : BitVec 32 := Scalar.subi v39 c0_i32_20
  let c1_i32_21 : BitVec 32 := 1#32
  let v42 : BitVec 32 := Scalar.divsi v40 c1_i32_21
  let v43 : BitVec 32 := Scalar.muli v42 c1_i32_21
  let v44 : BitVec 32 := Scalar.addi c0_i32_20 v43
  let c1_i32_23 : BitVec 32 := 1#32
  let arg10 : BitVec 32 := Scf.iv v44 c1_i32_23 k0_t2
  let c4_i32_107 : BitVec 32 := 4#32
  let v238 : BitVec 32 := Scalar.muli arg10 c4_i32_107
  let c512_i32_108 : BitVec 32 := 512#32
  let v239 : BitVec 32 := Scalar.muli v238 c512_i32_108
  let v240 : BitVec 32 := v239
  let v241 : Index := Scalar.indexCast v240
  let c0_110 : Index := 0#32
  ![0, v241.toNat, 0]
def k0_off6 (i : grid0.Coords) (k0_t2 : Fin (k0_t2_loop i).trips) : Fin 3 → Nat :=
  let c0_111 : Index := 0#32
  let c0_i32_20 : BitVec 32 := 0#32
  let arg1 : BitVec 32 := BitVec.ofNat 32 (i 1).val
  let c4_i32 : BitVec 32 := 4#32
  let v5 : BitVec 32 := Scalar.muli arg1 c4_i32
  let c0_i32_14 : BitVec 32 := 0#32
  let v24 : BitVec 1 := Scalar.cmpi .sgt v5 c0_i32_14
  let v25 : BitVec 32 := Scalar.extui v24
  let c0_i32_15 : BitVec 32 := 0#32
  let v26 : BitVec 1 := Scalar.cmpi .slt v5 c0_i32_15
  let v27 : BitVec 32 := Scalar.extui v26
  let v28 : BitVec 32 := Scalar.subi v25 v27
  let c4_i32_13 : BitVec 32 := 4#32
  let c0_i32_16 : BitVec 32 := 0#32
  let v29 : BitVec 1 := Scalar.cmpi .sgt c4_i32_13 c0_i32_16
  let v30 : BitVec 32 := Scalar.extui v29
  let c0_i32_17 : BitVec 32 := 0#32
  let v31 : BitVec 1 := Scalar.cmpi .slt c4_i32_13 c0_i32_17
  let v32 : BitVec 32 := Scalar.extui v31
  let v33 : BitVec 32 := Scalar.subi v30 v32
  let v34 : BitVec 1 := Scalar.cmpi .ne v28 v33
  let v35 : BitVec 32 := Scalar.remsi v5 c4_i32_13
  let c0_i32_18 : BitVec 32 := 0#32
  let v36 : BitVec 1 := Scalar.cmpi .ne v35 c0_i32_18
  let v37 : BitVec 1 := Scalar.andi v34 v36
  let v23 : BitVec 32 := Scalar.divsi v5 c4_i32_13
  let c1_i32 : BitVec 32 := 1#32
  let v38 : BitVec 32 := Scalar.subi v23 c1_i32
  let v39 : BitVec 32 := Scalar.select v37 v38 v23
  let v40 : BitVec 32 := Scalar.subi v39 c0_i32_20
  let c1_i32_21 : BitVec 32 := 1#32
  let v42 : BitVec 32 := Scalar.divsi v40 c1_i32_21
  let v43 : BitVec 32 := Scalar.muli v42 c1_i32_21
  let v44 : BitVec 32 := Scalar.addi c0_i32_20 v43
  let c1_i32_23 : BitVec 32 := 1#32
  let arg10 : BitVec 32 := Scf.iv v44 c1_i32_23 k0_t2
  let c4_i32_107 : BitVec 32 := 4#32
  let v238 : BitVec 32 := Scalar.muli arg10 c4_i32_107
  let c512_i32_108 : BitVec 32 := 512#32
  let v239 : BitVec 32 := Scalar.muli v238 c512_i32_108
  let v240 : BitVec 32 := v239
  let v244 : Index := Scalar.indexCast v240
  let c0_112 : Index := 0#32
  ![0, v244.toNat, 0]
def k0_mult6 (i : grid0.Coords) (k0_t2 : Fin (k0_t2_loop i).trips) : BitVec 32 :=
  let c0_i32_20 : BitVec 32 := 0#32
  let arg1 : BitVec 32 := BitVec.ofNat 32 (i 1).val
  let c4_i32 : BitVec 32 := 4#32
  let v5 : BitVec 32 := Scalar.muli arg1 c4_i32
  let c0_i32_14 : BitVec 32 := 0#32
  let v24 : BitVec 1 := Scalar.cmpi .sgt v5 c0_i32_14
  let v25 : BitVec 32 := Scalar.extui v24
  let c0_i32_15 : BitVec 32 := 0#32
  let v26 : BitVec 1 := Scalar.cmpi .slt v5 c0_i32_15
  let v27 : BitVec 32 := Scalar.extui v26
  let v28 : BitVec 32 := Scalar.subi v25 v27
  let c4_i32_13 : BitVec 32 := 4#32
  let c0_i32_16 : BitVec 32 := 0#32
  let v29 : BitVec 1 := Scalar.cmpi .sgt c4_i32_13 c0_i32_16
  let v30 : BitVec 32 := Scalar.extui v29
  let c0_i32_17 : BitVec 32 := 0#32
  let v31 : BitVec 1 := Scalar.cmpi .slt c4_i32_13 c0_i32_17
  let v32 : BitVec 32 := Scalar.extui v31
  let v33 : BitVec 32 := Scalar.subi v30 v32
  let v34 : BitVec 1 := Scalar.cmpi .ne v28 v33
  let v35 : BitVec 32 := Scalar.remsi v5 c4_i32_13
  let c0_i32_18 : BitVec 32 := 0#32
  let v36 : BitVec 1 := Scalar.cmpi .ne v35 c0_i32_18
  let v37 : BitVec 1 := Scalar.andi v34 v36
  let v23 : BitVec 32 := Scalar.divsi v5 c4_i32_13
  let c1_i32 : BitVec 32 := 1#32
  let v38 : BitVec 32 := Scalar.subi v23 c1_i32
  let v39 : BitVec 32 := Scalar.select v37 v38 v23
  let v40 : BitVec 32 := Scalar.subi v39 c0_i32_20
  let c1_i32_21 : BitVec 32 := 1#32
  let v42 : BitVec 32 := Scalar.divsi v40 c1_i32_21
  let v43 : BitVec 32 := Scalar.muli v42 c1_i32_21
  let v44 : BitVec 32 := Scalar.addi c0_i32_20 v43
  let c1_i32_23 : BitVec 32 := 1#32
  let arg10 : BitVec 32 := Scf.iv v44 c1_i32_23 k0_t2
  let c4_i32_107 : BitVec 32 := 4#32
  let v238 : BitVec 32 := Scalar.muli arg10 c4_i32_107
  let c1_i32_115 : BitVec 32 := 1#32
  let v260 : BitVec 32 := Scalar.addi v238 c1_i32_115
  let c512_i32_116 : BitVec 32 := 512#32
  let v261 : BitVec 32 := Scalar.muli v260 c512_i32_116
  v261
def k0_off7 (i : grid0.Coords) (k0_t2 : Fin (k0_t2_loop i).trips) (c1_i32_115 : BitVec 32) : Fin 3 → Nat :=
  let c0_117 : Index := 0#32
  let c0_i32_20 : BitVec 32 := 0#32
  let arg1 : BitVec 32 := BitVec.ofNat 32 (i 1).val
  let c4_i32 : BitVec 32 := 4#32
  let v5 : BitVec 32 := Scalar.muli arg1 c4_i32
  let c0_i32_14 : BitVec 32 := 0#32
  let v24 : BitVec 1 := Scalar.cmpi .sgt v5 c0_i32_14
  let v25 : BitVec 32 := Scalar.extui v24
  let c0_i32_15 : BitVec 32 := 0#32
  let v26 : BitVec 1 := Scalar.cmpi .slt v5 c0_i32_15
  let v27 : BitVec 32 := Scalar.extui v26
  let v28 : BitVec 32 := Scalar.subi v25 v27
  let c4_i32_13 : BitVec 32 := 4#32
  let c0_i32_16 : BitVec 32 := 0#32
  let v29 : BitVec 1 := Scalar.cmpi .sgt c4_i32_13 c0_i32_16
  let v30 : BitVec 32 := Scalar.extui v29
  let c0_i32_17 : BitVec 32 := 0#32
  let v31 : BitVec 1 := Scalar.cmpi .slt c4_i32_13 c0_i32_17
  let v32 : BitVec 32 := Scalar.extui v31
  let v33 : BitVec 32 := Scalar.subi v30 v32
  let v34 : BitVec 1 := Scalar.cmpi .ne v28 v33
  let v35 : BitVec 32 := Scalar.remsi v5 c4_i32_13
  let c0_i32_18 : BitVec 32 := 0#32
  let v36 : BitVec 1 := Scalar.cmpi .ne v35 c0_i32_18
  let v37 : BitVec 1 := Scalar.andi v34 v36
  let v23 : BitVec 32 := Scalar.divsi v5 c4_i32_13
  let c1_i32 : BitVec 32 := 1#32
  let v38 : BitVec 32 := Scalar.subi v23 c1_i32
  let v39 : BitVec 32 := Scalar.select v37 v38 v23
  let v40 : BitVec 32 := Scalar.subi v39 c0_i32_20
  let c1_i32_21 : BitVec 32 := 1#32
  let v42 : BitVec 32 := Scalar.divsi v40 c1_i32_21
  let v43 : BitVec 32 := Scalar.muli v42 c1_i32_21
  let v44 : BitVec 32 := Scalar.addi c0_i32_20 v43
  let c1_i32_23 : BitVec 32 := 1#32
  let arg10 : BitVec 32 := Scf.iv v44 c1_i32_23 k0_t2
  let c4_i32_107 : BitVec 32 := 4#32
  let v238 : BitVec 32 := Scalar.muli arg10 c4_i32_107
  let v260 : BitVec 32 := Scalar.addi v238 c1_i32_115
  let c512_i32_116 : BitVec 32 := 512#32
  let v261 : BitVec 32 := Scalar.muli v260 c512_i32_116
  let v262 : BitVec 32 := v261
  let v263 : Index := Scalar.indexCast v262
  let c0_118 : Index := 0#32
  ![0, v263.toNat, 0]
def k0_off8 (i : grid0.Coords) (k0_t2 : Fin (k0_t2_loop i).trips) (c1_i32_115 : BitVec 32) : Fin 3 → Nat :=
  let c0_119 : Index := 0#32
  let c0_i32_20 : BitVec 32 := 0#32
  let arg1 : BitVec 32 := BitVec.ofNat 32 (i 1).val
  let c4_i32 : BitVec 32 := 4#32
  let v5 : BitVec 32 := Scalar.muli arg1 c4_i32
  let c0_i32_14 : BitVec 32 := 0#32
  let v24 : BitVec 1 := Scalar.cmpi .sgt v5 c0_i32_14
  let v25 : BitVec 32 := Scalar.extui v24
  let c0_i32_15 : BitVec 32 := 0#32
  let v26 : BitVec 1 := Scalar.cmpi .slt v5 c0_i32_15
  let v27 : BitVec 32 := Scalar.extui v26
  let v28 : BitVec 32 := Scalar.subi v25 v27
  let c4_i32_13 : BitVec 32 := 4#32
  let c0_i32_16 : BitVec 32 := 0#32
  let v29 : BitVec 1 := Scalar.cmpi .sgt c4_i32_13 c0_i32_16
  let v30 : BitVec 32 := Scalar.extui v29
  let c0_i32_17 : BitVec 32 := 0#32
  let v31 : BitVec 1 := Scalar.cmpi .slt c4_i32_13 c0_i32_17
  let v32 : BitVec 32 := Scalar.extui v31
  let v33 : BitVec 32 := Scalar.subi v30 v32
  let v34 : BitVec 1 := Scalar.cmpi .ne v28 v33
  let v35 : BitVec 32 := Scalar.remsi v5 c4_i32_13
  let c0_i32_18 : BitVec 32 := 0#32
  let v36 : BitVec 1 := Scalar.cmpi .ne v35 c0_i32_18
  let v37 : BitVec 1 := Scalar.andi v34 v36
  let v23 : BitVec 32 := Scalar.divsi v5 c4_i32_13
  let c1_i32 : BitVec 32 := 1#32
  let v38 : BitVec 32 := Scalar.subi v23 c1_i32
  let v39 : BitVec 32 := Scalar.select v37 v38 v23
  let v40 : BitVec 32 := Scalar.subi v39 c0_i32_20
  let c1_i32_21 : BitVec 32 := 1#32
  let v42 : BitVec 32 := Scalar.divsi v40 c1_i32_21
  let v43 : BitVec 32 := Scalar.muli v42 c1_i32_21
  let v44 : BitVec 32 := Scalar.addi c0_i32_20 v43
  let c1_i32_23 : BitVec 32 := 1#32
  let arg10 : BitVec 32 := Scf.iv v44 c1_i32_23 k0_t2
  let c4_i32_107 : BitVec 32 := 4#32
  let v238 : BitVec 32 := Scalar.muli arg10 c4_i32_107
  let v260 : BitVec 32 := Scalar.addi v238 c1_i32_115
  let c512_i32_116 : BitVec 32 := 512#32
  let v261 : BitVec 32 := Scalar.muli v260 c512_i32_116
  let v262 : BitVec 32 := v261
  let v266 : Index := Scalar.indexCast v262
  let c0_120 : Index := 0#32
  ![0, v266.toNat, 0]
def k0_mult7 (i : grid0.Coords) (k0_t2 : Fin (k0_t2_loop i).trips) : BitVec 32 :=
  let c0_i32_20 : BitVec 32 := 0#32
  let arg1 : BitVec 32 := BitVec.ofNat 32 (i 1).val
  let c4_i32 : BitVec 32 := 4#32
  let v5 : BitVec 32 := Scalar.muli arg1 c4_i32
  let c0_i32_14 : BitVec 32 := 0#32
  let v24 : BitVec 1 := Scalar.cmpi .sgt v5 c0_i32_14
  let v25 : BitVec 32 := Scalar.extui v24
  let c0_i32_15 : BitVec 32 := 0#32
  let v26 : BitVec 1 := Scalar.cmpi .slt v5 c0_i32_15
  let v27 : BitVec 32 := Scalar.extui v26
  let v28 : BitVec 32 := Scalar.subi v25 v27
  let c4_i32_13 : BitVec 32 := 4#32
  let c0_i32_16 : BitVec 32 := 0#32
  let v29 : BitVec 1 := Scalar.cmpi .sgt c4_i32_13 c0_i32_16
  let v30 : BitVec 32 := Scalar.extui v29
  let c0_i32_17 : BitVec 32 := 0#32
  let v31 : BitVec 1 := Scalar.cmpi .slt c4_i32_13 c0_i32_17
  let v32 : BitVec 32 := Scalar.extui v31
  let v33 : BitVec 32 := Scalar.subi v30 v32
  let v34 : BitVec 1 := Scalar.cmpi .ne v28 v33
  let v35 : BitVec 32 := Scalar.remsi v5 c4_i32_13
  let c0_i32_18 : BitVec 32 := 0#32
  let v36 : BitVec 1 := Scalar.cmpi .ne v35 c0_i32_18
  let v37 : BitVec 1 := Scalar.andi v34 v36
  let v23 : BitVec 32 := Scalar.divsi v5 c4_i32_13
  let c1_i32 : BitVec 32 := 1#32
  let v38 : BitVec 32 := Scalar.subi v23 c1_i32
  let v39 : BitVec 32 := Scalar.select v37 v38 v23
  let v40 : BitVec 32 := Scalar.subi v39 c0_i32_20
  let c1_i32_21 : BitVec 32 := 1#32
  let v42 : BitVec 32 := Scalar.divsi v40 c1_i32_21
  let v43 : BitVec 32 := Scalar.muli v42 c1_i32_21
  let v44 : BitVec 32 := Scalar.addi c0_i32_20 v43
  let c1_i32_23 : BitVec 32 := 1#32
  let arg10 : BitVec 32 := Scf.iv v44 c1_i32_23 k0_t2
  let c4_i32_107 : BitVec 32 := 4#32
  let v238 : BitVec 32 := Scalar.muli arg10 c4_i32_107
  let c2_i32_123 : BitVec 32 := 2#32
  let v284 : BitVec 32 := Scalar.addi v238 c2_i32_123
  let c512_i32_124 : BitVec 32 := 512#32
  let v285 : BitVec 32 := Scalar.muli v284 c512_i32_124
  v285
def k0_mult8 (i : grid0.Coords) (k0_t2 : Fin (k0_t2_loop i).trips) : BitVec 32 :=
  let c0_i32_20 : BitVec 32 := 0#32
  let arg1 : BitVec 32 := BitVec.ofNat 32 (i 1).val
  let c4_i32 : BitVec 32 := 4#32
  let v5 : BitVec 32 := Scalar.muli arg1 c4_i32
  let c0_i32_14 : BitVec 32 := 0#32
  let v24 : BitVec 1 := Scalar.cmpi .sgt v5 c0_i32_14
  let v25 : BitVec 32 := Scalar.extui v24
  let c0_i32_15 : BitVec 32 := 0#32
  let v26 : BitVec 1 := Scalar.cmpi .slt v5 c0_i32_15
  let v27 : BitVec 32 := Scalar.extui v26
  let v28 : BitVec 32 := Scalar.subi v25 v27
  let c4_i32_13 : BitVec 32 := 4#32
  let c0_i32_16 : BitVec 32 := 0#32
  let v29 : BitVec 1 := Scalar.cmpi .sgt c4_i32_13 c0_i32_16
  let v30 : BitVec 32 := Scalar.extui v29
  let c0_i32_17 : BitVec 32 := 0#32
  let v31 : BitVec 1 := Scalar.cmpi .slt c4_i32_13 c0_i32_17
  let v32 : BitVec 32 := Scalar.extui v31
  let v33 : BitVec 32 := Scalar.subi v30 v32
  let v34 : BitVec 1 := Scalar.cmpi .ne v28 v33
  let v35 : BitVec 32 := Scalar.remsi v5 c4_i32_13
  let c0_i32_18 : BitVec 32 := 0#32
  let v36 : BitVec 1 := Scalar.cmpi .ne v35 c0_i32_18
  let v37 : BitVec 1 := Scalar.andi v34 v36
  let v23 : BitVec 32 := Scalar.divsi v5 c4_i32_13
  let c1_i32 : BitVec 32 := 1#32
  let v38 : BitVec 32 := Scalar.subi v23 c1_i32
  let v39 : BitVec 32 := Scalar.select v37 v38 v23
  let v40 : BitVec 32 := Scalar.subi v39 c0_i32_20
  let c1_i32_21 : BitVec 32 := 1#32
  let v42 : BitVec 32 := Scalar.divsi v40 c1_i32_21
  let v43 : BitVec 32 := Scalar.muli v42 c1_i32_21
  let v44 : BitVec 32 := Scalar.addi c0_i32_20 v43
  let c1_i32_23 : BitVec 32 := 1#32
  let arg10 : BitVec 32 := Scf.iv v44 c1_i32_23 k0_t2
  let c4_i32_107 : BitVec 32 := 4#32
  let v238 : BitVec 32 := Scalar.muli arg10 c4_i32_107
  let c3_i32_131 : BitVec 32 := 3#32
  let v308 : BitVec 32 := Scalar.addi v238 c3_i32_131
  let c512_i32_132 : BitVec 32 := 512#32
  let v309 : BitVec 32 := Scalar.muli v308 c512_i32_132
  v309
@[reducible] def k0_t3_loop (i : grid0.Coords) : Scf.Loop 32 :=
  let arg1 : BitVec 32 := BitVec.ofNat 32 (i 1).val
  let c4_i32 : BitVec 32 := 4#32
  let v5 : BitVec 32 := Scalar.muli arg1 c4_i32
  let c0_i32_14 : BitVec 32 := 0#32
  let v24 : BitVec 1 := Scalar.cmpi .sgt v5 c0_i32_14
  let v25 : BitVec 32 := Scalar.extui v24
  let c0_i32_15 : BitVec 32 := 0#32
  let v26 : BitVec 1 := Scalar.cmpi .slt v5 c0_i32_15
  let v27 : BitVec 32 := Scalar.extui v26
  let v28 : BitVec 32 := Scalar.subi v25 v27
  let c4_i32_13 : BitVec 32 := 4#32
  let c0_i32_16 : BitVec 32 := 0#32
  let v29 : BitVec 1 := Scalar.cmpi .sgt c4_i32_13 c0_i32_16
  let v30 : BitVec 32 := Scalar.extui v29
  let c0_i32_17 : BitVec 32 := 0#32
  let v31 : BitVec 1 := Scalar.cmpi .slt c4_i32_13 c0_i32_17
  let v32 : BitVec 32 := Scalar.extui v31
  let v33 : BitVec 32 := Scalar.subi v30 v32
  let v34 : BitVec 1 := Scalar.cmpi .ne v28 v33
  let v35 : BitVec 32 := Scalar.remsi v5 c4_i32_13
  let c0_i32_18 : BitVec 32 := 0#32
  let v36 : BitVec 1 := Scalar.cmpi .ne v35 c0_i32_18
  let v37 : BitVec 1 := Scalar.andi v34 v36
  let v23 : BitVec 32 := Scalar.divsi v5 c4_i32_13
  let c1_i32 : BitVec 32 := 1#32
  let v38 : BitVec 32 := Scalar.subi v23 c1_i32
  let v39 : BitVec 32 := Scalar.select v37 v38 v23
  let c4_i32_24 : BitVec 32 := 4#32
  let v45 : BitVec 32 := Scalar.muli v39 c4_i32_24
  let v46 : BitVec 32 := Scalar.subi v5 v45
  let c1_i32_26 : BitVec 32 := 1#32
  let v48 : BitVec 32 := Scalar.divsi v46 c1_i32_26
  let v49 : BitVec 32 := Scalar.muli v48 c1_i32_26
  let v50 : BitVec 32 := Scalar.addi v45 v49
  let c1_i32_27 : BitVec 32 := 1#32
  ⟨v45, v50, c1_i32_27⟩
def k0_mult9 (i : grid0.Coords) (k0_t3 : Fin (k0_t3_loop i).trips) : BitVec 32 :=
  let arg1 : BitVec 32 := BitVec.ofNat 32 (i 1).val
  let c4_i32 : BitVec 32 := 4#32
  let v5 : BitVec 32 := Scalar.muli arg1 c4_i32
  let c0_i32_14 : BitVec 32 := 0#32
  let v24 : BitVec 1 := Scalar.cmpi .sgt v5 c0_i32_14
  let v25 : BitVec 32 := Scalar.extui v24
  let c0_i32_15 : BitVec 32 := 0#32
  let v26 : BitVec 1 := Scalar.cmpi .slt v5 c0_i32_15
  let v27 : BitVec 32 := Scalar.extui v26
  let v28 : BitVec 32 := Scalar.subi v25 v27
  let c4_i32_13 : BitVec 32 := 4#32
  let c0_i32_16 : BitVec 32 := 0#32
  let v29 : BitVec 1 := Scalar.cmpi .sgt c4_i32_13 c0_i32_16
  let v30 : BitVec 32 := Scalar.extui v29
  let c0_i32_17 : BitVec 32 := 0#32
  let v31 : BitVec 1 := Scalar.cmpi .slt c4_i32_13 c0_i32_17
  let v32 : BitVec 32 := Scalar.extui v31
  let v33 : BitVec 32 := Scalar.subi v30 v32
  let v34 : BitVec 1 := Scalar.cmpi .ne v28 v33
  let v35 : BitVec 32 := Scalar.remsi v5 c4_i32_13
  let c0_i32_18 : BitVec 32 := 0#32
  let v36 : BitVec 1 := Scalar.cmpi .ne v35 c0_i32_18
  let v37 : BitVec 1 := Scalar.andi v34 v36
  let v23 : BitVec 32 := Scalar.divsi v5 c4_i32_13
  let c1_i32 : BitVec 32 := 1#32
  let v38 : BitVec 32 := Scalar.subi v23 c1_i32
  let v39 : BitVec 32 := Scalar.select v37 v38 v23
  let c4_i32_24 : BitVec 32 := 4#32
  let v45 : BitVec 32 := Scalar.muli v39 c4_i32_24
  let c1_i32_27 : BitVec 32 := 1#32
  let arg10 : BitVec 32 := Scf.iv v45 c1_i32_27 k0_t3
  let c512_i32_107 : BitVec 32 := 512#32
  let v238 : BitVec 32 := Scalar.muli arg10 c512_i32_107
  v238
def k0_off9 (i : grid0.Coords) (k0_t3 : Fin (k0_t3_loop i).trips) : Fin 3 → Nat :=
  let c0_108 : Index := 0#32
  let arg1 : BitVec 32 := BitVec.ofNat 32 (i 1).val
  let c4_i32 : BitVec 32 := 4#32
  let v5 : BitVec 32 := Scalar.muli arg1 c4_i32
  let c0_i32_14 : BitVec 32 := 0#32
  let v24 : BitVec 1 := Scalar.cmpi .sgt v5 c0_i32_14
  let v25 : BitVec 32 := Scalar.extui v24
  let c0_i32_15 : BitVec 32 := 0#32
  let v26 : BitVec 1 := Scalar.cmpi .slt v5 c0_i32_15
  let v27 : BitVec 32 := Scalar.extui v26
  let v28 : BitVec 32 := Scalar.subi v25 v27
  let c4_i32_13 : BitVec 32 := 4#32
  let c0_i32_16 : BitVec 32 := 0#32
  let v29 : BitVec 1 := Scalar.cmpi .sgt c4_i32_13 c0_i32_16
  let v30 : BitVec 32 := Scalar.extui v29
  let c0_i32_17 : BitVec 32 := 0#32
  let v31 : BitVec 1 := Scalar.cmpi .slt c4_i32_13 c0_i32_17
  let v32 : BitVec 32 := Scalar.extui v31
  let v33 : BitVec 32 := Scalar.subi v30 v32
  let v34 : BitVec 1 := Scalar.cmpi .ne v28 v33
  let v35 : BitVec 32 := Scalar.remsi v5 c4_i32_13
  let c0_i32_18 : BitVec 32 := 0#32
  let v36 : BitVec 1 := Scalar.cmpi .ne v35 c0_i32_18
  let v37 : BitVec 1 := Scalar.andi v34 v36
  let v23 : BitVec 32 := Scalar.divsi v5 c4_i32_13
  let c1_i32 : BitVec 32 := 1#32
  let v38 : BitVec 32 := Scalar.subi v23 c1_i32
  let v39 : BitVec 32 := Scalar.select v37 v38 v23
  let c4_i32_24 : BitVec 32 := 4#32
  let v45 : BitVec 32 := Scalar.muli v39 c4_i32_24
  let c1_i32_27 : BitVec 32 := 1#32
  let arg10 : BitVec 32 := Scf.iv v45 c1_i32_27 k0_t3
  let c512_i32_107 : BitVec 32 := 512#32
  let v238 : BitVec 32 := Scalar.muli arg10 c512_i32_107
  let v239 : BitVec 32 := v238
  let v240 : Index := Scalar.indexCast v239
  let c0_109 : Index := 0#32
  ![0, v240.toNat, 0]
def k0_off10 (i : grid0.Coords) (k0_t3 : Fin (k0_t3_loop i).trips) : Fin 3 → Nat :=
  let c0_110 : Index := 0#32
  let arg1 : BitVec 32 := BitVec.ofNat 32 (i 1).val
  let c4_i32 : BitVec 32 := 4#32
  let v5 : BitVec 32 := Scalar.muli arg1 c4_i32
  let c0_i32_14 : BitVec 32 := 0#32
  let v24 : BitVec 1 := Scalar.cmpi .sgt v5 c0_i32_14
  let v25 : BitVec 32 := Scalar.extui v24
  let c0_i32_15 : BitVec 32 := 0#32
  let v26 : BitVec 1 := Scalar.cmpi .slt v5 c0_i32_15
  let v27 : BitVec 32 := Scalar.extui v26
  let v28 : BitVec 32 := Scalar.subi v25 v27
  let c4_i32_13 : BitVec 32 := 4#32
  let c0_i32_16 : BitVec 32 := 0#32
  let v29 : BitVec 1 := Scalar.cmpi .sgt c4_i32_13 c0_i32_16
  let v30 : BitVec 32 := Scalar.extui v29
  let c0_i32_17 : BitVec 32 := 0#32
  let v31 : BitVec 1 := Scalar.cmpi .slt c4_i32_13 c0_i32_17
  let v32 : BitVec 32 := Scalar.extui v31
  let v33 : BitVec 32 := Scalar.subi v30 v32
  let v34 : BitVec 1 := Scalar.cmpi .ne v28 v33
  let v35 : BitVec 32 := Scalar.remsi v5 c4_i32_13
  let c0_i32_18 : BitVec 32 := 0#32
  let v36 : BitVec 1 := Scalar.cmpi .ne v35 c0_i32_18
  let v37 : BitVec 1 := Scalar.andi v34 v36
  let v23 : BitVec 32 := Scalar.divsi v5 c4_i32_13
  let c1_i32 : BitVec 32 := 1#32
  let v38 : BitVec 32 := Scalar.subi v23 c1_i32
  let v39 : BitVec 32 := Scalar.select v37 v38 v23
  let c4_i32_24 : BitVec 32 := 4#32
  let v45 : BitVec 32 := Scalar.muli v39 c4_i32_24
  let c1_i32_27 : BitVec 32 := 1#32
  let arg10 : BitVec 32 := Scf.iv v45 c1_i32_27 k0_t3
  let c512_i32_107 : BitVec 32 := 512#32
  let v238 : BitVec 32 := Scalar.muli arg10 c512_i32_107
  let v239 : BitVec 32 := v238
  let v243 : Index := Scalar.indexCast v239
  let c0_111 : Index := 0#32
  ![0, v243.toNat, 0]
@[reducible] def k0_t4_loop (i : grid0.Coords) : Scf.Loop 32 :=
  let arg1 : BitVec 32 := BitVec.ofNat 32 (i 1).val
  let c4_i32 : BitVec 32 := 4#32
  let v5 : BitVec 32 := Scalar.muli arg1 c4_i32
  let c0_i32_14 : BitVec 32 := 0#32
  let v24 : BitVec 1 := Scalar.cmpi .sgt v5 c0_i32_14
  let v25 : BitVec 32 := Scalar.extui v24
  let c0_i32_15 : BitVec 32 := 0#32
  let v26 : BitVec 1 := Scalar.cmpi .slt v5 c0_i32_15
  let v27 : BitVec 32 := Scalar.extui v26
  let v28 : BitVec 32 := Scalar.subi v25 v27
  let c4_i32_13 : BitVec 32 := 4#32
  let c0_i32_16 : BitVec 32 := 0#32
  let v29 : BitVec 1 := Scalar.cmpi .sgt c4_i32_13 c0_i32_16
  let v30 : BitVec 32 := Scalar.extui v29
  let c0_i32_17 : BitVec 32 := 0#32
  let v31 : BitVec 1 := Scalar.cmpi .slt c4_i32_13 c0_i32_17
  let v32 : BitVec 32 := Scalar.extui v31
  let v33 : BitVec 32 := Scalar.subi v30 v32
  let v34 : BitVec 1 := Scalar.cmpi .ne v28 v33
  let v35 : BitVec 32 := Scalar.remsi v5 c4_i32_13
  let c0_i32_18 : BitVec 32 := 0#32
  let v36 : BitVec 1 := Scalar.cmpi .ne v35 c0_i32_18
  let v37 : BitVec 1 := Scalar.andi v34 v36
  let v23 : BitVec 32 := Scalar.divsi v5 c4_i32_13
  let c1_i32 : BitVec 32 := 1#32
  let v38 : BitVec 32 := Scalar.subi v23 c1_i32
  let v39 : BitVec 32 := Scalar.select v37 v38 v23
  let c4_i32_24 : BitVec 32 := 4#32
  let v45 : BitVec 32 := Scalar.muli v39 c4_i32_24
  let v46 : BitVec 32 := Scalar.subi v5 v45
  let c1_i32_26 : BitVec 32 := 1#32
  let v48 : BitVec 32 := Scalar.divsi v46 c1_i32_26
  let v49 : BitVec 32 := Scalar.muli v48 c1_i32_26
  let v50 : BitVec 32 := Scalar.addi v45 v49
  let v47 : BitVec 32 := Scalar.addi v45 v46
  let c1_i32_28 : BitVec 32 := 1#32
  ⟨v50, v47, c1_i32_28⟩
def k0_mult10 (i : grid0.Coords) (k0_t4 : Fin (k0_t4_loop i).trips) : BitVec 32 :=
  let arg1 : BitVec 32 := BitVec.ofNat 32 (i 1).val
  let c4_i32 : BitVec 32 := 4#32
  let v5 : BitVec 32 := Scalar.muli arg1 c4_i32
  let c0_i32_14 : BitVec 32 := 0#32
  let v24 : BitVec 1 := Scalar.cmpi .sgt v5 c0_i32_14
  let v25 : BitVec 32 := Scalar.extui v24
  let c0_i32_15 : BitVec 32 := 0#32
  let v26 : BitVec 1 := Scalar.cmpi .slt v5 c0_i32_15
  let v27 : BitVec 32 := Scalar.extui v26
  let v28 : BitVec 32 := Scalar.subi v25 v27
  let c4_i32_13 : BitVec 32 := 4#32
  let c0_i32_16 : BitVec 32 := 0#32
  let v29 : BitVec 1 := Scalar.cmpi .sgt c4_i32_13 c0_i32_16
  let v30 : BitVec 32 := Scalar.extui v29
  let c0_i32_17 : BitVec 32 := 0#32
  let v31 : BitVec 1 := Scalar.cmpi .slt c4_i32_13 c0_i32_17
  let v32 : BitVec 32 := Scalar.extui v31
  let v33 : BitVec 32 := Scalar.subi v30 v32
  let v34 : BitVec 1 := Scalar.cmpi .ne v28 v33
  let v35 : BitVec 32 := Scalar.remsi v5 c4_i32_13
  let c0_i32_18 : BitVec 32 := 0#32
  let v36 : BitVec 1 := Scalar.cmpi .ne v35 c0_i32_18
  let v37 : BitVec 1 := Scalar.andi v34 v36
  let v23 : BitVec 32 := Scalar.divsi v5 c4_i32_13
  let c1_i32 : BitVec 32 := 1#32
  let v38 : BitVec 32 := Scalar.subi v23 c1_i32
  let v39 : BitVec 32 := Scalar.select v37 v38 v23
  let c4_i32_24 : BitVec 32 := 4#32
  let v45 : BitVec 32 := Scalar.muli v39 c4_i32_24
  let v46 : BitVec 32 := Scalar.subi v5 v45
  let c1_i32_26 : BitVec 32 := 1#32
  let v48 : BitVec 32 := Scalar.divsi v46 c1_i32_26
  let v49 : BitVec 32 := Scalar.muli v48 c1_i32_26
  let v50 : BitVec 32 := Scalar.addi v45 v49
  let c1_i32_28 : BitVec 32 := 1#32
  let arg10 : BitVec 32 := Scf.iv v50 c1_i32_28 k0_t4
  let c512_i32_107 : BitVec 32 := 512#32
  let v238 : BitVec 32 := Scalar.muli arg10 c512_i32_107
  v238
def k0_off11 (i : grid0.Coords) (k0_t4 : Fin (k0_t4_loop i).trips) : Fin 3 → Nat :=
  let c0_108 : Index := 0#32
  let arg1 : BitVec 32 := BitVec.ofNat 32 (i 1).val
  let c4_i32 : BitVec 32 := 4#32
  let v5 : BitVec 32 := Scalar.muli arg1 c4_i32
  let c0_i32_14 : BitVec 32 := 0#32
  let v24 : BitVec 1 := Scalar.cmpi .sgt v5 c0_i32_14
  let v25 : BitVec 32 := Scalar.extui v24
  let c0_i32_15 : BitVec 32 := 0#32
  let v26 : BitVec 1 := Scalar.cmpi .slt v5 c0_i32_15
  let v27 : BitVec 32 := Scalar.extui v26
  let v28 : BitVec 32 := Scalar.subi v25 v27
  let c4_i32_13 : BitVec 32 := 4#32
  let c0_i32_16 : BitVec 32 := 0#32
  let v29 : BitVec 1 := Scalar.cmpi .sgt c4_i32_13 c0_i32_16
  let v30 : BitVec 32 := Scalar.extui v29
  let c0_i32_17 : BitVec 32 := 0#32
  let v31 : BitVec 1 := Scalar.cmpi .slt c4_i32_13 c0_i32_17
  let v32 : BitVec 32 := Scalar.extui v31
  let v33 : BitVec 32 := Scalar.subi v30 v32
  let v34 : BitVec 1 := Scalar.cmpi .ne v28 v33
  let v35 : BitVec 32 := Scalar.remsi v5 c4_i32_13
  let c0_i32_18 : BitVec 32 := 0#32
  let v36 : BitVec 1 := Scalar.cmpi .ne v35 c0_i32_18
  let v37 : BitVec 1 := Scalar.andi v34 v36
  let v23 : BitVec 32 := Scalar.divsi v5 c4_i32_13
  let c1_i32 : BitVec 32 := 1#32
  let v38 : BitVec 32 := Scalar.subi v23 c1_i32
  let v39 : BitVec 32 := Scalar.select v37 v38 v23
  let c4_i32_24 : BitVec 32 := 4#32
  let v45 : BitVec 32 := Scalar.muli v39 c4_i32_24
  let v46 : BitVec 32 := Scalar.subi v5 v45
  let c1_i32_26 : BitVec 32 := 1#32
  let v48 : BitVec 32 := Scalar.divsi v46 c1_i32_26
  let v49 : BitVec 32 := Scalar.muli v48 c1_i32_26
  let v50 : BitVec 32 := Scalar.addi v45 v49
  let c1_i32_28 : BitVec 32 := 1#32
  let arg10 : BitVec 32 := Scf.iv v50 c1_i32_28 k0_t4
  let c512_i32_107 : BitVec 32 := 512#32
  let v238 : BitVec 32 := Scalar.muli arg10 c512_i32_107
  let v239 : BitVec 32 := v238
  let v240 : Index := Scalar.indexCast v239
  let c0_109 : Index := 0#32
  ![0, v240.toNat, 0]
def k0_off12 (i : grid0.Coords) (k0_t4 : Fin (k0_t4_loop i).trips) : Fin 3 → Nat :=
  let c0_110 : Index := 0#32
  let arg1 : BitVec 32 := BitVec.ofNat 32 (i 1).val
  let c4_i32 : BitVec 32 := 4#32
  let v5 : BitVec 32 := Scalar.muli arg1 c4_i32
  let c0_i32_14 : BitVec 32 := 0#32
  let v24 : BitVec 1 := Scalar.cmpi .sgt v5 c0_i32_14
  let v25 : BitVec 32 := Scalar.extui v24
  let c0_i32_15 : BitVec 32 := 0#32
  let v26 : BitVec 1 := Scalar.cmpi .slt v5 c0_i32_15
  let v27 : BitVec 32 := Scalar.extui v26
  let v28 : BitVec 32 := Scalar.subi v25 v27
  let c4_i32_13 : BitVec 32 := 4#32
  let c0_i32_16 : BitVec 32 := 0#32
  let v29 : BitVec 1 := Scalar.cmpi .sgt c4_i32_13 c0_i32_16
  let v30 : BitVec 32 := Scalar.extui v29
  let c0_i32_17 : BitVec 32 := 0#32
  let v31 : BitVec 1 := Scalar.cmpi .slt c4_i32_13 c0_i32_17
  let v32 : BitVec 32 := Scalar.extui v31
  let v33 : BitVec 32 := Scalar.subi v30 v32
  let v34 : BitVec 1 := Scalar.cmpi .ne v28 v33
  let v35 : BitVec 32 := Scalar.remsi v5 c4_i32_13
  let c0_i32_18 : BitVec 32 := 0#32
  let v36 : BitVec 1 := Scalar.cmpi .ne v35 c0_i32_18
  let v37 : BitVec 1 := Scalar.andi v34 v36
  let v23 : BitVec 32 := Scalar.divsi v5 c4_i32_13
  let c1_i32 : BitVec 32 := 1#32
  let v38 : BitVec 32 := Scalar.subi v23 c1_i32
  let v39 : BitVec 32 := Scalar.select v37 v38 v23
  let c4_i32_24 : BitVec 32 := 4#32
  let v45 : BitVec 32 := Scalar.muli v39 c4_i32_24
  let v46 : BitVec 32 := Scalar.subi v5 v45
  let c1_i32_26 : BitVec 32 := 1#32
  let v48 : BitVec 32 := Scalar.divsi v46 c1_i32_26
  let v49 : BitVec 32 := Scalar.muli v48 c1_i32_26
  let v50 : BitVec 32 := Scalar.addi v45 v49
  let c1_i32_28 : BitVec 32 := 1#32
  let arg10 : BitVec 32 := Scf.iv v50 c1_i32_28 k0_t4
  let c512_i32_107 : BitVec 32 := 512#32
  let v238 : BitVec 32 := Scalar.muli arg10 c512_i32_107
  let v239 : BitVec 32 := v238
  let v243 : Index := Scalar.indexCast v239
  let c0_111 : Index := 0#32
  ![0, v243.toNat, 0]
def k0_mult11 (i : grid0.Coords) : BitVec 32 :=
  let arg1 : BitVec 32 := BitVec.ofNat 32 (i 1).val
  let c4_i32 : BitVec 32 := 4#32
  let v5 : BitVec 32 := Scalar.muli arg1 c4_i32
  let c0_i32_29 : BitVec 32 := 0#32
  let v51 : BitVec 32 := Scalar.addi v5 c0_i32_29
  let c512_i32 : BitVec 32 := 512#32
  let v52 : BitVec 32 := Scalar.muli v51 c512_i32
  v52
def k0_off13 (i : grid0.Coords) (c0_i32_29 : BitVec 32) : Fin 3 → Nat :=
  let c0_30 : Index := 0#32
  let arg1 : BitVec 32 := BitVec.ofNat 32 (i 1).val
  let c4_i32 : BitVec 32 := 4#32
  let v5 : BitVec 32 := Scalar.muli arg1 c4_i32
  let v51 : BitVec 32 := Scalar.addi v5 c0_i32_29
  let c512_i32 : BitVec 32 := 512#32
  let v52 : BitVec 32 := Scalar.muli v51 c512_i32
  let v53 : BitVec 32 := v52
  let v54 : Index := Scalar.indexCast v53
  let c0_31 : Index := 0#32
  ![0, v54.toNat, 0]
def k0_off14 (i : grid0.Coords) (c0_i32_29 : BitVec 32) : Fin 3 → Nat :=
  let c0_32 : Index := 0#32
  let arg1 : BitVec 32 := BitVec.ofNat 32 (i 1).val
  let c4_i32 : BitVec 32 := 4#32
  let v5 : BitVec 32 := Scalar.muli arg1 c4_i32
  let v51 : BitVec 32 := Scalar.addi v5 c0_i32_29
  let c512_i32 : BitVec 32 := 512#32
  let v52 : BitVec 32 := Scalar.muli v51 c512_i32
  let v53 : BitVec 32 := v52
  let v57 : Index := Scalar.indexCast v53
  let c0_33 : Index := 0#32
  ![0, v57.toNat, 0]
def k0_mult12 (i : grid0.Coords) : BitVec 32 :=
  let arg1 : BitVec 32 := BitVec.ofNat 32 (i 1).val
  let c4_i32 : BitVec 32 := 4#32
  let v5 : BitVec 32 := Scalar.muli arg1 c4_i32
  let c1_i32_47 : BitVec 32 := 1#32
  let v95 : BitVec 32 := Scalar.addi v5 c1_i32_47
  let c512_i32_48 : BitVec 32 := 512#32
  let v96 : BitVec 32 := Scalar.muli v95 c512_i32_48
  v96
def k0_mult13 (i : grid0.Coords) : BitVec 32 :=
  let arg1 : BitVec 32 := BitVec.ofNat 32 (i 1).val
  let c4_i32 : BitVec 32 := 4#32
  let v5 : BitVec 32 := Scalar.muli arg1 c4_i32
  let c2_i32 : BitVec 32 := 2#32
  let v140 : BitVec 32 := Scalar.addi v5 c2_i32
  let c512_i32_66 : BitVec 32 := 512#32
  let v141 : BitVec 32 := Scalar.muli v140 c512_i32_66
  v141
def k0_mult14 (i : grid0.Coords) : BitVec 32 :=
  let arg1 : BitVec 32 := BitVec.ofNat 32 (i 1).val
  let c4_i32 : BitVec 32 := 4#32
  let v5 : BitVec 32 := Scalar.muli arg1 c4_i32
  let c3_i32 : BitVec 32 := 3#32
  let v185 : BitVec 32 := Scalar.addi v5 c3_i32
  let c512_i32_83 : BitVec 32 := 512#32
  let v186 : BitVec 32 := Scalar.muli v185 c512_i32_83
  v186
@[reducible] def k0_t5_loop (i : grid0.Coords) : Scf.Loop 32 :=
  let c0_i32_16 : BitVec 32 := 0#32
  let arg1 : BitVec 32 := BitVec.ofNat 32 (i 1).val
  let c4_i32 : BitVec 32 := 4#32
  let v5 : BitVec 32 := Scalar.muli arg1 c4_i32
  let v26 : BitVec 32 := Scalar.subi v5 c0_i32_16
  let c1_i32 : BitVec 32 := 1#32
  let v28 : BitVec 32 := Scalar.divsi v26 c1_i32
  let v29 : BitVec 32 := Scalar.muli v28 c1_i32
  let v30 : BitVec 32 := Scalar.addi c0_i32_16 v29
  let c1_i32_17 : BitVec 32 := 1#32
  ⟨c0_i32_16, v30, c1_i32_17⟩
def k0_mult15 (i : grid0.Coords) (k0_t5 : Fin (k0_t5_loop i).trips) : BitVec 32 :=
  let c0_i32_16 : BitVec 32 := 0#32
  let c1_i32_17 : BitVec 32 := 1#32
  let arg10 : BitVec 32 := Scf.iv c0_i32_16 c1_i32_17 k0_t5
  let c512_i32_125 : BitVec 32 := 512#32
  let v241 : BitVec 32 := Scalar.muli arg10 c512_i32_125
  v241
def k0_off15 (i : grid0.Coords) (k0_t5 : Fin (k0_t5_loop i).trips) : Fin 3 → Nat :=
  let c0_126 : Index := 0#32
  let c0_i32_16 : BitVec 32 := 0#32
  let c1_i32_17 : BitVec 32 := 1#32
  let arg10 : BitVec 32 := Scf.iv c0_i32_16 c1_i32_17 k0_t5
  let c512_i32_125 : BitVec 32 := 512#32
  let v241 : BitVec 32 := Scalar.muli arg10 c512_i32_125
  let v242 : BitVec 32 := v241
  let v243 : Index := Scalar.indexCast v242
  let c0_127 : Index := 0#32
  ![0, v243.toNat, 0]
def k0_off16 (i : grid0.Coords) (k0_t5 : Fin (k0_t5_loop i).trips) : Fin 3 → Nat :=
  let c0_128 : Index := 0#32
  let c0_i32_16 : BitVec 32 := 0#32
  let c1_i32_17 : BitVec 32 := 1#32
  let arg10 : BitVec 32 := Scf.iv c0_i32_16 c1_i32_17 k0_t5
  let c512_i32_125 : BitVec 32 := 512#32
  let v241 : BitVec 32 := Scalar.muli arg10 c512_i32_125
  let v242 : BitVec 32 := v241
  let v246 : Index := Scalar.indexCast v242
  let c0_129 : Index := 0#32
  ![0, v246.toNat, 0]
@[reducible] def k0_t6_loop (i : grid0.Coords) : Scf.Loop 32 :=
  let c0_i32_16 : BitVec 32 := 0#32
  let arg1 : BitVec 32 := BitVec.ofNat 32 (i 1).val
  let c4_i32 : BitVec 32 := 4#32
  let v5 : BitVec 32 := Scalar.muli arg1 c4_i32
  let v26 : BitVec 32 := Scalar.subi v5 c0_i32_16
  let c1_i32 : BitVec 32 := 1#32
  let v28 : BitVec 32 := Scalar.divsi v26 c1_i32
  let v29 : BitVec 32 := Scalar.muli v28 c1_i32
  let v30 : BitVec 32 := Scalar.addi c0_i32_16 v29
  let v27 : BitVec 32 := Scalar.addi c0_i32_16 v26
  let c1_i32_18 : BitVec 32 := 1#32
  ⟨v30, v27, c1_i32_18⟩
def k0_mult16 (i : grid0.Coords) (k0_t6 : Fin (k0_t6_loop i).trips) : BitVec 32 :=
  let c0_i32_16 : BitVec 32 := 0#32
  let arg1 : BitVec 32 := BitVec.ofNat 32 (i 1).val
  let c4_i32 : BitVec 32 := 4#32
  let v5 : BitVec 32 := Scalar.muli arg1 c4_i32
  let v26 : BitVec 32 := Scalar.subi v5 c0_i32_16
  let c1_i32 : BitVec 32 := 1#32
  let v28 : BitVec 32 := Scalar.divsi v26 c1_i32
  let v29 : BitVec 32 := Scalar.muli v28 c1_i32
  let v30 : BitVec 32 := Scalar.addi c0_i32_16 v29
  let c1_i32_18 : BitVec 32 := 1#32
  let arg10 : BitVec 32 := Scf.iv v30 c1_i32_18 k0_t6
  let c512_i32_125 : BitVec 32 := 512#32
  let v241 : BitVec 32 := Scalar.muli arg10 c512_i32_125
  v241
def k0_off17 (i : grid0.Coords) (k0_t6 : Fin (k0_t6_loop i).trips) : Fin 3 → Nat :=
  let c0_126 : Index := 0#32
  let c0_i32_16 : BitVec 32 := 0#32
  let arg1 : BitVec 32 := BitVec.ofNat 32 (i 1).val
  let c4_i32 : BitVec 32 := 4#32
  let v5 : BitVec 32 := Scalar.muli arg1 c4_i32
  let v26 : BitVec 32 := Scalar.subi v5 c0_i32_16
  let c1_i32 : BitVec 32 := 1#32
  let v28 : BitVec 32 := Scalar.divsi v26 c1_i32
  let v29 : BitVec 32 := Scalar.muli v28 c1_i32
  let v30 : BitVec 32 := Scalar.addi c0_i32_16 v29
  let c1_i32_18 : BitVec 32 := 1#32
  let arg10 : BitVec 32 := Scf.iv v30 c1_i32_18 k0_t6
  let c512_i32_125 : BitVec 32 := 512#32
  let v241 : BitVec 32 := Scalar.muli arg10 c512_i32_125
  let v242 : BitVec 32 := v241
  let v243 : Index := Scalar.indexCast v242
  let c0_127 : Index := 0#32
  ![0, v243.toNat, 0]
def k0_off18 (i : grid0.Coords) (k0_t6 : Fin (k0_t6_loop i).trips) : Fin 3 → Nat :=
  let c0_128 : Index := 0#32
  let c0_i32_16 : BitVec 32 := 0#32
  let arg1 : BitVec 32 := BitVec.ofNat 32 (i 1).val
  let c4_i32 : BitVec 32 := 4#32
  let v5 : BitVec 32 := Scalar.muli arg1 c4_i32
  let v26 : BitVec 32 := Scalar.subi v5 c0_i32_16
  let c1_i32 : BitVec 32 := 1#32
  let v28 : BitVec 32 := Scalar.divsi v26 c1_i32
  let v29 : BitVec 32 := Scalar.muli v28 c1_i32
  let v30 : BitVec 32 := Scalar.addi c0_i32_16 v29
  let c1_i32_18 : BitVec 32 := 1#32
  let arg10 : BitVec 32 := Scf.iv v30 c1_i32_18 k0_t6
  let c512_i32_125 : BitVec 32 := 512#32
  let v241 : BitVec 32 := Scalar.muli arg10 c512_i32_125
  let v242 : BitVec 32 := v241
  let v246 : Index := Scalar.indexCast v242
  let c0_129 : Index := 0#32
  ![0, v246.toNat, 0]
def k0_mult17 (i : grid0.Coords) : BitVec 32 :=
  let arg1 : BitVec 32 := BitVec.ofNat 32 (i 1).val
  let c4_i32 : BitVec 32 := 4#32
  let v5 : BitVec 32 := Scalar.muli arg1 c4_i32
  let c0_i32_19 : BitVec 32 := 0#32
  let v31 : BitVec 32 := Scalar.addi v5 c0_i32_19
  let c512_i32 : BitVec 32 := 512#32
  let v32 : BitVec 32 := Scalar.muli v31 c512_i32
  v32
def k0_off19 (i : grid0.Coords) (c0_i32_19 : BitVec 32) : Fin 3 → Nat :=
  let c0_20 : Index := 0#32
  let arg1 : BitVec 32 := BitVec.ofNat 32 (i 1).val
  let c4_i32 : BitVec 32 := 4#32
  let v5 : BitVec 32 := Scalar.muli arg1 c4_i32
  let v31 : BitVec 32 := Scalar.addi v5 c0_i32_19
  let c512_i32 : BitVec 32 := 512#32
  let v32 : BitVec 32 := Scalar.muli v31 c512_i32
  let v33 : BitVec 32 := v32
  let v34 : Index := Scalar.indexCast v33
  let c0_21 : Index := 0#32
  ![0, v34.toNat, 0]
def k0_off20 (i : grid0.Coords) (c0_i32_19 : BitVec 32) : Fin 3 → Nat :=
  let c0_22 : Index := 0#32
  let arg1 : BitVec 32 := BitVec.ofNat 32 (i 1).val
  let c4_i32 : BitVec 32 := 4#32
  let v5 : BitVec 32 := Scalar.muli arg1 c4_i32
  let v31 : BitVec 32 := Scalar.addi v5 c0_i32_19
  let c512_i32 : BitVec 32 := 512#32
  let v32 : BitVec 32 := Scalar.muli v31 c512_i32
  let v33 : BitVec 32 := v32
  let v37 : Index := Scalar.indexCast v33
  let c0_23 : Index := 0#32
  ![0, v37.toNat, 0]
def k0_mult18 (i : grid0.Coords) : BitVec 32 :=
  let arg1 : BitVec 32 := BitVec.ofNat 32 (i 1).val
  let c4_i32 : BitVec 32 := 4#32
  let v5 : BitVec 32 := Scalar.muli arg1 c4_i32
  let c1_i32_43 : BitVec 32 := 1#32
  let v82 : BitVec 32 := Scalar.addi v5 c1_i32_43
  let c512_i32_44 : BitVec 32 := 512#32
  let v83 : BitVec 32 := Scalar.muli v82 c512_i32_44
  v83
def k0_mult19 (i : grid0.Coords) : BitVec 32 :=
  let arg1 : BitVec 32 := BitVec.ofNat 32 (i 1).val
  let c4_i32 : BitVec 32 := 4#32
  let v5 : BitVec 32 := Scalar.muli arg1 c4_i32
  let c2_i32 : BitVec 32 := 2#32
  let v133 : BitVec 32 := Scalar.addi v5 c2_i32
  let c512_i32_69 : BitVec 32 := 512#32
  let v134 : BitVec 32 := Scalar.muli v133 c512_i32_69
  v134
def k0_mult20 (i : grid0.Coords) : BitVec 32 :=
  let arg1 : BitVec 32 := BitVec.ofNat 32 (i 1).val
  let c4_i32 : BitVec 32 := 4#32
  let v5 : BitVec 32 := Scalar.muli arg1 c4_i32
  let c3_i32 : BitVec 32 := 3#32
  let v184 : BitVec 32 := Scalar.addi v5 c3_i32
  let c512_i32_94 : BitVec 32 := 512#32
  let v185 : BitVec 32 := Scalar.muli v184 c512_i32_94
  v185
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16384x192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "scale_log2e" => some (((Real.sqrt 192)⁻¹ * (Real.log 2)⁻¹ : ℝ) : EReal)
  | _ => none
-- ==== ReferenceIdeal.lean ====
abbrev S1x16384x12x192 : Shape := ⟨4, ![1, 16384, 12, 192]⟩
abbrev S1x16384x12x128 : Shape := ⟨4, ![1, 16384, 12, 128]⟩
abbrev S1x192 : Shape := ⟨2, ![1, 192]⟩
abbrev S1x12x16384x16384 : Shape := ⟨4, ![1, 12, 16384, 16384]⟩
abbrev S_ : Shape := ⟨0, ![]⟩
abbrev S16384x16384 : Shape := ⟨2, ![16384, 16384]⟩
abbrev S1x1x16384x16384 : Shape := ⟨4, ![1, 1, 16384, 16384]⟩
abbrev S1x12x16384 : Shape := ⟨3, ![1, 12, 16384]⟩
abbrev S1x12x16384x1 : Shape := ⟨4, ![1, 12, 16384, 1]⟩
abbrev S1x12x128x16384 : Shape := ⟨4, ![1, 12, 128, 16384]⟩
abbrev S16384x1536 : Shape := ⟨2, ![16384, 1536]⟩

abbrev nBuf : Space → Nat
  | .hbm => 37
  | .vmem => 0
  | .smem => 0
  | _ => 0

abbrev bufTy : (tb : Table) → Fin (tcTables nBuf tb) → BufTy
  | .hbm, ⟨0, _⟩ => ⟨S1x16384x12x192, .f32⟩
  | .hbm, ⟨1, _⟩ => ⟨S1x16384x12x192, .f32⟩
  | .hbm, ⟨2, _⟩ => ⟨S1x16384x12x128, .f32⟩
  | .hbm, ⟨3, _⟩ => ⟨S1x192, .f32⟩
  | .hbm, ⟨4, _⟩ => ⟨S1x192, .f32⟩
  | .hbm, ⟨5, _⟩ => ⟨S1x12x16384x16384, .f32⟩
  | .hbm, ⟨6, _⟩ => ⟨S_, .f32⟩
  | .hbm, ⟨7, _⟩ => ⟨S_, .f32⟩
  | .hbm, ⟨8, _⟩ => ⟨S1x12x16384x16384, .f32⟩
  | .hbm, ⟨9, _⟩ => ⟨S1x12x16384x16384, .f32⟩
  | .hbm, ⟨10, _⟩ => ⟨S16384x16384, .i32⟩
  | .hbm, ⟨11, _⟩ => ⟨S16384x16384, .i32⟩
  | .hbm, ⟨12, _⟩ => ⟨S16384x16384, .i1⟩
  | .hbm, ⟨13, _⟩ => ⟨S1x1x16384x16384, .i1⟩
  | .hbm, ⟨14, _⟩ => ⟨S_, .f32⟩
  | .hbm, ⟨15, _⟩ => ⟨S_, .f32⟩
  | .hbm, ⟨16, _⟩ => ⟨S1x12x16384x16384, .i1⟩
  | .hbm, ⟨17, _⟩ => ⟨S1x12x16384x16384, .f32⟩
  | .hbm, ⟨18, _⟩ => ⟨S1x12x16384x16384, .f32⟩
  | .hbm, ⟨19, _⟩ => ⟨S_, .f32⟩
  | .hbm, ⟨20, _⟩ => ⟨S1x12x16384, .f32⟩
  | .hbm, ⟨21, _⟩ => ⟨S_, .f32⟩
  | .hbm, ⟨22, _⟩ => ⟨S1x12x16384, .f32⟩
  | .hbm, ⟨23, _⟩ => ⟨S1x12x16384, .f32⟩
  | .hbm, ⟨24, _⟩ => ⟨S1x12x16384x1, .f32⟩
  | .hbm, ⟨25, _⟩ => ⟨S1x12x16384x16384, .f32⟩
  | .hbm, ⟨26, _⟩ => ⟨S1x12x16384x16384, .f32⟩
  | .hbm, ⟨27, _⟩ => ⟨S1x12x16384x16384, .f32⟩
  | .hbm, ⟨28, _⟩ => ⟨S_, .f32⟩
  | .hbm, ⟨29, _⟩ => ⟨S1x12x16384, .f32⟩
  | .hbm, ⟨30, _⟩ => ⟨S1x12x16384x1, .f32⟩
  | .hbm, ⟨31, _⟩ => ⟨S1x12x16384x16384, .f32⟩
  | .hbm, ⟨32, _⟩ => ⟨S1x12x16384x16384, .f32⟩
  | .hbm, ⟨33, _⟩ => ⟨S1x12x128x16384, .f32⟩
  | .hbm, ⟨34, _⟩ => ⟨S1x16384x12x128, .f32⟩
  | .hbm, ⟨35, _⟩ => ⟨S16384x1536, .f32⟩
  | .hbm, ⟨36, _⟩ => ⟨S16384x1536, .bf16⟩
  | _, _ => ⟨S1x16384x12x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Ffn2.lean ====
abbrev S1x16384x2048 : Shape := ⟨3, ![1, 16384, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S16384x2048 : Shape := ⟨2, ![16384, 2048]⟩
abbrev S2048 : Shape := ⟨1, ![2048]⟩
abbrev S2048x11264 : Shape := ⟨2, ![2048, 11264]⟩
abbrev S5632x2048 : Shape := ⟨2, ![5632, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 14
  | .vmem => 13
  | .smem => 0
  | _ => 0

abbrev bufTy : (tb : Table) → Fin (tcTables nBuf tb) → BufTy
  | .hbm, ⟨0, _⟩ => ⟨S1x16384x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S16384x2048, .f32⟩
  | .hbm, ⟨5, _⟩ => ⟨S2048, .f32⟩
  | .hbm, ⟨6, _⟩ => ⟨S1x2048, .f32⟩
  | .hbm, ⟨7, _⟩ => ⟨S2048x11264, .f32⟩
  | .hbm, ⟨8, _⟩ => ⟨S2048x11264, .bf16⟩
  | .hbm, ⟨9, _⟩ => ⟨S5632x2048, .f32⟩
  | .hbm, ⟨10, _⟩ => ⟨S5632x2048, .bf16⟩
  | .hbm, ⟨11, _⟩ => ⟨S2048, .f32⟩
  | .hbm, ⟨12, _⟩ => ⟨S1x2048, .f32⟩
  | .hbm, ⟨13, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Ffn2ReferenceIdeal.lean ====
abbrev S1x16384x2048 : Shape := ⟨3, ![1, 16384, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x11264 : Shape := ⟨2, ![2048, 11264]⟩
abbrev S16384x11264 : Shape := ⟨2, ![16384, 11264]⟩
abbrev S16384x5632 : Shape := ⟨2, ![16384, 5632]⟩
abbrev S5632x2048 : Shape := ⟨2, ![5632, 2048]⟩

abbrev nBuf : Space → Nat
  | .hbm => 42
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S16384x2048, .f32⟩
  | .hbm, ⟨5, _⟩ => ⟨S2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S2048x11264, .f32⟩
  | .hbm, ⟨23, _⟩ => ⟨S16384x11264, .f32⟩
  | .hbm, ⟨24, _⟩ => ⟨S16384x5632, .f32⟩
  | .hbm, ⟨25, _⟩ => ⟨S16384x5632, .f32⟩
  | .hbm, ⟨26, _⟩ => ⟨S16384x5632, .f32⟩
  | .hbm, ⟨27, _⟩ => ⟨S16384x5632, .f32⟩
  | .hbm, ⟨28, _⟩ => ⟨S_, .f32⟩
  | .hbm, ⟨29, _⟩ => ⟨S16384x5632, .f32⟩
  | .hbm, ⟨30, _⟩ => ⟨S16384x5632, .f32⟩
  | .hbm, ⟨31, _⟩ => ⟨S_, .f32⟩
  | .hbm, ⟨32, _⟩ => ⟨S16384x5632, .f32⟩
  | .hbm, ⟨33, _⟩ => ⟨S16384x5632, .f32⟩
  | .hbm, ⟨34, _⟩ => ⟨S16384x5632, .f32⟩
  | .hbm, ⟨35, _⟩ => ⟨S16384x5632, .f32⟩
  | .hbm, ⟨36, _⟩ => ⟨S5632x2048, .f32⟩
  | .hbm, ⟨37, _⟩ => ⟨S16384x2048, .f32⟩
  | .hbm, ⟨38, _⟩ => ⟨S_, .f32⟩
  | .hbm, ⟨39, _⟩ => ⟨S16384x2048, .f32⟩
  | .hbm, ⟨40, _⟩ => ⟨S16384x2048, .f32⟩
  | .hbm, ⟨41, _⟩ => ⟨S16384x2048, .f32⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== Ffn1.lean ====
abbrev S1x16384x2048 : Shape := ⟨3, ![1, 16384, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S16384x2048 : Shape := ⟨2, ![16384, 2048]⟩
abbrev S2048 : Shape := ⟨1, ![2048]⟩
abbrev S2048x11264 : Shape := ⟨2, ![2048, 11264]⟩
abbrev S5632x2048 : Shape := ⟨2, ![5632, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 16
  | .vmem => 15
  | .smem => 0
  | _ => 0

abbrev bufTy : (tb : Table) → Fin (tcTables nBuf tb) → BufTy
  | .hbm, ⟨0, _⟩ => ⟨S1x16384x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S1x2048, .f32⟩
  | .hbm, ⟨5, _⟩ => ⟨S16384x2048, .f32⟩
  | .hbm, ⟨6, _⟩ => ⟨S2048, .f32⟩
  | .hbm, ⟨7, _⟩ => ⟨S1x2048, .f32⟩
  | .hbm, ⟨8, _⟩ => ⟨S2048x11264, .f32⟩
  | .hbm, ⟨9, _⟩ => ⟨S2048x11264, .bf16⟩
  | .hbm, ⟨10, _⟩ => ⟨S5632x2048, .f32⟩
  | .hbm, ⟨11, _⟩ => ⟨S5632x2048, .bf16⟩
  | .hbm, ⟨12, _⟩ => ⟨S2048, .f32⟩
  | .hbm, ⟨13, _⟩ => ⟨S1x2048, .f32⟩
  | .hbm, ⟨14, _⟩ => ⟨S16384x2048, .f32⟩
  | .hbm, ⟨15, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v23 : BitVec 1 := Scalar.cmpi .eq arg1 c10_i32
  let v24 : BitVec 32 := Scalar.extui v23
  let c0_i32_15 : BitVec 32 := 0#32
  let v25 : BitVec 1 := Scalar.cmpi .ne v24 c0_i32_15
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Ffn1ReferenceIdeal.lean ====
abbrev S1x16384x2048 : Shape := ⟨3, ![1, 16384, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x11264 : Shape := ⟨2, ![2048, 11264]⟩
abbrev S16384x11264 : Shape := ⟨2, ![16384, 11264]⟩
abbrev S16384x5632 : Shape := ⟨2, ![16384, 5632]⟩
abbrev S5632x2048 : Shape := ⟨2, ![5632, 2048]⟩

abbrev nBuf : Space → Nat
  | .hbm => 61
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S1x2048, .f32⟩
  | .hbm, ⟨5, _⟩ => ⟨S16384x2048, .f32⟩
  | .hbm, ⟨6, _⟩ => ⟨S2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S2048x11264, .f32⟩
  | .hbm, ⟨24, _⟩ => ⟨S16384x11264, .f32⟩
  | .hbm, ⟨25, _⟩ => ⟨S16384x5632, .f32⟩
  | .hbm, ⟨26, _⟩ => ⟨S16384x5632, .f32⟩
  | .hbm, ⟨27, _⟩ => ⟨S16384x5632, .f32⟩
  | .hbm, ⟨28, _⟩ => ⟨S16384x5632, .f32⟩
  | .hbm, ⟨29, _⟩ => ⟨S_, .f32⟩
  | .hbm, ⟨30, _⟩ => ⟨S16384x5632, .f32⟩
  | .hbm, ⟨31, _⟩ => ⟨S16384x5632, .f32⟩
  | .hbm, ⟨32, _⟩ => ⟨S_, .f32⟩
  | .hbm, ⟨33, _⟩ => ⟨S16384x5632, .f32⟩
  | .hbm, ⟨34, _⟩ => ⟨S16384x5632, .f32⟩
  | .hbm, ⟨35, _⟩ => ⟨S16384x5632, .f32⟩
  | .hbm, ⟨36, _⟩ => ⟨S16384x5632, .f32⟩
  | .hbm, ⟨37, _⟩ => ⟨S5632x2048, .f32⟩
  | .hbm, ⟨38, _⟩ => ⟨S16384x2048, .f32⟩
  | .hbm, ⟨39, _⟩ => ⟨S_, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S2048, .f32⟩
  | .hbm, ⟨44, _⟩ => ⟨S16384x2048, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x2048, .f32⟩
  | .hbm, ⟨56, _⟩ => ⟨S16384x2048, .f32⟩
  | .hbm, ⟨57, _⟩ => ⟨S1x2048, .f32⟩
  | .hbm, ⟨58, _⟩ => ⟨S16384x2048, .f32⟩
  | .hbm, ⟨59, _⟩ => ⟨S16384x2048, .f32⟩
  | .hbm, ⟨60, _⟩ => ⟨S16384x2048, .bf16⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== MemKv.lean ====
abbrev S1x256x2048 : Shape := ⟨3, ![1, 256, 2048]⟩
abbrev S1x2048 : Shape := ⟨2, ![1, 2048]⟩
abbrev S1x2048x2048 : Shape := ⟨3, ![1, 2048, 2048]⟩
abbrev S1x256 : Shape := ⟨2, ![1, 256]⟩
abbrev S256x2048 : Shape := ⟨2, ![256, 2048]⟩
abbrev S2048 : Shape := ⟨1, ![2048]⟩
abbrev S2048x2048 : Shape := ⟨2, ![2048, 2048]⟩
abbrev S256 : Shape := ⟨1, ![256]⟩
abbrev S256x1024 : Shape := ⟨2, ![256, 1024]⟩
abbrev S256x1 : Shape := ⟨2, ![256, 1]⟩
abbrev S256x256 : Shape := ⟨2, ![256, 256]⟩

abbrev nBuf : Space → Nat
  | .hbm => 13
  | .vmem => 6
  | .smem => 0
  | _ => 0

abbrev bufTy : (tb : Table) → Fin (tcTables nBuf tb) → BufTy
  | .hbm, ⟨0, _⟩ => ⟨S1x256x2048, .f32⟩
  | .hbm, ⟨1, _⟩ => ⟨S1x2048, .f32⟩
  | .hbm, ⟨2, _⟩ => ⟨S1x2048x2048, .f32⟩
  | .hbm, ⟨3, _⟩ => ⟨S1x256, .f32⟩
  | .hbm, ⟨4, _⟩ => ⟨S256x2048, .f32⟩
  | .hbm, ⟨5, _⟩ => ⟨S2048, .f32⟩
  | .hbm, ⟨6, _⟩ => ⟨S1x2048, .f32⟩
  | .hbm, ⟨7, _⟩ => ⟨S2048x2048, .f32⟩
  | .hbm, ⟨8, _⟩ => ⟨S2048x2048, .bf16⟩
  | .hbm, ⟨9, _⟩ => ⟨S256, .f32⟩
  | .hbm, ⟨10, _⟩ => ⟨S1x256, .f32⟩
  | .hbm, ⟨11, _⟩ => ⟨S256x1024, .bf16⟩
  | .hbm, ⟨12, _⟩ => ⟨S256x1024, .bf16⟩
  | .local _ .vmem, ⟨0, _⟩ => ⟨S256x2048, .f32⟩
  | .local _ .vmem, ⟨1, _⟩ => ⟨S1x2048, .f32⟩
  | .local _ .vmem, ⟨2, _⟩ => ⟨S2048x2048, .bf16⟩
  | .local _ .vmem, ⟨3, _⟩ => ⟨S1x256, .f32⟩
  | .local _ .vmem, ⟨4, _⟩ => ⟨S256x1024, .bf16⟩
  | .local _ .vmem, ⟨5, _⟩ => ⟨S256x1024, .bf16⟩
  | _, _ => ⟨S1x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== MemKvReferenceIdeal.lean ====
abbrev S1x256x2048 : Shape := ⟨3, ![1, 256, 2048]⟩
abbrev S1x2048 : Shape := ⟨2, ![1, 2048]⟩
abbrev S1x2048x2048 : Shape := ⟨3, ![1, 2048, 2048]⟩
abbrev S1x256 : Shape := ⟨2, ![1, 256]⟩
abbrev S256x2048 : Shape := ⟨2, ![256, 2048]⟩
abbrev S2048 : Shape := ⟨1, ![2048]⟩
abbrev S_ : Shape := ⟨0, ![]⟩
abbrev S256 : Shape := ⟨1, ![256]⟩
abbrev S256x1 : Shape := ⟨2, ![256, 1]⟩
abbrev S2048x2048 : Shape := ⟨2, ![2048, 2048]⟩
abbrev S256x1024 : Shape := ⟨2, ![256, 1024]⟩
abbrev S256x4x256 : Shape := ⟨3, ![256, 4, 256]⟩
abbrev S256x4 : Shape := ⟨2, ![256, 4]⟩
abbrev S256x4x1 : Shape := ⟨3, ![256, 4, 1]⟩
abbrev S1x1x256 : Shape := ⟨3, ![1, 1, 256]⟩

abbrev nBuf : Space → Nat
  | .hbm => 47
  | .vmem => 0
  | .smem => 0
  | _ => 0

abbrev bufTy : (tb : Table) → Fin (tcTables nBuf tb) → BufTy
  | .hbm, ⟨0, _⟩ => ⟨S1x256x2048, .f32⟩
  | .hbm, ⟨1, _⟩ => ⟨S1x2048, .f32⟩
  | .hbm, ⟨2, _⟩ => ⟨S1x2048x2048, .f32⟩
  | .hbm, ⟨3, _⟩ => ⟨S1x256, .f32⟩
  | .hbm, ⟨4, _⟩ => ⟨S256x2048, .f32⟩
  | .hbm, ⟨5, _⟩ => ⟨S2048, .f32⟩
  | .hbm, ⟨6, _⟩ => ⟨S256x2048, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x2048, .f32⟩
  | .hbm, ⟨18, _⟩ => ⟨S256x2048, .f32⟩
  | .hbm, ⟨19, _⟩ => ⟨S1x2048, .f32⟩
  | .hbm, ⟨20, _⟩ => ⟨S256x2048, .f32⟩
  | .hbm, ⟨21, _⟩ => ⟨S256x2048, .f32⟩
  | .hbm, ⟨22, _⟩ => ⟨S2048x2048, .f32⟩
  | .hbm, ⟨23, _⟩ => ⟨S256x2048, .f32⟩
  | .hbm, ⟨24, _⟩ => ⟨S256x1024, .f32⟩
  | .hbm, ⟨25, _⟩ => ⟨S256x1024, .f32⟩
  | .hbm, ⟨26, _⟩ => ⟨S256x4x256, .f32⟩
  | .hbm, ⟨27, _⟩ => ⟨S256, .f32⟩
  | .hbm, ⟨28, _⟩ => ⟨S256x4x256, .f32⟩
  | .hbm, ⟨29, _⟩ => ⟨S_, .f32⟩
  | .hbm, ⟨30, _⟩ => ⟨S256x4, .f32⟩
  | .hbm, ⟨31, _⟩ => ⟨S256x4x1, .f32⟩
  | .hbm, ⟨32, _⟩ => ⟨S_, .f32⟩
  | .hbm, ⟨33, _⟩ => ⟨S256x4x1, .f32⟩
  | .hbm, ⟨34, _⟩ => ⟨S256x4x1, .f32⟩
  | .hbm, ⟨35, _⟩ => ⟨S_, .f32⟩
  | .hbm, ⟨36, _⟩ => ⟨S256x4x1, .f32⟩
  | .hbm, ⟨37, _⟩ => ⟨S256x4x1, .f32⟩
  | .hbm, ⟨38, _⟩ => ⟨S256x4x1, .f32⟩
  | .hbm, ⟨39, _⟩ => ⟨S256x4x256, .f32⟩
  | .hbm, ⟨40, _⟩ => ⟨S256x4x256, .f32⟩
  | .hbm, ⟨41, _⟩ => ⟨S1x1x256, .f32⟩
  | .hbm, ⟨42, _⟩ => ⟨S256x4x256, .f32⟩
  | .hbm, ⟨43, _⟩ => ⟨S256x4x256, .f32⟩
  | .hbm, ⟨44, _⟩ => ⟨S256x1024, .f32⟩
  | .hbm, ⟨45, _⟩ => ⟨S256x1024, .bf16⟩
  | .hbm, ⟨46, _⟩ => ⟨S256x1024, .bf16⟩
  | _, _ => ⟨S1x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== MemAttn.lean ====
abbrev S1x16384x4x256 : Shape := ⟨4, ![1, 16384, 4, 256]⟩
abbrev S1x256x4x256 : Shape := ⟨4, ![1, 256, 4, 256]⟩
abbrev S16384x1024 : Shape := ⟨2, ![16384, 1024]⟩
abbrev S_ : Shape := ⟨0, ![]⟩
abbrev S256x1024 : Shape := ⟨2, ![256, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 13
  | .vmem => 6
  | .smem => 0
  | _ => 0

abbrev bufTy : (tb : Table) → Fin (tcTables nBuf tb) → BufTy
  | .hbm, ⟨0, _⟩ => ⟨S1x16384x4x256, .f32⟩
  | .hbm, ⟨1, _⟩ => ⟨S1x256x4x256, .f32⟩
  | .hbm, ⟨2, _⟩ => ⟨S1x256x4x256, .f32⟩
  | .hbm, ⟨3, _⟩ => ⟨S16384x1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S16384x1024, .bf16⟩
  | .hbm, ⟨8, _⟩ => ⟨S256x1024, .f32⟩
  | .hbm, ⟨9, _⟩ => ⟨S256x1024, .bf16⟩
  | .hbm, ⟨10, _⟩ => ⟨S256x1024, .f32⟩
  | .hbm, ⟨11, _⟩ => ⟨S256x1024, .bf16⟩
  | .hbm, ⟨12, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S512x1024, .bf16⟩
  | .local _ .vmem, ⟨5, _⟩ => ⟨S512x1024, .bf16⟩
  | _, _ => ⟨S1x16384x4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemAttnReferenceIdeal.lean ====
abbrev S1x16384x4x256 : Shape := ⟨4, ![1, 16384, 4, 256]⟩
abbrev S1x256x4x256 : Shape := ⟨4, ![1, 256, 4, 256]⟩
abbrev S1x4x16384x256 : Shape := ⟨4, ![1, 4, 16384, 256]⟩
abbrev S_ : Shape := ⟨0, ![]⟩
abbrev S1x4x16384 : Shape := ⟨3, ![1, 4, 16384]⟩
abbrev S1x4x16384x1 : Shape := ⟨4, ![1, 4, 16384, 1]⟩
abbrev S1x4x256x16384 : Shape := ⟨4, ![1, 4, 256, 16384]⟩
abbrev S16384x1024 : Shape := ⟨2, ![16384, 1024]⟩

abbrev nBuf : Space → Nat
  | .hbm => 25
  | .vmem => 0
  | .smem => 0
  | _ => 0

abbrev bufTy : (tb : Table) → Fin (tcTables nBuf tb) → BufTy
  | .hbm, ⟨0, _⟩ => ⟨S1x16384x4x256, .f32⟩
  | .hbm, ⟨1, _⟩ => ⟨S1x256x4x256, .f32⟩
  | .hbm, ⟨2, _⟩ => ⟨S1x256x4x256, .f32⟩
  | .hbm, ⟨3, _⟩ => ⟨S1x4x16384x256, .f32⟩
  | .hbm, ⟨4, _⟩ => ⟨S_, .f32⟩
  | .hbm, ⟨5, _⟩ => ⟨S1x4x16384x256, .f32⟩
  | .hbm, ⟨6, _⟩ => ⟨S1x4x16384x256, .f32⟩
  | .hbm, ⟨7, _⟩ => ⟨S_, .f32⟩
  | .hbm, ⟨8, _⟩ => ⟨S1x4x16384, .f32⟩
  | .hbm, ⟨9, _⟩ => ⟨S_, .f32⟩
  | .hbm, ⟨10, _⟩ => ⟨S1x4x16384, .f32⟩
  | .hbm, ⟨11, _⟩ => ⟨S1x4x16384, .f32⟩
  | .hbm, ⟨12, _⟩ => ⟨S1x4x16384x1, .f32⟩
  | .hbm, ⟨13, _⟩ => ⟨S1x4x16384x256, .f32⟩
  | .hbm, ⟨14, _⟩ => ⟨S1x4x16384x256, .f32⟩
  | .hbm, ⟨15, _⟩ => ⟨S1x4x16384x256, .f32⟩
  | .hbm, ⟨16, _⟩ => ⟨S_, .f32⟩
  | .hbm, ⟨17, _⟩ => ⟨S1x4x16384, .f32⟩
  | .hbm, ⟨18, _⟩ => ⟨S1x4x16384x1, .f32⟩
  | .hbm, ⟨19, _⟩ => ⟨S1x4x16384x256, .f32⟩
  | .hbm, ⟨20, _⟩ => ⟨S1x4x16384x256, .f32⟩
  | .hbm, ⟨21, _⟩ => ⟨S1x4x256x16384, .f32⟩
  | .hbm, ⟨22, _⟩ => ⟨S1x16384x4x256, .f32⟩
  | .hbm, ⟨23, _⟩ => ⟨S16384x1024, .f32⟩
  | .hbm, ⟨24, _⟩ => ⟨S16384x1024, .bf16⟩
  | _, _ => ⟨S1x16384x4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Merge.lean ====
abbrev S1x16384x1536 : Shape := ⟨3, ![1, 16384, 1536]⟩
abbrev S1x16384x12x128 : Shape := ⟨4, ![1, 16384, 12, 128]⟩
abbrev S1x16384x1024 : Shape := ⟨3, ![1, 16384, 1024]⟩
abbrev S1x16384x3x2048 : Shape := ⟨4, ![1, 16384, 3, 2048]⟩
abbrev S1x1536x2048 : Shape := ⟨3, ![1, 1536, 2048]⟩
abbrev S1x1024x2048 : Shape := ⟨3, ![1, 1024, 2048]⟩
abbrev S16384x1536 : Shape := ⟨2, ![16384, 1536]⟩
abbrev S16384x1024 : Shape := ⟨2, ![16384, 1024]⟩
abbrev S16384x6144 : Shape := ⟨2, ![16384, 6144]⟩
abbrev S1536x2048 : Shape := ⟨2, ![1536, 2048]⟩
abbrev S1024x2048 : Shape := ⟨2, ![1024, 2048]⟩
abbrev S16384x2048 : Shape := ⟨2, ![16384, 2048]⟩
abbrev S512x1536 : Shape := ⟨2, ![512, 1536]⟩
abbrev S512x1024 : Shape := ⟨2, ![512, 1024]⟩
abbrev S512x2048 : Shape := ⟨2, ![512, 2048]⟩
abbrev S512x512 : Shape := ⟨2, ![512, 512]⟩
abbrev S1536x512 : Shape := ⟨2, ![1536, 512]⟩
abbrev S1024x512 : Shape := ⟨2, ![1024, 512]⟩

abbrev nBuf : Space → Nat
  | .hbm => 22
  | .vmem => 17
  | .smem => 0
  | _ => 0

abbrev bufTy : (tb : Table) → Fin (tcTables nBuf tb) → BufTy
  | .hbm, ⟨0, _⟩ => ⟨S1x16384x1536, .f32⟩
  | .hbm, ⟨1, _⟩ => ⟨S1x16384x12x128, .f32⟩
  | .hbm, ⟨2, _⟩ => ⟨S1x16384x1024, .f32⟩
  | .hbm, ⟨3, _⟩ => ⟨S1x16384x3x2048, .f32⟩
  | .hbm, ⟨4, _⟩ => ⟨S1x1536x2048, .f32⟩
  | .hbm, ⟨5, _⟩ => ⟨S1x1536x2048, .f32⟩
  | .hbm, ⟨6, _⟩ => ⟨S1x1024x2048, .f32⟩
  | .hbm, ⟨7, _⟩ => ⟨S16384x1536, .f32⟩
  | .hbm, ⟨8, _⟩ => ⟨S16384x1536, .bf16⟩
  | .hbm, ⟨9, _⟩ => ⟨S16384x1536, .f32⟩
  | .hbm, ⟨10, _⟩ => ⟨S16384x1536, .bf16⟩
  | .hbm, ⟨11, _⟩ => ⟨S16384x1024, .f32⟩
  | .hbm, ⟨12, _⟩ => ⟨S16384x1024, .bf16⟩
  | .hbm, ⟨13, _⟩ => ⟨S16384x6144, .f32⟩
  | .hbm, ⟨14, _⟩ => ⟨S16384x6144, .bf16⟩
  | .hbm, ⟨15, _⟩ => ⟨S1536x2048, .f32⟩
  | .hbm, ⟨16, _⟩ => ⟨S1536x2048, .bf16⟩
  | .hbm, ⟨17, _⟩ => ⟨S1536x2048, .f32⟩
  | .hbm, ⟨18, _⟩ => ⟨S1536x2048, .bf16⟩
  | .hbm, ⟨19, _⟩ => ⟨S1024x2048, .f32⟩
  | .hbm, ⟨20, _⟩ => ⟨S1024x2048, .bf16⟩
  | .hbm, ⟨21, _⟩ => ⟨S16384x2048, .bf16⟩
  | .local _ .vmem, ⟨0, _⟩ => ⟨S512x1536, .bf16⟩
  | .local _ .vmem, ⟨1, _⟩ => ⟨S512x1536, .bf16⟩
  | .local _ .vmem, ⟨2, _⟩ => ⟨S512x1536, .bf16⟩
  | .local _ .vmem, ⟨3, _⟩ => ⟨S512x1536, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S1536x2048, .bf16⟩
  | .local _ .vmem, ⟨13, _⟩ => ⟨S1536x2048, .bf16⟩
  | .local _ .vmem, ⟨14, _⟩ => ⟨S1024x2048, .bf16⟩
  | .local _ .vmem, ⟨15, _⟩ => ⟨S512x2048, .bf16⟩
  | .local _ .vmem, ⟨16, _⟩ => ⟨S512x2048, .bf16⟩
  | _, _ => ⟨S1x16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1536x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1536x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeReferenceIdeal.lean ====
abbrev S1x16384x1536 : Shape := ⟨3, ![1, 16384, 1536]⟩
abbrev S1x16384x12x128 : Shape := ⟨4, ![1, 16384, 12, 128]⟩
abbrev S1x16384x1024 : Shape := ⟨3, ![1, 16384, 1024]⟩
abbrev S1x16384x3x2048 : Shape := ⟨4, ![1, 16384, 3, 2048]⟩
abbrev S1x1536x2048 : Shape := ⟨3, ![1, 1536, 2048]⟩
abbrev S1x1024x2048 : Shape := ⟨3, ![1, 1024, 2048]⟩
abbrev S16384x1536 : Shape := ⟨2, ![16384, 1536]⟩
abbrev S1536x2048 : Shape := ⟨2, ![1536, 2048]⟩
abbrev S16384x2048 : Shape := ⟨2, ![16384, 2048]⟩
abbrev S16384x1024 : Shape := ⟨2, ![16384, 1024]⟩
abbrev S1024x2048 : Shape := ⟨2, ![1024, 2048]⟩
abbrev S16384x3x2048 : Shape := ⟨3, ![16384, 3, 2048]⟩
abbrev S16384x1x2048 : Shape := ⟨3, ![16384, 1, 2048]⟩

abbrev nBuf : Space → Nat
  | .hbm => 29
  | .vmem => 0
  | .smem => 0
  | _ => 0

abbrev bufTy : (tb : Table) → Fin (tcTables nBuf tb) → BufTy
  | .hbm, ⟨0, _⟩ => ⟨S1x16384x1536, .f32⟩
  | .hbm, ⟨1, _⟩ => ⟨S1x16384x12x128, .f32⟩
  | .hbm, ⟨2, _⟩ => ⟨S1x16384x1024, .f32⟩
  | .hbm, ⟨3, _⟩ => ⟨S1x16384x3x2048, .f32⟩
  | .hbm, ⟨4, _⟩ => ⟨S1x1536x2048, .f32⟩
  | .hbm, ⟨5, _⟩ => ⟨S1x1536x2048, .f32⟩
  | .hbm, ⟨6, _⟩ => ⟨S1x1024x2048, .f32⟩
  | .hbm, ⟨7, _⟩ => ⟨S16384x1536, .f32⟩
  | .hbm, ⟨8, _⟩ => ⟨S1536x2048, .f32⟩
  | .hbm, ⟨9, _⟩ => ⟨S16384x2048, .f32⟩
  | .hbm, ⟨10, _⟩ => ⟨S16384x1536, .f32⟩
  | .hbm, ⟨11, _⟩ => ⟨S1536x2048, .f32⟩
  | .hbm, ⟨12, _⟩ => ⟨S16384x2048, .f32⟩
  | .hbm, ⟨13, _⟩ => ⟨S16384x1024, .f32⟩
  | .hbm, ⟨14, _⟩ => ⟨S1024x2048, .f32⟩
  | .hbm, ⟨15, _⟩ => ⟨S16384x2048, .f32⟩
  | .hbm, ⟨16, _⟩ => ⟨S16384x3x2048, .f32⟩
  | .hbm, ⟨17, _⟩ => ⟨S16384x1x2048, .f32⟩
  | .hbm, ⟨18, _⟩ => ⟨S16384x2048, .f32⟩
  | .hbm, ⟨19, _⟩ => ⟨S16384x2048, .f32⟩
  | .hbm, ⟨20, _⟩ => ⟨S16384x1x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x1x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S16384x2048, .bf16⟩
  | _, _ => ⟨S1x16384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== OutProj.lean ====
abbrev S1x16384x2048 : Shape := ⟨3, ![1, 16384, 2048]⟩
abbrev S1x2048x2048 : Shape := ⟨3, ![1, 2048, 2048]⟩
abbrev S16384x2048 : Shape := ⟨2, ![16384, 2048]⟩
abbrev S2048x2048 : Shape := ⟨2, ![2048, 2048]⟩
abbrev S512x2048 : Shape := ⟨2, ![512, 2048]⟩
abbrev S512x512 : Shape := ⟨2, ![512, 512]⟩
abbrev S2048x512 : Shape := ⟨2, ![2048, 512]⟩

abbrev nBuf : Space → Nat
  | .hbm => 9
  | .vmem => 7
  | .smem => 0
  | _ => 0

abbrev bufTy : (tb : Table) → Fin (tcTables nBuf tb) → BufTy
  | .hbm, ⟨0, _⟩ => ⟨S1x16384x2048, .f32⟩
  | .hbm, ⟨1, _⟩ => ⟨S1x16384x2048, .f32⟩
  | .hbm, ⟨2, _⟩ => ⟨S1x2048x2048, .f32⟩
  | .hbm, ⟨3, _⟩ => ⟨S16384x2048, .f32⟩
  | .hbm, ⟨4, _⟩ => ⟨S16384x2048, .f32⟩
  | .hbm, ⟨5, _⟩ => ⟨S16384x2048, .bf16⟩
  | .hbm, ⟨6, _⟩ => ⟨S2048x2048, .f32⟩
  | .hbm, ⟨7, _⟩ => ⟨S2048x2048, .bf16⟩
  | .hbm, ⟨8, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutProjReferenceIdeal.lean ====
abbrev S1x16384x2048 : Shape := ⟨3, ![1, 16384, 2048]⟩
abbrev S1x2048x2048 : Shape := ⟨3, ![1, 2048, 2048]⟩
abbrev S16384x2048 : Shape := ⟨2, ![16384, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x16384x2048, .f32⟩
  | .hbm, ⟨2, _⟩ => ⟨S1x2048x2048, .f32⟩
  | .hbm, ⟨3, _⟩ => ⟨S16384x2048, .f32⟩
  | .hbm, ⟨4, _⟩ => ⟨S16384x2048, .f32⟩
  | .hbm, ⟨5, _⟩ => ⟨S2048x2048, .f32⟩
  | .hbm, ⟨6, _⟩ => ⟨S16384x2048, .f32⟩
  | .hbm, ⟨7, _⟩ => ⟨S16384x2048, .f32⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GluWeight.lean ====
abbrev S1x2048x11328 : Shape := ⟨3, ![1, 2048, 11328]⟩
abbrev S2048x11328 : Shape := ⟨2, ![2048, 11328]⟩
abbrev S11328x2048 : Shape := ⟨2, ![11328, 2048]⟩
abbrev S2048x3072 : Shape := ⟨2, ![2048, 3072]⟩
abbrev S512x2048 : Shape := ⟨2, ![512, 2048]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S1x2048x11328, .f32⟩
  | .hbm, ⟨1, _⟩ => ⟨S2048x11328, .f32⟩
  | .hbm, ⟨2, _⟩ => ⟨S11328x2048, .f32⟩
  | .hbm, ⟨3, _⟩ => ⟨S2048x3072, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S2048x512, .bf16⟩
  | .local _ .vmem, ⟨5, _⟩ => ⟨S2048x512, .bf16⟩
  | .local _ .vmem, ⟨6, _⟩ => ⟨S512x2048, .f32⟩
  | _, _ => ⟨S1x2048x11328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let v1 : BitVec 32 := Scalar.addi v0 c1_i32
  let c1_i32_0 : BitVec 32 := 1#32
  let v2 : BitVec 32 := Scalar.muli v1 c1_i32_0
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GluWeightReferenceIdeal.lean ====
abbrev S1x2048x11328 : Shape := ⟨3, ![1, 2048, 11328]⟩
abbrev S2048x11328 : Shape := ⟨2, ![2048, 11328]⟩
abbrev S2048x3072 : Shape := ⟨2, ![2048, 3072]⟩

abbrev nBuf : Space → Nat
  | .hbm => 4
  | .vmem => 0
  | .smem => 0
  | _ => 0

abbrev bufTy : (tb : Table) → Fin (tcTables nBuf tb) → BufTy
  | .hbm, ⟨0, _⟩ => ⟨S1x2048x11328, .f32⟩
  | .hbm, ⟨1, _⟩ => ⟨S2048x11328, .f32⟩
  | .hbm, ⟨2, _⟩ => ⟨S2048x3072, .f32⟩
  | .hbm, ⟨3, _⟩ => ⟨S2048x3072, .bf16⟩
  | _, _ => ⟨S1x2048x11328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== GateWeight.lean ====
abbrev S1x2048x11328 : Shape := ⟨3, ![1, 2048, 11328]⟩
abbrev S2048x11328 : Shape := ⟨2, ![2048, 11328]⟩
abbrev S11328x2048 : Shape := ⟨2, ![11328, 2048]⟩
abbrev S2048x6144 : Shape := ⟨2, ![2048, 6144]⟩
abbrev S512x2048 : Shape := ⟨2, ![512, 2048]⟩
abbrev S64x2048 : Shape := ⟨2, ![64, 2048]⟩
abbrev S2048x512 : Shape := ⟨2, ![2048, 512]⟩
abbrev S448x2048 : Shape := ⟨2, ![448, 2048]⟩

abbrev nBuf : Space → Nat
  | .hbm => 4
  | .vmem => 7
  | .smem => 0
  | _ => 0

abbrev bufTy : (tb : Table) → Fin (tcTables nBuf tb) → BufTy
  | .hbm, ⟨0, _⟩ => ⟨S1x2048x11328, .f32⟩
  | .hbm, ⟨1, _⟩ => ⟨S2048x11328, .f32⟩
  | .hbm, ⟨2, _⟩ => ⟨S11328x2048, .f32⟩
  | .hbm, ⟨3, _⟩ => ⟨S2048x6144, .bf16⟩
  | .local _ .vmem, ⟨0, _⟩ => ⟨S512x2048, .f32⟩
  | .local _ .vmem, ⟨1, _⟩ => ⟨S512x2048, .f32⟩
  | .local _ .vmem, ⟨2, _⟩ => ⟨S64x2048, .f32⟩
  | .local _ .vmem, ⟨3, _⟩ => ⟨S64x2048, .f32⟩
  | .local _ .vmem, ⟨4, _⟩ => ⟨S2048x512, .bf16⟩
  | .local _ .vmem, ⟨5, _⟩ => ⟨S2048x512, .bf16⟩
  | .local _ .vmem, ⟨6, _⟩ => ⟨S512x2048, .f32⟩
  | _, _ => ⟨S1x2048x11328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c10_i32 : BitVec 32 := 10#32
  let v0 : BitVec 32 := Scalar.addi arg0 c10_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c10_i32 : BitVec 32 := 10#32
  let v0 : BitVec 32 := Scalar.addi arg0 c10_i32
  let c1_i32 : BitVec 32 := 1#32
  let v1 : BitVec 32 := Scalar.addi v0 c1_i32
  let c8_i32 : BitVec 32 := 8#32
  let v2 : BitVec 32 := Scalar.muli v1 c8_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GateWeightReferenceIdeal.lean ====
abbrev S1x2048x11328 : Shape := ⟨3, ![1, 2048, 11328]⟩
abbrev S2048x11328 : Shape := ⟨2, ![2048, 11328]⟩
abbrev S2048x6144 : Shape := ⟨2, ![2048, 6144]⟩

abbrev nBuf : Space → Nat
  | .hbm => 4
  | .vmem => 0
  | .smem => 0
  | _ => 0

abbrev bufTy : (tb : Table) → Fin (tcTables nBuf tb) → BufTy
  | .hbm, ⟨0, _⟩ => ⟨S1x2048x11328, .f32⟩
  | .hbm, ⟨1, _⟩ => ⟨S2048x11328, .f32⟩
  | .hbm, ⟨2, _⟩ => ⟨S2048x6144, .f32⟩
  | .hbm, ⟨3, _⟩ => ⟨S2048x6144, .bf16⟩
  | _, _ => ⟨S1x2048x11328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Proof.Body.lean ====
module

public import proofs.«01_k».proof.Proof.Gen.KernelIdeal
public import proofs.«01_k».proof.Proof.Gen.KernelIdeal.Frame
public import proofs.«01_k».proof.Proof.Gen.KernelIdeal.Loops
public import Idealize.ShloMosaic.Lib.Tactic
public import Idealize.ShloMosaic.Lib.Pipeline.Kit

@[expose] public section
set_option maxRecDepth 16384
noncomputable section
namespace Cert.KernelIdeal.Body
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UR sig nD τ) ℕ

abbrev pt (c : Dev nD) {sp : Space} {S : Shape} {e : EltTy} (M : Memref sig .tc sp S e) (f : BufTy.Contents (Elt F) M.view.ty) : sProp 𝕄 :=
  iprop(M.view.loc (c : Thread nD τ) ↦[M.view.set]{fullShare} f)

/-- The flag the scalars carry in their second place. -/
def flag (arg2 : Memref sig .tc .smem S2 .f32) (x2 : BufTy.Contents (Elt F) arg2.view.ty) : Elt F .f32 :=
  View.readAt (Elt F) arg2.view (Rect.unit (s := S2) ![1] S1.size inb_S2_S1_1).toLoadRect x2 (Shape.Idx.first (numel1_S1.symm ▸ Nat.one_pos))

/-- The bounded branch is taken. -/
def isPos (w : Elt F .f32) : Prop := Scalar.cmpi CmpIPredicate.ne (Scalar.extui (Scalar.cmpf CmpFPredicate.ogt w (FloatOps.ofBits FTy.f32 0#32))) 0#32 = 1#1
/-- The online branch is taken. -/
def isNonpos (w : Elt F .f32) : Prop := Scalar.cmpi CmpIPredicate.ne (Scalar.extui (Scalar.cmpf CmpFPredicate.ole w (FloatOps.ofBits FTy.f32 0#32))) 0#32 = 1#1

set_option maxHeartbeats 4000000 in
/-- The body where the flag is positive only: the bounded branch, and what it writes into the output. -/
def runA (c : Dev nD) (i : grid0.Coords) (arg2 : Memref sig .tc .smem S2 .f32) (harg2 : arg2.IsWhole) (arg3 : Memref sig .tc .vmem S1x2048x192 .f32) (harg3 : arg3.IsWhole) (arg4 : Memref sig .tc .vmem S1x16384x192 .bf16) (harg4 : arg4.IsWhole) (arg5 : Memref sig .tc .vmem S1x16384x128 .bf16) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x1 .f32) (harg9 : arg9.IsWhole)
    (x2 : BufTy.Contents (Elt F) arg2.view.ty) (x3 : BufTy.Contents (Elt F) arg3.view.ty) (x4 : BufTy.Contents (Elt F) arg4.view.ty) (x5 : BufTy.Contents (Elt F) arg5.view.ty) (x6 : BufTy.Contents (Elt F) arg6.view.ty) (x7 : BufTy.Contents (Elt F) arg7.view.ty) (x8 : BufTy.Contents (Elt F) arg8.view.ty) (x9 : BufTy.Contents (Elt F) arg9.view.ty) (hc1 : isPos (flag arg2 x2)) (hc2 : ¬ isNonpos (flag arg2 x2)) :
    { L6 : List (View.Piece (Elt F) S2048x128 .bf16) // ∀ E : Set ℕ,
    iprop(pt c arg2 x2 ∗ pt c arg3 x3 ∗ pt c arg4 x4 ∗ pt c arg5 x5 ∗ pt c arg6 x6 ∗ pt c arg7 x7 ∗ pt c arg8 x8 ∗ pt c arg9 x9)
    ⊢ wp frame (wpE (defs₀ (F := F)) Variants.none c none) E (cc0_attention i arg2 harg2 arg3 harg3 arg4 harg4 arg5 harg5 arg6 harg6 arg7 harg7 arg8 harg8 arg9 harg9)
      fun _ => iprop(pt c arg2 x2 ∗ pt c arg3 x3 ∗ pt c arg4 x4 ∗ pt c arg5 x5 ∗ pt c arg6 (arg6.view.writes (Elt F) x6 L6) ∗ (∃ x7, pt c arg7 x7) ∗ (∃ x8, pt c arg8 x8) ∗ ∃ x9, pt c arg9 x9) } := by
  refine ⟨?_, fun E => ?run⟩
  case run =>
  simp only [cc0_attention_eq_skeleton]; unfold cc0_attention_skel
  simp only [k0_part5_eq_skeleton, k0_part6_eq_skeleton, k0_part7_eq_skeleton, k0_part8_eq_skeleton, k0_part9_eq_skeleton, k0_part12_eq_skeleton, k0_part13_eq_skeleton]
  unfold isPos isNonpos flag at *
  iintro ⟨H2, H3, H4, H5, H6, H7, H8, H9⟩
  sl_exec (disch := first | sl_exact hc1 | sl_exact hc2 | omega)
  sl_step
  sl_close
set_option maxHeartbeats 4000000 in
/-- The body where the flag is nonpositive only: the online branch, and what it writes into the output. -/
def runB (c : Dev nD) (i : grid0.Coords) (arg2 : Memref sig .tc .smem S2 .f32) (harg2 : arg2.IsWhole) (arg3 : Memref sig .tc .vmem S1x2048x192 .f32) (harg3 : arg3.IsWhole) (arg4 : Memref sig .tc .vmem S1x16384x192 .bf16) (harg4 : arg4.IsWhole) (arg5 : Memref sig .tc .vmem S1x16384x128 .bf16) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x1 .f32) (harg9 : arg9.IsWhole)
    (x2 : BufTy.Contents (Elt F) arg2.view.ty) (x3 : BufTy.Contents (Elt F) arg3.view.ty) (x4 : BufTy.Contents (Elt F) arg4.view.ty) (x5 : BufTy.Contents (Elt F) arg5.view.ty) (x6 : BufTy.Contents (Elt F) arg6.view.ty) (x7 : BufTy.Contents (Elt F) arg7.view.ty) (x8 : BufTy.Contents (Elt F) arg8.view.ty) (x9 : BufTy.Contents (Elt F) arg9.view.ty) (hc1 : ¬ isPos (flag arg2 x2)) (hc2 : isNonpos (flag arg2 x2)) :
    { L6 : List (View.Piece (Elt F) S2048x128 .bf16) // ∀ E : Set ℕ,
    iprop(pt c arg2 x2 ∗ pt c arg3 x3 ∗ pt c arg4 x4 ∗ pt c arg5 x5 ∗ pt c arg6 x6 ∗ pt c arg7 x7 ∗ pt c arg8 x8 ∗ pt c arg9 x9)
    ⊢ wp frame (wpE (defs₀ (F := F)) Variants.none c none) E (cc0_attention i arg2 harg2 arg3 harg3 arg4 harg4 arg5 harg5 arg6 harg6 arg7 harg7 arg8 harg8 arg9 harg9)
      fun _ => iprop(pt c arg2 x2 ∗ pt c arg3 x3 ∗ pt c arg4 x4 ∗ pt c arg5 x5 ∗ pt c arg6 (arg6.view.writes (Elt F) x6 L6) ∗ (∃ x7, pt c arg7 x7) ∗ (∃ x8, pt c arg8 x8) ∗ ∃ x9, pt c arg9 x9) } := by
  refine ⟨?_, fun E => ?run⟩
  case run =>
  simp only [cc0_attention_eq_skeleton]; unfold cc0_attention_skel
  simp only [k0_part5_eq_skeleton, k0_part6_eq_skeleton, k0_part7_eq_skeleton, k0_part8_eq_skeleton, k0_part9_eq_skeleton, k0_part12_eq_skeleton, k0_part13_eq_skeleton]
  unfold isPos isNonpos flag at *
  iintro ⟨H2, H3, H4, H5, H6, H7, H8, H9⟩
  sl_exec (disch := first | sl_exact hc1 | sl_exact hc2 | omega)
  sl_step
  sl_close
set_option maxHeartbeats 4000000 in
/-- The body if both comparisons held: both branches, one after the other. -/
theorem runC (E : Set ℕ) (c : Dev nD) (i : grid0.Coords) (arg2 : Memref sig .tc .smem S2 .f32) (harg2 : arg2.IsWhole) (arg3 : Memref sig .tc .vmem S1x2048x192 .f32) (harg3 : arg3.IsWhole) (arg4 : Memref sig .tc .vmem S1x16384x192 .bf16) (harg4 : arg4.IsWhole) (arg5 : Memref sig .tc .vmem S1x16384x128 .bf16) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x1 .f32) (harg9 : arg9.IsWhole)
    (x2 : BufTy.Contents (Elt F) arg2.view.ty) (x3 : BufTy.Contents (Elt F) arg3.view.ty) (x4 : BufTy.Contents (Elt F) arg4.view.ty) (x5 : BufTy.Contents (Elt F) arg5.view.ty) (x6 : BufTy.Contents (Elt F) arg6.view.ty) (x7 : BufTy.Contents (Elt F) arg7.view.ty) (x8 : BufTy.Contents (Elt F) arg8.view.ty) (x9 : BufTy.Contents (Elt F) arg9.view.ty) (hc1 : isPos (flag arg2 x2)) (hc2 : isNonpos (flag arg2 x2)) :

    iprop(pt c arg2 x2 ∗ pt c arg3 x3 ∗ pt c arg4 x4 ∗ pt c arg5 x5 ∗ pt c arg6 x6 ∗ pt c arg7 x7 ∗ pt c arg8 x8 ∗ pt c arg9 x9)
    ⊢ wp frame (wpE (defs₀ (F := F)) Variants.none c none) E (cc0_attention i arg2 harg2 arg3 harg3 arg4 harg4 arg5 harg5 arg6 harg6 arg7 harg7 arg8 harg8 arg9 harg9)
      fun _ => iprop(pt c arg2 x2 ∗ pt c arg3 x3 ∗ pt c arg4 x4 ∗ pt c arg5 x5 ∗ (∃ x6, pt c arg6 x6) ∗ (∃ x7, pt c arg7 x7) ∗ (∃ x8, pt c arg8 x8) ∗ ∃ x9, pt c arg9 x9) := by
  simp only [cc0_attention_eq_skeleton]; unfold cc0_attention_skel
  simp only [k0_part5_eq_skeleton, k0_part6_eq_skeleton, k0_part7_eq_skeleton, k0_part8_eq_skeleton, k0_part9_eq_skeleton, k0_part12_eq_skeleton, k0_part13_eq_skeleton]
  unfold isPos isNonpos flag at *
  iintro ⟨H2, H3, H4, H5, H6, H7, H8, H9⟩
  sl_exec (disch := first | sl_exact hc1 | sl_exact hc2 | omega)
  sl_step
  sl_close
set_option maxHeartbeats 4000000 in
/-- The body if neither comparison held: nothing is written. -/
theorem runD (E : Set ℕ) (c : Dev nD) (i : grid0.Coords) (arg2 : Memref sig .tc .smem S2 .f32) (harg2 : arg2.IsWhole) (arg3 : Memref sig .tc .vmem S1x2048x192 .f32) (harg3 : arg3.IsWhole) (arg4 : Memref sig .tc .vmem S1x16384x192 .bf16) (harg4 : arg4.IsWhole) (arg5 : Memref sig .tc .vmem S1x16384x128 .bf16) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x1 .f32) (harg9 : arg9.IsWhole)
    (x2 : BufTy.Contents (Elt F) arg2.view.ty) (x3 : BufTy.Contents (Elt F) arg3.view.ty) (x4 : BufTy.Contents (Elt F) arg4.view.ty) (x5 : BufTy.Contents (Elt F) arg5.view.ty) (x6 : BufTy.Contents (Elt F) arg6.view.ty) (x7 : BufTy.Contents (Elt F) arg7.view.ty) (x8 : BufTy.Contents (Elt F) arg8.view.ty) (x9 : BufTy.Contents (Elt F) arg9.view.ty) (hc1 : ¬ isPos (flag arg2 x2)) (hc2 : ¬ isNonpos (flag arg2 x2)) :

    iprop(pt c arg2 x2 ∗ pt c arg3 x3 ∗ pt c arg4 x4 ∗ pt c arg5 x5 ∗ pt c arg6 x6 ∗ pt c arg7 x7 ∗ pt c arg8 x8 ∗ pt c arg9 x9)
    ⊢ wp frame (wpE (defs₀ (F := F)) Variants.none c none) E (cc0_attention i arg2 harg2 arg3 harg3 arg4 harg4 arg5 harg5 arg6 harg6 arg7 harg7 arg8 harg8 arg9 harg9)
      fun _ => iprop(pt c arg2 x2 ∗ pt c arg3 x3 ∗ pt c arg4 x4 ∗ pt c arg5 x5 ∗ (∃ x6, pt c arg6 x6) ∗ (∃ x7, pt c arg7 x7) ∗ (∃ x8, pt c arg8 x8) ∗ ∃ x9, pt c arg9 x9) := by
  simp only [cc0_attention_eq_skeleton]; unfold cc0_attention_skel
  simp only [k0_part5_eq_skeleton, k0_part6_eq_skeleton, k0_part7_eq_skeleton, k0_part8_eq_skeleton, k0_part9_eq_skeleton, k0_part12_eq_skeleton, k0_part13_eq_skeleton]
  unfold isPos isNonpos flag at *
  iintro ⟨H2, H3, H4, H5, H6, H7, H8, H9⟩
  sl_exec (disch := first | sl_exact hc1 | sl_exact hc2 | omega)
  sl_step
  sl_close
end Cert.KernelIdeal.Body
-- ==== Proof.Run.lean ====
module

public import proofs.«01_k».proof.Proof.Body
public import Idealize.ShloMosaic.Lib.Pipeline.Frame
public import Idealize.ShloMosaic.Lib.Pipeline.DatRel
public import Idealize.ShloMosaic.Lib.Pipeline.ArrRel

@[expose] public section
set_option maxRecDepth 16384
noncomputable section
namespace Cert.KernelIdeal.Body
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UR sig nD τ) ℕ

open Idealize.ShloMosaic.Pipeline (Dat RDat BodyObligationRel)

variable (m : (ℓ : Loc nD τ sig) → Buf (Elt F) ℓ) (ρ : Dev nD → PrngReg)

/-- What one run of the body may leave in the output window, from operands that hold `X2` to `X5`: what the bounded branch writes where
    the flag selects it alone, and what the online branch writes where the flag selects that one alone. -/
def Leaves (c : Dev nD) (i : grid0.Coords) (arg2 : Memref sig .tc .smem S2 .f32) (harg2 : arg2.IsWhole) (arg3 : Memref sig .tc .vmem S1x2048x192 .f32) (harg3 : arg3.IsWhole) (arg4 : Memref sig .tc .vmem S1x16384x192 .bf16) (harg4 : arg4.IsWhole) (arg5 : Memref sig .tc .vmem S1x16384x128 .bf16) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x1 .f32) (harg9 : arg9.IsWhole)
    (X2 : S2.Idx → Elt F .f32) (X3 : S1x2048x192.Idx → Elt F .f32) (X4 : S1x16384x192.Idx → Elt F .bf16) (X5 : S1x16384x128.Idx → Elt F .bf16) (X : S2048x128.Idx → Elt F .bf16) : Prop :=
  ∃ x2 x3 x4 x5 x6 x7 x8 x9, arg2.view.read (Elt F) x2 = X2 ∧ arg3.view.read (Elt F) x3 = X3 ∧ arg4.view.read (Elt F) x4 = X4 ∧ arg5.view.read (Elt F) x5 = X5
    ∧ (∀ hc1 hc2, X = arg6.view.read (Elt F) (arg6.view.writes (Elt F) x6 (runA c i arg2 harg2 arg3 harg3 arg4 harg4 arg5 harg5 arg6 harg6 arg7 harg7 arg8 harg8 arg9 harg9 x2 x3 x4 x5 x6 x7 x8 x9 hc1 hc2).1))
    ∧ (∀ hc1 hc2, X = arg6.view.read (Elt F) (arg6.view.writes (Elt F) x6 (runB c i arg2 harg2 arg3 harg3 arg4 harg4 arg5 harg5 arg6 harg6 arg7 harg7 arg8 harg8 arg9 harg9 x2 x3 x4 x5 x6 x7 x8 x9 hc1 hc2).1))

set_option maxHeartbeats 1000000 in
/-- The body once, from named contents of its eight buffers, whichever of the two comparisons hold. -/
theorem bodyRun (c : Dev nD) (i : grid0.Coords) (arg2 : Memref sig .tc .smem S2 .f32) (harg2 : arg2.IsWhole) (arg3 : Memref sig .tc .vmem S1x2048x192 .f32) (harg3 : arg3.IsWhole) (arg4 : Memref sig .tc .vmem S1x16384x192 .bf16) (harg4 : arg4.IsWhole) (arg5 : Memref sig .tc .vmem S1x16384x128 .bf16) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x1 .f32) (harg9 : arg9.IsWhole)
    (x2 : BufTy.Contents (Elt F) arg2.view.ty) (x3 : BufTy.Contents (Elt F) arg3.view.ty) (x4 : BufTy.Contents (Elt F) arg4.view.ty) (x5 : BufTy.Contents (Elt F) arg5.view.ty) (x6 : BufTy.Contents (Elt F) arg6.view.ty) (x7 : BufTy.Contents (Elt F) arg7.view.ty) (x8 : BufTy.Contents (Elt F) arg8.view.ty) (x9 : BufTy.Contents (Elt F) arg9.view.ty) :
    iprop(pt c arg2 x2 ∗ pt c arg3 x3 ∗ pt c arg4 x4 ∗ pt c arg5 x5 ∗ pt c arg6 x6 ∗ pt c arg7 x7 ∗ pt c arg8 x8 ∗ pt c arg9 x9)
    ⊢ wp frame (wpE (defs₀ (F := F)) Variants.none c none) Set.univ (cc0_attention i arg2 harg2 arg3 harg3 arg4 harg4 arg5 harg5 arg6 harg6 arg7 harg7 arg8 harg8 arg9 harg9)
      fun _ => iprop(pt c arg2 x2 ∗ pt c arg3 x3 ∗ pt c arg4 x4 ∗ pt c arg5 x5
        ∗ (∃ y, ⌜(∀ hc1 hc2, y = arg6.view.writes (Elt F) x6 (runA c i arg2 harg2 arg3 harg3 arg4 harg4 arg5 harg5 arg6 harg6 arg7 harg7 arg8 harg8 arg9 harg9 x2 x3 x4 x5 x6 x7 x8 x9 hc1 hc2).1)
            ∧ (∀ hc1 hc2, y = arg6.view.writes (Elt F) x6 (runB c i arg2 harg2 arg3 harg3 arg4 harg4 arg5 harg5 arg6 harg6 arg7 harg7 arg8 harg8 arg9 harg9 x2 x3 x4 x5 x6 x7 x8 x9 hc1 hc2).1)⌝ ∗ pt c arg6 y)
        ∗ (∃ x7, pt c arg7 x7) ∗ (∃ x8, pt c arg8 x8) ∗ ∃ x9, pt c arg9 x9) := by
  by_cases hp : isPos (flag arg2 x2) <;> by_cases hn : isNonpos (flag arg2 x2)
  · refine (runC Set.univ c i arg2 harg2 arg3 harg3 arg4 harg4 arg5 harg5 arg6 harg6 arg7 harg7 arg8 harg8 arg9 harg9 x2 x3 x4 x5 x6 x7 x8 x9 hp hn).trans (wp_mono _ _ _ fun _ => ?_)
    iintro ⟨H2, H3, H4, H5, ⟨%y, H6⟩, H7⟩
    iframe H2 H3 H4 H5 H7
    iexists y; isplitr; · ipureintro; exact ⟨fun _ h => absurd hn h, fun h => absurd hp h⟩
    iexact H6
  · refine ((runA c i arg2 harg2 arg3 harg3 arg4 harg4 arg5 harg5 arg6 harg6 arg7 harg7 arg8 harg8 arg9 harg9 x2 x3 x4 x5 x6 x7 x8 x9 hp hn).2 Set.univ).trans (wp_mono _ _ _ fun _ => ?_)
    iintro ⟨H2, H3, H4, H5, H6, H7⟩
    iframe H2 H3 H4 H5 H7
    iexists _; isplitr; swap; · iexact H6
    ipureintro; exact ⟨fun _ _ => rfl, fun h => absurd hp h⟩
  · refine ((runB c i arg2 harg2 arg3 harg3 arg4 harg4 arg5 harg5 arg6 harg6 arg7 harg7 arg8 harg8 arg9 harg9 x2 x3 x4 x5 x6 x7 x8 x9 hp hn).2 Set.univ).trans (wp_mono _ _ _ fun _ => ?_)
    iintro ⟨H2, H3, H4, H5, H6, H7⟩
    iframe H2 H3 H4 H5 H7
    iexists _; isplitr; swap; · iexact H6
    ipureintro; exact ⟨fun h => absurd h hp, fun _ _ => rfl⟩
  · refine (runD Set.univ c i arg2 harg2 arg3 harg3 arg4 harg4 arg5 harg5 arg6 harg6 arg7 harg7 arg8 harg8 arg9 harg9 x2 x3 x4 x5 x6 x7 x8 x9 hp hn).trans (wp_mono _ _ _ fun _ => ?_)
    iintro ⟨H2, H3, H4, H5, ⟨%y, H6⟩, H7⟩
    iframe H2 H3 H4 H5 H7
    iexists y; isplitr; · ipureintro; exact ⟨fun h => absurd h hp, fun _ h => absurd h hn⟩
    iexact H6

set_option maxHeartbeats 1000000 in
/-- The body once, for any continuation: the four operands come back as they were, the output at contents that `Leaves` describes,
    and the three scratch buffers at some contents. -/
theorem kernelRun (c : Dev nD) (i : grid0.Coords) (arg2 : Memref sig .tc .smem S2 .f32) (harg2 : arg2.IsWhole) (arg3 : Memref sig .tc .vmem S1x2048x192 .f32) (harg3 : arg3.IsWhole) (arg4 : Memref sig .tc .vmem S1x16384x192 .bf16) (harg4 : arg4.IsWhole) (arg5 : Memref sig .tc .vmem S1x16384x128 .bf16) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x1 .f32) (harg9 : arg9.IsWhole)
    (X2 : S2.Idx → Elt F .f32) (X3 : S1x2048x192.Idx → Elt F .f32) (X4 : S1x16384x192.Idx → Elt F .bf16) (X5 : S1x16384x128.Idx → Elt F .bf16) (K : PUnit → sProp 𝕄) :
    iprop(owns (c : Thread nD τ) arg2 fullShare X2 ∗ owns (c : Thread nD τ) arg3 fullShare X3 ∗ owns (c : Thread nD τ) arg4 fullShare X4
        ∗ owns (c : Thread nD τ) arg5 fullShare X5 ∗ (∃ d, owns (c : Thread nD τ) arg6 fullShare d)
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare X2 ∗ owns (c : Thread nD τ) arg3 fullShare X3 ∗ owns (c : Thread nD τ) arg4 fullShare X4
            ∗ owns (c : Thread nD τ) arg5 fullShare X5 ∗ (∃ d, ⌜Leaves c i arg2 harg2 arg3 harg3 arg4 harg4 arg5 harg5 arg6 harg6 arg7 harg7 arg8 harg8 arg9 harg9 X2 X3 X4 X5 d⌝ ∗ owns (c : Thread nD τ) arg6 fullShare d)
            ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.none c none) Set.univ (cc0_attention i arg2 harg2 arg3 harg3 arg4 harg4 arg5 harg5 arg6 harg6 arg7 harg7 arg8 harg8 arg9 harg9) K := by
  unfold owns
  iintro ⟨⟨%x2, %h2, H2⟩, ⟨%x3, %h3, H3⟩, ⟨%x4, %h4, H4⟩, ⟨%x5, %h5, H5⟩, ⟨%d6, %x6, -, H6⟩, ⟨%d7, %x7, -, H7⟩, ⟨%d8, %x8, -, H8⟩, ⟨%d9, %x9, -, H9⟩, Hk⟩
  iapply wp_wand_r
  isplitl [H2 H3 H4 H5 H6 H7 H8 H9]
  · iapply (bodyRun c i arg2 harg2 arg3 harg3 arg4 harg4 arg5 harg5 arg6 harg6 arg7 harg7 arg8 harg8 arg9 harg9 x2 x3 x4 x5 x6 x7 x8 x9)
    iframe H2 H3 H4 H5 H6 H7 H8; iexact H9
  iintro %_ ⟨H2, H3, H4, H5, ⟨%y, %hy, H6⟩, ⟨%y7, H7⟩, ⟨%y8, H8⟩, ⟨%y9, H9⟩⟩
  iapply Hk
  isplitl [H2]; · iexists x2; isplitr; · ipureintro; exact h2
                  iexact H2
  isplitl [H3]; · iexists x3; isplitr; · ipureintro; exact h3
                  iexact H3
  isplitl [H4]; · iexists x4; isplitr; · ipureintro; exact h4
                  iexact H4
  isplitl [H5]; · iexists x5; isplitr; · ipureintro; exact h5
                  iexact H5
  isplitl [H6]; swap
  · isplitl [H7]; · iexists _, y7; isplitr; swap; · iexact H7
                    ipureintro; rfl
    isplitl [H8]; · iexists _, y8; isplitr; swap; · iexact H8
                    ipureintro; rfl
    iexists _, y9; isplitr; swap; · iexact H9
    ipureintro; rfl
  iexists (arg6.view.read (Elt F) y); isplitr
  · ipureintro
    exact ⟨x2, x3, x4, x5, x6, x7, x8, x9, h2, h3, h4, h5, fun a b => congrArg _ (hy.1 a b), fun a b => congrArg _ (hy.2 a b)⟩
  iexists y; isplitr; · ipureintro; rfl
  iexact H6

/-! ## The proof data, and the body at a point -/

/-- The proof data on core `c`: the arrays as the region finds them, every input's block left in place. -/
def dats (_ : Fin 1) (c : Dev nD) : Dat τ (Elt F) Unit ℕ (UR sig nD τ) ℕ cfg0 c where
  A w := V m c (Pipeline.arrRef spec0 w)
  after
    | 0, t => iblk m c 0 t
    | 1, t => iblk m c 1 t
    | 2, t => iblk m c 2 t
    | 3, t => iblk m c 3 t
    | w, t => Pipeline.Dat.unnamed (cfg := cfg0) w t
  Φ _ := Pipeline.ΦA spec0 c
  q _ := fullShare
  owed _ := 0

/-- The output window is the one held to a predicate. -/
def held : Fin 5 → Bool := fun w => w == 4

/-- What the body may leave in the output window at point `t`. -/
def LeavesAt (c : Dev nD) (t : Fin cfg0.N) (X : S2048x128.Idx → Elt F .bf16) : Prop :=
  Leaves c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) (Memref.whole cc0_scratch2) (Memref.isWhole_whole _)
    (iblk m c 0 t) (iblk m c 1 t) (iblk m c 2 t) (iblk m c 3 t) X

/-- The predicate of each window: `LeavesAt` of the output, nothing of the others. -/
def Rl (c : Dev nD) : (w : Fin cfg0.W) → Fin cfg0.N → ((cfg0.win w).block.Idx → Elt F (cfg0.win w).elt) → Prop
  | 4 => fun t X => LeavesAt m c t X
  | _ => fun _ _ => True

theorem before_0 (c : Dev nD) (t : Fin cfg0.N) (d) : (dats m 0 c).before 0 t d = iblk m c 0 t := before0_0_of m _ rfl (fun _ => rfl) t d
theorem before_1 (c : Dev nD) (t : Fin cfg0.N) (d) : (dats m 0 c).before 1 t d = iblk m c 1 t := before0_1_of m _ rfl (fun _ => rfl) t d
theorem before_2 (c : Dev nD) (t : Fin cfg0.N) (d) : (dats m 0 c).before 2 t d = iblk m c 2 t := before0_2_of m _ rfl (fun _ => rfl) t d
theorem before_3 (c : Dev nD) (t : Fin cfg0.N) (d) : (dats m 0 c).before 3 t d = iblk m c 3 t := before0_3_of m _ rfl (fun _ => rfl) t d

theorem PhiA_eq (c : Dev nD) :
    (Pipeline.ΦA (U := UR sig nD τ) (Val := Elt F) spec0 c : sProp 𝕄)
      = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ ∃ r, prngReg c r) := by
  unfold Pipeline.ΦA; rw [scopedRest0_eq]; simp only [owns_whole]; try rfl

/-- The body table's row at a point is the body on the operands of that point. -/
theorem row (t : Fin cfg0.N) : defs₀ (F := F) .tc cfg0.body (cfg0.bodyArgs t (cfg0.slots t)) = bodyAt0 t := by
  unfold defs₀; rw [Defs.onTc_tc]

set_option maxHeartbeats 1000000 in
/-- The body at a point: the operands' blocks left in place, the output at contents that `LeavesAt` describes. -/
theorem sound (c : Dev nD) (t : Fin cfg0.N) :
    iprop((dats m 0 c).Φ t.castSucc ∗ (dats m 0 c).owesAt () t.castSucc
        ∗ (∃ d, owns (c : Thread nD τ) (win0_0.stage (cfg0.slots t 0)) fullShare ((dats m 0 c).before 0 t d))
        ∗ (∃ d, owns (c : Thread nD τ) (win0_1.stage (cfg0.slots t 1)) fullShare ((dats m 0 c).before 1 t d))
        ∗ (∃ d, owns (c : Thread nD τ) (win0_2.stage (cfg0.slots t 2)) fullShare ((dats m 0 c).before 2 t d))
        ∗ (∃ d, owns (c : Thread nD τ) (win0_3.stage (cfg0.slots t 3)) fullShare ((dats m 0 c).before 3 t d))
        ∗ (∃ Y, ⌜((dats m 0 c).toRRel held (Rl m c)).Finds 4 t Y⌝ ∗ owns (c : Thread nD τ) (win0_4.stage (cfg0.slots t 4)) fullShare Y))
      ⊢ wp frame (wpE (defs₀ (F := F)) Variants.none c none) Set.univ (bodyAt0 t) fun _ =>
        iprop((dats m 0 c).Φ t.succ ∗ (dats m 0 c).owesAt () t.succ
          ∗ owns (c : Thread nD τ) (win0_0.stage (cfg0.slots t 0)) fullShare (iblk m c 0 t)
          ∗ owns (c : Thread nD τ) (win0_1.stage (cfg0.slots t 1)) fullShare (iblk m c 1 t)
          ∗ owns (c : Thread nD τ) (win0_2.stage (cfg0.slots t 2)) fullShare (iblk m c 2 t)
          ∗ owns (c : Thread nD τ) (win0_3.stage (cfg0.slots t 3)) fullShare (iblk m c 3 t)
          ∗ (∃ X, ⌜LeavesAt m c t X⌝ ∗ owns (c : Thread nD τ) (win0_4.stage (cfg0.slots t 4)) fullShare X)) := by
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  simp only [before_0, before_1, before_2, before_3]
  unfold bodyAt0 LeavesAt
  iintro ⟨⟨⟨H7, H8, H9⟩, Hg⟩, HO, ⟨%_, H0⟩, ⟨%_, H1⟩, ⟨%_, H2⟩, ⟨%_, H3⟩, ⟨%Y, -, H4⟩⟩
  iapply kernelRun
  iframe H0 H1 H2 H3 H7 H8 H9
  isplitl [H4]; · iexists Y; iexact H4
  iintro ⟨H0, H1, H2, H3, H4, H7, H8, H9⟩
  iframe H0 H1 H2 H3 H4 H7 H8 H9 HO
  iexact Hg

/-- The body obligation, the output held to `LeavesAt`. -/
theorem obligation (c : Dev nD) :
    BodyObligationRel (dats m 0 c) (defs₀ (F := F)) Variants.none () Set.univ held (Rl m c) := fun t => by
  rw [bigSep_W0, bigSep_W0, row]
  exact sound m c t

/-! ## The launch -/

/-- The post of the run: what each array may hold at the end, the rest untouched, every semaphore at zero. -/
abbrev Post (r : PUnit × MemSt nD τ sig (Elt F)) : Prop :=
  RDat.FramePost (cfgs 0) (fun c => (dats m 0 c).toRRel held (Rl m c)) (V m) r ∧ r.2.sem = fun _ => 0

set_option backward.isDefEq.respectTransparency.types false in
/-- From any memory with zero counters: every execution of `main` terminates in a state that `Post` describes. -/
theorem run_main : θ_run defs (onTc (τ := τ) (main (F := F))) (s₀ m ρ) (Post m) :=
  RDat.θ_run_frame cfgs (0 : Fin 1) launch0 defs₀ Variants.none (fun c => (dats m 0 c).toRRel held (Rl m c)) m ρ main
    (hbody := fun c => (obligation m c).toRRel) (hshare := fun c => (dats m 0 c).share_full fun _ => rfl)
    (howed := fun _ _ => rfl) (V := V m) (hmain := hmain m Variants.none) (hA := fun _ _ => rfl)
    (hΦ := fun _ _ => rfl) (Q' := _) (hQ' := fun _ h => h)

/-- The frame claim's post, at any float type. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.KernelIdeal.Body
-- ==== Proof.Frames.lean ====
module

public import proofs.«01_k».proof.Defs
public import proofs.«01_k».proof.Proof.Run
public import proofs.«01_k».proof.Proof.KernelRun

@[expose] public section
noncomputable section
namespace Cert.Proof
open Idealize.ShloMosaic Idealize.SL.Sem

/-- Every execution of the attention at bits ends, its arguments as they were. -/
theorem frame_kernel : Cert.quiescent_Kernel (hKernel := Cert.Kernel.Gen.facts) := fun m ρ _ =>
  Cert.Kernel.Body.frame (F := Bits) m ρ

/-- Every execution of the attention at the extended reals ends, its arguments as they were. -/
theorem frame_kernelIdeal : Cert.quiescent_KernelIdeal (hKernelIdeal := Cert.KernelIdeal.Gen.facts) := fun m ρ _ =>
  Cert.KernelIdeal.Body.frame (F := Ideal) m ρ

end Cert.Proof
end
-- ==== Proof.Softmax.lean ====
module
public import Idealize.ShloMosaic.Lib.Pipeline.ValueKit
@[expose] public section
noncomputable section
namespace Cert.Attn
open Idealize.ShloMosaic

theorem coe_sum {ι : Type} (s : Finset ι) (f : ι → ℝ) : ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]

/-- A nonnegative real factor goes through a sum, whatever the terms are. -/
theorem mul_sum_real {ι : Type} (s : Finset ι) (c : ℝ) (hc : 0 ≤ c) (f : ι → EReal) : (c : EReal) * ∑ j ∈ s, f j = ∑ j ∈ s, (c : EReal) * f j := by
  classical
  induction s using Finset.induction_on with
  | empty => simp
  | insert a s ha ih =>
    rw [Finset.sum_insert ha, Finset.sum_insert ha, ← ih]
    exact EReal.left_distrib_of_nonneg_of_ne_top (EReal.coe_nonneg.mpr hc) (EReal.coe_ne_top c) _ _

/-- The weight of key `j` for query `t`: the exponential of the score, nothing past the query. -/
def wgt (x : ℕ → ℝ) (t j : ℕ) : ℝ := if j ≤ t then Real.exp (x j) else 0

/-- The sum of the weights. -/
def tot (x : ℕ → ℝ) (t : ℕ) : ℝ := ∑ j ∈ Finset.range (t + 1), Real.exp (x j)

/-- The probability of key `j` for query `t`. -/
def prob (x : ℕ → ℝ) (t j : ℕ) : ℝ := wgt x t j / tot x t

theorem wgt_nonneg (x : ℕ → ℝ) (t j : ℕ) : 0 ≤ wgt x t j := by
  unfold wgt; split
  · exact (Real.exp_pos _).le
  · exact le_rfl

theorem tot_pos (x : ℕ → ℝ) (t : ℕ) : 0 < tot x t :=
  Finset.sum_pos (fun _ _ => Real.exp_pos _) ⟨0, by simp⟩

theorem sum_wgt (x : ℕ → ℝ) (t N : ℕ) (h : t < N) : ∑ j ∈ Finset.range N, wgt x t j = tot x t := by
  unfold tot
  rw [← Finset.sum_subset (Finset.range_mono (show t + 1 ≤ N by omega))]
  · exact Finset.sum_congr rfl fun j hj => by
      have := Finset.mem_range.mp hj
      rw [wgt, if_pos (by omega)]
  · intro j _ hj
    rw [wgt, if_neg (by simpa using hj)]

theorem wgt_bot (x : ℕ → ℝ) (t j : ℕ) (h : t < j) : wgt x t j = 0 := by rw [wgt, if_neg (by omega)]

/-- Keys past the query may be left out or kept. -/
theorem prob_sum (x : ℕ → ℝ) (t N M : ℕ) (h : t < N) (hM : N ≤ M) (V : ℕ → EReal) :
    ∑ j ∈ Finset.range N, (prob x t j : EReal) * V j = ∑ j ∈ Finset.range M, (prob x t j : EReal) * V j := by
  apply Finset.sum_subset (Finset.range_mono hM)
  intro j _ hj
  rw [prob, wgt_bot x t j (by have : ¬ j < N := by simpa using hj
                              omega)]
  simp

/-- Weights that are a common positive multiple of the exponentials give the probabilities. -/
theorem quotient (x : ℕ → ℝ) (t N : ℕ) (h : t < N) (C : ℝ) (hC : 0 < C) (w : ℕ → EReal) (hw : ∀ j, w j = ((wgt x t j * C : ℝ) : EReal)) (V : ℕ → EReal) :
    Ideal.div (∑ j ∈ Finset.range N, w j * V j) (∑ j ∈ Finset.range N, w j) = ∑ j ∈ Finset.range N, (prob x t j : EReal) * V j := by
  have e : ∑ j ∈ Finset.range N, w j = ((tot x t * C : ℝ) : EReal) := by
    rw [Finset.sum_congr rfl fun j _ => hw j, coe_sum, ← Finset.sum_mul, sum_wgt x t N h]
  have p := tot_pos x t
  rw [e, Ideal.div_coe (mul_pos p hC).ne', mul_comm, mul_sum_real _ _ (by positivity)]
  refine Finset.sum_congr rfl fun j _ => ?_
  rw [hw, ← mul_assoc, ← EReal.coe_mul]
  congr 2
  unfold prob
  field_simp

theorem exp2_real (y β : ℝ) : Ideal.exp2 ((y : EReal) - (β : EReal)) = ((Real.exp (y * Real.log 2) * Real.exp (-(β * Real.log 2)) : ℝ) : EReal) := by
  rw [← EReal.coe_sub]
  rw [Ideal.exp2_coe]
  congr 1
  rw [← Real.exp_add, Real.rpow_eq_pow, Real.rpow_def_of_pos (by norm_num)]
  congr 1
  ring

theorem exp2_bot_sub (β : ℝ) : Ideal.exp2 ((⊥ : EReal) - (β : EReal)) = 0 := by
  rw [EReal.bot_sub]; exact Ideal.exp2_bot

/-- The score in powers of two of key `j` for query `t`, minus infinity past the query. -/
def lg (x : ℕ → ℝ) (t j : ℕ) : EReal := if j ≤ t then ((x j / Real.log 2 : ℝ) : EReal) else ⊥

theorem exp2_lg (x : ℕ → ℝ) (t j : ℕ) (β : ℝ) : Ideal.exp2 (lg x t j - (β : EReal)) = ((wgt x t j * Real.exp (-(β * Real.log 2)) : ℝ) : EReal) := by
  unfold lg wgt
  split
  · rw [exp2_real, div_mul_cancel₀ _ (Real.log_pos (by norm_num)).ne']
  · rw [exp2_bot_sub]; simp

/-- The softmax from powers of two against any real reference point. -/
theorem quotient2 (x : ℕ → ℝ) (t N : ℕ) (h : t < N) (β : ℝ) (V : ℕ → EReal) :
    Ideal.div (∑ j ∈ Finset.range N, Ideal.exp2 (lg x t j - (β : EReal)) * V j) (∑ j ∈ Finset.range N, Ideal.exp2 (lg x t j - (β : EReal)))
      = ∑ j ∈ Finset.range N, (prob x t j : EReal) * V j :=
  quotient x t N h _ (Real.exp_pos _) _ (fun j => exp2_lg x t j β) V

/-- Rescaling from one real reference point to another. -/
theorem rescale (x : ℕ → ℝ) (t j : ℕ) (β γ : ℝ) :
    Ideal.exp2 ((β : EReal) - (γ : EReal)) * Ideal.exp2 (lg x t j - (β : EReal)) = Ideal.exp2 (lg x t j - (γ : EReal)) := by
  rw [exp2_lg, exp2_lg, exp2_real, ← EReal.coe_mul]
  congr 1
  have : Real.exp (β * Real.log 2) * Real.exp (-(β * Real.log 2)) = 1 := by rw [← Real.exp_add]; simp
  linear_combination (wgt x t j * Real.exp (-(γ * Real.log 2))) * this

/-- The reference's logits. -/
def ln (x : ℕ → ℝ) (t j : ℕ) : EReal := if j ≤ t then ((x j : ℝ) : EReal) else ⊥

theorem exp_ln (x : ℕ → ℝ) (t j : ℕ) (β : ℝ) : Ideal.exp (ln x t j - (β : EReal)) = ((wgt x t j * Real.exp (-β) : ℝ) : EReal) := by
  unfold ln wgt
  split
  · rw [← EReal.coe_sub]
    show ((Real.exp (x j - β) : ℝ) : EReal) = _
    congr 1
    rw [← Real.exp_add]; congr 1
  · rw [EReal.bot_sub, zero_mul, EReal.coe_zero]; rfl

/-- A running maximum of logits that has seen key 0 is a real. -/
theorem sup_real (x : ℕ → ℝ) (t : ℕ) (N : ℕ) (hN : 0 < N) (f : ℕ → EReal) (hf : ∀ j, f j ≠ ⊤) (h0 : f 0 ≠ ⊥) :
    ∃ m : ℝ, (Finset.univ.sup fun k : Fin N => f k.val) = (m : EReal) := by
  have ht : (Finset.univ.sup fun k : Fin N => f k.val) < ⊤ := (Finset.sup_lt_iff (by simp)).mpr fun k _ => lt_top_iff_ne_top.mpr (hf _)
  have hb : (⊥ : EReal) < (Finset.univ.sup fun k : Fin N => f k.val) :=
    lt_of_lt_of_le (bot_lt_iff_ne_bot.mpr h0) (Finset.le_sup (f := fun k : Fin N => f k.val) (Finset.mem_univ ⟨0, hN⟩))
  exact ⟨_, (EReal.coe_toReal ht.ne hb.ne').symm⟩

/-- The reference's softmax: the exponentials against a real maximum over their sum. -/
theorem softmax_ref (x : ℕ → ℝ) (t N j : ℕ) (h : t < N) (m : ℝ) :
    Ideal.div (Ideal.exp (ln x t j - (m : EReal))) (∑ k ∈ Finset.range N, Ideal.exp (ln x t k - (m : EReal))) = (prob x t j : EReal) := by
  have e : ∑ k ∈ Finset.range N, Ideal.exp (ln x t k - (m : EReal)) = ((tot x t * Real.exp (-m) : ℝ) : EReal) := by
    rw [Finset.sum_congr rfl fun k _ => exp_ln x t k m, coe_sum, ← Finset.sum_mul, sum_wgt x t N h]
  have p := tot_pos x t
  have q := Real.exp_pos (-m)
  rw [e, exp_ln, Ideal.div_coe (mul_pos p q).ne', ← EReal.coe_mul]
  congr 1
  unfold prob
  field_simp

theorem lg_ne_top (x : ℕ → ℝ) (t j : ℕ) : lg x t j ≠ ⊤ := by unfold lg; split <;> simp
theorem ln_ne_top (x : ℕ → ℝ) (t j : ℕ) : ln x t j ≠ ⊤ := by unfold ln; split <;> simp
theorem lg_zero (x : ℕ → ℝ) (t : ℕ) : lg x t 0 ≠ ⊥ := by unfold lg; simp
theorem ln_zero (x : ℕ → ℝ) (t : ℕ) : ln x t 0 ≠ ⊥ := by unfold ln; simp
end Cert.Attn
-- ==== Proof.Spec.lean ====
module
public import proofs.«01_k».proof.Proof.Softmax
public import Idealize.ShloMosaic.Lib.Pipeline.ValueKit
@[expose] public section
noncomputable section
namespace Cert.Attn
open Idealize.ShloMosaic

/-- The shape of the queries and of the keys. -/
abbrev QK : Shape := ⟨4, ![1, 16384, 12, 192]⟩
/-- The shape of the values. -/
abbrev VV : Shape := ⟨4, ![1, 16384, 12, 128]⟩

/-- The shape of the result: a row of all heads' features for each position. -/
abbrev OO : Shape := ⟨2, ![16384, 1536]⟩

/-- The score of query `t` and key `j` of head `h`: the product of the two rows divided by the square root of their length. -/
def sR (q k : FVec Ideal QK .f32) (h : Fin 12) (t : Fin 16384) (j : ℕ) : ℝ :=
  if hj : j < 16384 then (∑ d : Fin 192, (q (ix4 0 t h d) : EReal).toReal * (k (ix4 0 ⟨j, hj⟩ h d) : EReal).toReal) / Real.sqrt 192 else 0

/-- Causal attention: the values weighted by the softmax of the scores of the keys not after the query. -/
def attend (q k : FVec Ideal QK .f32) (v : FVec Ideal VV .f32) (h : Fin 12) (t : Fin 16384) (d : Fin 128) : EReal :=
  ∑ j : Fin 16384, (prob (sR q k h t) t.val j.val : EReal) * v (ix4 0 j h d)

/-- The whole result: column `128 h + d` of row `s` is feature `d` of head `h` at position `s`. -/
def whole (q k : FVec Ideal QK .f32) (v : FVec Ideal VV .f32) : FVec Ideal OO .bf16 := fun y =>
  attend q k v ⟨(y 1).val / 128, by have h : (y 1).val < 1536 := (y 1).isLt; omega⟩ (y 0) ⟨(y 1).val % 128, Nat.mod_lt _ (by omega)⟩

/-- Every element is a real. -/
def Finite (q : FVec Ideal QK .f32) : Prop := ∀ i, ((q i : EReal).toReal : EReal) = q i

/-- A sum of products of reals is the real sum of products. -/
theorem sum_mul_real (a b : Fin 192 → EReal) (ha : ∀ d, ((a d).toReal : EReal) = a d) (hb : ∀ d, ((b d).toReal : EReal) = b d) :
    ∑ d, a d * b d = ((∑ d, (a d).toReal * (b d).toReal : ℝ) : EReal) := by
  rw [← coe_sum]
  refine Finset.sum_congr rfl fun d _ => ?_
  rw [EReal.coe_mul, ha, hb]

/-- The same with the left factor scaled first. -/
theorem sum_scale_real (a b : Fin 192 → EReal) (s : ℝ) (ha : ∀ d, ((a d).toReal : EReal) = a d) (hb : ∀ d, ((b d).toReal : EReal) = b d) :
    ∑ d, (a d * (s : EReal)) * b d = (((∑ d, (a d).toReal * (b d).toReal) * s : ℝ) : EReal) := by
  rw [Finset.sum_mul, ← coe_sum]
  refine Finset.sum_congr rfl fun d _ => ?_
  rw [EReal.coe_mul, EReal.coe_mul, ha, hb, mul_right_comm]
end Cert.Attn
-- ==== Proof.Score.lean ====
module
public import proofs.«01_k».proof.Proof.Run
public import Idealize.ShloMosaic.Lib.Pipeline.ValueKit
/-!
# The words the kernel's arithmetic is said in

A grid point holds one tile of 2048 query rows of one head, and all keys and values of that head.
Here are the scaled score of a query row with a key, the same score where a key in the query's
future counts as minus infinity, and the weight `2 ^ (score - β)` a key gets against a shift `β`.
Keys are numbered by natural numbers, so that sums over growing blocks of keys are sums over ranges.
-/
@[expose] public section
noncomputable section
namespace Cert.Attn
open Idealize.ShloMosaic Cert.KernelIdeal Cert.KernelIdeal.Gen

/-- The factor of the scores: one over the square root of the head's width, in powers of two. -/
def scale : EReal := (((Real.sqrt 192)⁻¹ * (Real.log 2)⁻¹ : ℝ) : EReal)

/-- Row `j` of the keys; zeros past the end. -/
def kRow (K : FVec Ideal S1x16384x192 .bf16) (j : ℕ) (d : Fin 192) : EReal :=
  if h : j < 16384 then K (ix3 0 ⟨j, h⟩ d) else 0

/-- Row `j` of the values; zeros past the end. -/
def vRow (V : FVec Ideal S1x16384x128 .bf16) (j : ℕ) (d : Fin 128) : EReal :=
  if h : j < 16384 then V (ix3 0 ⟨j, h⟩ d) else 0

/-- Keys `512 b … 512 b + 511`, as a block. -/
def kBlk (K : FVec Ideal S1x16384x192 .bf16) (b : ℕ) : FVec Ideal S1x512x192 .bf16 :=
  fun i => kRow K (512 * b + (i 1).val) (i 2)

/-- Values `512 b … 512 b + 511`, as a block. -/
def vBlk (V : FVec Ideal S1x16384x128 .bf16) (b : ℕ) : FVec Ideal S1x512x128 .bf16 :=
  fun i => vRow V (512 * b + (i 1).val) (i 2)

/-- The scaled score of query row `r` of the tile with key `j`. -/
def score (Q : FVec Ideal S1x2048x192 .f32) (K : FVec Ideal S1x16384x192 .bf16) (r : Fin 2048) (j : ℕ) : EReal :=
  ∑ d : Fin 192, (Q (ix3 0 r d) * scale) * kRow K j d

/-- The score where the key is not after the query, minus infinity where it is. -/
def mscore (qi : ℕ) (Q : FVec Ideal S1x2048x192 .f32) (K : FVec Ideal S1x16384x192 .bf16) (r : Fin 2048) (j : ℕ) : EReal :=
  if j ≤ 2048 * qi + r.val then score Q K r j else ⊥

theorem named_scale (b : BitVec FTy.f32.bits) : (Named.named (F := Ideal) κ "scale_log2e" b : Ideal .f32) = scale := rfl

end Cert.Attn
-- ==== Proof.PaysA.lean ====
module
public import proofs.«01_k».proof.Proof.Score
@[expose] public section
set_option maxRecDepth 16384
noncomputable section
namespace Cert.Attn
open Idealize.ShloMosaic Cert.KernelIdeal Cert.KernelIdeal.Gen

variable (Q : FVec Ideal S1x2048x192 .f32) (K : FVec Ideal S1x16384x192 .bf16) (V : FVec Ideal S1x16384x128 .bf16)

/-- Four numbers 128 apart, added in the order the kernel adds them. -/
def four (f : ℕ → EReal) (l : ℕ) : EReal := ((f l + f (128 + l)) + f (256 + l)) + f (384 + l)

/-- The weight of key `512 b + x` against the shift `B`, masked by nothing. -/
def wt (B : EReal) (r : Fin 2048) (b x : ℕ) : EReal := Ideal.exp2 (score Q K r (512 * b + x) - B)

theorem exp2_eq (x : EReal) : (FloatOps.exp2 (F := Ideal) (φ := .f32) x : EReal) = Ideal.exp2 x := rfl

theorem pay7_apply (B : EReal) (b : ℕ) (r : Fin 2048) (x : Fin 512) :
    k0_pay7 (F := Ideal) (k0_pay1 Q) B (kBlk K b) (ix2 r x) = wt Q K B r b x.val := by
  pointwise [k0_pay7, k0_pay1, named_scale, score, kBlk, wt, exp2_eq]
theorem pay11_apply (B : EReal) (b : ℕ) (r : Fin 2048) (x : Fin 512) :
    k0_pay11 (F := Ideal) (k0_pay1 Q) B (kBlk K b) (ix2 r x) = wt Q K B r b x.val := by
  pointwise [k0_pay11, k0_pay1, named_scale, score, kBlk, wt, exp2_eq]
theorem pay14_apply (B : EReal) (b : ℕ) (r : Fin 2048) (x : Fin 512) :
    k0_pay14 (F := Ideal) (k0_pay1 Q) B (kBlk K b) (ix2 r x) = wt Q K B r b x.val := by
  pointwise [k0_pay14, k0_pay1, named_scale, score, kBlk, wt, exp2_eq]
theorem pay18_apply (B : EReal) (b : ℕ) (r : Fin 2048) (x : Fin 512) :
    k0_pay18 (F := Ideal) (k0_pay1 Q) B (kBlk K b) (ix2 r x) = wt Q K B r b x.val := by
  pointwise [k0_pay18, k0_pay1, named_scale, score, kBlk, wt, exp2_eq]
theorem pay8_apply (B : EReal) (b : ℕ) (r : Fin 2048) (x : Fin 128) :
    k0_pay8 (F := Ideal) (k0_pay1 Q) B (kBlk K b) (ix2 r x) = four (wt Q K B r b) x.val := by
  pointwise [k0_pay8, pay7_apply, four]
theorem pay12_apply (B : EReal) (b : ℕ) (r : Fin 2048) (x : Fin 128) :
    k0_pay12 (F := Ideal) (k0_pay1 Q) B (kBlk K b) (ix2 r x) = four (wt Q K B r b) x.val := by
  pointwise [k0_pay12, pay11_apply, four]
theorem pay35_apply (B : EReal) (b0 b1 b2 b3 : ℕ) (old : FVec Ideal S2048x128 .f32) (r : Fin 2048) (x : Fin 128) :
    k0_pay35 (k0_pay15 (F := Ideal) (k0_pay1 Q) B (k0_pay8 (k0_pay1 Q) B (kBlk K b0)) (k0_pay12 (k0_pay1 Q) B (kBlk K b1)) (kBlk K b2))
      (k0_pay18 (k0_pay1 Q) B (kBlk K b3)) (k0_pay19 (k0_pay1 Q) B (kBlk K b3)) old (ix2 r x)
    = old (ix2 r x) + (((four (wt Q K B r b0) x.val + four (wt Q K B r b1) x.val) + four (wt Q K B r b2) x.val)
        + four (wt Q K B r b3) x.val) := by
  pointwise [k0_pay35, k0_pay15, k0_pay19, pay8_apply, pay12_apply, pay14_apply, pay18_apply, four]

/-- The weighted sum of the values of block `b`, in column `x`. -/
def wv (B : EReal) (r : Fin 2048) (b : ℕ) (x : Fin 128) : EReal := ∑ k : Fin 512, wt Q K B r b k.val * vRow V (512 * b + k.val) x

theorem pay36_apply (B : EReal) (b0 b1 b2 b3 : ℕ) (old : FVec Ideal S2048x128 .f32) (r : Fin 2048) (x : Fin 128) :
    k0_pay36 (k0_pay16 (F := Ideal) (k0_pay1 Q) B (k0_pay9 (k0_pay1 Q) B (kBlk K b0) (vBlk V b0)) (k0_pay10 (vBlk V b1))
        (k0_pay13 (k0_pay1 Q) B (kBlk K b1)) (constant S2048x128 .f32 0x00000000#32) (kBlk K b2) (vBlk V b2))
      (k0_pay17 (vBlk V b3)) (k0_pay18 (k0_pay1 Q) B (kBlk K b3)) old (ix2 r x)
    = old (ix2 r x) + (((wv Q K V B r b0 x + wv Q K V B r b1 x) + wv Q K V B r b2 x) + wv Q K V B r b3 x) := by
  pointwise [k0_pay36, k0_pay16, k0_pay9, k0_pay10, k0_pay13, k0_pay17, pay7_apply, pay11_apply, pay14_apply, pay18_apply, wv, vBlk]
end Cert.Attn
-- ==== Proof.Math0.lean ====
module
public import Idealize.ShloMosaic.Lib.Pipeline.ValueKit
@[expose] public section
namespace Cert.Attn
open Idealize.ShloMosaic

/-- Signed comparison of two small naturals kept in 32-bit words. -/
theorem cmpi_sle (a b : ℕ) (ha : a < 2 ^ 31) (hb : b < 2 ^ 31) :
    IntOp.cmpi .sle (BitVec.ofNat 32 a) (BitVec.ofNat 32 b) = if a ≤ b then 1#1 else 0#1 := by
  have h : (BitVec.ofNat 32 a).sle (BitVec.ofNat 32 b) = decide (a ≤ b) := by
    rw [BitVec.sle_eq_decide, BitVec.toInt_eq_toNat_of_lt, BitVec.toInt_eq_toNat_of_lt]
    · simp only [BitVec.toNat_ofNat, decide_eq_decide]; omega
    · simp only [BitVec.toNat_ofNat]; omega
    · simp only [BitVec.toNat_ofNat]; omega
  simp only [IntOp.cmpi, h]
  by_cases h : a ≤ b <;> simp [h]

/-- The causal mask of a block on the diagonal, the row and column numbers kept in words. -/
theorem mask (qi d off x r : ℕ) (hq : qi < 8) (hd : d < 4) (ho : off < 2048) (hx : x < 512) (hr : r < 2048)
    {α : Type} (a b : α) :
    Scalar.select
      (IntOp.cmpi CmpIPredicate.sle
        (IntOp.addi (BitVec.ofNat 32 x)
          (Scalar.muli (Scalar.addi (Scalar.muli (BitVec.ofNat 32 qi) 4#32) (BitVec.ofNat 32 d)) 512#32))
        (IntOp.addi (BitVec.ofNat 32 r) (Scalar.addi (Scalar.muli (BitVec.ofNat 32 qi) 2048#32) (BitVec.ofNat 32 off)))) a b
      = if 512 * (4 * qi + d) + x ≤ 2048 * qi + (off + r) then a else b := by
  have h1 : IntOp.addi (BitVec.ofNat 32 x)
          (Scalar.muli (Scalar.addi (Scalar.muli (BitVec.ofNat 32 qi) 4#32) (BitVec.ofNat 32 d)) 512#32)
        = BitVec.ofNat 32 (512 * (4 * qi + d) + x) := by
    simp only [IntOp.addi, Scalar.muli, Scalar.addi, IntOp.muli]
    apply BitVec.eq_of_toNat_eq; simp; omega
  have h2 : IntOp.addi (BitVec.ofNat 32 r) (Scalar.addi (Scalar.muli (BitVec.ofNat 32 qi) 2048#32) (BitVec.ofNat 32 off))
        = BitVec.ofNat 32 (2048 * qi + (off + r)) := by
    simp only [IntOp.addi, Scalar.muli, Scalar.addi, IntOp.muli]
    apply BitVec.eq_of_toNat_eq; simp; omega
  rw [h1, h2, cmpi_sle _ _ (by omega) (by omega)]
  split <;> simp [Scalar.select]

/-- The word of minus infinity. -/
theorem ofBits_bot : Ideal.ofBits FTy.f32 0xFF800000#32 = (⊥ : EReal) := by
  simp [Ideal.ofBits, Ideal.ieee]
end Cert.Attn
-- ==== Proof.PaysD.lean ====
module
public import proofs.«01_k».proof.Proof.PaysA
public import proofs.«01_k».proof.Proof.Math0
@[expose] public section
set_option maxRecDepth 16384
noncomputable section
namespace Cert.Attn
open Idealize.ShloMosaic Cert.KernelIdeal Cert.KernelIdeal.Gen

variable (Q : FVec Ideal S1x2048x192 .f32) (K : FVec Ideal S1x16384x192 .bf16) (V : FVec Ideal S1x16384x128 .bf16)

/-- The weight of key `512 b + x`, nothing where the key is after the query. -/
def mwt (B : EReal) (qi : ℕ) (r : Fin 2048) (b x : ℕ) : EReal :=
  if 512 * b + x ≤ 2048 * qi + r.val then wt Q K B r b x else 0

/-- The weighted sum of the values of block `b`, masked, in column `x`. -/
def mwv (B : EReal) (qi : ℕ) (r : Fin 2048) (b : ℕ) (x : Fin 128) : EReal :=
  ∑ k : Fin 512, mwt Q K B qi r b k.val * vRow V (512 * b + k.val) x

theorem pay45_apply (B : EReal) (qi : ℕ) (hq : qi < 8) (r : Fin 2048) (x : Fin 512) :
    k0_pay45 (F := Ideal) (BitVec.ofNat 32 qi) (k0_pay1 Q) (Scalar.muli (BitVec.ofNat 32 qi) 4#32) B (kBlk K (4 * qi)) (ix2 r x) = mwt Q K B qi r (4 * qi) x.val := by
  pointwise [k0_pay45, k0_pay1, named_scale, score, kBlk, mwt, wt, exp2_eq]
  rw [mask qi 0 0 x.val r.val hq (by omega) (by omega) x.isLt r.isLt]; simp
theorem pay48_apply (B : EReal) (qi : ℕ) (hq : qi < 8) (old : FVec Ideal S2048x128 .f32) (r : Fin 2048) (x : Fin 128) :
    k0_pay48 (k0_pay47 (F := Ideal) (BitVec.ofNat 32 qi) (k0_pay1 Q) (Scalar.muli (BitVec.ofNat 32 qi) 4#32) B (kBlk K (4 * qi)) old) (ix2 r x) = old (ix2 r x) + four (mwt Q K B qi r (4 * qi)) x.val := by
  pointwise [k0_pay48, k0_pay47, pay45_apply, four, hq]
theorem pay49_apply (B : EReal) (qi : ℕ) (hq : qi < 8) (old : FVec Ideal S2048x128 .f32) (r : Fin 2048) (x : Fin 128) :
    k0_pay49 (k0_pay46 (F := Ideal) (BitVec.ofNat 32 qi) (k0_pay1 Q) (Scalar.muli (BitVec.ofNat 32 qi) 4#32) B (kBlk K (4 * qi)) (vBlk V (4 * qi))) old (ix2 r x) = old (ix2 r x) + mwv Q K V B qi r (4 * qi) x := by
  pointwise [k0_pay49, k0_pay46, pay45_apply, mwv, vBlk, hq]
theorem pay50_apply (B : EReal) (qi : ℕ) (hq : qi < 8) (r : Fin 1536) (x : Fin 512) :
    k0_pay50 (F := Ideal) (BitVec.ofNat 32 qi) (k0_pay1 Q) (Scalar.muli (BitVec.ofNat 32 qi) 4#32) B (kBlk K (4 * qi + 1)) (ix2 r x) = mwt Q K B qi ⟨512 + r.val, by omega⟩ (4 * qi + 1) x.val := by
  pointwise [k0_pay50, k0_pay1, named_scale, score, kBlk, mwt, wt, exp2_eq]
  rw [mask qi 1 512 x.val r.val hq (by omega) (by omega) x.isLt (by omega)]
theorem pay53_apply (B : EReal) (qi : ℕ) (hq : qi < 8) (old : FVec Ideal S1536x128 .f32) (r : Fin 1536) (x : Fin 128) :
    k0_pay53 (k0_pay51 (F := Ideal) (BitVec.ofNat 32 qi) (k0_pay1 Q) (Scalar.muli (BitVec.ofNat 32 qi) 4#32) B (kBlk K (4 * qi + 1))) old (ix2 r x) = old (ix2 r x) + four (mwt Q K B qi ⟨512 + r.val, by omega⟩ (4 * qi + 1)) x.val := by
  pointwise [k0_pay53, k0_pay51, pay50_apply, four, hq]
theorem pay54_apply (B : EReal) (qi : ℕ) (hq : qi < 8) (old : FVec Ideal S1536x128 .f32) (r : Fin 1536) (x : Fin 128) :
    k0_pay54 (k0_pay52 (F := Ideal) (BitVec.ofNat 32 qi) (k0_pay1 Q) (Scalar.muli (BitVec.ofNat 32 qi) 4#32) B (kBlk K (4 * qi + 1)) (vBlk V (4 * qi + 1))) old (ix2 r x) = old (ix2 r x) + mwv Q K V B qi ⟨512 + r.val, by omega⟩ (4 * qi + 1) x := by
  pointwise [k0_pay54, k0_pay52, pay50_apply, mwv, vBlk, hq]
theorem pay56_apply (B : EReal) (qi : ℕ) (hq : qi < 8) (r : Fin 1024) (x : Fin 512) :
    k0_pay56 (F := Ideal) (BitVec.ofNat 32 qi) (k0_pay1 Q) (Scalar.muli (BitVec.ofNat 32 qi) 4#32) B (kBlk K (4 * qi + 2)) (ix2 r x) = mwt Q K B qi ⟨1024 + r.val, by omega⟩ (4 * qi + 2) x.val := by
  pointwise [k0_pay56, k0_pay1, named_scale, score, kBlk, mwt, wt, exp2_eq]
  rw [mask qi 2 1024 x.val r.val hq (by omega) (by omega) x.isLt (by omega)]
theorem pay58_apply (B : EReal) (qi : ℕ) (hq : qi < 8) (old : FVec Ideal S1024x128 .f32) (r : Fin 1024) (x : Fin 128) :
    k0_pay58 (k0_pay56 (F := Ideal) (BitVec.ofNat 32 qi) (k0_pay1 Q) (Scalar.muli (BitVec.ofNat 32 qi) 4#32) B (kBlk K (4 * qi + 2))) (k0_pay57 (F := Ideal) (BitVec.ofNat 32 qi) (k0_pay1 Q) (Scalar.muli (BitVec.ofNat 32 qi) 4#32) B (kBlk K (4 * qi + 2))) old (ix2 r x) = old (ix2 r x) + four (mwt Q K B qi ⟨1024 + r.val, by omega⟩ (4 * qi + 2)) x.val := by
  pointwise [k0_pay58, k0_pay57, pay56_apply, four, hq]
theorem pay59_apply (B : EReal) (qi : ℕ) (hq : qi < 8) (old : FVec Ideal S1024x128 .f32) (r : Fin 1024) (x : Fin 128) :
    k0_pay59 (k0_pay55 (vBlk V (4 * qi + 2))) (k0_pay56 (F := Ideal) (BitVec.ofNat 32 qi) (k0_pay1 Q) (Scalar.muli (BitVec.ofNat 32 qi) 4#32) B (kBlk K (4 * qi + 2))) old (ix2 r x) = old (ix2 r x) + mwv Q K V B qi ⟨1024 + r.val, by omega⟩ (4 * qi + 2) x := by
  pointwise [k0_pay59, k0_pay55, pay56_apply, mwv, vBlk, hq]
theorem pay2_apply (B : EReal) (qi : ℕ) (hq : qi < 8) (r : Fin 512) (x : Fin 512) :
    k0_pay2 (F := Ideal) (k0_pay61 (k0_pay1 Q) B (kBlk K (4 * qi + 3))) (k0_pay62 (BitVec.ofNat 32 qi)) (k0_pay63 (Scalar.muli (BitVec.ofNat 32 qi) 4#32)) (ix2 r x)
      = mwt Q K B qi ⟨1536 + r.val, by omega⟩ (4 * qi + 3) x.val := by
  pointwise [k0_pay2, k0_pay61, k0_pay62, k0_pay63, k0_pay1, named_scale, score, kBlk, mwt, wt, exp2_eq]
  rw [mask qi 3 1536 x.val r.val hq (by omega) (by omega) x.isLt (by omega)]
theorem pay3_apply (B : EReal) (qi : ℕ) (hq : qi < 8) (old : FVec Ideal S512x128 .f32) (r : Fin 512) (x : Fin 128) :
    k0_pay3 (F := Ideal) (k0_pay61 (k0_pay1 Q) B (kBlk K (4 * qi + 3))) (k0_pay62 (BitVec.ofNat 32 qi)) (k0_pay63 (Scalar.muli (BitVec.ofNat 32 qi) 4#32)) old (ix2 r x)
      = old (ix2 r x) + four (mwt Q K B qi ⟨1536 + r.val, by omega⟩ (4 * qi + 3)) x.val := by
  pointwise [k0_pay3, pay2_apply, four, hq]
theorem pay4_apply (B : EReal) (qi : ℕ) (hq : qi < 8) (old : FVec Ideal S512x128 .f32) (r : Fin 512) (x : Fin 128) :
    k0_pay4 (F := Ideal) (k0_pay60 (vBlk V (4 * qi + 3))) (k0_pay61 (k0_pay1 Q) B (kBlk K (4 * qi + 3))) (k0_pay62 (BitVec.ofNat 32 qi)) (k0_pay63 (Scalar.muli (BitVec.ofNat 32 qi) 4#32)) old (ix2 r x)
      = old (ix2 r x) + mwv Q K V B qi ⟨1536 + r.val, by omega⟩ (4 * qi + 3) x := by
  pointwise [k0_pay4, k0_pay60, pay2_apply, mwv, vBlk, hq]
theorem pay5_apply (l a : FVec Ideal S2048x128 .f32) (r : Fin 2048) (x : Fin 128) :
    k0_pay5 (F := Ideal) l a (ix2 r x) = Ideal.div (a (ix2 r x)) (∑ k : Fin 128, l (ix2 r k)) := by
  pointwise [k0_pay5]
end Cert.Attn
-- ==== Proof.Reads.lean ====
module
public import proofs.«01_k».proof.Proof.Score
@[expose] public section
set_option maxRecDepth 16384
noncomputable section
namespace Cert.Attn
open Idealize.ShloMosaic Cert.KernelIdeal Cert.KernelIdeal.Gen

/-- A load of 512 rows of the keys at row `512 b` is block `b` of the keys. -/
theorem readK {sp : Space} (a : Memref sig .tc sp S1x16384x192 .bf16) (x : BufTy.Contents (Elt Ideal) a.view.ty)
    (off : Fin 3 → ℕ) (inb) (b : ℕ) (h : off = ![0, 512 * b, 0]) :
    View.readAt (Elt Ideal) a.view (Rect.unit (s := S1x16384x192) off S1x512x192.size inb).toLoadRect x
      = kBlk (a.view.read (Elt Ideal) x) b := by
  subst h
  rw [View.readAt_eq_ld]
  funext j
  have h1 : 512 * b + (j 1).val < 16384 := by
    have e := inb 1; have e2 := (j 1).isLt
    change 512 * b + 512 ≤ 16384 at e
    change (j 1).val < 512 at e2
    omega
  unfold kBlk kRow
  rw [dif_pos h1]
  show a.view.read (Elt Ideal) x _ = _
  congr 1
  funext c
  apply Fin.ext
  have h0 : (j 0).val = 0 := by have e2 := (j 0).isLt; change (j 0).val < 1 at e2; omega
  fin_cases c
  · show 0 + 1 * (j 0).val = 0; omega
  · show 512 * b + 1 * (j 1).val = 512 * b + (j 1).val; omega
  · show 0 + 1 * (j 2).val = (j 2).val; omega

/-- A load of 512 rows of the values at row `512 b` is block `b` of the values. -/
theorem readV {sp : Space} (a : Memref sig .tc sp S1x16384x128 .bf16) (x : BufTy.Contents (Elt Ideal) a.view.ty)
    (off : Fin 3 → ℕ) (inb) (b : ℕ) (h : off = ![0, 512 * b, 0]) :
    View.readAt (Elt Ideal) a.view (Rect.unit (s := S1x16384x128) off S1x512x128.size inb).toLoadRect x
      = vBlk (a.view.read (Elt Ideal) x) b := by
  subst h
  rw [View.readAt_eq_ld]
  funext j
  have h1 : 512 * b + (j 1).val < 16384 := by
    have e := inb 1; have e2 := (j 1).isLt
    change 512 * b + 512 ≤ 16384 at e
    change (j 1).val < 512 at e2
    omega
  unfold vBlk vRow
  rw [dif_pos h1]
  show a.view.read (Elt Ideal) x _ = _
  congr 1
  funext c
  apply Fin.ext
  have h0 : (j 0).val = 0 := by have e2 := (j 0).isLt; change (j 0).val < 1 at e2; omega
  fin_cases c
  · show 0 + 1 * (j 0).val = 0; omega
  · show 512 * b + 1 * (j 1).val = 512 * b + (j 1).val; omega
  · show 0 + 1 * (j 2).val = (j 2).val; omega

/-- A load of the whole query tile is the tile. -/
theorem readQ {sp : Space} (a : Memref sig .tc sp S1x2048x192 .f32) (x : BufTy.Contents (Elt Ideal) a.view.ty) :
    View.readAt (Elt Ideal) a.view (Rect.unit (s := S1x2048x192) ![0, 0, 0] ![1, 2048, 192] inb_S1x2048x192_S1x2048x192_0_0_0).toLoadRect x
      = a.view.read (Elt Ideal) x := by
  rw [View.readAt_eq_ld]
  exact View.ld_unit_zero (S := S1x2048x192) (by decide) _ _

theorem off1 : ∀ (i : grid0.Coords) (k : Fin (k0_t1_loop i).trips), k0_off1 i k = ![0, 512 * (4 * k.val), 0] := by decide +kernel
theorem off2 : ∀ (i : grid0.Coords) (k : Fin (k0_t1_loop i).trips), k0_off2 i k = ![0, 512 * (4 * k.val), 0] := by decide +kernel
theorem off3 : ∀ (i : grid0.Coords) (k : Fin (k0_t1_loop i).trips) (d : Fin 4), k0_off3 i k (BitVec.ofNat 32 d.val) = ![0, 512 * (4 * k.val + d.val), 0] := by decide +kernel
theorem off4 : ∀ (i : grid0.Coords) (k : Fin (k0_t1_loop i).trips) (d : Fin 4), k0_off4 i k (BitVec.ofNat 32 d.val) = ![0, 512 * (4 * k.val + d.val), 0] := by decide +kernel
theorem off13 : ∀ (i : grid0.Coords) (d : Fin 4), k0_off13 i (BitVec.ofNat 32 d.val) = ![0, 512 * (4 * (i 1).val + d.val), 0] := by decide +kernel
theorem off14 : ∀ (i : grid0.Coords) (d : Fin 4), k0_off14 i (BitVec.ofNat 32 d.val) = ![0, 512 * (4 * (i 1).val + d.val), 0] := by decide +kernel
theorem off15 : ∀ (i : grid0.Coords) (k : Fin (k0_t5_loop i).trips), k0_off15 i k = ![0, 512 * k.val, 0] := by decide +kernel
theorem off16 : ∀ (i : grid0.Coords) (k : Fin (k0_t5_loop i).trips), k0_off16 i k = ![0, 512 * k.val, 0] := by decide +kernel
theorem off19 : ∀ (i : grid0.Coords) (d : Fin 4), k0_off19 i (BitVec.ofNat 32 d.val) = ![0, 512 * (4 * (i 1).val + d.val), 0] := by decide +kernel
theorem off20 : ∀ (i : grid0.Coords) (d : Fin 4), k0_off20 i (BitVec.ofNat 32 d.val) = ![0, 512 * (4 * (i 1).val + d.val), 0] := by decide +kernel
theorem trips1 : ∀ i : grid0.Coords, (k0_t1_loop i).trips = (i 1).val := by decide +kernel
theorem trips2 : ∀ i : grid0.Coords, (k0_t2_loop i).trips = 0 := by decide +kernel
theorem trips3 : ∀ i : grid0.Coords, (k0_t3_loop i).trips = 0 := by decide +kernel
theorem trips4 : ∀ i : grid0.Coords, (k0_t4_loop i).trips = 0 := by decide +kernel
theorem trips5 : ∀ i : grid0.Coords, (k0_t5_loop i).trips = 4 * (i 1).val := by decide +kernel
theorem trips6 : ∀ i : grid0.Coords, (k0_t6_loop i).trips = 0 := by decide +kernel
end Cert.Attn
-- ==== Proof.Bounded.lean ====
module
public import proofs.«01_k».proof.Proof.PaysD
public import proofs.«01_k».proof.Proof.Reads
@[expose] public section
set_option maxRecDepth 16384
noncomputable section
namespace Cert.Attn
open Idealize.ShloMosaic Cert.KernelIdeal Cert.KernelIdeal.Gen Cert.KernelIdeal.Body

variable (Q : FVec Ideal S1x2048x192 .f32) (K : FVec Ideal S1x16384x192 .bf16) (V : FVec Ideal S1x16384x128 .bf16)

/-- The lane sums of the weights of the first `n` blocks. -/
def lst (B : EReal) (qi n : ℕ) (r : Fin 2048) (x : Fin 128) : EReal := ∑ b ∈ Finset.range n, four (mwt Q K B qi r b) x.val

/-- The weighted sums of the values of the first `n` blocks. -/
def ast (B : EReal) (qi n : ℕ) (r : Fin 2048) (x : Fin 128) : EReal := ∑ b ∈ Finset.range n, mwv Q K V B qi r b x

theorem mwt_full (B : EReal) (qi b : ℕ) (h : b < 4 * qi) (r : Fin 2048) (x : ℕ) (hx : x < 512) :
    mwt Q K B qi r b x = wt Q K B r b x := by
  rw [mwt, if_pos]; omega

theorem four_full (B : EReal) (qi b : ℕ) (h : b < 4 * qi) (r : Fin 2048) (x : Fin 128) :
    four (mwt Q K B qi r b) x.val = four (wt Q K B r b) x.val := by
  simp only [four]
  rw [mwt_full Q K B qi b h r _ (by omega), mwt_full Q K B qi b h r _ (by omega), mwt_full Q K B qi b h r _ (by omega),
    mwt_full Q K B qi b h r _ (by omega)]

theorem mwv_full (B : EReal) (qi b : ℕ) (h : b < 4 * qi) (r : Fin 2048) (x : Fin 128) :
    mwv Q K V B qi r b x = wv Q K V B r b x := by
  simp only [mwv, wv]
  exact Finset.sum_congr rfl fun k _ => by rw [mwt_full Q K B qi b h r _ k.isLt]

theorem sum_four (f : ℕ → EReal) (n : ℕ) : ∑ b ∈ Finset.range (n + 4), f b
    = ∑ b ∈ Finset.range n, f b + (((f n + f (n + 1)) + f (n + 2)) + f (n + 3)) := by
  rw [Finset.sum_range_succ _ (n + 3), Finset.sum_range_succ _ (n + 2), Finset.sum_range_succ _ (n + 1), Finset.sum_range_succ _ n]
  generalize f n = a, f (n + 1) = b, f (n + 2) = c, f (n + 3) = d
  simp only [add_assoc]

/-- Four full blocks at once, added as the loop adds them. -/
theorem lst_four (B : EReal) (qi k : ℕ) (h : k < qi) (r : Fin 2048) (x : Fin 128) :
    lst Q K B qi (4 * (k + 1)) r x = lst Q K B qi (4 * k) r x
      + (((four (wt Q K B r (4 * k)) x.val + four (wt Q K B r (4 * k + 1)) x.val) + four (wt Q K B r (4 * k + 2)) x.val)
        + four (wt Q K B r (4 * k + 3)) x.val) := by
  rw [← four_full Q K B qi (4 * k) (by omega), ← four_full Q K B qi (4 * k + 1) (by omega),
    ← four_full Q K B qi (4 * k + 2) (by omega), ← four_full Q K B qi (4 * k + 3) (by omega)]
  exact sum_four _ _

theorem ast_four (B : EReal) (qi k : ℕ) (h : k < qi) (r : Fin 2048) (x : Fin 128) :
    ast Q K V B qi (4 * (k + 1)) r x = ast Q K V B qi (4 * k) r x
      + (((wv Q K V B r (4 * k) x + wv Q K V B r (4 * k + 1) x) + wv Q K V B r (4 * k + 2) x)
        + wv Q K V B r (4 * k + 3) x) := by
  rw [← mwv_full Q K V B qi (4 * k) (by omega), ← mwv_full Q K V B qi (4 * k + 1) (by omega),
    ← mwv_full Q K V B qi (4 * k + 2) (by omega), ← mwv_full Q K V B qi (4 * k + 3) (by omega)]
  exact sum_four _ _

theorem readWhole {sp : Space} (a : Memref sig .tc sp S2048x128 .f32) (L : List (View.Piece (Elt Ideal) S2048x128 .f32)) (inb) :
    View.readAt (Elt Ideal) a.view (Rect.unit (s := S2048x128) ![0, 0] ![2048, 128] inb).toLoadRect
      (a.view.writes (Elt Ideal) a.view.junk L) = View.canon L := by
  rw [View.readAt_writes_junk_eq_canon]
  exact View.ld_unit_zero (S := S2048x128) (by decide) _ (View.canon L)

theorem readCovWhole {sp : Space} (a : Memref sig .tc sp S2048x128 .f32) (L : List (View.Piece (Elt Ideal) S2048x128 .f32)) (inb) :
    a.view.readCov L (Rect.unit (s := S2048x128) ![0, 0] ![2048, 128] inb).toLoadRect = View.canon L := by
  rw [View.readCov_eq_canon']
  exact View.ld_unit_zero (S := S2048x128) (by decide) _ (View.canon L)

/-- A store of the rows from 512 on, over an array whose state is `g`: those rows take the stored words, the others stand. -/
theorem strip512 (w : FVec Ideal S1536x128 .f32) (L : List (View.Piece (Elt Ideal) S2048x128 .f32)) (inb)
    (g g' : Fin 2048 → Fin 128 → EReal) (hL : View.canon L = fun y => g (y 0) (y 1))
    (lo : ∀ r x, r.val < 512 → g' r x = g r x) (hi : ∀ (r : Fin 1536) x, w (ix2 r x) = g' ⟨512 + r.val, by omega⟩ x) :
    View.canon ((⟨Rect.unit (s := S2048x128) ![512, 0] ![1536, 128] inb, w⟩ : View.Piece (Elt Ideal) S2048x128 .f32) :: L)
      = fun y => g' (y 0) (y 1) := by
  funext y
  obtain ⟨r, x, rfl⟩ : ∃ (r : Fin 2048) (x : Fin 128), y = ix2 r x := ⟨y 0, y 1, ValueIdx.eq_ix2 y⟩
  show _ = g' r x
  by_cases h : r.val < 512
  · rw [View.canon_cons_of_not_mem _ _ (by
      intro hm
      have := ((Rect.mem_set_unit (inb := inb)).mp hm 0).1
      change 512 ≤ r.val at this
      omega), hL, lo r x h]
    rfl
  · have e : ix2 r x = (Rect.unit (s := S2048x128) ![512, 0] ![1536, 128] inb).emb (ix2 (⟨r.val - 512, by omega⟩ : Fin 1536) x) := by
      funext a
      apply Fin.ext
      fin_cases a
      · show r.val = 512 + 1 * (r.val - 512); omega
      · show x.val = 0 + 1 * x.val; omega
    rw [e, View.canon_cons_emb, hi]
    congr 1
    apply Fin.ext
    show 512 + (r.val - 512) = r.val
    omega

/-- A load of the rows from 512 on of an array whose state is `g`. -/
theorem read512 {sp : Space} (a : Memref sig .tc sp S2048x128 .f32) (L : List (View.Piece (Elt Ideal) S2048x128 .f32)) (inb)
    (g : Fin 2048 → Fin 128 → EReal) (hL : View.canon L = fun y => g (y 0) (y 1)) (r : Fin 1536) (x : Fin 128) :
    a.view.readCov L (Rect.unit (s := S2048x128) ![512, 0] ![1536, 128] inb).toLoadRect (ix2 r x) = g ⟨512 + r.val, by omega⟩ x := by
  rw [View.readCov_eq_canon', hL]
  have e0 : (Rect.unit (s := S2048x128) ![512, 0] ![1536, 128] inb).toLoadRect.idx (ix2 r x) 0 = (⟨512 + r.val, by omega⟩ : Fin 2048) :=
    Fin.ext (show 512 + 1 * r.val = 512 + r.val by omega)
  have e1 : (Rect.unit (s := S2048x128) ![512, 0] ![1536, 128] inb).toLoadRect.idx (ix2 r x) 1 = x :=
    Fin.ext (show 0 + 1 * x.val = x.val by omega)
  show g _ _ = _
  rw [e0, e1]

/-- A store of the rows from 1024 on, over an array whose state is `g`: those rows take the stored words, the others stand. -/
theorem strip1024 (w : FVec Ideal S1024x128 .f32) (L : List (View.Piece (Elt Ideal) S2048x128 .f32)) (inb)
    (g g' : Fin 2048 → Fin 128 → EReal) (hL : View.canon L = fun y => g (y 0) (y 1))
    (lo : ∀ r x, r.val < 1024 → g' r x = g r x) (hi : ∀ (r : Fin 1024) x, w (ix2 r x) = g' ⟨1024 + r.val, by omega⟩ x) :
    View.canon ((⟨Rect.unit (s := S2048x128) ![1024, 0] ![1024, 128] inb, w⟩ : View.Piece (Elt Ideal) S2048x128 .f32) :: L)
      = fun y => g' (y 0) (y 1) := by
  funext y
  obtain ⟨r, x, rfl⟩ : ∃ (r : Fin 2048) (x : Fin 128), y = ix2 r x := ⟨y 0, y 1, ValueIdx.eq_ix2 y⟩
  show _ = g' r x
  by_cases h : r.val < 1024
  · rw [View.canon_cons_of_not_mem _ _ (by
      intro hm
      have := ((Rect.mem_set_unit (inb := inb)).mp hm 0).1
      change 1024 ≤ r.val at this
      omega), hL, lo r x h]
    rfl
  · have e : ix2 r x = (Rect.unit (s := S2048x128) ![1024, 0] ![1024, 128] inb).emb (ix2 (⟨r.val - 1024, by omega⟩ : Fin 1024) x) := by
      funext a
      apply Fin.ext
      fin_cases a
      · show r.val = 1024 + 1 * (r.val - 1024); omega
      · show x.val = 0 + 1 * x.val; omega
    rw [e, View.canon_cons_emb, hi]
    congr 1
    apply Fin.ext
    show 1024 + (r.val - 1024) = r.val
    omega

/-- A load of the rows from 1024 on of an array whose state is `g`. -/
theorem read1024 {sp : Space} (a : Memref sig .tc sp S2048x128 .f32) (L : List (View.Piece (Elt Ideal) S2048x128 .f32)) (inb)
    (g : Fin 2048 → Fin 128 → EReal) (hL : View.canon L = fun y => g (y 0) (y 1)) (r : Fin 1024) (x : Fin 128) :
    a.view.readCov L (Rect.unit (s := S2048x128) ![1024, 0] ![1024, 128] inb).toLoadRect (ix2 r x) = g ⟨1024 + r.val, by omega⟩ x := by
  rw [View.readCov_eq_canon', hL]
  have e0 : (Rect.unit (s := S2048x128) ![1024, 0] ![1024, 128] inb).toLoadRect.idx (ix2 r x) 0 = (⟨1024 + r.val, by omega⟩ : Fin 2048) :=
    Fin.ext (show 1024 + 1 * r.val = 1024 + r.val by omega)
  have e1 : (Rect.unit (s := S2048x128) ![1024, 0] ![1024, 128] inb).toLoadRect.idx (ix2 r x) 1 = x :=
    Fin.ext (show 0 + 1 * x.val = x.val by omega)
  show g _ _ = _
  rw [e0, e1]

/-- A store of the rows from 1536 on, over an array whose state is `g`: those rows take the stored words, the others stand. -/
theorem strip1536 (w : FVec Ideal S512x128 .f32) (L : List (View.Piece (Elt Ideal) S2048x128 .f32)) (inb)
    (g g' : Fin 2048 → Fin 128 → EReal) (hL : View.canon L = fun y => g (y 0) (y 1))
    (lo : ∀ r x, r.val < 1536 → g' r x = g r x) (hi : ∀ (r : Fin 512) x, w (ix2 r x) = g' ⟨1536 + r.val, by omega⟩ x) :
    View.canon ((⟨Rect.unit (s := S2048x128) ![1536, 0] ![512, 128] inb, w⟩ : View.Piece (Elt Ideal) S2048x128 .f32) :: L)
      = fun y => g' (y 0) (y 1) := by
  funext y
  obtain ⟨r, x, rfl⟩ : ∃ (r : Fin 2048) (x : Fin 128), y = ix2 r x := ⟨y 0, y 1, ValueIdx.eq_ix2 y⟩
  show _ = g' r x
  by_cases h : r.val < 1536
  · rw [View.canon_cons_of_not_mem _ _ (by
      intro hm
      have := ((Rect.mem_set_unit (inb := inb)).mp hm 0).1
      change 1536 ≤ r.val at this
      omega), hL, lo r x h]
    rfl
  · have e : ix2 r x = (Rect.unit (s := S2048x128) ![1536, 0] ![512, 128] inb).emb (ix2 (⟨r.val - 1536, by omega⟩ : Fin 512) x) := by
      funext a
      apply Fin.ext
      fin_cases a
      · show r.val = 1536 + 1 * (r.val - 1536); omega
      · show x.val = 0 + 1 * x.val; omega
    rw [e, View.canon_cons_emb, hi]
    congr 1
    apply Fin.ext
    show 1536 + (r.val - 1536) = r.val
    omega

/-- A load of the rows from 1536 on of an array whose state is `g`. -/
theorem read1536 {sp : Space} (a : Memref sig .tc sp S2048x128 .f32) (L : List (View.Piece (Elt Ideal) S2048x128 .f32)) (inb)
    (g : Fin 2048 → Fin 128 → EReal) (hL : View.canon L = fun y => g (y 0) (y 1)) (r : Fin 512) (x : Fin 128) :
    a.view.readCov L (Rect.unit (s := S2048x128) ![1536, 0] ![512, 128] inb).toLoadRect (ix2 r x) = g ⟨1536 + r.val, by omega⟩ x := by
  rw [View.readCov_eq_canon', hL]
  have e0 : (Rect.unit (s := S2048x128) ![1536, 0] ![512, 128] inb).toLoadRect.idx (ix2 r x) 0 = (⟨1536 + r.val, by omega⟩ : Fin 2048) :=
    Fin.ext (show 1536 + 1 * r.val = 1536 + r.val by omega)
  have e1 : (Rect.unit (s := S2048x128) ![1536, 0] ![512, 128] inb).toLoadRect.idx (ix2 r x) 1 = x :=
    Fin.ext (show 0 + 1 * x.val = x.val by omega)
  show g _ _ = _
  rw [e0, e1]

/-- One more block. -/
theorem lst_succ (B : EReal) (qi n : ℕ) (r : Fin 2048) (x : Fin 128) :
    lst Q K B qi (n + 1) r x = lst Q K B qi n r x + four (mwt Q K B qi r n) x.val := Finset.sum_range_succ _ _

theorem ast_succ (B : EReal) (qi n : ℕ) (r : Fin 2048) (x : Fin 128) :
    ast Q K V B qi (n + 1) r x = ast Q K V B qi n r x + mwv Q K V B qi r n x := Finset.sum_range_succ _ _

/-- Rows above block `d` of the diagonal have no weight in it. -/
theorem mwt_above (B : EReal) (qi d : ℕ) (r : Fin 2048) (hr : r.val < 512 * d) (x : ℕ) : mwt Q K B qi r (4 * qi + d) x = 0 := by
  rw [mwt, if_neg]; omega

theorem lst_above (B : EReal) (qi d : ℕ) (r : Fin 2048) (hr : r.val < 512 * d) (x : Fin 128) :
    lst Q K B qi (4 * qi + d + 1) r x = lst Q K B qi (4 * qi + d) r x := by
  rw [lst_succ]; simp only [four, mwt_above Q K B qi d r hr, add_zero]

theorem ast_above (B : EReal) (qi d : ℕ) (r : Fin 2048) (hr : r.val < 512 * d) (x : Fin 128) :
    ast Q K V B qi (4 * qi + d + 1) r x = ast Q K V B qi (4 * qi + d) r x := by
  rw [ast_succ]; simp only [mwv, mwt_above Q K B qi d r hr, zero_mul, Finset.sum_const_zero, add_zero]

variable (c : Dev nD) (i : grid0.Coords)
  (arg2 : Memref sig .tc .smem S2 .f32) (harg2 : arg2.IsWhole) (arg3 : Memref sig .tc .vmem S1x2048x192 .f32) (harg3 : arg3.IsWhole)
  (arg4 : Memref sig .tc .vmem S1x16384x192 .bf16) (harg4 : arg4.IsWhole) (arg5 : Memref sig .tc .vmem S1x16384x128 .bf16) (harg5 : arg5.IsWhole)
  (arg6 : Memref sig .tc .vmem S2048x128 .bf16) (harg6 : arg6.IsWhole) (arg7 : Memref sig .tc .vmem S2048x128 .f32) (harg7 : arg7.IsWhole)
  (arg8 : Memref sig .tc .vmem S2048x128 .f32) (harg8 : arg8.IsWhole) (arg9 : Memref sig .tc .vmem S2048x1 .f32) (harg9 : arg9.IsWhole)
  (x4 : BufTy.Contents (Elt Ideal) arg4.view.ty) (x5 : BufTy.Contents (Elt Ideal) arg5.view.ty)
  (hK : arg4.view.read (Elt Ideal) x4 = K) (hV : arg5.view.read (Elt Ideal) x5 = V)

include hK hV in
/-- What one trip of the loop over full blocks stores into the lane sums and into the weighted sums. -/
theorem trip1 (w5 : BitVec 32) (B : EReal) (k : Fin (k0_t1_loop i).trips) (f7 f8) :
    (trip_k0_t1 (F := Ideal) Variants.none c none i arg2 harg2 arg3 harg3 arg4 harg4 arg5 harg5 arg6 harg6 arg7 harg7 arg8 harg8 arg9 harg9 (k0_pay1 Q) w5 B x4 x5 k).1 f7 f8
      = [⟨Rect.unit ![0, 0] ![2048, 128] inb_S2048x128_S2048x128_0_0,
        k0_pay35 (k0_pay15 (k0_pay1 Q) B (k0_pay8 (k0_pay1 Q) B (kBlk K (4 * k.val))) (k0_pay12 (k0_pay1 Q) B (kBlk K (4 * k.val + 1))) (kBlk K (4 * k.val + 2)))
          (k0_pay18 (k0_pay1 Q) B (kBlk K (4 * k.val + 3))) (k0_pay19 (k0_pay1 Q) B (kBlk K (4 * k.val + 3)))
          (View.readAt (Elt Ideal) arg7.view (Rect.unit ![0, 0] ![2048, 128] inb_S2048x128_S2048x128_0_0).toLoadRect f7)⟩]
    ∧ (trip_k0_t1 (F := Ideal) Variants.none c none i arg2 harg2 arg3 harg3 arg4 harg4 arg5 harg5 arg6 harg6 arg7 harg7 arg8 harg8 arg9 harg9 (k0_pay1 Q) w5 B x4 x5 k).2.1 f7 f8
      = [⟨Rect.unit ![0, 0] ![2048, 128] inb_S2048x128_S2048x128_0_0,
        k0_pay36 (k0_pay16 (k0_pay1 Q) B (k0_pay9 (k0_pay1 Q) B (kBlk K (4 * k.val)) (vBlk V (4 * k.val))) (k0_pay10 (vBlk V (4 * k.val + 1)))
            (k0_pay13 (k0_pay1 Q) B (kBlk K (4 * k.val + 1))) (constant S2048x128 .f32 0x00000000#32) (kBlk K (4 * k.val + 2)) (vBlk V (4 * k.val + 2)))
          (k0_pay17 (vBlk V (4 * k.val + 3))) (k0_pay18 (k0_pay1 Q) B (kBlk K (4 * k.val + 3)))
          (View.readAt (Elt Ideal) arg8.view (Rect.unit ![0, 0] ![2048, 128] inb_S2048x128_S2048x128_0_0).toLoadRect f8)⟩] := by
  have k0 := fun inb => (readK arg4 x4 (k0_off1 i k) inb (4 * k.val) (off1 i k)).trans (congrArg (kBlk · (4 * k.val)) hK)
  have k1 := fun inb => (readK arg4 x4 (k0_off3 i k 1#32) inb (4 * k.val + 1) (off3 i k 1)).trans (congrArg (kBlk · (4 * k.val + 1)) hK)
  have k2 := fun inb => (readK arg4 x4 (k0_off3 i k 2#32) inb (4 * k.val + 2) (off3 i k 2)).trans (congrArg (kBlk · (4 * k.val + 2)) hK)
  have k3 := fun inb => (readK arg4 x4 (k0_off3 i k 3#32) inb (4 * k.val + 3) (off3 i k 3)).trans (congrArg (kBlk · (4 * k.val + 3)) hK)
  have v0 := fun inb => (readV arg5 x5 (k0_off2 i k) inb (4 * k.val) (off2 i k)).trans (congrArg (vBlk · (4 * k.val)) hV)
  have v1 := fun inb => (readV arg5 x5 (k0_off4 i k 1#32) inb (4 * k.val + 1) (off4 i k 1)).trans (congrArg (vBlk · (4 * k.val + 1)) hV)
  have v2 := fun inb => (readV arg5 x5 (k0_off4 i k 2#32) inb (4 * k.val + 2) (off4 i k 2)).trans (congrArg (vBlk · (4 * k.val + 2)) hV)
  have v3 := fun inb => (readV arg5 x5 (k0_off4 i k 3#32) inb (4 * k.val + 3) (off4 i k 3)).trans (congrArg (vBlk · (4 * k.val + 3)) hV)
  rw [← k0 (k0_off1_inb i k), ← k1 (k0_off3_inb i k 0), ← k2 (k0_off3_inb i k 1), ← k3 (k0_off3_inb i k 2),
    ← v0 (k0_off2_inb i k), ← v1 (k0_off4_inb i k 0), ← v2 (k0_off4_inb i k 1), ← v3 (k0_off4_inb i k 2)]
  unfold trip_k0_t1
  exact ⟨rfl, rfl⟩

variable (L7 L8 : List (View.Piece (Elt Ideal) S2048x128 .f32))

include hK hV in
/-- Before trip `k` of the loop over full blocks, the two accumulators hold the sums over the first `4 k` blocks. -/
theorem loop1 (w5 : BitVec 32) (B : EReal) (h7 : View.canon L7 = fun y => lst Q K B (i 1).val 0 (y 0) (y 1))
    (h8 : View.canon L8 = fun y => ast Q K V B (i 1).val 0 (y 0) (y 1)) : ∀ k, k ≤ (i 1).val →
    View.canon ((pb_k0_t1 (F := Ideal) Variants.none c none i arg2 harg2 arg3 harg3 arg4 harg4 arg5 harg5 arg6 harg6 arg7 harg7 arg8 harg8 arg9 harg9 (k0_pay1 Q) w5 B x4 x5
      (arg7.view.writes (Elt Ideal) arg7.view.junk L7) (arg8.view.writes (Elt Ideal) arg8.view.junk L8) k).1 ++ L7)
        = (fun y => lst Q K B (i 1).val (4 * k) (y 0) (y 1))
    ∧ View.canon ((pb_k0_t1 (F := Ideal) Variants.none c none i arg2 harg2 arg3 harg3 arg4 harg4 arg5 harg5 arg6 harg6 arg7 harg7 arg8 harg8 arg9 harg9 (k0_pay1 Q) w5 B x4 x5
      (arg7.view.writes (Elt Ideal) arg7.view.junk L7) (arg8.view.writes (Elt Ideal) arg8.view.junk L8) k).2 ++ L8)
        = (fun y => ast Q K V B (i 1).val (4 * k) (y 0) (y 1)) := by
  intro k
  induction k with
  | zero => intro _; exact ⟨h7, h8⟩
  | succ k ih =>
    intro hk
    obtain ⟨i7, i8⟩ := ih (by omega)
    have hk' : k < (k0_t1_loop i).trips := by rw [trips1]; omega
    have e := pb_k0_t1_succ (F := Ideal) Variants.none c none i arg2 harg2 arg3 harg3 arg4 harg4 arg5 harg5 arg6 harg6 arg7 harg7 arg8 harg8 arg9 harg9 (k0_pay1 Q) w5 B x4 x5
      (arg7.view.writes (Elt Ideal) arg7.view.junk L7) (arg8.view.writes (Elt Ideal) arg8.view.junk L8) ⟨k, hk'⟩
    dsimp only at e
    rw [e]
    dsimp only [tripL_k0_t1]
    rw [(trip1 Q K V c i arg2 harg2 arg3 harg3 arg4 harg4 arg5 harg5 arg6 harg6 arg7 harg7 arg8 harg8 arg9 harg9 x4 x5 hK hV w5 B ⟨k, hk'⟩ _ _).1, (trip1 Q K V c i arg2 harg2 arg3 harg3 arg4 harg4 arg5 harg5 arg6 harg6 arg7 harg7 arg8 harg8 arg9 harg9 x4 x5 hK hV w5 B ⟨k, hk'⟩ _ _).2]
    rw [← View.writes_append, ← View.writes_append, readWhole, readWhole, i7, i8]
    simp only [List.cons_append, List.nil_append]
    constructor
    · rw [View.canon_cons_unit_zero (S := S2048x128) (by decide)]
      funext y
      obtain ⟨r, x, rfl⟩ : ∃ (r : Fin 2048) (x : Fin 128), y = ix2 r x := ⟨y 0, y 1, ValueIdx.eq_ix2 y⟩
      rw [pay35_apply]
      exact (lst_four Q K B (i 1).val k (by omega) r x).symm
    · rw [View.canon_cons_unit_zero (S := S2048x128) (by decide)]
      funext y
      obtain ⟨r, x, rfl⟩ : ∃ (r : Fin 2048) (x : Fin 128), y = ix2 r x := ⟨y 0, y 1, ValueIdx.eq_ix2 y⟩
      rw [pay36_apply]
      exact (ast_four Q K V B (i 1).val k (by omega) r x).symm

variable (x2 : BufTy.Contents (Elt Ideal) arg2.view.ty) (x3 : BufTy.Contents (Elt Ideal) arg3.view.ty)
  (hQ : arg3.view.read (Elt Ideal) x3 = Q)

/-- The bound of the query tile, the first of the two prepared words. -/
abbrev bound : EReal := runA.sl.r_1 (F := Ideal) arg2 x2

include hK hV hQ in
theorem tail7 : View.canon
    ((pb_k0_t1 (F := Ideal) Variants.none c none i arg2 harg2 arg3 harg3 arg4 harg4 arg5 harg5 arg6 harg6 arg7 harg7 arg8 harg8 arg9 harg9 (k0_pay1 (View.readAt (Elt Ideal) arg3.view (Rect.unit (s := S1x2048x192) ![0, 0, 0] ![1, 2048, 192] inb_S1x2048x192_S1x2048x192_0_0_0).toLoadRect x3)) (Scalar.muli (BitVec.ofNat 32 (i 1).val) 4#32) (runA.sl.r_1 (F := Ideal) arg2 x2) x4 x5
      (arg7.view.writes (Elt Ideal) arg7.view.junk runA.sl.H7_1) (arg8.view.writes (Elt Ideal) arg8.view.junk runA.sl.H8_1)
      (Scf.trips (k0_t1_loop i).lb (k0_t1_loop i).ub (k0_t1_loop i).st)).1 ++ runA.sl.H7_1)
      = (fun y => lst Q K (bound arg2 x2) (i 1).val (4 * (i 1).val) (y 0) (y 1))
    ∧ View.canon
    ((pb_k0_t1 (F := Ideal) Variants.none c none i arg2 harg2 arg3 harg3 arg4 harg4 arg5 harg5 arg6 harg6 arg7 harg7 arg8 harg8 arg9 harg9 (k0_pay1 (View.readAt (Elt Ideal) arg3.view (Rect.unit (s := S1x2048x192) ![0, 0, 0] ![1, 2048, 192] inb_S1x2048x192_S1x2048x192_0_0_0).toLoadRect x3)) (Scalar.muli (BitVec.ofNat 32 (i 1).val) 4#32) (runA.sl.r_1 (F := Ideal) arg2 x2) x4 x5
      (arg7.view.writes (Elt Ideal) arg7.view.junk runA.sl.H7_1) (arg8.view.writes (Elt Ideal) arg8.view.junk runA.sl.H8_1)
      (Scf.trips (k0_t1_loop i).lb (k0_t1_loop i).ub (k0_t1_loop i).st)).2 ++ runA.sl.H8_1)
      = (fun y => ast Q K V (bound arg2 x2) (i 1).val (4 * (i 1).val) (y 0) (y 1)) := by
  have z : Scf.trips (k0_t1_loop i).lb (k0_t1_loop i).ub (k0_t1_loop i).st = (i 1).val := trips1 i
  rw [z, readQ, hQ]
  refine loop1 Q K V c i arg2 harg2 arg3 harg3 arg4 harg4 arg5 harg5 arg6 harg6 arg7 harg7 arg8 harg8 arg9 harg9 x4 x5 hK hV runA.sl.H7_1 runA.sl.H8_1 _ _ ?_ ?_ (i 1).val le_rfl
  · unfold runA.sl.H7_1
    rw [View.canon_cons_unit_zero (S := S2048x128) (by decide)]
    funext y
    obtain ⟨r, x, rfl⟩ : ∃ (r : Fin 2048) (x : Fin 128), y = ix2 r x := ⟨y 0, y 1, ValueIdx.eq_ix2 y⟩
    pointwise [k0_pay33, lst]
    exact (Finset.sum_range_zero _).symm
  · unfold runA.sl.H8_1
    rw [View.canon_cons_unit_zero (S := S2048x128) (by decide)]
    funext y
    obtain ⟨r, x, rfl⟩ : ∃ (r : Fin 2048) (x : Fin 128), y = ix2 r x := ⟨y 0, y 1, ValueIdx.eq_ix2 y⟩
    pointwise [k0_pay34, ast]
    exact (Finset.sum_range_zero _).symm

theorem read7 : runA.sl.v85 (F := Ideal) c i arg2 harg2 arg3 harg3 arg4 harg4 arg5 harg5 arg6 harg6 arg7 harg7 arg8 harg8 arg9 harg9 x2 x3 x4 x5 = arg7.view.readCov
    ((pb_k0_t1 (F := Ideal) Variants.none c none i arg2 harg2 arg3 harg3 arg4 harg4 arg5 harg5 arg6 harg6 arg7 harg7 arg8 harg8 arg9 harg9 (k0_pay1 (View.readAt (Elt Ideal) arg3.view (Rect.unit (s := S1x2048x192) ![0, 0, 0] ![1, 2048, 192] inb_S1x2048x192_S1x2048x192_0_0_0).toLoadRect x3)) (Scalar.muli (BitVec.ofNat 32 (i 1).val) 4#32) (runA.sl.r_1 (F := Ideal) arg2 x2) x4 x5
      (arg7.view.writes (Elt Ideal) arg7.view.junk runA.sl.H7_1) (arg8.view.writes (Elt Ideal) arg8.view.junk runA.sl.H8_1)
      (Scf.trips (k0_t1_loop i).lb (k0_t1_loop i).ub (k0_t1_loop i).st)).1 ++ runA.sl.H7_1)
      (Rect.unit (s := S2048x128) ![0, 0] S2048x128.size inb_S2048x128_S2048x128_0_0).toLoadRect := by
  have z2 : Scf.trips (k0_t2_loop i).lb (k0_t2_loop i).ub (k0_t2_loop i).st = 0 := trips2 i
  have z3 : Scf.trips (k0_t3_loop i).lb (k0_t3_loop i).ub (k0_t3_loop i).st = 0 := trips3 i
  have z4 : Scf.trips (k0_t4_loop i).lb (k0_t4_loop i).ub (k0_t4_loop i).st = 0 := trips4 i
  unfold runA.sl.v85
  rw [z2, z3, z4]
  rfl

theorem read8 : runA.sl.v90 (F := Ideal) c i arg2 harg2 arg3 harg3 arg4 harg4 arg5 harg5 arg6 harg6 arg7 harg7 arg8 harg8 arg9 harg9 x2 x3 x4 x5 = arg8.view.readCov
    ((pb_k0_t1 (F := Ideal) Variants.none c none i arg2 harg2 arg3 harg3 arg4 harg4 arg5 harg5 arg6 harg6 arg7 harg7 arg8 harg8 arg9 harg9 (k0_pay1 (View.readAt (Elt Ideal) arg3.view (Rect.unit (s := S1x2048x192) ![0, 0, 0] ![1, 2048, 192] inb_S1x2048x192_S1x2048x192_0_0_0).toLoadRect x3)) (Scalar.muli (BitVec.ofNat 32 (i 1).val) 4#32) (runA.sl.r_1 (F := Ideal) arg2 x2) x4 x5
      (arg7.view.writes (Elt Ideal) arg7.view.junk runA.sl.H7_1) (arg8.view.writes (Elt Ideal) arg8.view.junk runA.sl.H8_1)
      (Scf.trips (k0_t1_loop i).lb (k0_t1_loop i).ub (k0_t1_loop i).st)).2 ++ runA.sl.H8_1)
      (Rect.unit (s := S2048x128) ![0, 0] S2048x128.size inb_S2048x128_S2048x128_0_0).toLoadRect := by
  have z2 : Scf.trips (k0_t2_loop i).lb (k0_t2_loop i).ub (k0_t2_loop i).st = 0 := trips2 i
  have z3 : Scf.trips (k0_t3_loop i).lb (k0_t3_loop i).ub (k0_t3_loop i).st = 0 := trips3 i
  have z4 : Scf.trips (k0_t4_loop i).lb (k0_t4_loop i).ub (k0_t4_loop i).st = 0 := trips4 i
  unfold runA.sl.v90
  rw [z2, z3, z4]
  rfl

theorem blkK0 (inb) : View.readAt (Elt Ideal) arg4.view (Rect.unit (s := S1x16384x192) (k0_off13 i 0#32) S1x512x192.size inb).toLoadRect x4
    = kBlk (arg4.view.read (Elt Ideal) x4) (4 * (i 1).val) := readK arg4 x4 _ inb _ (off13 i 0)

theorem blkV0 (inb) : View.readAt (Elt Ideal) arg5.view (Rect.unit (s := S1x16384x128) (k0_off14 i 0#32) S1x512x128.size inb).toLoadRect x5
    = vBlk (arg5.view.read (Elt Ideal) x5) (4 * (i 1).val) := readV arg5 x5 _ inb _ (off14 i 0)

theorem blkK1 (inb) : View.readAt (Elt Ideal) arg4.view (Rect.unit (s := S1x16384x192) (k0_off13 i 1#32) S1x512x192.size inb).toLoadRect x4
    = kBlk (arg4.view.read (Elt Ideal) x4) (4 * (i 1).val + 1) := readK arg4 x4 _ inb _ (off13 i 1)

theorem blkV1 (inb) : View.readAt (Elt Ideal) arg5.view (Rect.unit (s := S1x16384x128) (k0_off14 i 1#32) S1x512x128.size inb).toLoadRect x5
    = vBlk (arg5.view.read (Elt Ideal) x5) (4 * (i 1).val + 1) := readV arg5 x5 _ inb _ (off14 i 1)

theorem blkK2 (inb) : View.readAt (Elt Ideal) arg4.view (Rect.unit (s := S1x16384x192) (k0_off13 i 2#32) S1x512x192.size inb).toLoadRect x4
    = kBlk (arg4.view.read (Elt Ideal) x4) (4 * (i 1).val + 2) := readK arg4 x4 _ inb _ (off13 i 2)

theorem blkV2 (inb) : View.readAt (Elt Ideal) arg5.view (Rect.unit (s := S1x16384x128) (k0_off14 i 2#32) S1x512x128.size inb).toLoadRect x5
    = vBlk (arg5.view.read (Elt Ideal) x5) (4 * (i 1).val + 2) := readV arg5 x5 _ inb _ (off14 i 2)

theorem blkK3 (inb) : View.readAt (Elt Ideal) arg4.view (Rect.unit (s := S1x16384x192) (k0_off13 i 3#32) S1x512x192.size inb).toLoadRect x4
    = kBlk (arg4.view.read (Elt Ideal) x4) (4 * (i 1).val + 3) := readK arg4 x4 _ inb _ (off13 i 3)

theorem blkV3 (inb) : View.readAt (Elt Ideal) arg5.view (Rect.unit (s := S1x16384x128) (k0_off14 i 3#32) S1x512x128.size inb).toLoadRect x5
    = vBlk (arg5.view.read (Elt Ideal) x5) (4 * (i 1).val + 3) := readV arg5 x5 _ inb _ (off14 i 3)

include hK hV hQ in
theorem st7_1 (hq : (i 1).val < 8) : View.canon (runA.sl.H7_1_1 (F := Ideal) c i arg2 harg2 arg3 harg3 arg4 harg4 arg5 harg5 arg6 harg6 arg7 harg7 arg8 harg8 arg9 harg9 x2 x3 x4 x5) = fun y => lst Q K (bound arg2 x2) (i 1).val (4 * (i 1).val + 1) (y 0) (y 1) := by
  unfold runA.sl.H7_1_1
  rw [View.canon_cons_unit_zero (S := S2048x128) (by decide)]
  unfold runA.sl.r_3
  have ek := fun inb => blkK0 i arg4 x4 inb
  rw [hK] at ek
  rw [readQ, hQ, read7, ek]
  erw [readCovWhole]
  rw [(tail7 Q K V c i arg2 harg2 arg3 harg3 arg4 harg4 arg5 harg5 arg6 harg6 arg7 harg7 arg8 harg8 arg9 harg9 x4 x5 hK hV x2 x3 hQ).1]
  funext y
  obtain ⟨r, x, rfl⟩ : ∃ (r : Fin 2048) (x : Fin 128), y = ix2 r x := ⟨y 0, y 1, ValueIdx.eq_ix2 y⟩
  exact (pay48_apply Q K (bound arg2 x2) (i 1).val hq _ r x).trans (lst_succ Q K (bound arg2 x2) (i 1).val (4 * (i 1).val) r x).symm

include hK hV hQ in
theorem st8_1 (hq : (i 1).val < 8) : View.canon (runA.sl.H8_1_1 (F := Ideal) c i arg2 harg2 arg3 harg3 arg4 harg4 arg5 harg5 arg6 harg6 arg7 harg7 arg8 harg8 arg9 harg9 x2 x3 x4 x5) = fun y => ast Q K V (bound arg2 x2) (i 1).val (4 * (i 1).val + 1) (y 0) (y 1) := by
  unfold runA.sl.H8_1_1
  rw [View.canon_cons_unit_zero (S := S2048x128) (by decide)]
  unfold runA.sl.r_2
  have ek := fun inb => blkK0 i arg4 x4 inb
  have ev := fun inb => blkV0 i arg5 x5 inb
  rw [hK] at ek
  rw [hV] at ev
  rw [readQ, hQ, read8, ek, ev]
  erw [readCovWhole]
  rw [(tail7 Q K V c i arg2 harg2 arg3 harg3 arg4 harg4 arg5 harg5 arg6 harg6 arg7 harg7 arg8 harg8 arg9 harg9 x4 x5 hK hV x2 x3 hQ).2]
  funext y
  obtain ⟨r, x, rfl⟩ : ∃ (r : Fin 2048) (x : Fin 128), y = ix2 r x := ⟨y 0, y 1, ValueIdx.eq_ix2 y⟩
  exact (pay49_apply Q K V (bound arg2 x2) (i 1).val hq _ r x).trans (ast_succ Q K V (bound arg2 x2) (i 1).val (4 * (i 1).val) r x).symm

include hK hV hQ in
theorem st7_2 (hq : (i 1).val < 8) : View.canon (runA.sl.H7_2 (F := Ideal) c i arg2 harg2 arg3 harg3 arg4 harg4 arg5 harg5 arg6 harg6 arg7 harg7 arg8 harg8 arg9 harg9 x2 x3 x4 x5) = fun y => lst Q K (bound arg2 x2) (i 1).val (4 * (i 1).val + 2) (y 0) (y 1) := by
  unfold runA.sl.H7_2
  refine strip512 _ _ _ _ _ (st7_1 Q K V c i arg2 harg2 arg3 harg3 arg4 harg4 arg5 harg5 arg6 harg6 arg7 harg7 arg8 harg8 arg9 harg9 x4 x5 hK hV x2 x3 hQ hq) (fun r x h => lst_above Q K (bound arg2 x2) (i 1).val 1 r (by omega) x) fun r x => ?_
  have ek := fun inb => blkK1 i arg4 x4 inb
  have ev := fun inb => blkV1 i arg5 x5 inb
  rw [hK] at ek
  rw [hV] at ev
  unfold runA.sl.r_4
  rw [readQ, hQ, ek]
  refine (pay53_apply Q K (bound arg2 x2) (i 1).val hq _ r x).trans ?_
  unfold runA.sl.v130
  erw [read512 _ _ _ _ (st7_1 Q K V c i arg2 harg2 arg3 harg3 arg4 harg4 arg5 harg5 arg6 harg6 arg7 harg7 arg8 harg8 arg9 harg9 x4 x5 hK hV x2 x3 hQ hq)]
  exact (lst_succ Q K (bound arg2 x2) (i 1).val (4 * (i 1).val + 1) ⟨512 + r.val, by omega⟩ x).symm

include hK hV hQ in
theorem st8_2 (hq : (i 1).val < 8) : View.canon (runA.sl.H8_2 (F := Ideal) c i arg2 harg2 arg3 harg3 arg4 harg4 arg5 harg5 arg6 harg6 arg7 harg7 arg8 harg8 arg9 harg9 x2 x3 x4 x5) = fun y => ast Q K V (bound arg2 x2) (i 1).val (4 * (i 1).val + 2) (y 0) (y 1) := by
  unfold runA.sl.H8_2
  refine strip512 _ _ _ _ _ (st8_1 Q K V c i arg2 harg2 arg3 harg3 arg4 harg4 arg5 harg5 arg6 harg6 arg7 harg7 arg8 harg8 arg9 harg9 x4 x5 hK hV x2 x3 hQ hq) (fun r x h => ast_above Q K V (bound arg2 x2) (i 1).val 1 r (by omega) x) fun r x => ?_
  have ek := fun inb => blkK1 i arg4 x4 inb
  have ev := fun inb => blkV1 i arg5 x5 inb
  rw [hK] at ek
  rw [hV] at ev
  unfold runA.sl.r_5
  rw [readQ, hQ, ek, ev]
  refine (pay54_apply Q K V (bound arg2 x2) (i 1).val hq _ r x).trans ?_
  unfold runA.sl.v135
  erw [read512 _ _ _ _ (st8_1 Q K V c i arg2 harg2 arg3 harg3 arg4 harg4 arg5 harg5 arg6 harg6 arg7 harg7 arg8 harg8 arg9 harg9 x4 x5 hK hV x2 x3 hQ hq)]
  exact (ast_succ Q K V (bound arg2 x2) (i 1).val (4 * (i 1).val + 1) ⟨512 + r.val, by omega⟩ x).symm

include hK hV hQ in
theorem st7_3 (hq : (i 1).val < 8) : View.canon (runA.sl.H7_3 (F := Ideal) c i arg2 harg2 arg3 harg3 arg4 harg4 arg5 harg5 arg6 harg6 arg7 harg7 arg8 harg8 arg9 harg9 x2 x3 x4 x5) = fun y => lst Q K (bound arg2 x2) (i 1).val (4 * (i 1).val + 3) (y 0) (y 1) := by
  unfold runA.sl.H7_3
  refine strip1024 _ _ _ _ _ (st7_2 Q K V c i arg2 harg2 arg3 harg3 arg4 harg4 arg5 harg5 arg6 harg6 arg7 harg7 arg8 harg8 arg9 harg9 x4 x5 hK hV x2 x3 hQ hq) (fun r x h => lst_above Q K (bound arg2 x2) (i 1).val 2 r (by omega) x) fun r x => ?_
  have ek := fun inb => blkK2 i arg4 x4 inb
  have ev := fun inb => blkV2 i arg5 x5 inb
  rw [hK] at ek
  rw [hV] at ev
  unfold runA.sl.r_7; unfold runA.sl.r_8
  rw [readQ, hQ, ek]
  refine (pay58_apply Q K (bound arg2 x2) (i 1).val hq _ r x).trans ?_
  unfold runA.sl.v175
  erw [read1024 _ _ _ _ (st7_2 Q K V c i arg2 harg2 arg3 harg3 arg4 harg4 arg5 harg5 arg6 harg6 arg7 harg7 arg8 harg8 arg9 harg9 x4 x5 hK hV x2 x3 hQ hq)]
  exact (lst_succ Q K (bound arg2 x2) (i 1).val (4 * (i 1).val + 2) ⟨1024 + r.val, by omega⟩ x).symm

include hK hV hQ in
theorem st8_3 (hq : (i 1).val < 8) : View.canon (runA.sl.H8_3 (F := Ideal) c i arg2 harg2 arg3 harg3 arg4 harg4 arg5 harg5 arg6 harg6 arg7 harg7 arg8 harg8 arg9 harg9 x2 x3 x4 x5) = fun y => ast Q K V (bound arg2 x2) (i 1).val (4 * (i 1).val + 3) (y 0) (y 1) := by
  unfold runA.sl.H8_3
  refine strip1024 _ _ _ _ _ (st8_2 Q K V c i arg2 harg2 arg3 harg3 arg4 harg4 arg5 harg5 arg6 harg6 arg7 harg7 arg8 harg8 arg9 harg9 x4 x5 hK hV x2 x3 hQ hq) (fun r x h => ast_above Q K V (bound arg2 x2) (i 1).val 2 r (by omega) x) fun r x => ?_
  have ek := fun inb => blkK2 i arg4 x4 inb
  have ev := fun inb => blkV2 i arg5 x5 inb
  rw [hK] at ek
  rw [hV] at ev
  unfold runA.sl.r_6; unfold runA.sl.r_7
  rw [readQ, hQ, ek, ev]
  refine (pay59_apply Q K V (bound arg2 x2) (i 1).val hq _ r x).trans ?_
  unfold runA.sl.v180
  erw [read1024 _ _ _ _ (st8_2 Q K V c i arg2 harg2 arg3 harg3 arg4 harg4 arg5 harg5 arg6 harg6 arg7 harg7 arg8 harg8 arg9 harg9 x4 x5 hK hV x2 x3 hQ hq)]
  exact (ast_succ Q K V (bound arg2 x2) (i 1).val (4 * (i 1).val + 2) ⟨1024 + r.val, by omega⟩ x).symm

include hK hV hQ in
theorem st7_4 (hq : (i 1).val < 8) : View.canon (runA.sl.H7_4 (F := Ideal) c i arg2 harg2 arg3 harg3 arg4 harg4 arg5 harg5 arg6 harg6 arg7 harg7 arg8 harg8 arg9 harg9 x2 x3 x4 x5) = fun y => lst Q K (bound arg2 x2) (i 1).val (4 * (i 1).val + 4) (y 0) (y 1) := by
  unfold runA.sl.H7_4
  refine strip1536 _ _ _ _ _ (st7_3 Q K V c i arg2 harg2 arg3 harg3 arg4 harg4 arg5 harg5 arg6 harg6 arg7 harg7 arg8 harg8 arg9 harg9 x4 x5 hK hV x2 x3 hQ hq) (fun r x h => lst_above Q K (bound arg2 x2) (i 1).val 3 r (by omega) x) fun r x => ?_
  have ek := fun inb => blkK3 i arg4 x4 inb
  have ev := fun inb => blkV3 i arg5 x5 inb
  rw [hK] at ek
  rw [hV] at ev
  unfold runA.sl.r_10; unfold runA.sl.r_11; unfold runA.sl.r_12
  rw [readQ, hQ, ek]
  refine (pay3_apply Q K (bound arg2 x2) (i 1).val hq _ r x).trans ?_
  unfold runA.sl.v220
  erw [read1536 _ _ _ _ (st7_3 Q K V c i arg2 harg2 arg3 harg3 arg4 harg4 arg5 harg5 arg6 harg6 arg7 harg7 arg8 harg8 arg9 harg9 x4 x5 hK hV x2 x3 hQ hq)]
  exact (lst_succ Q K (bound arg2 x2) (i 1).val (4 * (i 1).val + 3) ⟨1536 + r.val, by omega⟩ x).symm

include hK hV hQ in
theorem st8_4 (hq : (i 1).val < 8) : View.canon (runA.sl.H8_4 (F := Ideal) c i arg2 harg2 arg3 harg3 arg4 harg4 arg5 harg5 arg6 harg6 arg7 harg7 arg8 harg8 arg9 harg9 x2 x3 x4 x5) = fun y => ast Q K V (bound arg2 x2) (i 1).val (4 * (i 1).val + 4) (y 0) (y 1) := by
  unfold runA.sl.H8_4
  refine strip1536 _ _ _ _ _ (st8_3 Q K V c i arg2 harg2 arg3 harg3 arg4 harg4 arg5 harg5 arg6 harg6 arg7 harg7 arg8 harg8 arg9 harg9 x4 x5 hK hV x2 x3 hQ hq) (fun r x h => ast_above Q K V (bound arg2 x2) (i 1).val 3 r (by omega) x) fun r x => ?_
  have ek := fun inb => blkK3 i arg4 x4 inb
  have ev := fun inb => blkV3 i arg5 x5 inb
  rw [hK] at ek
  rw [hV] at ev
  unfold runA.sl.r_9; unfold runA.sl.r_10; unfold runA.sl.r_11; unfold runA.sl.r_12
  rw [readQ, hQ, ek, ev]
  refine (pay4_apply Q K V (bound arg2 x2) (i 1).val hq _ r x).trans ?_
  unfold runA.sl.v225
  erw [read1536 _ _ _ _ (st8_3 Q K V c i arg2 harg2 arg3 harg3 arg4 harg4 arg5 harg5 arg6 harg6 arg7 harg7 arg8 harg8 arg9 harg9 x4 x5 hK hV x2 x3 hQ hq)]
  exact (ast_succ Q K V (bound arg2 x2) (i 1).val (4 * (i 1).val + 3) ⟨1536 + r.val, by omega⟩ x).symm

include hK hV hQ in
/-- What the branch that divides by a bounded exponential leaves in the output tile. -/
theorem out (hq : (i 1).val < 8) (x6 x7 x8 x9 hc1 hc2) (r : Fin 2048) (x : Fin 128) :
    View.canon (runA (F := Ideal) c i arg2 harg2 arg3 harg3 arg4 harg4 arg5 harg5 arg6 harg6 arg7 harg7 arg8 harg8 arg9 harg9 x2 x3 x4 x5 x6 x7 x8 x9 hc1 hc2).1 (ix2 r x)
      = Ideal.div (ast Q K V (bound arg2 x2) (i 1).val (4 * (i 1).val + 4) r x) (∑ l : Fin 128, lst Q K (bound arg2 x2) (i 1).val (4 * (i 1).val + 4) r l) := by
  unfold runA
  dsimp only
  rw [View.canon_cons_unit_zero (S := S2048x128) (by decide)]
  rw [pay5_apply]
  unfold runA.sl.v230 runA.sl.v233
  rw [readCovWhole, readCovWhole, st7_4 Q K V c i arg2 harg2 arg3 harg3 arg4 harg4 arg5 harg5 arg6 harg6 arg7 harg7 arg8 harg8 arg9 harg9 x4 x5 hK hV x2 x3 hQ hq, st8_4 Q K V c i arg2 harg2 arg3 harg3 arg4 harg4 arg5 harg5 arg6 harg6 arg7 harg7 arg8 harg8 arg9 harg9 x4 x5 hK hV x2 x3 hQ hq]
  rfl
end Cert.Attn
-- ==== Proof.PaysB.lean ====
module
public import proofs.«01_k».proof.Proof.PaysA
public import proofs.«01_k».proof.Proof.Math0
@[expose] public section
set_option maxRecDepth 16384
noncomputable section
namespace Cert.Attn
open Idealize.ShloMosaic Cert.KernelIdeal Cert.KernelIdeal.Gen

variable (Q : FVec Ideal S1x2048x192 .f32) (K : FVec Ideal S1x16384x192 .bf16) (V : FVec Ideal S1x16384x128 .bf16)

/-- The scores of one tile with one block of keys, as the kernel computes them. -/
def tile (q : FVec Ideal S2048x192 .bf16) (k : FVec Ideal S1x512x192 .bf16) : FVec Ideal S2048x512 .f32 := k0_pay64 q k

/-- The scores of a block on the diagonal, minus infinity where the key is after the query. -/
def mtile (qi d : ℕ) (q : FVec Ideal S2048x192 .bf16) (k : FVec Ideal S1x512x192 .bf16) : FVec Ideal S2048x512 .f32 :=
  k0_pay84 (F := Ideal) (Scalar.addi (Scalar.muli (BitVec.ofNat 32 qi) 4#32) (BitVec.ofNat 32 d)) (k0_pay82 q k) (k0_pay83 (BitVec.ofNat 32 qi))

/-- The running maximum after a block of scores. -/
def nMax (S : FVec Ideal S2048x512 .f32) (m : FVec Ideal S2048x1 .f32) : FVec Ideal S2048x1 .f32 :=
  maximumf m (shapeCast S2048x1 (multiReduction .maximumf [1] S2048 S 0xFF800000#32 reduces_S2048x512_S2048 (.inl rfl) rfl) shapeCasts_S2048_S2048x1)

/-- The block's weights against the new maximum. -/
def nP (S : FVec Ideal S2048x512 .f32) (m : FVec Ideal S2048x1 .f32) : FVec Ideal S2048x512 .f32 :=
  exp2 (subf S (broadcastTo S2048x512 (nMax S m) broadcasts_S2048x1_S2048x512))

/-- The factor by which the old sums shrink. -/
def nA (S : FVec Ideal S2048x512 .f32) (m : FVec Ideal S2048x1 .f32) : FVec Ideal S2048x1 .f32 := exp2 (subf m (nMax S m))

/-- The running sum of the weights. -/
def nL (S : FVec Ideal S2048x512 .f32) (m l : FVec Ideal S2048x1 .f32) : FVec Ideal S2048x1 .f32 :=
  addf (mulf (nA S m) l) (shapeCast S2048x1 (multiReduction .add [1] S2048 (nP S m) 0x00000000#32 reduces_S2048x512_S2048 (.inl rfl) rfl) shapeCasts_S2048_S2048x1)

/-- The running weighted sum of the values. -/
def nAcc (S : FVec Ideal S2048x512 .f32) (m : FVec Ideal S2048x1 .f32) (v : FVec Ideal S1x512x128 .bf16) (a : FVec Ideal S2048x128 .f32) : FVec Ideal S2048x128 .f32 :=
  addf (mulf (broadcastTo S2048x128 (nA S m) broadcasts_S2048x1_S2048x128) a)
    (matmul dot_S2048x512_S512x128_S2048x128_1_0_0_1_n_n none (truncf .bf16 (nP S m) bitsLt_bf16_f32)
      (shapeCast S512x128 v shapeCasts_S1x512x128_S512x128) (constant S2048x128 .f32 0x00000000#32))

theorem tile_apply (b : ℕ) (r : Fin 2048) (x : Fin 512) : tile (k0_pay1 Q) (kBlk K b) (ix2 r x) = score Q K r (512 * b + x.val) := by
  pointwise [tile, k0_pay64, k0_pay1, named_scale, score, kBlk]

theorem negInf : FloatOps.ofBits (F := Ideal) FTy.f32 0xFF800000#32 = (⊥ : EReal) := ofBits_bot

theorem mtile_apply (qi d : ℕ) (hq : qi < 8) (hd : d < 4) (r : Fin 2048) (x : Fin 512) :
    mtile qi d (k0_pay1 Q) (kBlk K (4 * qi + d)) (ix2 r x) = mscore qi Q K r (512 * (4 * qi + d) + x.val) := by
  pointwise [mtile, k0_pay82, k0_pay83, k0_pay84, k0_pay1, named_scale, score, kBlk, mscore]
  rw [mask qi d 0 x.val r.val hq hd (by omega) x.isLt r.isLt, ofBits_bot]; simp

theorem nMax_apply (S : FVec Ideal S2048x512 .f32) (m : FVec Ideal S2048x1 .f32) (r : Fin 2048) :
    nMax S m (ix2 r 0) = max (m (ix2 r 0)) (Finset.univ.sup fun x : Fin 512 => (S (ix2 r x) : EReal)) := by
  pointwise [nMax]
  rw [ofBits_bot]; rfl
theorem nP_apply (S : FVec Ideal S2048x512 .f32) (m : FVec Ideal S2048x1 .f32) (r : Fin 2048) (x : Fin 512) :
    nP S m (ix2 r x) = Ideal.exp2 (S (ix2 r x) - nMax S m (ix2 r 0)) := by
  pointwise [nP, exp2_eq]
theorem nA_apply (S : FVec Ideal S2048x512 .f32) (m : FVec Ideal S2048x1 .f32) (r : Fin 2048) :
    nA S m (ix2 r 0) = Ideal.exp2 (m (ix2 r 0) - nMax S m (ix2 r 0)) := by
  pointwise [nA, exp2_eq]
theorem nL_apply (S : FVec Ideal S2048x512 .f32) (m l : FVec Ideal S2048x1 .f32) (r : Fin 2048) :
    nL S m l (ix2 r 0) = nA S m (ix2 r 0) * l (ix2 r 0) + ∑ x : Fin 512, nP S m (ix2 r x) := by
  pointwise [nL]
theorem nAcc_apply (S : FVec Ideal S2048x512 .f32) (m : FVec Ideal S2048x1 .f32) (b : ℕ) (a : FVec Ideal S2048x128 .f32) (r : Fin 2048) (d : Fin 128) :
    nAcc S m (vBlk V b) a (ix2 r d) = nA S m (ix2 r 0) * a (ix2 r d) + ∑ x : Fin 512, nP S m (ix2 r x) * vRow V (512 * b + x.val) d := by
  pointwise [nAcc, vBlk]
theorem pay6_apply (a : FVec Ideal S2048x128 .f32) (l : FVec Ideal S2048x1 .f32) (r : Fin 2048) (x : Fin 128) :
    k0_pay6 (F := Ideal) a l (ix2 r x) = Ideal.div (a (ix2 r x)) (l (ix2 r 0)) := by
  pointwise [k0_pay6]

theorem pay65_eq (q k m) : k0_pay65 (F := Ideal) q k m = nMax (tile q k) m := rfl
theorem pay68_eq (q k m l) : k0_pay68 (F := Ideal) q k m l = nL (tile q k) m l := by
  rw [k0_pay68]; simp only [shapeCast_self]; rfl
theorem pay69_eq (q k v m a) : k0_pay69 (F := Ideal) q k v m a = nAcc (tile q k) m v a := by
  rw [k0_pay69]; simp only [shapeCast_self]; rfl
end Cert.Attn
-- ==== Proof.Running.lean ====
module
public import proofs.«01_k».proof.Proof.PaysB
public import proofs.«01_k».proof.Proof.Reads
@[expose] public section
set_option maxRecDepth 16384
noncomputable section
namespace Cert.Attn
open Idealize.ShloMosaic Cert.KernelIdeal Cert.KernelIdeal.Gen Cert.KernelIdeal.Body

variable (Q : FVec Ideal S1x2048x192 .f32) (K : FVec Ideal S1x16384x192 .bf16) (V : FVec Ideal S1x16384x128 .bf16)

/-- The largest masked score of the first `n` blocks. -/
def mS (qi : ℕ) (r : Fin 2048) : ℕ → EReal
  | 0 => ⊥
  | n + 1 => max (mS qi r n) (Finset.univ.sup fun k : Fin 512 => mscore qi Q K r (512 * n + k.val))

/-- The running sum of weights: the old sum rescaled to the new maximum, and the block's weights added. -/
def lS (qi : ℕ) (r : Fin 2048) : ℕ → EReal
  | 0 => 0
  | n + 1 => Ideal.exp2 (mS Q K qi r n - mS Q K qi r (n + 1)) * lS qi r n
      + ∑ k : Fin 512, Ideal.exp2 (mscore qi Q K r (512 * n + k.val) - mS Q K qi r (n + 1))

/-- The running weighted sum of the values, rescaled likewise. -/
def aS (qi : ℕ) (r : Fin 2048) (x : Fin 128) : ℕ → EReal
  | 0 => 0
  | n + 1 => Ideal.exp2 (mS Q K qi r n - mS Q K qi r (n + 1)) * aS qi r x n
      + ∑ k : Fin 512, Ideal.exp2 (mscore qi Q K r (512 * n + k.val) - mS Q K qi r (n + 1)) * vRow V (512 * n + k.val) x

/-- One block: if the three running arrays hold the state after `n` blocks, the new ones hold it after `n + 1`. -/
theorem step (qi n : ℕ) (S : FVec Ideal S2048x512 .f32) (m l : FVec Ideal S2048x1 .f32) (a : FVec Ideal S2048x128 .f32)
    (hS : ∀ r x, S (ix2 r x) = mscore qi Q K r (512 * n + x.val))
    (hm : ∀ r, m (ix2 r 0) = mS Q K qi r n) (hl : ∀ r, l (ix2 r 0) = lS Q K qi r n) (ha : ∀ r x, a (ix2 r x) = aS Q K V qi r x n) :
    (∀ r, nMax S m (ix2 r 0) = mS Q K qi r (n + 1)) ∧ (∀ r, nL S m l (ix2 r 0) = lS Q K qi r (n + 1))
      ∧ (∀ r x, nAcc S m (vBlk V n) a (ix2 r x) = aS Q K V qi r x (n + 1)) := by
  have e : ∀ r, nMax S m (ix2 r 0) = mS Q K qi r (n + 1) := fun r => by
    rw [nMax_apply, hm]; simp only [hS]; rfl
  refine ⟨e, fun r => ?_, fun r x => ?_⟩
  · rw [nL_apply, nA_apply, hl, e, hm]; simp only [nP_apply, hS, e]; rfl
  · rw [nAcc_apply, nA_apply, ha, e, hm]; simp only [nP_apply, hS, e]; rfl

/-- A block before the diagonal is not masked. -/
theorem tile_mscore (qi b : ℕ) (h : b < 4 * qi) (r : Fin 2048) (x : Fin 512) :
    tile (k0_pay1 Q) (kBlk K b) (ix2 r x) = mscore qi Q K r (512 * b + x.val) := by
  rw [tile_apply, mscore, if_pos]; omega

theorem whole9 {sp : Space} (a : Memref sig .tc sp S2048x1 .f32) (L : List (View.Piece (Elt Ideal) S2048x1 .f32)) (inb) :
    a.view.readCov L (Rect.unit (s := S2048x1) ![0, 0] ![2048, 1] inb).toLoadRect = View.canon L := by
  rw [View.readCov_eq_canon']
  exact View.ld_unit_zero (S := S2048x1) (by decide) _ (View.canon L)

theorem whole8 {sp : Space} (a : Memref sig .tc sp S2048x128 .f32) (L : List (View.Piece (Elt Ideal) S2048x128 .f32)) (inb) :
    a.view.readCov L (Rect.unit (s := S2048x128) ![0, 0] ![2048, 128] inb).toLoadRect = View.canon L := by
  rw [View.readCov_eq_canon']
  exact View.ld_unit_zero (S := S2048x128) (by decide) _ (View.canon L)

theorem col_emb (r : Fin 2048) (inb) : (Rect.unit (s := S2048x128) ![0, 0] ![2048, 1] inb).emb (ix2 r (0 : Fin 1)) = ix2 r (0 : Fin 128) := by
  funext a
  apply Fin.ext
  fin_cases a
  · show 0 + 1 * r.val = r.val; omega
  · rfl

theorem col7 {sp : Space} (a : Memref sig .tc sp S2048x128 .f32) (L : List (View.Piece (Elt Ideal) S2048x128 .f32)) (inb) (r : Fin 2048) :
    a.view.readCov L (Rect.unit (s := S2048x128) ![0, 0] ![2048, 1] inb).toLoadRect (ix2 r (0 : Fin 1)) = View.canon L (ix2 r (0 : Fin 128)) := by
  rw [View.readCov_eq_canon']
  exact congrArg (View.canon L) (col_emb r inb)

theorem put9 (w : FVec Ideal S2048x1 .f32) (L : List (View.Piece (Elt Ideal) S2048x1 .f32)) (inb) :
    View.canon ((⟨Rect.unit (s := S2048x1) ![0, 0] ![2048, 1] inb, w⟩ : View.Piece (Elt Ideal) S2048x1 .f32) :: L) = w :=
  View.canon_cons_unit_zero (S := S2048x1) (by decide) _ _ _

theorem put8 (w : FVec Ideal S2048x128 .f32) (L : List (View.Piece (Elt Ideal) S2048x128 .f32)) (inb) :
    View.canon ((⟨Rect.unit (s := S2048x128) ![0, 0] ![2048, 128] inb, w⟩ : View.Piece (Elt Ideal) S2048x128 .f32) :: L) = w :=
  View.canon_cons_unit_zero (S := S2048x128) (by decide) _ _ _

theorem put7 (w : FVec Ideal S2048x1 .f32) (L : List (View.Piece (Elt Ideal) S2048x128 .f32)) (inb) (r : Fin 2048) :
    View.canon ((⟨Rect.unit (s := S2048x128) ![0, 0] ![2048, 1] inb, w⟩ : View.Piece (Elt Ideal) S2048x128 .f32) :: L) (ix2 r (0 : Fin 128)) = w (ix2 r (0 : Fin 1)) := by
  rw [← col_emb r inb]
  exact View.canon_cons_emb _ _ _ _

/-- The three running arrays hold the state after `n` blocks. -/
def St (qi n : ℕ) (L7 L8 : List (View.Piece (Elt Ideal) S2048x128 .f32)) (L9 : List (View.Piece (Elt Ideal) S2048x1 .f32)) : Prop :=
  (∀ r : Fin 2048, View.canon L9 (ix2 r (0 : Fin 1)) = mS Q K qi r n) ∧ (∀ r : Fin 2048, View.canon L7 (ix2 r (0 : Fin 128)) = lS Q K qi r n)
    ∧ (∀ (r : Fin 2048) (x : Fin 128), View.canon L8 (ix2 r x) = aS Q K V qi r x n)

variable (c : Dev nD) (i : grid0.Coords)
  (arg2 : Memref sig .tc .smem S2 .f32) (harg2 : arg2.IsWhole) (arg3 : Memref sig .tc .vmem S1x2048x192 .f32) (harg3 : arg3.IsWhole)
  (arg4 : Memref sig .tc .vmem S1x16384x192 .bf16) (harg4 : arg4.IsWhole) (arg5 : Memref sig .tc .vmem S1x16384x128 .bf16) (harg5 : arg5.IsWhole)
  (arg6 : Memref sig .tc .vmem S2048x128 .bf16) (harg6 : arg6.IsWhole) (arg7 : Memref sig .tc .vmem S2048x128 .f32) (harg7 : arg7.IsWhole)
  (arg8 : Memref sig .tc .vmem S2048x128 .f32) (harg8 : arg8.IsWhole) (arg9 : Memref sig .tc .vmem S2048x1 .f32) (harg9 : arg9.IsWhole)
  (x4 : BufTy.Contents (Elt Ideal) arg4.view.ty) (x5 : BufTy.Contents (Elt Ideal) arg5.view.ty)
  (hK : arg4.view.read (Elt Ideal) x4 = K) (hV : arg5.view.read (Elt Ideal) x5 = V)

include hK hV in
/-- What one trip of the loop over the blocks before the diagonal stores. -/
theorem trip5 (w1 w5 : BitVec 32) (k : Fin (k0_t5_loop i).trips) (f7 f8 f9) :
    (trip_k0_t5 (F := Ideal) Variants.none c none i arg2 harg2 arg3 harg3 arg4 harg4 arg5 harg5 arg6 harg6 arg7 harg7 arg8 harg8 arg9 harg9 w1 (k0_pay1 Q) w5 x4 x5 k).1 f7 f8 f9
      = [⟨Rect.unit ![0, 0] ![2048, 1] inb_S2048x128_S2048x1_0_0,
        nL (tile (k0_pay1 Q) (kBlk K k.val)) (View.readAt (Elt Ideal) arg9.view (Rect.unit (s := S2048x1) ![0, 0] ![2048, 1] inb_S2048x1_S2048x1_0_0).toLoadRect f9)
          (View.readAt (Elt Ideal) arg7.view (Rect.unit (s := S2048x128) ![0, 0] ![2048, 1] inb_S2048x128_S2048x1_0_0).toLoadRect f7)⟩]
    ∧ (trip_k0_t5 (F := Ideal) Variants.none c none i arg2 harg2 arg3 harg3 arg4 harg4 arg5 harg5 arg6 harg6 arg7 harg7 arg8 harg8 arg9 harg9 w1 (k0_pay1 Q) w5 x4 x5 k).2.1 f7 f8 f9
      = [⟨Rect.unit ![0, 0] ![2048, 128] inb_S2048x128_S2048x128_0_0,
        nAcc (tile (k0_pay1 Q) (kBlk K k.val)) (View.readAt (Elt Ideal) arg9.view (Rect.unit (s := S2048x1) ![0, 0] ![2048, 1] inb_S2048x1_S2048x1_0_0).toLoadRect f9)
          (vBlk V k.val) (View.readAt (Elt Ideal) arg8.view (Rect.unit (s := S2048x128) ![0, 0] ![2048, 128] inb_S2048x128_S2048x128_0_0).toLoadRect f8)⟩]
    ∧ (trip_k0_t5 (F := Ideal) Variants.none c none i arg2 harg2 arg3 harg3 arg4 harg4 arg5 harg5 arg6 harg6 arg7 harg7 arg8 harg8 arg9 harg9 w1 (k0_pay1 Q) w5 x4 x5 k).2.2.1 f7 f8 f9
      = [⟨Rect.unit ![0, 0] ![2048, 1] inb_S2048x1_S2048x1_0_0,
        nMax (tile (k0_pay1 Q) (kBlk K k.val)) (View.readAt (Elt Ideal) arg9.view (Rect.unit (s := S2048x1) ![0, 0] ![2048, 1] inb_S2048x1_S2048x1_0_0).toLoadRect f9)⟩] := by
  have k0 := fun inb => (readK arg4 x4 (k0_off15 i k) inb k.val (off15 i k)).trans (congrArg (kBlk · k.val) hK)
  have v0 := fun inb => (readV arg5 x5 (k0_off16 i k) inb k.val (off16 i k)).trans (congrArg (vBlk · k.val) hV)
  rw [← k0 (k0_off15_inb i k), ← v0 (k0_off16_inb i k)]
  unfold trip_k0_t5
  dsimp only
  refine ⟨?_, ?_, ?_⟩
  · unfold trip_k0_t5.sl.v266
    rw [shapeCast_self]; rfl
  · unfold trip_k0_t5.sl.v275
    rw [shapeCast_self]; rfl
  · unfold k0_pay79
    rw [shapeCast_self]; rfl

variable (L7 L8 : List (View.Piece (Elt Ideal) S2048x128 .f32)) (L9 : List (View.Piece (Elt Ideal) S2048x1 .f32))

theorem readWrites7 (inb) (r : Fin 2048) : View.readAt (Elt Ideal) arg7.view (Rect.unit (s := S2048x128) ![0, 0] ![2048, 1] inb).toLoadRect
    (arg7.view.writes (Elt Ideal) arg7.view.junk L7) (ix2 r (0 : Fin 1)) = View.canon L7 (ix2 r (0 : Fin 128)) := by
  rw [View.readAt_writes_junk_eq_canon]
  exact congrArg (View.canon L7) (col_emb r inb)

theorem readWrites8 (inb) : View.readAt (Elt Ideal) arg8.view (Rect.unit (s := S2048x128) ![0, 0] ![2048, 128] inb).toLoadRect
    (arg8.view.writes (Elt Ideal) arg8.view.junk L8) = View.canon L8 := by
  rw [View.readAt_writes_junk_eq_canon]
  exact View.ld_unit_zero (S := S2048x128) (by decide) _ (View.canon L8)

theorem readWrites9 (inb) : View.readAt (Elt Ideal) arg9.view (Rect.unit (s := S2048x1) ![0, 0] ![2048, 1] inb).toLoadRect
    (arg9.view.writes (Elt Ideal) arg9.view.junk L9) = View.canon L9 := by
  rw [View.readAt_writes_junk_eq_canon]
  exact View.ld_unit_zero (S := S2048x1) (by decide) _ (View.canon L9)

include hK hV in
/-- Before trip `k` of the loop over the blocks before the diagonal, the running arrays hold the state after `k` blocks. -/
theorem loop5 (w1 w5 : BitVec 32) (h0 : St Q K V (i 1).val 0 L7 L8 L9) : ∀ k, k ≤ 4 * (i 1).val →
    St Q K V (i 1).val k
      ((pb_k0_t5 (F := Ideal) Variants.none c none i arg2 harg2 arg3 harg3 arg4 harg4 arg5 harg5 arg6 harg6 arg7 harg7 arg8 harg8 arg9 harg9 w1 (k0_pay1 Q) w5 x4 x5 (arg7.view.writes (Elt Ideal) arg7.view.junk L7)
        (arg8.view.writes (Elt Ideal) arg8.view.junk L8) (arg9.view.writes (Elt Ideal) arg9.view.junk L9) k).1 ++ L7)
      ((pb_k0_t5 (F := Ideal) Variants.none c none i arg2 harg2 arg3 harg3 arg4 harg4 arg5 harg5 arg6 harg6 arg7 harg7 arg8 harg8 arg9 harg9 w1 (k0_pay1 Q) w5 x4 x5 (arg7.view.writes (Elt Ideal) arg7.view.junk L7)
        (arg8.view.writes (Elt Ideal) arg8.view.junk L8) (arg9.view.writes (Elt Ideal) arg9.view.junk L9) k).2.1 ++ L8)
      ((pb_k0_t5 (F := Ideal) Variants.none c none i arg2 harg2 arg3 harg3 arg4 harg4 arg5 harg5 arg6 harg6 arg7 harg7 arg8 harg8 arg9 harg9 w1 (k0_pay1 Q) w5 x4 x5 (arg7.view.writes (Elt Ideal) arg7.view.junk L7)
        (arg8.view.writes (Elt Ideal) arg8.view.junk L8) (arg9.view.writes (Elt Ideal) arg9.view.junk L9) k).2.2 ++ L9) := by
  intro k
  induction k with
  | zero => intro _; exact h0
  | succ k ih =>
    intro hk
    obtain ⟨i9, i7, i8⟩ := ih (by omega)
    have hk' : k < (k0_t5_loop i).trips := by rw [trips5]; omega
    have e := pb_k0_t5_succ (F := Ideal) Variants.none c none i arg2 harg2 arg3 harg3 arg4 harg4 arg5 harg5 arg6 harg6 arg7 harg7 arg8 harg8 arg9 harg9 w1 (k0_pay1 Q) w5 x4 x5
      (arg7.view.writes (Elt Ideal) arg7.view.junk L7) (arg8.view.writes (Elt Ideal) arg8.view.junk L8)
      (arg9.view.writes (Elt Ideal) arg9.view.junk L9) ⟨k, hk'⟩
    dsimp only [tripL_k0_t5] at e
    rw [e]
    obtain ⟨e1, e2, e3⟩ := trip5 Q K V c i arg2 harg2 arg3 harg3 arg4 harg4 arg5 harg5 arg6 harg6 arg7 harg7 arg8 harg8 arg9 harg9 x4 x5 hK hV w1 w5 ⟨k, hk'⟩
      (arg7.view.writes (Elt Ideal) (arg7.view.writes (Elt Ideal) arg7.view.junk L7) (pb_k0_t5 (F := Ideal) Variants.none c none i arg2 harg2 arg3 harg3 arg4 harg4 arg5 harg5 arg6 harg6 arg7 harg7 arg8 harg8 arg9 harg9 w1 (k0_pay1 Q) w5 x4 x5 (arg7.view.writes (Elt Ideal) arg7.view.junk L7)
        (arg8.view.writes (Elt Ideal) arg8.view.junk L8) (arg9.view.writes (Elt Ideal) arg9.view.junk L9) k).1)
      (arg8.view.writes (Elt Ideal) (arg8.view.writes (Elt Ideal) arg8.view.junk L8) (pb_k0_t5 (F := Ideal) Variants.none c none i arg2 harg2 arg3 harg3 arg4 harg4 arg5 harg5 arg6 harg6 arg7 harg7 arg8 harg8 arg9 harg9 w1 (k0_pay1 Q) w5 x4 x5 (arg7.view.writes (Elt Ideal) arg7.view.junk L7)
        (arg8.view.writes (Elt Ideal) arg8.view.junk L8) (arg9.view.writes (Elt Ideal) arg9.view.junk L9) k).2.1)
      (arg9.view.writes (Elt Ideal) (arg9.view.writes (Elt Ideal) arg9.view.junk L9) (pb_k0_t5 (F := Ideal) Variants.none c none i arg2 harg2 arg3 harg3 arg4 harg4 arg5 harg5 arg6 harg6 arg7 harg7 arg8 harg8 arg9 harg9 w1 (k0_pay1 Q) w5 x4 x5 (arg7.view.writes (Elt Ideal) arg7.view.junk L7)
        (arg8.view.writes (Elt Ideal) arg8.view.junk L8) (arg9.view.writes (Elt Ideal) arg9.view.junk L9) k).2.2)
    dsimp only at e1 e2 e3 ⊢
    rw [e1, e2, e3]
    simp only [List.cons_append, List.nil_append, ← View.writes_append]
    obtain ⟨s9, s7, s8⟩ := step Q K V (i 1).val k (tile (k0_pay1 Q) (kBlk K k)) _ _ _
      (fun r x => tile_mscore Q K (i 1).val k (by omega) r x)
      (fun r => (congrFun (readWrites9 arg9 _ inb_S2048x1_S2048x1_0_0) _).trans (i9 r))
      (fun r => (readWrites7 arg7 _ inb_S2048x128_S2048x1_0_0 r).trans (i7 r))
      (fun r x => (congrFun (readWrites8 arg8 _ inb_S2048x128_S2048x128_0_0) _).trans (i8 r x))
    refine ⟨fun r => ?_, fun r => ?_, fun r x => ?_⟩
    · rw [put9]; exact s9 r
    · rw [put7]; exact s7 r
    · rw [put8]; exact s8 r x

variable (x3 : BufTy.Contents (Elt Ideal) arg3.view.ty) (hQ : arg3.view.read (Elt Ideal) x3 = Q)

include hK hV hQ in
theorem tail5 : St Q K V (i 1).val (4 * (i 1).val)
    ((pb_k0_t5 (F := Ideal) Variants.none c none i arg2 harg2 arg3 harg3 arg4 harg4 arg5 harg5 arg6 harg6 arg7 harg7 arg8 harg8 arg9 harg9 (BitVec.ofNat 32 (i 1).val) (k0_pay1 (View.readAt (Elt Ideal) arg3.view (Rect.unit (s := S1x2048x192) ![0, 0, 0] ![1, 2048, 192] inb_S1x2048x192_S1x2048x192_0_0_0).toLoadRect x3)) (Scalar.muli (BitVec.ofNat 32 (i 1).val) 4#32) x4 x5 (arg7.view.writes (Elt Ideal) arg7.view.junk runB.sl.H7_1) (arg8.view.writes (Elt Ideal) arg8.view.junk runB.sl.H8_1) (arg9.view.writes (Elt Ideal) arg9.view.junk runB.sl.H9_1) (Scf.trips (k0_t5_loop i).lb (k0_t5_loop i).ub (k0_t5_loop i).st)).1 ++ runB.sl.H7_1) ((pb_k0_t5 (F := Ideal) Variants.none c none i arg2 harg2 arg3 harg3 arg4 harg4 arg5 harg5 arg6 harg6 arg7 harg7 arg8 harg8 arg9 harg9 (BitVec.ofNat 32 (i 1).val) (k0_pay1 (View.readAt (Elt Ideal) arg3.view (Rect.unit (s := S1x2048x192) ![0, 0, 0] ![1, 2048, 192] inb_S1x2048x192_S1x2048x192_0_0_0).toLoadRect x3)) (Scalar.muli (BitVec.ofNat 32 (i 1).val) 4#32) x4 x5 (arg7.view.writes (Elt Ideal) arg7.view.junk runB.sl.H7_1) (arg8.view.writes (Elt Ideal) arg8.view.junk runB.sl.H8_1) (arg9.view.writes (Elt Ideal) arg9.view.junk runB.sl.H9_1) (Scf.trips (k0_t5_loop i).lb (k0_t5_loop i).ub (k0_t5_loop i).st)).2.1 ++ runB.sl.H8_1) ((pb_k0_t5 (F := Ideal) Variants.none c none i arg2 harg2 arg3 harg3 arg4 harg4 arg5 harg5 arg6 harg6 arg7 harg7 arg8 harg8 arg9 harg9 (BitVec.ofNat 32 (i 1).val) (k0_pay1 (View.readAt (Elt Ideal) arg3.view (Rect.unit (s := S1x2048x192) ![0, 0, 0] ![1, 2048, 192] inb_S1x2048x192_S1x2048x192_0_0_0).toLoadRect x3)) (Scalar.muli (BitVec.ofNat 32 (i 1).val) 4#32) x4 x5 (arg7.view.writes (Elt Ideal) arg7.view.junk runB.sl.H7_1) (arg8.view.writes (Elt Ideal) arg8.view.junk runB.sl.H8_1) (arg9.view.writes (Elt Ideal) arg9.view.junk runB.sl.H9_1) (Scf.trips (k0_t5_loop i).lb (k0_t5_loop i).ub (k0_t5_loop i).st)).2.2 ++ runB.sl.H9_1) := by
  have z : Scf.trips (k0_t5_loop i).lb (k0_t5_loop i).ub (k0_t5_loop i).st = 4 * (i 1).val := trips5 i
  rw [z, readQ, hQ]
  refine loop5 Q K V c i arg2 harg2 arg3 harg3 arg4 harg4 arg5 harg5 arg6 harg6 arg7 harg7 arg8 harg8 arg9 harg9 x4 x5 hK hV runB.sl.H7_1 runB.sl.H8_1 runB.sl.H9_1 _ _ ⟨fun r => ?_, fun r => ?_, fun r x => ?_⟩ (4 * (i 1).val) le_rfl
  · unfold runB.sl.H9_1
    erw [put9]
    pointwise [k0_pay76]
    exact negInf
  · unfold runB.sl.H7_1
    erw [put8]
    pointwise [k0_pay77, lS]
  · unfold runB.sl.H8_1
    erw [put8]
    pointwise [k0_pay78, aS]

theorem v53_eq : runB.sl.v53 (F := Ideal) c i arg2 harg2 arg3 harg3 arg4 harg4 arg5 harg5 arg6 harg6 arg7 harg7 arg8 harg8 arg9 harg9 x3 x4 x5 = arg9.view.readCov ((pb_k0_t5 (F := Ideal) Variants.none c none i arg2 harg2 arg3 harg3 arg4 harg4 arg5 harg5 arg6 harg6 arg7 harg7 arg8 harg8 arg9 harg9 (BitVec.ofNat 32 (i 1).val) (k0_pay1 (View.readAt (Elt Ideal) arg3.view (Rect.unit (s := S1x2048x192) ![0, 0, 0] ![1, 2048, 192] inb_S1x2048x192_S1x2048x192_0_0_0).toLoadRect x3)) (Scalar.muli (BitVec.ofNat 32 (i 1).val) 4#32) x4 x5 (arg7.view.writes (Elt Ideal) arg7.view.junk runB.sl.H7_1) (arg8.view.writes (Elt Ideal) arg8.view.junk runB.sl.H8_1) (arg9.view.writes (Elt Ideal) arg9.view.junk runB.sl.H9_1) (Scf.trips (k0_t5_loop i).lb (k0_t5_loop i).ub (k0_t5_loop i).st)).2.2 ++ runB.sl.H9_1) (Rect.unit (s := S2048x1) ![0, 0] S2048x1.size inb_S2048x1_S2048x1_0_0).toLoadRect := by
  have z6 : Scf.trips (k0_t6_loop i).lb (k0_t6_loop i).ub (k0_t6_loop i).st = 0 := trips6 i
  unfold runB.sl.v53
  rw [z6]
  rfl

theorem v62_eq : runB.sl.v62 (F := Ideal) c i arg2 harg2 arg3 harg3 arg4 harg4 arg5 harg5 arg6 harg6 arg7 harg7 arg8 harg8 arg9 harg9 x3 x4 x5 = arg7.view.readCov ((pb_k0_t5 (F := Ideal) Variants.none c none i arg2 harg2 arg3 harg3 arg4 harg4 arg5 harg5 arg6 harg6 arg7 harg7 arg8 harg8 arg9 harg9 (BitVec.ofNat 32 (i 1).val) (k0_pay1 (View.readAt (Elt Ideal) arg3.view (Rect.unit (s := S1x2048x192) ![0, 0, 0] ![1, 2048, 192] inb_S1x2048x192_S1x2048x192_0_0_0).toLoadRect x3)) (Scalar.muli (BitVec.ofNat 32 (i 1).val) 4#32) x4 x5 (arg7.view.writes (Elt Ideal) arg7.view.junk runB.sl.H7_1) (arg8.view.writes (Elt Ideal) arg8.view.junk runB.sl.H8_1) (arg9.view.writes (Elt Ideal) arg9.view.junk runB.sl.H9_1) (Scf.trips (k0_t5_loop i).lb (k0_t5_loop i).ub (k0_t5_loop i).st)).1 ++ runB.sl.H7_1) (Rect.unit (s := S2048x128) ![0, 0] S2048x1.size inb_S2048x128_S2048x1_0_0).toLoadRect := by
  have z6 : Scf.trips (k0_t6_loop i).lb (k0_t6_loop i).ub (k0_t6_loop i).st = 0 := trips6 i
  unfold runB.sl.v62
  rw [z6]
  rfl

theorem v70_eq : runB.sl.v70 (F := Ideal) c i arg2 harg2 arg3 harg3 arg4 harg4 arg5 harg5 arg6 harg6 arg7 harg7 arg8 harg8 arg9 harg9 x3 x4 x5 = arg8.view.readCov ((pb_k0_t5 (F := Ideal) Variants.none c none i arg2 harg2 arg3 harg3 arg4 harg4 arg5 harg5 arg6 harg6 arg7 harg7 arg8 harg8 arg9 harg9 (BitVec.ofNat 32 (i 1).val) (k0_pay1 (View.readAt (Elt Ideal) arg3.view (Rect.unit (s := S1x2048x192) ![0, 0, 0] ![1, 2048, 192] inb_S1x2048x192_S1x2048x192_0_0_0).toLoadRect x3)) (Scalar.muli (BitVec.ofNat 32 (i 1).val) 4#32) x4 x5 (arg7.view.writes (Elt Ideal) arg7.view.junk runB.sl.H7_1) (arg8.view.writes (Elt Ideal) arg8.view.junk runB.sl.H8_1) (arg9.view.writes (Elt Ideal) arg9.view.junk runB.sl.H9_1) (Scf.trips (k0_t5_loop i).lb (k0_t5_loop i).ub (k0_t5_loop i).st)).2.1 ++ runB.sl.H8_1) (Rect.unit (s := S2048x128) ![0, 0] S2048x128.size inb_S2048x128_S2048x128_0_0).toLoadRect := by
  have z6 : Scf.trips (k0_t6_loop i).lb (k0_t6_loop i).ub (k0_t6_loop i).st = 0 := trips6 i
  unfold runB.sl.v70
  rw [z6]
  rfl

theorem keys0 (inb) : View.readAt (Elt Ideal) arg4.view (Rect.unit (s := S1x16384x192) (k0_off19 i 0#32) S1x512x192.size inb).toLoadRect x4
    = kBlk (arg4.view.read (Elt Ideal) x4) (4 * (i 1).val + 0) := readK arg4 x4 _ inb _ (off19 i 0)

theorem vals0 (inb) : View.readAt (Elt Ideal) arg5.view (Rect.unit (s := S1x16384x128) (k0_off20 i 0#32) S1x512x128.size inb).toLoadRect x5
    = vBlk (arg5.view.read (Elt Ideal) x5) (4 * (i 1).val + 0) := readV arg5 x5 _ inb _ (off20 i 0)

theorem keys1 (inb) : View.readAt (Elt Ideal) arg4.view (Rect.unit (s := S1x16384x192) (k0_off19 i 1#32) S1x512x192.size inb).toLoadRect x4
    = kBlk (arg4.view.read (Elt Ideal) x4) (4 * (i 1).val + 1) := readK arg4 x4 _ inb _ (off19 i 1)

theorem vals1 (inb) : View.readAt (Elt Ideal) arg5.view (Rect.unit (s := S1x16384x128) (k0_off20 i 1#32) S1x512x128.size inb).toLoadRect x5
    = vBlk (arg5.view.read (Elt Ideal) x5) (4 * (i 1).val + 1) := readV arg5 x5 _ inb _ (off20 i 1)

theorem keys2 (inb) : View.readAt (Elt Ideal) arg4.view (Rect.unit (s := S1x16384x192) (k0_off19 i 2#32) S1x512x192.size inb).toLoadRect x4
    = kBlk (arg4.view.read (Elt Ideal) x4) (4 * (i 1).val + 2) := readK arg4 x4 _ inb _ (off19 i 2)

theorem vals2 (inb) : View.readAt (Elt Ideal) arg5.view (Rect.unit (s := S1x16384x128) (k0_off20 i 2#32) S1x512x128.size inb).toLoadRect x5
    = vBlk (arg5.view.read (Elt Ideal) x5) (4 * (i 1).val + 2) := readV arg5 x5 _ inb _ (off20 i 2)

theorem keys3 (inb) : View.readAt (Elt Ideal) arg4.view (Rect.unit (s := S1x16384x192) (k0_off19 i 3#32) S1x512x192.size inb).toLoadRect x4
    = kBlk (arg4.view.read (Elt Ideal) x4) (4 * (i 1).val + 3) := readK arg4 x4 _ inb _ (off19 i 3)

theorem vals3 (inb) : View.readAt (Elt Ideal) arg5.view (Rect.unit (s := S1x16384x128) (k0_off20 i 3#32) S1x512x128.size inb).toLoadRect x5
    = vBlk (arg5.view.read (Elt Ideal) x5) (4 * (i 1).val + 3) := readV arg5 x5 _ inb _ (off20 i 3)

theorem new9_0 : k0_pay90 (runB.sl.v31 i) (runB.sl.r_2 (F := Ideal) i arg3 arg4 x3 x4) (runB.sl.r_3 i) (runB.sl.v53 (F := Ideal) c i arg2 harg2 arg3 harg3 arg4 harg4 arg5 harg5 arg6 harg6 arg7 harg7 arg8 harg8 arg9 harg9 x3 x4 x5) = nMax (mtile (i 1).val 0 (k0_pay1 (View.readAt (Elt Ideal) arg3.view (Rect.unit (s := S1x2048x192) ![0, 0, 0] ![1, 2048, 192] inb_S1x2048x192_S1x2048x192_0_0_0).toLoadRect x3)) (View.readAt (Elt Ideal) arg4.view (Rect.unit (s := S1x16384x192) (k0_off19 i 0#32) S1x512x192.size (k0_off19_inb i 0)).toLoadRect x4)) (runB.sl.v53 (F := Ideal) c i arg2 harg2 arg3 harg3 arg4 harg4 arg5 harg5 arg6 harg6 arg7 harg7 arg8 harg8 arg9 harg9 x3 x4 x5) := by
  unfold k0_pay90
  simp only [shapeCast_self]
  rfl

theorem new7_0 : k0_pay88 (runB.sl.v31 i) (runB.sl.r_2 (F := Ideal) i arg3 arg4 x3 x4) (runB.sl.r_3 i) (runB.sl.v53 (F := Ideal) c i arg2 harg2 arg3 harg3 arg4 harg4 arg5 harg5 arg6 harg6 arg7 harg7 arg8 harg8 arg9 harg9 x3 x4 x5) (runB.sl.v62 (F := Ideal) c i arg2 harg2 arg3 harg3 arg4 harg4 arg5 harg5 arg6 harg6 arg7 harg7 arg8 harg8 arg9 harg9 x3 x4 x5) = nL (mtile (i 1).val 0 (k0_pay1 (View.readAt (Elt Ideal) arg3.view (Rect.unit (s := S1x2048x192) ![0, 0, 0] ![1, 2048, 192] inb_S1x2048x192_S1x2048x192_0_0_0).toLoadRect x3)) (View.readAt (Elt Ideal) arg4.view (Rect.unit (s := S1x16384x192) (k0_off19 i 0#32) S1x512x192.size (k0_off19_inb i 0)).toLoadRect x4)) (runB.sl.v53 (F := Ideal) c i arg2 harg2 arg3 harg3 arg4 harg4 arg5 harg5 arg6 harg6 arg7 harg7 arg8 harg8 arg9 harg9 x3 x4 x5) (runB.sl.v62 (F := Ideal) c i arg2 harg2 arg3 harg3 arg4 harg4 arg5 harg5 arg6 harg6 arg7 harg7 arg8 harg8 arg9 harg9 x3 x4 x5) := by
  unfold k0_pay88
  simp only [shapeCast_self]
  rfl

theorem new8_0 : k0_pay89 (runB.sl.v31 i) (runB.sl.r_1 (F := Ideal) i arg5 x5) (runB.sl.r_2 (F := Ideal) i arg3 arg4 x3 x4) (runB.sl.r_3 i) (runB.sl.v53 (F := Ideal) c i arg2 harg2 arg3 harg3 arg4 harg4 arg5 harg5 arg6 harg6 arg7 harg7 arg8 harg8 arg9 harg9 x3 x4 x5) (runB.sl.v70 (F := Ideal) c i arg2 harg2 arg3 harg3 arg4 harg4 arg5 harg5 arg6 harg6 arg7 harg7 arg8 harg8 arg9 harg9 x3 x4 x5) = nAcc (mtile (i 1).val 0 (k0_pay1 (View.readAt (Elt Ideal) arg3.view (Rect.unit (s := S1x2048x192) ![0, 0, 0] ![1, 2048, 192] inb_S1x2048x192_S1x2048x192_0_0_0).toLoadRect x3)) (View.readAt (Elt Ideal) arg4.view (Rect.unit (s := S1x16384x192) (k0_off19 i 0#32) S1x512x192.size (k0_off19_inb i 0)).toLoadRect x4)) (runB.sl.v53 (F := Ideal) c i arg2 harg2 arg3 harg3 arg4 harg4 arg5 harg5 arg6 harg6 arg7 harg7 arg8 harg8 arg9 harg9 x3 x4 x5) (View.readAt (Elt Ideal) arg5.view (Rect.unit (s := S1x16384x128) (k0_off20 i 0#32) S1x512x128.size (k0_off20_inb i 0)).toLoadRect x5) (runB.sl.v70 (F := Ideal) c i arg2 harg2 arg3 harg3 arg4 harg4 arg5 harg5 arg6 harg6 arg7 harg7 arg8 harg8 arg9 harg9 x3 x4 x5) := by
  unfold k0_pay89
  simp only [shapeCast_self]
  rfl

theorem new9_1 : runB.sl.v132 (F := Ideal) c i arg2 harg2 arg3 harg3 arg4 harg4 arg5 harg5 arg6 harg6 arg7 harg7 arg8 harg8 arg9 harg9 x3 x4 x5 = nMax (mtile (i 1).val 1 (k0_pay1 (View.readAt (Elt Ideal) arg3.view (Rect.unit (s := S1x2048x192) ![0, 0, 0] ![1, 2048, 192] inb_S1x2048x192_S1x2048x192_0_0_0).toLoadRect x3)) (View.readAt (Elt Ideal) arg4.view (Rect.unit (s := S1x16384x192) (k0_off19 i 1#32) S1x512x192.size (k0_off19_inb i 1)).toLoadRect x4)) (runB.sl.v104 (F := Ideal) c i arg2 harg2 arg3 harg3 arg4 harg4 arg5 harg5 arg6 harg6 arg7 harg7 arg8 harg8 arg9 harg9 x3 x4 x5) := by
  unfold runB.sl.v132
  rw [shapeCast_self]
  rfl

theorem new7_1 : runB.sl.v120 (F := Ideal) c i arg2 harg2 arg3 harg3 arg4 harg4 arg5 harg5 arg6 harg6 arg7 harg7 arg8 harg8 arg9 harg9 x3 x4 x5 = nL (mtile (i 1).val 1 (k0_pay1 (View.readAt (Elt Ideal) arg3.view (Rect.unit (s := S1x2048x192) ![0, 0, 0] ![1, 2048, 192] inb_S1x2048x192_S1x2048x192_0_0_0).toLoadRect x3)) (View.readAt (Elt Ideal) arg4.view (Rect.unit (s := S1x16384x192) (k0_off19 i 1#32) S1x512x192.size (k0_off19_inb i 1)).toLoadRect x4)) (runB.sl.v104 (F := Ideal) c i arg2 harg2 arg3 harg3 arg4 harg4 arg5 harg5 arg6 harg6 arg7 harg7 arg8 harg8 arg9 harg9 x3 x4 x5) (runB.sl.v113 (F := Ideal) c i arg2 harg2 arg3 harg3 arg4 harg4 arg5 harg5 arg6 harg6 arg7 harg7 arg8 harg8 arg9 harg9 x3 x4 x5) := by
  unfold runB.sl.v120
  rw [shapeCast_self]
  rfl

theorem new8_1 : runB.sl.v129 (F := Ideal) c i arg2 harg2 arg3 harg3 arg4 harg4 arg5 harg5 arg6 harg6 arg7 harg7 arg8 harg8 arg9 harg9 x3 x4 x5 = nAcc (mtile (i 1).val 1 (k0_pay1 (View.readAt (Elt Ideal) arg3.view (Rect.unit (s := S1x2048x192) ![0, 0, 0] ![1, 2048, 192] inb_S1x2048x192_S1x2048x192_0_0_0).toLoadRect x3)) (View.readAt (Elt Ideal) arg4.view (Rect.unit (s := S1x16384x192) (k0_off19 i 1#32) S1x512x192.size (k0_off19_inb i 1)).toLoadRect x4)) (runB.sl.v104 (F := Ideal) c i arg2 harg2 arg3 harg3 arg4 harg4 arg5 harg5 arg6 harg6 arg7 harg7 arg8 harg8 arg9 harg9 x3 x4 x5) (View.readAt (Elt Ideal) arg5.view (Rect.unit (s := S1x16384x128) (k0_off20 i 1#32) S1x512x128.size (k0_off20_inb i 1)).toLoadRect x5) (runB.sl.v121 (F := Ideal) c i arg2 harg2 arg3 harg3 arg4 harg4 arg5 harg5 arg6 harg6 arg7 harg7 arg8 harg8 arg9 harg9 x3 x4 x5) := by
  unfold runB.sl.v129
  rw [shapeCast_self]
  rfl

theorem new9_2 : runB.sl.v183 (F := Ideal) c i arg2 harg2 arg3 harg3 arg4 harg4 arg5 harg5 arg6 harg6 arg7 harg7 arg8 harg8 arg9 harg9 x3 x4 x5 = nMax (mtile (i 1).val 2 (k0_pay1 (View.readAt (Elt Ideal) arg3.view (Rect.unit (s := S1x2048x192) ![0, 0, 0] ![1, 2048, 192] inb_S1x2048x192_S1x2048x192_0_0_0).toLoadRect x3)) (View.readAt (Elt Ideal) arg4.view (Rect.unit (s := S1x16384x192) (k0_off19 i 2#32) S1x512x192.size (k0_off19_inb i 2)).toLoadRect x4)) (runB.sl.v155 (F := Ideal) c i arg2 harg2 arg3 harg3 arg4 harg4 arg5 harg5 arg6 harg6 arg7 harg7 arg8 harg8 arg9 harg9 x3 x4 x5) := by
  unfold runB.sl.v183
  rw [shapeCast_self]
  rfl

theorem new7_2 : runB.sl.v171 (F := Ideal) c i arg2 harg2 arg3 harg3 arg4 harg4 arg5 harg5 arg6 harg6 arg7 harg7 arg8 harg8 arg9 harg9 x3 x4 x5 = nL (mtile (i 1).val 2 (k0_pay1 (View.readAt (Elt Ideal) arg3.view (Rect.unit (s := S1x2048x192) ![0, 0, 0] ![1, 2048, 192] inb_S1x2048x192_S1x2048x192_0_0_0).toLoadRect x3)) (View.readAt (Elt Ideal) arg4.view (Rect.unit (s := S1x16384x192) (k0_off19 i 2#32) S1x512x192.size (k0_off19_inb i 2)).toLoadRect x4)) (runB.sl.v155 (F := Ideal) c i arg2 harg2 arg3 harg3 arg4 harg4 arg5 harg5 arg6 harg6 arg7 harg7 arg8 harg8 arg9 harg9 x3 x4 x5) (runB.sl.v164 (F := Ideal) c i arg2 harg2 arg3 harg3 arg4 harg4 arg5 harg5 arg6 harg6 arg7 harg7 arg8 harg8 arg9 harg9 x3 x4 x5) := by
  unfold runB.sl.v171
  rw [shapeCast_self]
  rfl

theorem new8_2 : runB.sl.v180 (F := Ideal) c i arg2 harg2 arg3 harg3 arg4 harg4 arg5 harg5 arg6 harg6 arg7 harg7 arg8 harg8 arg9 harg9 x3 x4 x5 = nAcc (mtile (i 1).val 2 (k0_pay1 (View.readAt (Elt Ideal) arg3.view (Rect.unit (s := S1x2048x192) ![0, 0, 0] ![1, 2048, 192] inb_S1x2048x192_S1x2048x192_0_0_0).toLoadRect x3)) (View.readAt (Elt Ideal) arg4.view (Rect.unit (s := S1x16384x192) (k0_off19 i 2#32) S1x512x192.size (k0_off19_inb i 2)).toLoadRect x4)) (runB.sl.v155 (F := Ideal) c i arg2 harg2 arg3 harg3 arg4 harg4 arg5 harg5 arg6 harg6 arg7 harg7 arg8 harg8 arg9 harg9 x3 x4 x5) (View.readAt (Elt Ideal) arg5.view (Rect.unit (s := S1x16384x128) (k0_off20 i 2#32) S1x512x128.size (k0_off20_inb i 2)).toLoadRect x5) (runB.sl.v172 (F := Ideal) c i arg2 harg2 arg3 harg3 arg4 harg4 arg5 harg5 arg6 harg6 arg7 harg7 arg8 harg8 arg9 harg9 x3 x4 x5) := by
  unfold runB.sl.v180
  rw [shapeCast_self]
  rfl

theorem new9_3 : runB.sl.v234 (F := Ideal) c i arg2 harg2 arg3 harg3 arg4 harg4 arg5 harg5 arg6 harg6 arg7 harg7 arg8 harg8 arg9 harg9 x3 x4 x5 = nMax (mtile (i 1).val 3 (k0_pay1 (View.readAt (Elt Ideal) arg3.view (Rect.unit (s := S1x2048x192) ![0, 0, 0] ![1, 2048, 192] inb_S1x2048x192_S1x2048x192_0_0_0).toLoadRect x3)) (View.readAt (Elt Ideal) arg4.view (Rect.unit (s := S1x16384x192) (k0_off19 i 3#32) S1x512x192.size (k0_off19_inb i 3)).toLoadRect x4)) (runB.sl.v206 (F := Ideal) c i arg2 harg2 arg3 harg3 arg4 harg4 arg5 harg5 arg6 harg6 arg7 harg7 arg8 harg8 arg9 harg9 x3 x4 x5) := by
  unfold runB.sl.v234
  rw [shapeCast_self]
  rfl

theorem new7_3 : runB.sl.v222 (F := Ideal) c i arg2 harg2 arg3 harg3 arg4 harg4 arg5 harg5 arg6 harg6 arg7 harg7 arg8 harg8 arg9 harg9 x3 x4 x5 = nL (mtile (i 1).val 3 (k0_pay1 (View.readAt (Elt Ideal) arg3.view (Rect.unit (s := S1x2048x192) ![0, 0, 0] ![1, 2048, 192] inb_S1x2048x192_S1x2048x192_0_0_0).toLoadRect x3)) (View.readAt (Elt Ideal) arg4.view (Rect.unit (s := S1x16384x192) (k0_off19 i 3#32) S1x512x192.size (k0_off19_inb i 3)).toLoadRect x4)) (runB.sl.v206 (F := Ideal) c i arg2 harg2 arg3 harg3 arg4 harg4 arg5 harg5 arg6 harg6 arg7 harg7 arg8 harg8 arg9 harg9 x3 x4 x5) (runB.sl.v215 (F := Ideal) c i arg2 harg2 arg3 harg3 arg4 harg4 arg5 harg5 arg6 harg6 arg7 harg7 arg8 harg8 arg9 harg9 x3 x4 x5) := by
  unfold runB.sl.v222
  rw [shapeCast_self]
  rfl

theorem new8_3 : runB.sl.v231 (F := Ideal) c i arg2 harg2 arg3 harg3 arg4 harg4 arg5 harg5 arg6 harg6 arg7 harg7 arg8 harg8 arg9 harg9 x3 x4 x5 = nAcc (mtile (i 1).val 3 (k0_pay1 (View.readAt (Elt Ideal) arg3.view (Rect.unit (s := S1x2048x192) ![0, 0, 0] ![1, 2048, 192] inb_S1x2048x192_S1x2048x192_0_0_0).toLoadRect x3)) (View.readAt (Elt Ideal) arg4.view (Rect.unit (s := S1x16384x192) (k0_off19 i 3#32) S1x512x192.size (k0_off19_inb i 3)).toLoadRect x4)) (runB.sl.v206 (F := Ideal) c i arg2 harg2 arg3 harg3 arg4 harg4 arg5 harg5 arg6 harg6 arg7 harg7 arg8 harg8 arg9 harg9 x3 x4 x5) (View.readAt (Elt Ideal) arg5.view (Rect.unit (s := S1x16384x128) (k0_off20 i 3#32) S1x512x128.size (k0_off20_inb i 3)).toLoadRect x5) (runB.sl.v223 (F := Ideal) c i arg2 harg2 arg3 harg3 arg4 harg4 arg5 harg5 arg6 harg6 arg7 harg7 arg8 harg8 arg9 harg9 x3 x4 x5) := by
  unfold runB.sl.v231
  rw [shapeCast_self]
  rfl

include hK hV hQ in
theorem next_0 (hq : (i 1).val < 8) :
    (∀ r : Fin 2048, (k0_pay90 (runB.sl.v31 i) (runB.sl.r_2 (F := Ideal) i arg3 arg4 x3 x4) (runB.sl.r_3 i) (runB.sl.v53 (F := Ideal) c i arg2 harg2 arg3 harg3 arg4 harg4 arg5 harg5 arg6 harg6 arg7 harg7 arg8 harg8 arg9 harg9 x3 x4 x5)) (ix2 r (0 : Fin 1)) = mS Q K (i 1).val r (4 * (i 1).val + 0 + 1))
    ∧ (∀ r : Fin 2048, (k0_pay88 (runB.sl.v31 i) (runB.sl.r_2 (F := Ideal) i arg3 arg4 x3 x4) (runB.sl.r_3 i) (runB.sl.v53 (F := Ideal) c i arg2 harg2 arg3 harg3 arg4 harg4 arg5 harg5 arg6 harg6 arg7 harg7 arg8 harg8 arg9 harg9 x3 x4 x5) (runB.sl.v62 (F := Ideal) c i arg2 harg2 arg3 harg3 arg4 harg4 arg5 harg5 arg6 harg6 arg7 harg7 arg8 harg8 arg9 harg9 x3 x4 x5)) (ix2 r (0 : Fin 1)) = lS Q K (i 1).val r (4 * (i 1).val + 0 + 1))
    ∧ (∀ (r : Fin 2048) (x : Fin 128), (k0_pay89 (runB.sl.v31 i) (runB.sl.r_1 (F := Ideal) i arg5 x5) (runB.sl.r_2 (F := Ideal) i arg3 arg4 x3 x4) (runB.sl.r_3 i) (runB.sl.v53 (F := Ideal) c i arg2 harg2 arg3 harg3 arg4 harg4 arg5 harg5 arg6 harg6 arg7 harg7 arg8 harg8 arg9 harg9 x3 x4 x5) (runB.sl.v70 (F := Ideal) c i arg2 harg2 arg3 harg3 arg4 harg4 arg5 harg5 arg6 harg6 arg7 harg7 arg8 harg8 arg9 harg9 x3 x4 x5)) (ix2 r x) = aS Q K V (i 1).val r x (4 * (i 1).val + 0 + 1)) := by
  obtain ⟨i9, i7, i8⟩ := (tail5 Q K V c i arg2 harg2 arg3 harg3 arg4 harg4 arg5 harg5 arg6 harg6 arg7 harg7 arg8 harg8 arg9 harg9 x4 x5 hK hV x3 hQ)
  rw [new9_0, new7_0, new8_0, keys0, vals0, readQ, hQ, hK, hV]
  refine step Q K V (i 1).val (4 * (i 1).val + 0) _ _ _ _ (fun r x => mtile_apply Q K (i 1).val 0 hq (by omega) r x) (fun r => ?_) (fun r => ?_) (fun r x => ?_)
  · rw [v53_eq]
    erw [whole9]
    exact i9 r
  · rw [v62_eq]
    erw [col7]
    exact i7 r
  · rw [v70_eq]
    erw [whole8]
    exact i8 r x

include hK hV hQ in
theorem st_1 (hq : (i 1).val < 8) : St Q K V (i 1).val (4 * (i 1).val + 1) (runB.sl.H7_1_1 (F := Ideal) c i arg2 harg2 arg3 harg3 arg4 harg4 arg5 harg5 arg6 harg6 arg7 harg7 arg8 harg8 arg9 harg9 x3 x4 x5)
    (runB.sl.H8_1_1 (F := Ideal) c i arg2 harg2 arg3 harg3 arg4 harg4 arg5 harg5 arg6 harg6 arg7 harg7 arg8 harg8 arg9 harg9 x3 x4 x5) (runB.sl.H9_1_1 (F := Ideal) c i arg2 harg2 arg3 harg3 arg4 harg4 arg5 harg5 arg6 harg6 arg7 harg7 arg8 harg8 arg9 harg9 x3 x4 x5) := by
  obtain ⟨n9, n7, n8⟩ := next_0 Q K V c i arg2 harg2 arg3 harg3 arg4 harg4 arg5 harg5 arg6 harg6 arg7 harg7 arg8 harg8 arg9 harg9 x4 x5 hK hV x3 hQ hq
  refine ⟨fun r => ?_, fun r => ?_, fun r x => ?_⟩
  · unfold runB.sl.H9_1_1
    erw [put9]
    exact n9 r
  · unfold runB.sl.H7_1_1
    erw [put7]
    exact n7 r
  · unfold runB.sl.H8_1_1
    erw [put8]
    exact n8 r x

include hK hV hQ in
theorem next_1 (hq : (i 1).val < 8) :
    (∀ r : Fin 2048, (runB.sl.v132 (F := Ideal) c i arg2 harg2 arg3 harg3 arg4 harg4 arg5 harg5 arg6 harg6 arg7 harg7 arg8 harg8 arg9 harg9 x3 x4 x5) (ix2 r (0 : Fin 1)) = mS Q K (i 1).val r (4 * (i 1).val + 1 + 1))
    ∧ (∀ r : Fin 2048, (runB.sl.v120 (F := Ideal) c i arg2 harg2 arg3 harg3 arg4 harg4 arg5 harg5 arg6 harg6 arg7 harg7 arg8 harg8 arg9 harg9 x3 x4 x5) (ix2 r (0 : Fin 1)) = lS Q K (i 1).val r (4 * (i 1).val + 1 + 1))
    ∧ (∀ (r : Fin 2048) (x : Fin 128), (runB.sl.v129 (F := Ideal) c i arg2 harg2 arg3 harg3 arg4 harg4 arg5 harg5 arg6 harg6 arg7 harg7 arg8 harg8 arg9 harg9 x3 x4 x5) (ix2 r x) = aS Q K V (i 1).val r x (4 * (i 1).val + 1 + 1)) := by
  obtain ⟨i9, i7, i8⟩ := (st_1 Q K V c i arg2 harg2 arg3 harg3 arg4 harg4 arg5 harg5 arg6 harg6 arg7 harg7 arg8 harg8 arg9 harg9 x4 x5 hK hV x3 hQ hq)
  rw [new9_1, new7_1, new8_1, keys1, vals1, readQ, hQ, hK, hV]
  refine step Q K V (i 1).val (4 * (i 1).val + 1) _ _ _ _ (fun r x => mtile_apply Q K (i 1).val 1 hq (by omega) r x) (fun r => ?_) (fun r => ?_) (fun r x => ?_)
  · unfold runB.sl.v104
    erw [whole9]
    exact i9 r
  · unfold runB.sl.v113
    erw [col7]
    exact i7 r
  · unfold runB.sl.v121
    erw [whole8]
    exact i8 r x

include hK hV hQ in
theorem st_2 (hq : (i 1).val < 8) : St Q K V (i 1).val (4 * (i 1).val + 2) (runB.sl.H7_2 (F := Ideal) c i arg2 harg2 arg3 harg3 arg4 harg4 arg5 harg5 arg6 harg6 arg7 harg7 arg8 harg8 arg9 harg9 x3 x4 x5)
    (runB.sl.H8_2 (F := Ideal) c i arg2 harg2 arg3 harg3 arg4 harg4 arg5 harg5 arg6 harg6 arg7 harg7 arg8 harg8 arg9 harg9 x3 x4 x5) (runB.sl.H9_2 (F := Ideal) c i arg2 harg2 arg3 harg3 arg4 harg4 arg5 harg5 arg6 harg6 arg7 harg7 arg8 harg8 arg9 harg9 x3 x4 x5) := by
  obtain ⟨n9, n7, n8⟩ := next_1 Q K V c i arg2 harg2 arg3 harg3 arg4 harg4 arg5 harg5 arg6 harg6 arg7 harg7 arg8 harg8 arg9 harg9 x4 x5 hK hV x3 hQ hq
  refine ⟨fun r => ?_, fun r => ?_, fun r x => ?_⟩
  · unfold runB.sl.H9_2
    erw [put9]
    exact n9 r
  · unfold runB.sl.H7_2
    erw [put7]
    exact n7 r
  · unfold runB.sl.H8_2
    erw [put8]
    exact n8 r x

include hK hV hQ in
theorem next_2 (hq : (i 1).val < 8) :
    (∀ r : Fin 2048, (runB.sl.v183 (F := Ideal) c i arg2 harg2 arg3 harg3 arg4 harg4 arg5 harg5 arg6 harg6 arg7 harg7 arg8 harg8 arg9 harg9 x3 x4 x5) (ix2 r (0 : Fin 1)) = mS Q K (i 1).val r (4 * (i 1).val + 2 + 1))
    ∧ (∀ r : Fin 2048, (runB.sl.v171 (F := Ideal) c i arg2 harg2 arg3 harg3 arg4 harg4 arg5 harg5 arg6 harg6 arg7 harg7 arg8 harg8 arg9 harg9 x3 x4 x5) (ix2 r (0 : Fin 1)) = lS Q K (i 1).val r (4 * (i 1).val + 2 + 1))
    ∧ (∀ (r : Fin 2048) (x : Fin 128), (runB.sl.v180 (F := Ideal) c i arg2 harg2 arg3 harg3 arg4 harg4 arg5 harg5 arg6 harg6 arg7 harg7 arg8 harg8 arg9 harg9 x3 x4 x5) (ix2 r x) = aS Q K V (i 1).val r x (4 * (i 1).val + 2 + 1)) := by
  obtain ⟨i9, i7, i8⟩ := (st_2 Q K V c i arg2 harg2 arg3 harg3 arg4 harg4 arg5 harg5 arg6 harg6 arg7 harg7 arg8 harg8 arg9 harg9 x4 x5 hK hV x3 hQ hq)
  rw [new9_2, new7_2, new8_2, keys2, vals2, readQ, hQ, hK, hV]
  refine step Q K V (i 1).val (4 * (i 1).val + 2) _ _ _ _ (fun r x => mtile_apply Q K (i 1).val 2 hq (by omega) r x) (fun r => ?_) (fun r => ?_) (fun r x => ?_)
  · unfold runB.sl.v155
    erw [whole9]
    exact i9 r
  · unfold runB.sl.v164
    erw [col7]
    exact i7 r
  · unfold runB.sl.v172
    erw [whole8]
    exact i8 r x

include hK hV hQ in
theorem st_3 (hq : (i 1).val < 8) : St Q K V (i 1).val (4 * (i 1).val + 3) (runB.sl.H7_3 (F := Ideal) c i arg2 harg2 arg3 harg3 arg4 harg4 arg5 harg5 arg6 harg6 arg7 harg7 arg8 harg8 arg9 harg9 x3 x4 x5)
    (runB.sl.H8_3 (F := Ideal) c i arg2 harg2 arg3 harg3 arg4 harg4 arg5 harg5 arg6 harg6 arg7 harg7 arg8 harg8 arg9 harg9 x3 x4 x5) (runB.sl.H9_3 (F := Ideal) c i arg2 harg2 arg3 harg3 arg4 harg4 arg5 harg5 arg6 harg6 arg7 harg7 arg8 harg8 arg9 harg9 x3 x4 x5) := by
  obtain ⟨n9, n7, n8⟩ := next_2 Q K V c i arg2 harg2 arg3 harg3 arg4 harg4 arg5 harg5 arg6 harg6 arg7 harg7 arg8 harg8 arg9 harg9 x4 x5 hK hV x3 hQ hq
  refine ⟨fun r => ?_, fun r => ?_, fun r x => ?_⟩
  · unfold runB.sl.H9_3
    erw [put9]
    exact n9 r
  · unfold runB.sl.H7_3
    erw [put7]
    exact n7 r
  · unfold runB.sl.H8_3
    erw [put8]
    exact n8 r x

include hK hV hQ in
theorem next_3 (hq : (i 1).val < 8) :
    (∀ r : Fin 2048, (runB.sl.v234 (F := Ideal) c i arg2 harg2 arg3 harg3 arg4 harg4 arg5 harg5 arg6 harg6 arg7 harg7 arg8 harg8 arg9 harg9 x3 x4 x5) (ix2 r (0 : Fin 1)) = mS Q K (i 1).val r (4 * (i 1).val + 3 + 1))
    ∧ (∀ r : Fin 2048, (runB.sl.v222 (F := Ideal) c i arg2 harg2 arg3 harg3 arg4 harg4 arg5 harg5 arg6 harg6 arg7 harg7 arg8 harg8 arg9 harg9 x3 x4 x5) (ix2 r (0 : Fin 1)) = lS Q K (i 1).val r (4 * (i 1).val + 3 + 1))
    ∧ (∀ (r : Fin 2048) (x : Fin 128), (runB.sl.v231 (F := Ideal) c i arg2 harg2 arg3 harg3 arg4 harg4 arg5 harg5 arg6 harg6 arg7 harg7 arg8 harg8 arg9 harg9 x3 x4 x5) (ix2 r x) = aS Q K V (i 1).val r x (4 * (i 1).val + 3 + 1)) := by
  obtain ⟨i9, i7, i8⟩ := (st_3 Q K V c i arg2 harg2 arg3 harg3 arg4 harg4 arg5 harg5 arg6 harg6 arg7 harg7 arg8 harg8 arg9 harg9 x4 x5 hK hV x3 hQ hq)
  rw [new9_3, new7_3, new8_3, keys3, vals3, readQ, hQ, hK, hV]
  refine step Q K V (i 1).val (4 * (i 1).val + 3) _ _ _ _ (fun r x => mtile_apply Q K (i 1).val 3 hq (by omega) r x) (fun r => ?_) (fun r => ?_) (fun r x => ?_)
  · unfold runB.sl.v206
    erw [whole9]
    exact i9 r
  · unfold runB.sl.v215
    erw [col7]
    exact i7 r
  · unfold runB.sl.v223
    erw [whole8]
    exact i8 r x

include hK hV hQ in
/-- What the branch with a running maximum leaves in the output tile. -/
theorem outB (hq : (i 1).val < 8) (x2 x6 x7 x8 x9 hc1 hc2) (r : Fin 2048) (x : Fin 128) :
    View.canon (runB (F := Ideal) c i arg2 harg2 arg3 harg3 arg4 harg4 arg5 harg5 arg6 harg6 arg7 harg7 arg8 harg8 arg9 harg9 x2 x3 x4 x5 x6 x7 x8 x9 hc1 hc2).1 (ix2 r x)
      = Ideal.div (aS Q K V (i 1).val r x (4 * (i 1).val + 4)) (lS Q K (i 1).val r (4 * (i 1).val + 4)) := by
  obtain ⟨n9, n7, n8⟩ := next_3 Q K V c i arg2 harg2 arg3 harg3 arg4 harg4 arg5 harg5 arg6 harg6 arg7 harg7 arg8 harg8 arg9 harg9 x4 x5 hK hV x3 hQ hq
  unfold runB
  dsimp only
  rw [View.canon_cons_unit_zero (S := S2048x128) (by decide)]
  rw [pay6_apply]
  have e8 : runB.sl.v235 (F := Ideal) c i arg2 harg2 arg3 harg3 arg4 harg4 arg5 harg5 arg6 harg6 arg7 harg7 arg8 harg8 arg9 harg9 x3 x4 x5 (ix2 r x) = aS Q K V (i 1).val r x (4 * (i 1).val + 4) := by
    unfold runB.sl.v235
    erw [whole8]
    unfold runB.sl.H8_4
    erw [put8]
    exact n8 r x
  have e7 : runB.sl.v236 (F := Ideal) c i arg2 harg2 arg3 harg3 arg4 harg4 arg5 harg5 arg6 harg6 arg7 harg7 arg8 harg8 arg9 harg9 x3 x4 x5 (ix2 r 0) = lS Q K (i 1).val r (4 * (i 1).val + 4) := by
    unfold runB.sl.v236
    erw [col7]
    unfold runB.sl.H7_4
    erw [put7]
    exact n7 r
  rw [e7, e8]
end Cert.Attn
-- ==== Proof.Rows.lean ====
module
public import proofs.«01_k».proof.Proof.Softmax
public import proofs.«01_k».proof.Proof.Bounded
public import proofs.«01_k».proof.Proof.Running
@[expose] public section
noncomputable section
namespace Cert.Attn
open Idealize.ShloMosaic Cert.KernelIdeal Cert.KernelIdeal.Gen

variable (Q : FVec Ideal S1x2048x192 .f32) (K : FVec Ideal S1x16384x192 .bf16) (V : FVec Ideal S1x16384x128 .bf16)

/-- One more block of 512 terms of a sum. -/
theorem sum_block (f : ℕ → EReal) (n : ℕ) : ∑ j ∈ Finset.range (512 * (n + 1)), f j
    = ∑ j ∈ Finset.range (512 * n), f j + ∑ k : Fin 512, f (512 * n + k.val) := by
  rw [show 512 * (n + 1) = 512 * n + 512 by omega, Finset.sum_range_add, Finset.sum_range fun k => f (512 * n + k)]

/-- A sum by blocks of 512 terms. -/
theorem sum_blocks (f : ℕ → EReal) (n : ℕ) : ∑ b ∈ Finset.range n, ∑ k : Fin 512, f (512 * b + k.val) = ∑ j ∈ Finset.range (512 * n), f j := by
  induction n with
  | zero => simp
  | succ n ih => rw [Finset.sum_range_succ, ih, sum_block]

/-- The four lanes a register of 128 collects, over all registers' lanes, are the 512 terms. -/
theorem sum_four_lanes (f : ℕ → EReal) : ∑ l : Fin 128, four f l.val = ∑ k : Fin 512, f k.val := by
  have e := fun (n : ℕ) => Finset.sum_range_add f n 128
  rw [← Finset.sum_range f, show 512 = ((128 + 128) + 128) + 128 from rfl, e, e, e]
  simp only [four, Finset.sum_add_distrib, Finset.sum_range]

variable (qi : ℕ) (r : Fin 2048) (x : ℕ → ℝ) (hx : ∀ j, mscore qi Q K r j = lg x (2048 * qi + r.val) j)

include hx in
theorem mwt_eq (β : ℝ) (b : ℕ) (k : ℕ) : mwt Q K (β : EReal) qi r b k = Ideal.exp2 (lg x (2048 * qi + r.val) (512 * b + k) - (β : EReal)) := by
  rw [← hx, mwt, mscore]
  split
  · rfl
  · rw [exp2_bot_sub]

include hx in
/-- The bounded branch divides the weighted values by the sum of the weights, over the keys of the tiles up to the diagonal. -/
theorem bounded_eq (β : ℝ) (d : Fin 128) :
    Ideal.div (ast Q K V (β : EReal) qi (4 * qi + 4) r d) (∑ l : Fin 128, lst Q K (β : EReal) qi (4 * qi + 4) r l)
      = ∑ j ∈ Finset.range (512 * (4 * qi + 4)), (prob x (2048 * qi + r.val) j : EReal) * vRow V j d := by
  have e1 : ast Q K V (β : EReal) qi (4 * qi + 4) r d
      = ∑ j ∈ Finset.range (512 * (4 * qi + 4)), Ideal.exp2 (lg x (2048 * qi + r.val) j - (β : EReal)) * vRow V j d := by
    rw [← sum_blocks]
    refine Finset.sum_congr rfl fun b _ => Finset.sum_congr rfl fun k _ => ?_
    rw [mwt_eq Q K qi r x hx]
  have e2 : ∑ l : Fin 128, lst Q K (β : EReal) qi (4 * qi + 4) r l
      = ∑ j ∈ Finset.range (512 * (4 * qi + 4)), Ideal.exp2 (lg x (2048 * qi + r.val) j - (β : EReal)) := by
    rw [← sum_blocks]
    unfold lst
    rw [Finset.sum_comm]
    refine Finset.sum_congr rfl fun b _ => ?_
    rw [sum_four_lanes]
    exact Finset.sum_congr rfl fun k _ => mwt_eq Q K qi r x hx β b k.val
  rw [e1, e2]
  exact quotient2 x _ _ (by have := r.isLt; omega) β fun j => vRow V j d

include hx in
/-- After any block the running maximum is a real. -/
theorem mS_real (n : ℕ) : ∃ m : ℝ, mS Q K qi r (n + 1) = (m : EReal) := by
  have s : ∀ n, (Finset.univ.sup fun k : Fin 512 => mscore qi Q K r (512 * n + k.val)) < ⊤ := fun n =>
    (Finset.sup_lt_iff (by simp)).mpr fun k _ => by rw [hx]; exact lt_top_iff_ne_top.mpr (lg_ne_top _ _ _)
  have b0 : (⊥ : EReal) < (Finset.univ.sup fun k : Fin 512 => mscore qi Q K r (512 * 0 + k.val)) :=
    lt_of_lt_of_le (bot_lt_iff_ne_bot.mpr (lg_zero x (2048 * qi + r.val)))
      ((hx 0).symm.le.trans (show mscore qi Q K r (512 * 0 + (⟨0, by omega⟩ : Fin 512).val) ≤ _ from
        Finset.le_sup (f := fun k : Fin 512 => mscore qi Q K r (512 * 0 + k.val)) (Finset.mem_univ _)))
  have h : ∀ n, mS Q K qi r (n + 1) < ⊤ ∧ ⊥ < mS Q K qi r (n + 1) := by
    intro n
    induction n with
    | zero => exact ⟨max_lt (by exact bot_lt_top) (s 0), lt_of_lt_of_le b0 (le_max_right _ _)⟩
    | succ n ih => exact ⟨max_lt ih.1 (s (n + 1)), lt_of_lt_of_le ih.2 (le_max_left _ _)⟩
  exact ⟨_, (EReal.coe_toReal (h n).1.ne (h n).2.ne').symm⟩

include hx in
/-- The running sums are the sums of the weights against the running maximum. -/
theorem sums_eq (d : Fin 128) (n : ℕ) : ∀ m : ℝ, mS Q K qi r (n + 1) = (m : EReal) →
    lS Q K qi r (n + 1) = ∑ j ∈ Finset.range (512 * (n + 1)), Ideal.exp2 (lg x (2048 * qi + r.val) j - (m : EReal))
    ∧ aS Q K V qi r d (n + 1) = ∑ j ∈ Finset.range (512 * (n + 1)), Ideal.exp2 (lg x (2048 * qi + r.val) j - (m : EReal)) * vRow V j d := by
  induction n with
  | zero =>
    intro m hm
    constructor
    · rw [lS, hm, sum_block]
      simp only [hx, lS, mul_zero, Finset.range_zero, Finset.sum_empty]
    · rw [aS, hm, sum_block]
      simp only [hx, aS, mul_zero, Finset.range_zero, Finset.sum_empty]
  | succ n ih =>
    intro m hm
    obtain ⟨m0, hm0⟩ := mS_real Q K qi r x hx n
    obtain ⟨i1, i2⟩ := ih m0 hm0
    have c : Ideal.exp2 ((m0 : EReal) - (m : EReal)) = ((Real.exp (m0 * Real.log 2) * Real.exp (-(m * Real.log 2)) : ℝ) : EReal) := exp2_real m0 m
    constructor
    · rw [lS, hm, hm0, i1, sum_block _ (n + 1), c, mul_sum_real _ _ (by positivity), ← c]
      simp only [hx, rescale]
    · rw [aS, hm, hm0, i2, sum_block _ (n + 1), c, mul_sum_real _ _ (by positivity), ← c]
      simp only [hx, ← mul_assoc, rescale]

include hx in
/-- The branch with a running maximum leaves the same. -/
theorem running_eq (d : Fin 128) :
    Ideal.div (aS Q K V qi r d (4 * qi + 4)) (lS Q K qi r (4 * qi + 4))
      = ∑ j ∈ Finset.range (512 * (4 * qi + 4)), (prob x (2048 * qi + r.val) j : EReal) * vRow V j d := by
  obtain ⟨m, hm⟩ := mS_real Q K qi r x hx (4 * qi + 3)
  obtain ⟨e1, e2⟩ := sums_eq Q K V qi r x hx d (4 * qi + 3) m hm
  rw [e1, e2]
  exact quotient2 x _ _ (by have := r.isLt; omega) m fun j => vRow V j d
end Cert.Attn
-- ==== Proof.Operands.lean ====
module
public import proofs.«01_k».proof.Proof.Run
public import proofs.«01_k».proof.Proof.Rows
public import proofs.«01_k».proof.Proof.Math0
public import Idealize.ShloMosaic.Lib.Pipeline.ValueKit
public import Idealize.ShloMosaic.Lib.Tactic.CleanTypes
@[expose] public section
set_option maxRecDepth 16384
noncomputable section
namespace Cert.Attn
open Idealize.ShloMosaic Idealize.ShloMosaic.TcCoe Cert.KernelIdeal Cert.KernelIdeal.Gen Cert.KernelIdeal.Body

variable (m : (ℓ : Loc nD τ sig) → Buf (Elt Ideal) ℓ) (c : Dev nD)

/-- The queries the call reads, laid out by head. -/
theorem q_entry (h : Fin 12) (t : Fin 16384) (d : Fin 192) :
    (V m c main_v14 : FVec Ideal S12x16384x192 .f32) (ix3 h t d) = (m ((c : Thread nD τ).loc main_arg0) : FVec Ideal S1x16384x12x192 .f32) (ix4 0 t h d) := by
  entry_read
  clean_types
  pointwise
/-- The keys the call reads, laid out by head. -/
theorem k_entry (h : Fin 12) (t : Fin 16384) (d : Fin 192) :
    (V m c main_v17 : FVec Ideal S12x16384x192 .bf16) (ix3 h t d) = (m ((c : Thread nD τ).loc main_arg1) : FVec Ideal S1x16384x12x192 .f32) (ix4 0 t h d) := by
  entry_read
  clean_types
  pointwise
/-- The values the call reads, laid out by head. -/
theorem v_entry (h : Fin 12) (t : Fin 16384) (d : Fin 128) :
    (V m c main_v20 : FVec Ideal S12x16384x128 .bf16) (ix3 h t d) = (m ((c : Thread nD τ).loc main_arg2) : FVec Ideal S1x16384x12x128 .f32) (ix4 0 t h d) := by
  entry_read
  clean_types
  pointwise
/-- The factor of the bound is a real that is not negative. -/
theorem ofBits_factor : ∃ c : ℝ, 0 ≤ c ∧ Ideal.ofBits .f32 0x41A18618#32 = (c : EReal) := by
  refine ⟨_, ?_, show _ = ((_ : ℝ) : EReal) by simp [Ideal.ofBits, Ideal.ieee, -EReal.coe_mul]; rfl⟩
  positivity

/-- The largest stable bound is a real. -/
theorem ofBits_limit : ∃ c : ℝ, Ideal.ofBits .f32 0x422D1F97#32 = (c : EReal) :=
  ⟨_, show _ = ((_ : ℝ) : EReal) by simp [Ideal.ofBits, Ideal.ieee, -EReal.coe_mul]; rfl⟩

/-- A maximum of absolute values is not negative. -/
theorem fold_abs_nonneg (f : Fin 192 → EReal) :
    0 ≤ Finset.fold max (⊥ : EReal) (fun x => max (f x) (-(f x))) Finset.univ := by
  refine le_trans ?_ (Finset.le_sup (f := fun x => max (f x) (-(f x))) (Finset.mem_univ (0 : Fin 192)))
  show (0 : EReal) ≤ max (f 0) (-(f 0))
  rcases le_total 0 (f 0) with h | h
  · exact h.trans (le_max_left _ _)
  · exact (EReal.neg_nonneg.mpr h).trans (le_max_right _ _)

/-- A bound below the limit is a real, and the flag is one; above it the flag is zero. -/
theorem flag_cases (a l : ℝ) (ha : 0 ≤ a) (A B : EReal) (hA : 0 ≤ A) (hB : 0 ≤ B) :
    (∃ β : ℝ, (a : EReal) * A * B = (β : EReal) ∧ FloatOps.uitofp (F := Ideal) .f32 (BitVec.ofBool (decide ((a : EReal) * A * B ≤ (l : EReal)))) = (1 : EReal))
      ∨ FloatOps.uitofp (F := Ideal) .f32 (BitVec.ofBool (decide ((a : EReal) * A * B ≤ (l : EReal)))) = (0 : EReal) := by
  by_cases h : (a : EReal) * A * B ≤ (l : EReal)
  · left
    have h0 : (0 : EReal) ≤ (a : EReal) * A * B := mul_nonneg (mul_nonneg (EReal.coe_nonneg.mpr ha) hA) hB
    refine ⟨EReal.toReal ((a : EReal) * A * B), (EReal.coe_toReal (lt_of_le_of_lt h (EReal.coe_lt_top l)).ne (lt_of_lt_of_le EReal.bot_lt_zero h0).ne').symm, ?_⟩
    rw [decide_eq_true h]
    show (((1#1 : BitVec 1).toNat : ℝ) : EReal) = 1
    simp
  · right
    rw [decide_eq_false h]
    show (((0#1 : BitVec 1).toNat : ℝ) : EReal) = 0
    simp

/-- The two words the call reads: the second says whether to use the first as the bound, and where it does the first is a real. -/
theorem sc_entry : (∃ β : ℝ, (V m c main_v12 : FVec Ideal S2 .f32) (ix1 0) = (β : EReal) ∧ (V m c main_v12 : FVec Ideal S2 .f32) (ix1 1) = (1 : EReal))
    ∨ (V m c main_v12 : FVec Ideal S2 .f32) (ix1 1) = (0 : EReal) := by
  obtain ⟨a, ha, ea⟩ := ofBits_factor
  obtain ⟨l, el⟩ := ofBits_limit
  entry_read
  clean_types
  pointwise
  simp only [Ideal.absf_def]
  rw [ofBits_bot, ea, el]
  exact flag_cases a l ha _ _ (fold_abs_nonneg _) (fold_abs_nonneg _)
end Cert.Attn
-- ==== Proof.Blocks.lean ====
module
public import proofs.«01_k».proof.Proof.Operands
@[expose] public section
set_option maxRecDepth 16384
noncomputable section
namespace Cert.Attn
open Idealize.ShloMosaic Idealize.ShloMosaic.TcCoe Cert.KernelIdeal Cert.KernelIdeal.Gen Cert.KernelIdeal.Body

/-- Which block each window shows at a point of the grid: the head and the tile of queries. -/
theorem idx : ∀ t : Fin cfg0.N, win0_0.index t 0 = 0
    ∧ win0_1.index t 0 = (grid0.coords t 0).val ∧ win0_1.index t 1 = (grid0.coords t 1).val ∧ win0_1.index t 2 = 0
    ∧ win0_2.index t 0 = (grid0.coords t 0).val ∧ win0_2.index t 1 = 0 ∧ win0_2.index t 2 = 0
    ∧ win0_3.index t 0 = (grid0.coords t 0).val ∧ win0_3.index t 1 = 0 ∧ win0_3.index t 2 = 0
    ∧ win0_4.index t 0 = (grid0.coords t 1).val ∧ win0_4.index t 1 = (grid0.coords t 0).val
    ∧ (grid0.coords t 0).val < 12 ∧ (grid0.coords t 1).val < 8 := by decide +kernel

variable (m : (ℓ : Loc nD τ sig) → Buf (Elt Ideal) ℓ) (c : Dev nD)

/-- The two words at any point. -/
theorem sc_blk (t : Fin cfg0.N) (k : Fin 2) :
    (iblk m c 0 t : FVec Ideal S2 .f32) (ix1 k) = (V m c main_v12 : FVec Ideal S2 .f32) (ix1 k) := by
  blk_ext [iblk, idx t]

/-- The block of queries at a point. -/
theorem q_blk (t : Fin cfg0.N) (r : Fin 2048) (d : Fin 192) (h : Fin 12) (s : Fin 16384)
    (eh : h.val = (grid0.coords t 0).val) (es : s.val = 2048 * (grid0.coords t 1).val + r.val) :
    (iblk m c 1 t : FVec Ideal S1x2048x192 .f32) (ix3 0 r d) = (m ((c : Thread nD τ).loc main_arg0) : FVec Ideal S1x16384x12x192 .f32) (ix4 0 s h d) := by
  rw [← q_entry m c h s d]
  blk_ext [iblk, idx t]

/-- The keys at a point. -/
theorem k_blk (t : Fin cfg0.N) (s : Fin 16384) (d : Fin 192) (h : Fin 12) (eh : h.val = (grid0.coords t 0).val) :
    (iblk m c 2 t : FVec Ideal S1x16384x192 .bf16) (ix3 0 s d) = (m ((c : Thread nD τ).loc main_arg1) : FVec Ideal S1x16384x12x192 .f32) (ix4 0 s h d) := by
  rw [← k_entry m c h s d]
  blk_ext [iblk, idx t]

/-- The values at a point. -/
theorem v_blk (t : Fin cfg0.N) (s : Fin 16384) (d : Fin 128) (h : Fin 12) (eh : h.val = (grid0.coords t 0).val) :
    (iblk m c 3 t : FVec Ideal S1x16384x128 .bf16) (ix3 0 s d) = (m ((c : Thread nD τ).loc main_arg2) : FVec Ideal S1x16384x12x128 .f32) (ix4 0 s h d) := by
  rw [← v_entry m c h s d]
  blk_ext [iblk, idx t]
end Cert.Attn
-- ==== Proof.Tile.lean ====
module
public import proofs.«01_k».proof.Proof.Rows
public import proofs.«01_k».proof.Proof.Run
@[expose] public section
set_option maxRecDepth 16384
noncomputable section
namespace Cert.Attn
open Idealize.ShloMosaic Cert.KernelIdeal Cert.KernelIdeal.Gen Cert.KernelIdeal.Body

/-- A positive flag chooses the bounded branch. -/
theorem isPos_one : isPos (F := Ideal) (1 : EReal) := by
  show Scalar.cmpi CmpIPredicate.ne (Scalar.extui (BitVec.ofBool (decide (Ideal.ofBits .f32 0#32 < (1 : EReal))))) 0#32 = 1#1
  rw [Ideal.ofBits_zero_f32, decide_eq_true (by exact_mod_cast one_pos)]
  decide

/-- A positive flag does not choose the branch with a running maximum. -/
theorem not_isNonpos_one : ¬ isNonpos (F := Ideal) (1 : EReal) := by
  show ¬ Scalar.cmpi CmpIPredicate.ne (Scalar.extui (BitVec.ofBool (decide ((1 : EReal) ≤ Ideal.ofBits .f32 0#32)))) 0#32 = 1#1
  rw [Ideal.ofBits_zero_f32, decide_eq_false (not_le.mpr (by exact_mod_cast one_pos))]
  decide

/-- A zero flag does not choose the bounded branch. -/
theorem not_isPos_zero : ¬ isPos (F := Ideal) (0 : EReal) := by
  show ¬ Scalar.cmpi CmpIPredicate.ne (Scalar.extui (BitVec.ofBool (decide (Ideal.ofBits .f32 0#32 < (0 : EReal))))) 0#32 = 1#1
  rw [Ideal.ofBits_zero_f32, decide_eq_false (lt_irrefl _)]
  decide

/-- A zero flag chooses the branch with a running maximum. -/
theorem isNonpos_zero : isNonpos (F := Ideal) (0 : EReal) := by
  show Scalar.cmpi CmpIPredicate.ne (Scalar.extui (BitVec.ofBool (decide ((0 : EReal) ≤ Ideal.ofBits .f32 0#32)))) 0#32 = 1#1
  rw [Ideal.ofBits_zero_f32, decide_eq_true le_rfl]
  decide

variable (c : Dev nD) (i : grid0.Coords)
  (arg2 : Memref sig .tc .smem S2 .f32) (harg2 : arg2.IsWhole) (arg3 : Memref sig .tc .vmem S1x2048x192 .f32) (harg3 : arg3.IsWhole)
  (arg4 : Memref sig .tc .vmem S1x16384x192 .bf16) (harg4 : arg4.IsWhole) (arg5 : Memref sig .tc .vmem S1x16384x128 .bf16) (harg5 : arg5.IsWhole)
  (arg6 : Memref sig .tc .vmem S2048x128 .bf16) (harg6 : arg6.IsWhole) (arg7 : Memref sig .tc .vmem S2048x128 .f32) (harg7 : arg7.IsWhole)
  (arg8 : Memref sig .tc .vmem S2048x128 .f32) (harg8 : arg8.IsWhole) (arg9 : Memref sig .tc .vmem S2048x1 .f32) (harg9 : arg9.IsWhole)

/-- The flag is the second prepared word. -/
theorem flag_eq (x2) (X2 : FVec Ideal S2 .f32) (h : arg2.view.read (Elt Ideal) x2 = X2) : flag (F := Ideal) arg2 x2 = X2 (ix1 1) := by
  subst h
  unfold flag
  show arg2.view.read (Elt Ideal) x2 _ = _
  congr 1
  funext a
  apply Fin.ext
  fin_cases a
  rfl

/-- The bound is the first prepared word. -/
theorem bound_eq (x2) (X2 : FVec Ideal S2 .f32) (h : arg2.view.read (Elt Ideal) x2 = X2) : bound arg2 x2 = X2 (ix1 0) := by
  subst h
  unfold bound runA.sl.r_1
  show arg2.view.read (Elt Ideal) x2 _ = _
  congr 1
  funext a
  apply Fin.ext
  fin_cases a
  rfl

/-- What the body leaves in a tile of the result, whichever branch it takes: the values weighted by the softmax of the scores. -/
theorem leaves_eq (Q : FVec Ideal S1x2048x192 .f32) (K : FVec Ideal S1x16384x192 .bf16) (V : FVec Ideal S1x16384x128 .bf16)
    (X2 : FVec Ideal S2 .f32) (X : FVec Ideal S2048x128 .bf16) (hL : Leaves (F := Ideal) c i arg2 harg2 arg3 harg3 arg4 harg4 arg5 harg5 arg6 harg6 arg7 harg7 arg8 harg8 arg9 harg9 X2 Q K V X) (hq : (i 1).val < 8)
    (hs : (∃ β : ℝ, X2 (ix1 0) = (β : EReal) ∧ X2 (ix1 1) = (1 : EReal)) ∨ X2 (ix1 1) = (0 : EReal))
    (r : Fin 2048) (x : ℕ → ℝ) (hx : ∀ j, mscore (i 1).val Q K r j = lg x (2048 * (i 1).val + r.val) j) (d : Fin 128) :
    X (ix2 r d) = ∑ j ∈ Finset.range (512 * (4 * (i 1).val + 4)), (prob x (2048 * (i 1).val + r.val) j : EReal) * vRow V j d := by
  obtain ⟨x2, x3, x4, x5, x6, x7, x8, x9, h2, h3, h4, h5, hA, hB⟩ := hL
  rcases hs with ⟨β, hβ, h1⟩ | h0
  · have hf : flag (F := Ideal) arg2 x2 = (1 : EReal) := (flag_eq arg2 x2 X2 h2).trans h1
    have hc1 : isPos (flag (F := Ideal) arg2 x2) := by rw [hf]; exact isPos_one
    have hc2 : ¬ isNonpos (flag (F := Ideal) arg2 x2) := by rw [hf]; exact not_isNonpos_one
    rw [hA hc1 hc2, View.read_writes_eq_canon, out Q K V c i arg2 harg2 arg3 harg3 arg4 harg4 arg5 harg5 arg6 harg6 arg7 harg7 arg8 harg8 arg9 harg9 x4 x5 h4 h5 x2 x3 h3 hq, bound_eq arg2 x2 X2 h2, hβ]
    · exact bounded_eq Q K V (i 1).val r x hx β d
    · intro y
      unfold runA
      dsimp only
      refine ⟨_, List.mem_cons_self, ?_⟩
      apply View.mem_set_unit_zero (S := S2048x128)
      all_goals decide
  · have hf : flag (F := Ideal) arg2 x2 = (0 : EReal) := (flag_eq arg2 x2 X2 h2).trans h0
    have hc1 : ¬ isPos (flag (F := Ideal) arg2 x2) := by rw [hf]; exact not_isPos_zero
    have hc2 : isNonpos (flag (F := Ideal) arg2 x2) := by rw [hf]; exact isNonpos_zero
    rw [hB hc1 hc2, View.read_writes_eq_canon, outB Q K V c i arg2 harg2 arg3 harg3 arg4 harg4 arg5 harg5 arg6 harg6 arg7 harg7 arg8 harg8 arg9 harg9 x4 x5 h4 h5 x3 h3 hq]
    · exact running_eq Q K V (i 1).val r x hx d
    · intro y
      unfold runB
      dsimp only
      refine ⟨_, List.mem_cons_self, ?_⟩
      apply View.mem_set_unit_zero (S := S2048x128)
      all_goals decide
end Cert.Attn
-- ==== Proof.Result.lean ====
module
public import proofs.«01_k».proof.Proof.Spec
public import proofs.«01_k».proof.Proof.Blocks
public import proofs.«01_k».proof.Proof.Tile
@[expose] public section
set_option maxRecDepth 16384
noncomputable section
namespace Cert.Attn
open Idealize.ShloMosaic Idealize.ShloMosaic.TcCoe Cert.KernelIdeal Cert.KernelIdeal.Gen Cert.KernelIdeal.Body
open Idealize.SL.Sem

/-- The masked score the kernel computes, in powers of two, is the reference's score over the logarithm of two. -/
theorem mscore_eq (q k : FVec Ideal QK .f32) (hq : Finite q) (hk : Finite k) (Q : FVec Ideal S1x2048x192 .f32) (K : FVec Ideal S1x16384x192 .bf16)
    (h : Fin 12) (s : Fin 16384) (qi : ℕ) (r : Fin 2048) (es : s.val = 2048 * qi + r.val)
    (eQ : ∀ d, Q (ix3 0 r d) = q (ix4 0 s h d)) (eK : ∀ (j : Fin 16384) d, K (ix3 0 j d) = k (ix4 0 j h d)) (j : ℕ) :
    mscore qi Q K r j = lg (sR q k h s) (2048 * qi + r.val) j := by
  unfold mscore lg
  split
  · rename_i hj
    have hj' : j < 16384 := by have := s.isLt; omega
    unfold score sR scale kRow
    simp only [dif_pos hj', eQ, eK]
    rw [sum_scale_real _ _ _ (fun d => hq _) (fun d => hk _)]
    congr 1
    rw [div_div, div_eq_mul_inv, mul_inv]
  · rfl

variable (m : (ℓ : Loc nD τ sig) → Buf (Elt Ideal) ℓ) (c : Dev nD)

/-- The queries, keys and values of a device. -/
abbrev qA : FVec Ideal QK .f32 := m ((c : Thread nD τ).loc main_arg0)
abbrev kA : FVec Ideal QK .f32 := m ((c : Thread nD τ).loc main_arg1)
abbrev vA : FVec Ideal VV .f32 := m ((c : Thread nD τ).loc main_arg2)

/-- What the body may leave at a point of the grid is the attention of that tile of queries. -/
theorem point (hq : Finite (qA m c)) (hk : Finite (kA m c)) (t : Fin cfg0.N) (X : FVec Ideal S2048x128 .bf16) (hX : LeavesAt m c t X)
    (r : Fin 2048) (d : Fin 128) (h : Fin 12) (s : Fin 16384) (eh : h.val = (grid0.coords t 0).val) (es : s.val = 2048 * (grid0.coords t 1).val + r.val) :
    X (ix2 r d) = attend (qA m c) (kA m c) (vA m c) h s d := by
  have hi := (idx t).2.2.2.2.2.2.2.2.2.2.2.2.2
  have e := leaves_eq c (grid0.coords t) _ _ _ _ _ _ _ _ _ _ _ _ _ _ _ _ (iblk m c 1 t) (iblk m c 2 t) (iblk m c 3 t) (iblk m c 0 t) X hX hi
    (by
      have := sc_entry m c
      rw [← sc_blk m c t 0, ← sc_blk m c t 1] at this
      exact this) r (sR (qA m c) (kA m c) h s)
    (mscore_eq (qA m c) (kA m c) hq hk _ _ h s _ r es (fun d => q_blk m c t r d h s eh es) (fun j d => k_blk m c t j d h eh)) d
  rw [e, prob_sum _ _ _ 16384 (by have := r.isLt; omega) (by omega), Finset.sum_range, attend]
  refine Finset.sum_congr rfl fun j _ => ?_
  rw [← es, vRow, dif_pos j.isLt, v_blk m c t j d h eh]

/-- The result array after any run. -/
theorem result (hq : Finite (qA m c)) (hk : Finite (kA m c)) (r : PUnit × MemSt nD τ sig (Elt Ideal)) (h : Post m r) :
    r.2.mem ((c : Thread nD τ).loc main_v21) = whole (qA m c) (kA m c) (vA m c) := by
  obtain ⟨after, hl, ha⟩ := h.1.exists_exact c
  refine (ha 4).trans ?_
  refine Pipeline.Dat.arrAt_eq_of_covers _ 4 _ (by decide +kernel) fun t hf y => ?_
  have hL : LeavesAt m c t (after 4 t) := (dats m 0 c).toRRel_leaves (fgt := held) (Rl := Rl m c) (w := 4) rfl (hl 4 t hf)
  have i1 := (idx t).2.2.2.2.2.2.2.2.2.2.1
  have i2 := (idx t).2.2.2.2.2.2.2.2.2.2.2.1
  have b0 := (idx t).2.2.2.2.2.2.2.2.2.2.2.2.1
  have b1 := (idx t).2.2.2.2.2.2.2.2.2.2.2.2.2
  simp only [Pipeline.RDat.withAfter_after]
  blk_simp
  generalize after 4 t = X at hL ⊢
  have y0 : (y 0).val < 2048 := (y 0).isLt
  have y1 : (y 1).val < 128 := (y 1).isLt
  have e := point m c hq hk t X hL (y 0) (y 1) ⟨(grid0.coords t 0).val, b0⟩ ⟨2048 * (grid0.coords t 1).val + (y 0).val, by omega⟩ rfl rfl
  have ey : X y = X (ix2 (y 0) (y 1)) := congrArg X (ValueIdx.eq_ix2 y)
  rw [ey, e]
  have e0 : (((win0_4.blk t).view.emb y) 0).val = 2048 * (grid0.coords t 1).val + (y 0).val := by blk_simp [i1]; omega
  have e1 : (((win0_4.blk t).view.emb y) 1).val = 128 * (grid0.coords t 0).val + (y 1).val := by blk_simp [i2]; omega
  unfold whole
  congr 1
  · apply Fin.ext; show (grid0.coords t 0).val = (((win0_4.blk t).view.emb y) 1).val / 128; omega
  · apply Fin.ext; show 2048 * (grid0.coords t 1).val + (y 0).val = (((win0_4.blk t).view.emb y) 0).val; omega
  · apply Fin.ext; show (y 1).val = (((win0_4.blk t).view.emb y) 1).val % 128; omega
end Cert.Attn
-- ==== Proof.Reference.lean ====
module
public import proofs.«01_k».proof.Proof.Spec
public import proofs.«01_k».proof.Proof.Math0
public import proofs.«01_k».proof.Proof.Gen.ReferenceIdeal.Read
public import Idealize.ShloMosaic.Lib.Pipeline.ValueKit
public import Idealize.ShloMosaic.Lib.Tactic.CleanTypes
@[expose] public section
set_option maxRecDepth 16384
noncomputable section
namespace Cert.Attn.Ref
open Idealize.ShloMosaic Cert.ReferenceIdeal Cert.ReferenceIdeal.Gen Cert.ReferenceIdeal.Read

/-- The literal 192. -/
theorem ofBits_192 : Ideal.ofBits .f32 0x43400000#32 = ((192 : ℝ) : EReal) := by
  simp [Ideal.ofBits, Ideal.ieee, -EReal.coe_mul]; norm_num

variable (q k : FVec Ideal S1x16384x12x192 .f32) (v : FVec Ideal S1x16384x12x128 .f32) (hq : Finite q) (hk : Finite k)

include hq hk in
/-- The reference's scores. -/
theorem scores (h : Fin 12) (t j : Fin 16384) : val_main_v3 (F := Ideal) q k (ix4 0 h t j) = (sR q k h t j.val : EReal) := by
  rw [val_main_v3_apply, val_main_v2_apply, val_main_v1_apply, val_main_cst_apply, val_main_v0_apply]
  have e : ∀ d, q (lidx_main_v0 (ix4 0 h t j) d) = q (ix4 0 t h d) := fun d => congrArg q (by funext a; fin_cases a <;> rfl)
  have e' : ∀ d, k (ridx_main_v0 (ix4 0 h t j) d) = k (ix4 0 j h d) := fun d => congrArg k (by funext a; fin_cases a <;> rfl)
  simp only [e, e']
  show Ideal.div _ (Ideal.sqrt (Ideal.ofBits .f32 0x43400000#32)) = _
  rw [ofBits_192, sum_mul_real _ _ (fun d => hq _) (fun d => hk _)]
  have s : Ideal.sqrt ((192 : ℝ) : EReal) = (Real.sqrt 192 : EReal) := by
    show (if (192 : ℝ) < 0 then ⊥ else (Real.sqrt 192 : EReal)) = _
    rw [if_neg (by norm_num)]
  rw [s, Ideal.div_coe (by positivity), ← EReal.coe_mul, sR, dif_pos j.isLt, mul_one_div]

include hq hk in
/-- The masked scores. -/
theorem masked (h : Fin 12) (t j : Fin 16384) : val_main_v8 (F := Ideal) q k (ix4 0 h t j) = ln (sR q k h t) t.val j.val := by
  rw [val_main_v8_apply, val_main_call0_v1_apply, val_main_v7_apply, val_main_v6_apply, val_main_v5_apply, val_main_v4_apply,
    val_main_call0_v2_apply, val_main_call0_v0_apply, val_main_cst_0_apply, scores q k hq hk]
  show Scalar.select (IntOp.cmpi .sle (BitVec.ofNat 32 j.val) (BitVec.ofNat 32 t.val)) _ (Ideal.ofBits .f32 0xFF800000#32) = _
  rw [cmpi_sle _ _ (by have := j.isLt; omega) (by have := t.isLt; omega), ofBits_bot]
  unfold ln
  split <;> simp [Scalar.select]

/-- The largest masked score of a row. -/
theorem row_max (h : Fin 12) (t : Fin 16384) : val_main_v9 (F := Ideal) q k (ix3 0 h t) = Finset.univ.sup fun j : Fin 16384 => (val_main_v8 (F := Ideal) q k (ix4 0 h t j) : EReal) := by
  unfold val_main_v9
  generalize val_main_v8 (F := Ideal) q k = y
  unfold val_main_cst_1
  pointwise
  rw [ofBits_bot]
  rfl

include hq hk in
/-- The softmax of a row. -/
theorem soft (h : Fin 12) (t j : Fin 16384) : val_main_v19 (F := Ideal) q k (ix4 0 h t j) = (prob (sR q k h t) t.val j.val : EReal) := by
  obtain ⟨m, hm⟩ := sup_real (sR q k h t) t.val 16384 (by omega) (ln (sR q k h t) t.val) (ln_ne_top _ _) (ln_zero _ _)
  have e14 : ∀ j : Fin 16384, val_main_v15 (F := Ideal) q k (ix4 0 h t j) = Ideal.exp (ln (sR q k h t) t.val j.val - (m : EReal)) := by
    intro j
    rw [val_main_v15_apply, val_main_v14_apply, val_main_v13_apply, val_main_v12_apply, val_main_v11_apply, val_main_v10_apply, val_main_cst_2_apply,
      masked q k hq hk]
    have ei : idx_main_v12 (idx_main_v13 (ix4 0 h t j)) = ix3 0 h t := by funext a; fin_cases a <;> rfl
    rw [ei, row_max]
    simp only [masked q k hq hk]
    rw [hm]
    show Ideal.exp (ln (sR q k h t) t.val j.val - max (Ideal.ofBits .f32 0xFF800000#32) (m : EReal)) = _
    rw [ofBits_bot, max_eq_right bot_le]
  rw [val_main_v19_apply, val_main_v18_apply, val_main_v17_apply, val_main_v16_apply, val_main_cst_3_apply, e14]
  have ei : ∀ x, idx_main_v16 (idx_main_v17 (idx_main_v18 (ix4 0 h t j))) x = ix4 0 h t x := fun x => by funext a; fin_cases a <;> rfl
  simp only [ei, e14]
  show Ideal.div _ (Ideal.ofBits .f32 0#32 + _) = _
  rw [Ideal.ofBits_zero_f32, zero_add, ← Finset.sum_range fun x => Ideal.exp (ln (sR q k h t) t.val x - (m : EReal))]
  exact softmax_ref _ _ _ _ t.isLt m

include hq hk in
/-- The reference's result is the attention. -/
theorem value : val_main_v23 (F := Ideal) q k v = whole q k v := by
  funext y
  rw [val_main_v23_apply, val_main_v22_apply, val_main_v21_apply]
  show val_main_v20 (F := Ideal) q k v _ = _
  rw [val_main_v20_apply]
  have h0 : (y 0).val < 16384 := (y 0).isLt
  have h1 : (y 1).val < 1536 := (y 1).isLt
  unfold whole attend
  refine Finset.sum_congr rfl fun j _ => ?_
  have eL : lidx_main_v20 (idx_main_v21 (idx_main_v22 y)) j = ix4 0 j ⟨(y 1).val / 128, by omega⟩ ⟨(y 1).val % 128, Nat.mod_lt _ (by omega)⟩ := by
    funext a
    apply Fin.ext
    fin_cases a
    · rfl
    · rfl
    · show ((y 0).val * 1536 + (y 1).val) / 128 % 12 = (y 1).val / 128; omega
    · show ((y 0).val * 1536 + (y 1).val) % 128 = (y 1).val % 128; omega
  have eR : ridx_main_v20 (idx_main_v21 (idx_main_v22 y)) j = ix4 0 ⟨(y 1).val / 128, by omega⟩ ⟨(y 0).val, h0⟩ j := by
    funext a
    apply Fin.ext
    fin_cases a
    · rfl
    · show ((y 0).val * 1536 + (y 1).val) / 128 % 12 = (y 1).val / 128; omega
    · show ((y 0).val * 1536 + (y 1).val) / 1536 % 16384 = (y 0).val; omega
    · rfl
  exact (congrArg₂ (fun a b : EReal => a * b) (congrArg v eL)
    ((congrArg (val_main_v19 (F := Ideal) q k) eR).trans (soft q k hq hk _ _ j))).trans (mul_comm _ _)
end Cert.Attn.Ref
-- ==== Proof.Algebraic.lean ====
module

public import proofs.«01_k».proof.Defs
public import proofs.«01_k».proof.Proof.Result
public import proofs.«01_k».proof.Proof.Reference
public import proofs.«01_k».proof.Proof.Gen.Kernel
public import proofs.«01_k».proof.Proof.Gen.KernelIdeal
public import proofs.«01_k».proof.Proof.Gen.ReferenceIdeal
public import Idealize.ShloMosaic.Lib.Quiescent

@[expose] public section
set_option maxRecDepth 16384
noncomputable section
namespace Cert.Proof
open Idealize.ShloMosaic Idealize.SL.Sem Idealize.ShloMosaic.TcCoe

/-- The side condition of the precondition: a scalar is spread over the shape of the queries. -/
theorem preFacts : Cert.Pre_finite_scores.Facts := ⟨by decide⟩

/-- Two bits whose conjunction is one are both one. -/
theorem both_one (a b : BitVec 1) (h : a &&& b = 1#1) : a = 1#1 ∧ b = 1#1 := by
  revert a b; decide

/-- An extended real whose absolute value is below plus infinity is a real. -/
theorem real_of_abs (x : EReal) (h : Ideal.cmp .olt (max x (-x)) (Ideal.ofBits .f32 0x7F800000#32) = 1#1) : ((x.toReal : ℝ) : EReal) = x := by
  have ht : Ideal.ofBits .f32 0x7F800000#32 = (⊤ : EReal) := by simp [Ideal.ofBits, Ideal.ieee]
  rw [ht] at h
  have h' : max x (-x) < ⊤ := by
    by_contra hn
    unfold Ideal.cmp at h
    simp only [hn] at h
    revert h; decide
  refine EReal.coe_toReal (fun e => ?_) fun e => ?_
  · rw [e] at h'; simp at h'
  · rw [e] at h'; simp at h'

/-- The precondition says that every element of the queries and of the keys is a real. -/
theorem finite_of_pre [Cert.Pre_finite_scores.Facts] (q k : FVec Ideal Cert.Attn.QK .f32) (v : FVec Ideal Cert.Attn.VV .f32) (a b)
    (h : Cert.Pre_finite_scores.fn (F := Ideal) q k v a b = fun _ => 1#1) :
    Cert.Attn.Finite q ∧ Cert.Attn.Finite k :=
  ⟨fun i => real_of_abs _ (both_one _ _ (congrFun h i)).1, fun i => real_of_abs _ (both_one _ _ (congrFun h i)).2⟩

/-- The reference ends, its arguments as they were; it has no counter. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run (F := Ideal) m g)

/-- Every execution of the attention at the extended reals ends, its arguments as they were, the precondition given. -/
theorem frame_kernelIdeal_pre [Cert.Pre_finite_scores.Facts] : Cert.quiescent_KernelIdeal_pre_finite_scores (hKernelIdeal := Cert.KernelIdeal.Gen.facts) := fun m ρ _ =>
  Cert.KernelIdeal.Body.frame (F := Ideal) m ρ

/-- The reference's run, the precondition given. -/
theorem frame_reference_pre [Cert.Pre_finite_scores.Facts] : Cert.quiescent_ReferenceIdeal_pre_finite_scores (hReferenceIdeal := Cert.ReferenceIdeal.Gen.facts) := fun m g _ =>
  frame_reference m g trivial

/-- The factor of the scores in the kernel is the named quotient, rounded. -/
theorem preserves : Cert.preserves_Kernel_KernelIdeal :=
  IdealRules.named_const.statement Cert.KernelIdeal.κ "scale_log2e" .f32 0x3DD53B95#32 _ rfl

open Cert.KernelIdeal Cert.KernelIdeal.Body Cert.KernelIdeal.Gen Cert.Attn in
/-- The two programs end with the same array, the attention of the arguments, and leave the arguments alone. -/
theorem algebraic [Cert.Pre_finite_scores.Facts] : Cert.algebraic_KernelIdeal_ReferenceIdeal_pre_finite_scores
    (hKernelIdeal := Cert.KernelIdeal.Gen.facts) (hReferenceIdeal := Cert.ReferenceIdeal.Gen.facts) := by
  intro m g m' g' hpre hagree
  refine ⟨fun c => whole (qA m c) (kA m c) (vA m c),
    (θ_run _ _ _).mono (fun r h c => ?_) (θ_run_and (run_main (F := Ideal) m g) (Cert.KernelIdeal.Body.frame (F := Ideal) m g)),
    (θ_run _ _ _).mono (fun r h c => ⟨(h c).1.trans ?_, (h c).2⟩) (Cert.ReferenceIdeal.Value.run (F := Ideal) m' g')⟩
  · have hf := finite_of_pre _ _ _ _ _ (hpre c)
    exact ⟨result m c hf.1 hf.2 r h.1, h.2.1 c⟩
  · have hf := finite_of_pre _ _ _ _ _ (hpre c)
    rw [Cert.ReferenceIdeal.Read.val_main_v23_eq, (hagree c).1, (hagree c).2.1, (hagree c).2.2.1]
    exact Cert.Attn.Ref.value _ _ _ hf.1 hf.2

end Cert.Proof
end
-- ==== Proof.FfnFrames.lean ====
module

public import proofs.«01_k».proof.Defs
public import Idealize.ShloMosaic.Lib.Quiescent
public import proofs.«01_k».proof.Proof.Gen.Ffn1
public import proofs.«01_k».proof.Proof.Gen.Ffn1.Skeleton
public import proofs.«01_k».proof.Proof.Gen.Ffn1.Launch
public import proofs.«01_k».proof.Proof.Gen.Ffn1.Points
public import proofs.«01_k».proof.Proof.Gen.Ffn1.Frame
public import proofs.«01_k».proof.Proof.Gen.Ffn1Ideal
public import proofs.«01_k».proof.Proof.Gen.Ffn1Ideal.Skeleton
public import proofs.«01_k».proof.Proof.Gen.Ffn1Ideal.Launch
public import proofs.«01_k».proof.Proof.Gen.Ffn1Ideal.Points
public import proofs.«01_k».proof.Proof.Gen.Ffn1Ideal.Frame
public import proofs.«01_k».proof.Proof.Gen.Ffn2
public import proofs.«01_k».proof.Proof.Gen.Ffn2.Skeleton
public import proofs.«01_k».proof.Proof.Gen.Ffn2.Launch
public import proofs.«01_k».proof.Proof.Gen.Ffn2.Points
public import proofs.«01_k».proof.Proof.Gen.Ffn2.Frame
public import proofs.«01_k».proof.Proof.Gen.Ffn2Ideal
public import proofs.«01_k».proof.Proof.Gen.Ffn2Ideal.Skeleton
public import proofs.«01_k».proof.Proof.Gen.Ffn2Ideal.Launch
public import proofs.«01_k».proof.Proof.Gen.Ffn2Ideal.Points
public import proofs.«01_k».proof.Proof.Gen.Ffn2Ideal.Frame
public import proofs.«01_k».proof.Proof.Gen.Ffn1ReferenceIdeal
public import proofs.«01_k».proof.Proof.Gen.Ffn1ReferenceIdeal.Run
public import proofs.«01_k».proof.Proof.Gen.Ffn1ReferenceIdeal.Read
public import proofs.«01_k».proof.Proof.Gen.Ffn2ReferenceIdeal
public import proofs.«01_k».proof.Proof.Gen.Ffn2ReferenceIdeal.Run
public import proofs.«01_k».proof.Proof.Gen.Ffn2ReferenceIdeal.Read

public import proofs.«01_k».proof.Proof.Gen.Ffn1Ideal.Value
public import proofs.«01_k».proof.Proof.Gen.Ffn2Ideal.Value
@[expose] public section
noncomputable section
namespace Cert.Proof
open Idealize.ShloMosaic Idealize.SL.Sem

/-- Every execution of the second feed-forward half at bits ends, its arguments as they were. -/
theorem frame_ffn2 : Cert.quiescent_Ffn2 (hFfn2 := Cert.Ffn2.Gen.facts) := fun m ρ _ =>
  Cert.Ffn2.Gen.frame (F := Bits) m ρ

/-- Every execution of the second feed-forward half at the extended reals ends, its arguments as they were. -/
theorem frame_ffn2Ideal : Cert.quiescent_Ffn2Ideal (hFfn2Ideal := Cert.Ffn2Ideal.Gen.facts) := fun m ρ _ =>
  Cert.Ffn2Ideal.Gen.frame (F := Ideal) m ρ

/-- Every execution of the reference's second feed-forward half ends, its arguments as they were. -/
theorem frame_ffn2Reference : Cert.quiescent_Ffn2ReferenceIdeal (hFfn2ReferenceIdeal := Cert.Ffn2ReferenceIdeal.Gen.facts) := fun m g _ =>
  (θ_run _ _ _).mono (fun r h => ⟨fun c => (h c).2, sem_eq_zero_of_no_sems (by decide) r.2⟩) (Cert.Ffn2ReferenceIdeal.Value.run (F := Ideal) m g)

/-- Every execution of the first feed-forward half at bits ends, its arguments as they were. -/
theorem frame_ffn1 : Cert.quiescent_Ffn1 (hFfn1 := Cert.Ffn1.Gen.facts) := fun m ρ _ =>
  Cert.Ffn1.Gen.frame (F := Bits) m ρ

/-- Every execution of the first feed-forward half at the extended reals ends, its arguments as they were. -/
theorem frame_ffn1Ideal : Cert.quiescent_Ffn1Ideal (hFfn1Ideal := Cert.Ffn1Ideal.Gen.facts) := fun m ρ _ =>
  Cert.Ffn1Ideal.Gen.frame (F := Ideal) m ρ

/-- Every execution of the reference's first feed-forward half ends, its arguments as they were. -/
theorem frame_ffn1Reference : Cert.quiescent_Ffn1ReferenceIdeal (hFfn1ReferenceIdeal := Cert.Ffn1ReferenceIdeal.Gen.facts) := fun m g _ =>
  (θ_run _ _ _).mono (fun r h => ⟨fun c => ⟨(h c).2.2.1, (h c).2.2.2.1, (h c).2.2.2.2.1, (h c).2.2.2.2.2.1, (h c).2.2.2.2.2.2⟩, sem_eq_zero_of_no_sems (by decide) r.2⟩) (Cert.Ffn1ReferenceIdeal.Value.run (F := Ideal) m g)

/-- The second feed-forward half is the same program at bits and at the extended reals. -/
theorem preserves_ffn2 : Cert.preserves_Ffn2_Ffn2Ideal := trivial

/-- The first feed-forward half is the same program at bits and at the extended reals. -/
theorem preserves_ffn1 : Cert.preserves_Ffn1_Ffn1Ideal := trivial

end Cert.Proof
end
-- ==== Proof.LayerFrames.lean ====
module

public import proofs.«01_k».proof.Defs
public import Idealize.ShloMosaic.Lib.Quiescent
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvIdeal.Value
public import proofs.«01_k».proof.Proof.Gen.MemKvReferenceIdeal
public import proofs.«01_k».proof.Proof.Gen.MemKvReferenceIdeal.Run
public import proofs.«01_k».proof.Proof.Gen.MemKvReferenceIdeal.Read
public import proofs.«01_k».proof.Proof.Gen.MemAttn
public import proofs.«01_k».proof.Proof.Gen.MemAttn.Skeleton
public import proofs.«01_k».proof.Proof.Gen.MemAttn.Launch
public import proofs.«01_k».proof.Proof.Gen.MemAttn.Points
public import proofs.«01_k».proof.Proof.Gen.MemAttn.Frame
public import proofs.«01_k».proof.Proof.Gen.MemAttnIdeal
public import proofs.«01_k».proof.Proof.Gen.MemAttnIdeal.Skeleton
public import proofs.«01_k».proof.Proof.Gen.MemAttnIdeal.Launch
public import proofs.«01_k».proof.Proof.Gen.MemAttnIdeal.Points
public import proofs.«01_k».proof.Proof.Gen.MemAttnIdeal.Frame
public import proofs.«01_k».proof.Proof.Gen.MemAttnIdeal.Value
public import proofs.«01_k».proof.Proof.Gen.MemAttnReferenceIdeal
public import proofs.«01_k».proof.Proof.Gen.MemAttnReferenceIdeal.Run
public import proofs.«01_k».proof.Proof.Gen.MemAttnReferenceIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjReferenceIdeal
public import proofs.«01_k».proof.Proof.Gen.OutProjReferenceIdeal.Run
public import proofs.«01_k».proof.Proof.Gen.OutProjReferenceIdeal.Read
public import proofs.«01_k».proof.Proof.Gen.GluWeight
public import proofs.«01_k».proof.Proof.Gen.GluWeight.Skeleton
public import proofs.«01_k».proof.Proof.Gen.GluWeight.Launch
public import proofs.«01_k».proof.Proof.Gen.GluWeight.Points
public import proofs.«01_k».proof.Proof.Gen.GluWeight.Frame
public import proofs.«01_k».proof.Proof.Gen.GluWeightIdeal
public import proofs.«01_k».proof.Proof.Gen.GluWeightIdeal.Skeleton
public import proofs.«01_k».proof.Proof.Gen.GluWeightIdeal.Launch
public import proofs.«01_k».proof.Proof.Gen.GluWeightIdeal.Points
public import proofs.«01_k».proof.Proof.Gen.GluWeightIdeal.Frame
public import proofs.«01_k».proof.Proof.Gen.GluWeightIdeal.Value
public import proofs.«01_k».proof.Proof.Gen.GluWeightReferenceIdeal
public import proofs.«01_k».proof.Proof.Gen.GluWeightReferenceIdeal.Run
public import proofs.«01_k».proof.Proof.Gen.GluWeightReferenceIdeal.Read
public import proofs.«01_k».proof.Proof.Gen.GateWeight
public import proofs.«01_k».proof.Proof.Gen.GateWeight.Skeleton
public import proofs.«01_k».proof.Proof.Gen.GateWeight.Launch
public import proofs.«01_k».proof.Proof.Gen.GateWeight.Points
public import proofs.«01_k».proof.Proof.Gen.GateWeight.Frame
public import proofs.«01_k».proof.Proof.Gen.GateWeightIdeal
public import proofs.«01_k».proof.Proof.Gen.GateWeightIdeal.Skeleton
public import proofs.«01_k».proof.Proof.Gen.GateWeightIdeal.Launch
public import proofs.«01_k».proof.Proof.Gen.GateWeightIdeal.Points
public import proofs.«01_k».proof.Proof.Gen.GateWeightIdeal.Frame
public import proofs.«01_k».proof.Proof.Gen.GateWeightIdeal.Value
public import proofs.«01_k».proof.Proof.Gen.GateWeightReferenceIdeal
public import proofs.«01_k».proof.Proof.Gen.GateWeightReferenceIdeal.Run
public import proofs.«01_k».proof.Proof.Gen.GateWeightReferenceIdeal.Read

@[expose] public section

noncomputable section

namespace Cert.Proof

open Idealize.ShloMosaic Idealize.ShloMosaic.TcCoe Idealize.SL.Sem

/-- Every execution of the memory's keys and values at bits ends, its arguments as they were. -/
theorem frame_memKv : Cert.quiescent_MemKv (hMemKv := Cert.MemKv.Gen.facts) := fun m ρ _ =>
  Cert.MemKv.Gen.frame (F := Bits) m ρ

/-- Every execution of the memory's keys and values at the extended reals ends, its arguments as they were. -/
theorem frame_memKvIdeal : Cert.quiescent_MemKvIdeal (hMemKvIdeal := Cert.MemKvIdeal.Gen.facts) := fun m ρ _ =>
  Cert.MemKvIdeal.Gen.frame (F := Ideal) m ρ

/-- Every execution of the reference of the memory's keys and values ends, its arguments as they were. -/
theorem frame_memKvReference : Cert.quiescent_MemKvReferenceIdeal (hMemKvReferenceIdeal := Cert.MemKvReferenceIdeal.Gen.facts) := fun m g _ =>
  (θ_run _ _ _).mono (fun r h => ⟨fun c => (h c).2.2, sem_eq_zero_of_no_sems (by decide) r.2⟩) (Cert.MemKvReferenceIdeal.Value.run (F := Ideal) m g)

/-- This call is the same program at bits and at the extended reals: the memory's keys and values. -/
theorem preserves_memKv : Cert.preserves_MemKv_MemKvIdeal := trivial

/-- Every execution of the attention into the memory at bits ends, its arguments as they were. -/
theorem frame_memAttn : Cert.quiescent_MemAttn (hMemAttn := Cert.MemAttn.Gen.facts) := fun m ρ _ =>
  Cert.MemAttn.Gen.frame (F := Bits) m ρ

/-- Every execution of the attention into the memory at the extended reals ends, its arguments as they were. -/
theorem frame_memAttnIdeal : Cert.quiescent_MemAttnIdeal (hMemAttnIdeal := Cert.MemAttnIdeal.Gen.facts) := fun m ρ _ =>
  Cert.MemAttnIdeal.Gen.frame (F := Ideal) m ρ

/-- Every execution of the reference of the attention into the memory ends, its arguments as they were. -/
theorem frame_memAttnReference : Cert.quiescent_MemAttnReferenceIdeal (hMemAttnReferenceIdeal := Cert.MemAttnReferenceIdeal.Gen.facts) := fun m g _ =>
  (θ_run _ _ _).mono (fun r h => ⟨fun c => (h c).2, sem_eq_zero_of_no_sems (by decide) r.2⟩) (Cert.MemAttnReferenceIdeal.Value.run (F := Ideal) m g)

/-- This call is the same program at bits and at the extended reals: the attention into the memory. -/
theorem preserves_memAttn : Cert.preserves_MemAttn_MemAttnIdeal := trivial

/-- Every execution of the gated merge at bits ends, its arguments as they were. -/
theorem frame_merge : Cert.quiescent_Merge (hMerge := Cert.Merge.Gen.facts) := fun m ρ _ =>
  Cert.Merge.Gen.frame (F := Bits) m ρ

/-- Every execution of the gated merge at the extended reals ends, its arguments as they were. -/
theorem frame_mergeIdeal : Cert.quiescent_MergeIdeal (hMergeIdeal := Cert.MergeIdeal.Gen.facts) := fun m ρ _ =>
  Cert.MergeIdeal.Gen.frame (F := Ideal) m ρ

/-- Every execution of the reference of the gated merge ends, its arguments as they were. -/
theorem frame_mergeReference : Cert.quiescent_MergeReferenceIdeal (hMergeReferenceIdeal := Cert.MergeReferenceIdeal.Gen.facts) := fun m g _ =>
  (θ_run _ _ _).mono (fun r h => ⟨fun c => (h c).2, sem_eq_zero_of_no_sems (by decide) r.2⟩) (Cert.MergeReferenceIdeal.Value.run (F := Ideal) m g)

/-- This call is the same program at bits and at the extended reals: the gated merge. -/
theorem preserves_merge : Cert.preserves_Merge_MergeIdeal := trivial

/-- Every execution of the output projection at bits ends, its arguments as they were. -/
theorem frame_outProj : Cert.quiescent_OutProj (hOutProj := Cert.OutProj.Gen.facts) := fun m ρ _ =>
  Cert.OutProj.Gen.frame (F := Bits) m ρ

/-- Every execution of the output projection at the extended reals ends, its arguments as they were. -/
theorem frame_outProjIdeal : Cert.quiescent_OutProjIdeal (hOutProjIdeal := Cert.OutProjIdeal.Gen.facts) := fun m ρ _ =>
  Cert.OutProjIdeal.Gen.frame (F := Ideal) m ρ

/-- Every execution of the reference of the output projection ends, its arguments as they were. -/
theorem frame_outProjReference : Cert.quiescent_OutProjReferenceIdeal (hOutProjReferenceIdeal := Cert.OutProjReferenceIdeal.Gen.facts) := fun m g _ =>
  (θ_run _ _ _).mono (fun r h => ⟨fun c => (h c).2, sem_eq_zero_of_no_sems (by decide) r.2⟩) (Cert.OutProjReferenceIdeal.Value.run (F := Ideal) m g)

/-- This call is the same program at bits and at the extended reals: the output projection. -/
theorem preserves_outProj : Cert.preserves_OutProj_OutProjIdeal := trivial

/-- Every execution of the packing of the convolution's input weights at bits ends, its arguments as they were. -/
theorem frame_gluWeight : Cert.quiescent_GluWeight (hGluWeight := Cert.GluWeight.Gen.facts) := fun m ρ _ =>
  Cert.GluWeight.Gen.frame (F := Bits) m ρ

/-- Every execution of the packing of the convolution's input weights at the extended reals ends, its arguments as they were. -/
theorem frame_gluWeightIdeal : Cert.quiescent_GluWeightIdeal (hGluWeightIdeal := Cert.GluWeightIdeal.Gen.facts) := fun m ρ _ =>
  Cert.GluWeightIdeal.Gen.frame (F := Ideal) m ρ

/-- Every execution of the reference of the packing of the convolution's input weights ends, its arguments as they were. -/
theorem frame_gluWeightReference : Cert.quiescent_GluWeightReferenceIdeal (hGluWeightReferenceIdeal := Cert.GluWeightReferenceIdeal.Gen.facts) := fun m g _ =>
  (θ_run _ _ _).mono (fun r h => ⟨fun c => (h c).2, sem_eq_zero_of_no_sems (by decide) r.2⟩) (Cert.GluWeightReferenceIdeal.Value.run (F := Ideal) m g)

/-- This call is the same program at bits and at the extended reals: the packing of the convolution's input weights. -/
theorem preserves_gluWeight : Cert.preserves_GluWeight_GluWeightIdeal := trivial

/-- Every execution of the packing of the gates' weights at bits ends, its arguments as they were. -/
theorem frame_gateWeight : Cert.quiescent_GateWeight (hGateWeight := Cert.GateWeight.Gen.facts) := fun m ρ _ =>
  Cert.GateWeight.Gen.frame (F := Bits) m ρ

/-- Every execution of the packing of the gates' weights at the extended reals ends, its arguments as they were. -/
theorem frame_gateWeightIdeal : Cert.quiescent_GateWeightIdeal (hGateWeightIdeal := Cert.GateWeightIdeal.Gen.facts) := fun m ρ _ =>
  Cert.GateWeightIdeal.Gen.frame (F := Ideal) m ρ

/-- Every execution of the reference of the packing of the gates' weights ends, its arguments as they were. -/
theorem frame_gateWeightReference : Cert.quiescent_GateWeightReferenceIdeal (hGateWeightReferenceIdeal := Cert.GateWeightReferenceIdeal.Gen.facts) := fun m g _ =>
  (θ_run _ _ _).mono (fun r h => ⟨fun c => (h c).2, sem_eq_zero_of_no_sems (by decide) r.2⟩) (Cert.GateWeightReferenceIdeal.Value.run (F := Ideal) m g)

/-- This call is the same program at bits and at the extended reals: the packing of the gates' weights. -/
theorem preserves_gateWeight : Cert.preserves_GateWeight_GateWeightIdeal := trivial

end Cert.Proof
end
-- ==== Proof.FfnSpec.lean ====
module
public import Idealize.ShloMosaic.Lib.Pipeline.ValueKit
/-!
# A feed-forward half, row by row

The words both feed-forward halves are said in: the normalized row, the gated hidden entries and the
sum over them. Hidden entries are numbered by natural numbers, so that sums over growing blocks of
them are sums over ranges.
-/
@[expose] public section
noncomputable section
namespace Cert.Ffn
open Idealize.ShloMosaic

/-- One over the root mean square of a row, the small constant added to the mean. -/
def inv (x : Fin 2048 → EReal) : EReal :=
  Ideal.rsqrt (Ideal.div (∑ d, x d * x d) (Ideal.ofBits .f32 0x45000000#32) + Ideal.ofBits .f32 0x358637BD#32)

/-- The normalized row times its gains. -/
def norm (x g : Fin 2048 → EReal) (d : Fin 2048) : EReal := (x d * inv x) * g d

/-- One half. -/
def half : EReal := Ideal.ofBits .f32 0x3F000000#32

/-- The gated product of the two hidden entries. -/
def gated (a b : EReal) : EReal := (a * Ideal.logistic a) * b

/-- Row times column. -/
def dot (n w : Fin 2048 → EReal) : EReal := ∑ d, n d * w d

/-- Hidden entry `k` of the row `n`, its gate in column `k` and its value in column `5632 + k`. -/
def hid (n : Fin 2048 → EReal) (W : ℕ → Fin 2048 → EReal) (k : ℕ) : EReal :=
  gated (dot n (W k)) (dot n (W (5632 + k)))

/-- What hidden entry `k` puts into an output entry. -/
def term (n : Fin 2048 → EReal) (W : ℕ → Fin 2048 → EReal) (D : ℕ → EReal) (k : ℕ) : EReal :=
  (hid n W k * half) * D k

/-- A row of the residual stream. -/
abbrev row (x : FVec Ideal ⟨3, ![1, 16384, 2048]⟩ .f32) (r : Fin 16384) : Fin 2048 → EReal := fun d => x (ix3 0 r d)

/-- The gains. -/
abbrev gain (g : FVec Ideal ⟨2, ![1, 2048]⟩ .f32) : Fin 2048 → EReal := fun d => g (ix2 0 d)

/-- The columns of the first weights; zeros past the end. -/
abbrev col (w : FVec Ideal ⟨3, ![1, 2048, 11264]⟩ .f32) : ℕ → Fin 2048 → EReal := fun k d => if h : k < 11264 then w (ix3 0 d ⟨k, h⟩) else 0

/-- A column of the second weights; zeros past the end. -/
abbrev down (v : FVec Ideal ⟨3, ![1, 5632, 2048]⟩ .f32) (e : Fin 2048) : ℕ → EReal := fun k => if h : k < 5632 then v (ix3 0 ⟨k, h⟩ e) else 0

/-- One half is a real that is not negative. -/
theorem half_real : ∃ c : ℝ, 0 ≤ c ∧ half = (c : EReal) := by
  refine ⟨_, ?_, show _ = ((_ : ℝ) : EReal) by unfold half; simp [Ideal.ofBits, Ideal.ieee, -EReal.coe_mul]; rfl⟩
  positivity

/-- One half of a sum is the sum of the halves. -/
theorem half_sum (f : ℕ → EReal) (n : ℕ) : half * ∑ k ∈ Finset.range n, f k = ∑ k ∈ Finset.range n, half * f k := by
  obtain ⟨c, hc, e⟩ := half_real
  induction n with
  | zero => simp
  | succ n ih =>
    rw [Finset.sum_range_succ, Finset.sum_range_succ, ← ih, e]
    exact EReal.left_distrib_of_nonneg_of_ne_top (EReal.coe_nonneg.mpr hc) (EReal.coe_ne_top c) _ _

/-- The halves of the hidden entries summed are half of the sum of the hidden entries. -/
theorem sum_term (n : Fin 2048 → EReal) (W : ℕ → Fin 2048 → EReal) (D : ℕ → EReal) (N : ℕ) :
    ∑ k ∈ Finset.range N, term n W D k = half * ∑ k ∈ Finset.range N, hid n W k * D k := by
  rw [half_sum]
  refine Finset.sum_congr rfl fun k _ => ?_
  rw [term, mul_comm (hid n W k) half, mul_assoc]

/-- One more block of hidden entries. -/
theorem sum_block (f : ℕ → EReal) (j : ℕ) :
    ∑ k ∈ Finset.range (512 * (j + 1)), f k = ∑ k ∈ Finset.range (512 * j), f k + ∑ k : Fin 512, f (512 * j + k.val) := by
  rw [show 512 * (j + 1) = 512 * j + 512 by ring, Finset.sum_range_add, Finset.sum_range fun k => f (512 * j + k)]

end Cert.Ffn
end
-- ==== Proof.Ffn1Points.lean ====
module
public import proofs.«01_k».proof.Proof.FfnSpec
public import proofs.«01_k».proof.Proof.Gen.Ffn1Ideal.Value
public import Idealize.ShloMosaic.Lib.Tactic.CleanTypes
public import Idealize.ShloMosaic.Lib.Pipeline.ReadBack
@[expose] public section
set_option maxRecDepth 16384
noncomputable section
namespace Cert.Ffn.First
open Idealize.ShloMosaic Idealize.ShloMosaic.TcCoe Cert.Ffn Cert.Ffn1Ideal Cert.Ffn1Ideal.Gen Cert.Ffn1Ideal.Value

/-- The normalized rows a first point computes. -/
theorem pay_norm (X : FVec Ideal S512x2048 .f32) (G : FVec Ideal S1x2048 .f32) (a : Fin 512) (d : Fin 2048) :
    (k0_pay2 (F := Ideal) X G (ix2 a d) : EReal) = norm (fun d => X (ix2 a d)) (fun d => G (ix2 0 d)) d := by
  unfold k0_pay2 k0_pay1
  pointwise
  rfl

/-- The output block after one more block of hidden entries. -/
theorem pay_out (N : FVec Ideal S512x2048 .bf16) (A B : FVec Ideal S2048x512 .bf16) (O : FVec Ideal S512x2048 .f32) (D : FVec Ideal S512x2048 .bf16)
    (a : Fin 512) (e : Fin 2048) :
    (k0_pay3 (F := Ideal) N A B O D (ix2 a e) : EReal) = O (ix2 a e) + ∑ f : Fin 512,
      (gated (dot (fun d => N (ix2 a d)) fun d => A (ix2 d f)) (dot (fun d => N (ix2 a d)) fun d => B (ix2 d f)) * half) * D (ix2 f e) := by
  unfold k0_pay3
  pointwise
  rfl

/-- A first point starts the output with the rows themselves. -/
theorem pay_start (X : FVec Ideal S512x2048 .f32) (a : Fin 512) (e : Fin 2048) : (k0_pay1 (F := Ideal) X (ix2 a e) : EReal) = X (ix2 a e) := by
  unfold k0_pay1
  pointwise

/-- The normalized output rows a last point computes. -/
theorem pay_last (X : FVec Ideal S512x2048 .f32) (G : FVec Ideal S1x2048 .f32) (a : Fin 512) (d : Fin 2048) :
    (k0_pay4 (F := Ideal) X G (ix2 a d) : EReal) = norm (fun d => X (ix2 a d)) (fun d => G (ix2 0 d)) d := by
  unfold k0_pay4
  pointwise
  rfl

variable (m : (ℓ : Loc nD τ sig) → Buf (Elt Ideal) ℓ) (c : Dev nD)

/-- The normalized rows the first point of a tile keeps. -/
theorem scratch_first (t : Fin cfg0.N) (h : t.val % 11 = 0) :
    (outsAt0 m c t.val t.isLt).2.2 = k0_pay2 (iblk m c 0 t) (iblk m c 1 t) := by
  rw [outsAt0_A m c t h (by omega)]
  dsimp only
  frame_out

/-- The later points keep what they find. -/
theorem scratch_next (t : Fin cfg0.N) (h : ¬ t.val % 11 = 0) :
    (outsAt0 m c t.val t.isLt).2.2 = (outsAt0 m c (t.val - 1) (Nat.lt_of_le_of_lt (Nat.sub_le _ _) t.isLt)).2.2 := by
  by_cases h1 : t.val % 11 = 10
  · rw [outsAt0_C m c t h h1]
    rfl
  · rw [outsAt0_B m c t h h1]
    rfl

/-- The output after the first point. -/
theorem out_first (t : Fin cfg0.N) (h : t.val % 11 = 0) :
    (outsAt0 m c t.val t.isLt).1 = k0_pay3 (k0_pay2 (iblk m c 0 t) (iblk m c 1 t)) (iblk m c 2 t) (iblk m c 3 t) (k0_pay1 (iblk m c 0 t)) (iblk m c 4 t) := by
  rw [outsAt0_A m c t h (by omega)]
  dsimp only
  frame_out

/-- The output after the later points. -/
theorem out_next (t : Fin cfg0.N) (h : ¬ t.val % 11 = 0) :
    (outsAt0 m c t.val t.isLt).1 = k0_pay3 (outsAt0 m c (t.val - 1) (Nat.lt_of_le_of_lt (Nat.sub_le _ _) t.isLt)).2.2 (iblk m c 2 t) (iblk m c 3 t)
      (outsAt0 m c (t.val - 1) (Nat.lt_of_le_of_lt (Nat.sub_le _ _) t.isLt)).1 (iblk m c 4 t) := by
  by_cases h1 : t.val % 11 = 10
  · rw [outsAt0_C m c t h h1]
    dsimp only
    frame_out
    simp only [read_unread_whole]
  · rw [outsAt0_B m c t h h1]
    dsimp only
    frame_out
    simp only [read_unread_whole]

/-- The last point of a tile normalizes the output it has just finished. -/
theorem normed_last (t : Fin cfg0.N) (h1 : t.val % 11 = 10) :
    (outsAt0 m c t.val t.isLt).2.1 = k0_pay4 (outsAt0 m c t.val t.isLt).1 (iblk m c 5 t) := by
  rw [out_next m c t (by omega), outsAt0_C m c t (by omega) h1]
  dsimp only
  frame_out
  simp only [read_unread_whole]

end Cert.Ffn.First
end
-- ==== Proof.Ffn1Blocks.lean ====
module
public import proofs.«01_k».proof.Proof.Ffn1Points
@[expose] public section
set_option maxRecDepth 16384
noncomputable section
namespace Cert.Ffn.First
open Idealize.ShloMosaic Idealize.ShloMosaic.TcCoe Cert.Ffn Cert.Ffn1Ideal Cert.Ffn1Ideal.Gen Cert.Ffn1Ideal.Value

variable (m : (ℓ : Loc nD τ sig) → Buf (Elt Ideal) ℓ) (c : Dev nD)

/-- The residual stream. -/
abbrev xA : FVec Ideal S1x16384x2048 .f32 := m ((c : Thread nD τ).loc main_arg0)
/-- The gains. -/
abbrev gA : FVec Ideal S1x2048 .f32 := m ((c : Thread nD τ).loc main_arg1)
/-- The first weights. -/
abbrev wA : FVec Ideal S1x2048x11264 .f32 := m ((c : Thread nD τ).loc main_arg2)
/-- The second weights. -/
abbrev vA : FVec Ideal S1x5632x2048 .f32 := m ((c : Thread nD τ).loc main_arg3)

/-- The gains of the second normalization. -/
abbrev g'A : FVec Ideal S1x2048 .f32 := m ((c : Thread nD τ).loc main_arg4)

/-- The rows the call reads. -/
theorem x_entry (r : Fin 16384) (d : Fin 2048) : (V m c main_v0 : FVec Ideal S16384x2048 .f32) (ix2 r d) = xA m c (ix3 0 r d) := by
  entry_read
  clean_types
  pointwise
/-- The gains the call reads. -/
theorem g_entry (d : Fin 2048) : (V m c main_v2 : FVec Ideal S1x2048 .f32) (ix2 0 d) = gA m c (ix2 0 d) := by
  entry_read
  clean_types
  pointwise
/-- The first weights the call reads. -/
theorem w_entry (d : Fin 2048) (k : Fin 11264) : (V m c main_v4 : FVec Ideal S2048x11264 .bf16) (ix2 d k) = wA m c (ix3 0 d k) := by
  entry_read
  clean_types
  pointwise
/-- The second weights the call reads. -/
theorem v_entry (k : Fin 5632) (e : Fin 2048) : (V m c main_v6 : FVec Ideal S5632x2048 .bf16) (ix2 k e) = vA m c (ix3 0 k e) := by
  entry_read
  clean_types
  pointwise

/-- The gains of the second normalization the call reads. -/
theorem g'_entry (d : Fin 2048) : (V m c main_v8 : FVec Ideal S1x2048 .f32) (ix2 0 d) = g'A m c (ix2 0 d) := by
  entry_read
  clean_types
  pointwise

/-- Which block each window shows at a point of the grid: the tile of rows and the block of hidden entries. -/
theorem idx : ∀ t : Fin cfg0.N, win0_0.index t 0 = t.val / 11 ∧ win0_0.index t 1 = 0
    ∧ win0_1.index t 0 = 0 ∧ win0_1.index t 1 = 0
    ∧ win0_2.index t 0 = 0 ∧ win0_2.index t 1 = t.val % 11
    ∧ win0_3.index t 0 = 0 ∧ win0_3.index t 1 = t.val % 11 + 11
    ∧ win0_4.index t 0 = t.val % 11 ∧ win0_4.index t 1 = 0
    ∧ win0_5.index t 0 = 0 ∧ win0_5.index t 1 = 0
    ∧ t.val < 352 := by decide +kernel

/-- The block of rows at a point. -/
theorem x_blk (t : Fin cfg0.N) (a : Fin 512) (d : Fin 2048) (r : Fin 16384) (er : r.val = 512 * (t.val / 11) + a.val) :
    (iblk m c 0 t : FVec Ideal S512x2048 .f32) (ix2 a d) = row (xA m c) r d := by
  show _ = xA m c (ix3 0 r d)
  rw [← x_entry m c r d]
  blk_ext [iblk, idx t]

/-- The gains at a point. -/
theorem g_blk (t : Fin cfg0.N) (d : Fin 2048) : (iblk m c 1 t : FVec Ideal S1x2048 .f32) (ix2 0 d) = gain (gA m c) d := by
  show _ = gA m c (ix2 0 d)
  rw [← g_entry m c d]
  blk_ext [iblk, idx t]

/-- The gains of the second normalization at a point. -/
theorem g'_blk (t : Fin cfg0.N) (d : Fin 2048) : (iblk m c 5 t : FVec Ideal S1x2048 .f32) (ix2 0 d) = gain (g'A m c) d := by
  show _ = g'A m c (ix2 0 d)
  rw [← g'_entry m c d]
  blk_ext [iblk, idx t]

/-- The block of gate columns at a point. -/
theorem gate_blk (t : Fin cfg0.N) (d : Fin 2048) (f : Fin 512) :
    (iblk m c 2 t : FVec Ideal S2048x512 .bf16) (ix2 d f) = col (wA m c) (512 * (t.val % 11) + f.val) d := by
  have := f.isLt
  rw [col, dif_pos (by omega), ← w_entry m c]
  blk_ext [iblk, idx t]

/-- The block of value columns at a point. -/
theorem value_blk (t : Fin cfg0.N) (d : Fin 2048) (f : Fin 512) :
    (iblk m c 3 t : FVec Ideal S2048x512 .bf16) (ix2 d f) = col (wA m c) (5632 + (512 * (t.val % 11) + f.val)) d := by
  have := f.isLt
  rw [col, dif_pos (by omega), ← w_entry m c]
  blk_ext [iblk, idx t]

/-- The block of rows of the second weights at a point. -/
theorem down_blk (t : Fin cfg0.N) (f : Fin 512) (e : Fin 2048) :
    (iblk m c 4 t : FVec Ideal S512x2048 .bf16) (ix2 f e) = down (vA m c) e (512 * (t.val % 11) + f.val) := by
  have := f.isLt
  rw [down, dif_pos (by omega), ← v_entry m c]
  blk_ext [iblk, idx t]

end Cert.Ffn.First
end
-- ==== Proof.Ffn1Sum.lean ====
module
public import proofs.«01_k».proof.Proof.Ffn1Blocks
@[expose] public section
set_option maxRecDepth 16384
noncomputable section
namespace Cert.Ffn.First
open Idealize.ShloMosaic Idealize.ShloMosaic.TcCoe Cert.Ffn Cert.Ffn1Ideal Cert.Ffn1Ideal.Gen Cert.Ffn1Ideal.Value

variable (m : (ℓ : Loc nD τ sig) → Buf (Elt Ideal) ℓ) (c : Dev nD)

/-- The normalized row `r` of the residual stream. -/
abbrev nrm (r : Fin 16384) : Fin 2048 → EReal := norm (row (xA m c) r) (gain (gA m c))

/-- What a block of hidden entries puts into an output entry, from the blocks the point shows. -/
theorem block_sum (t : Fin cfg0.N) (N : FVec Ideal S512x2048 .bf16) (O : FVec Ideal S512x2048 .f32) (a : Fin 512) (e : Fin 2048) (n : Fin 2048 → EReal)
    (hn : ∀ d, N (ix2 a d) = n d) (s : EReal)
    (hs : O (ix2 a e) = s + ∑ k ∈ Finset.range (512 * (t.val % 11)), term n (col (wA m c)) (down (vA m c) e) k) :
    (k0_pay3 (F := Ideal) N (iblk m c 2 t) (iblk m c 3 t) O (iblk m c 4 t) (ix2 a e) : EReal)
      = s + ∑ k ∈ Finset.range (512 * (t.val % 11 + 1)), term n (col (wA m c)) (down (vA m c) e) k := by
  rw [pay_out, hs, sum_block, ← add_assoc]
  refine congrArg _ (Finset.sum_congr rfl fun f _ => ?_)
  rw [down_blk, show (fun d => N (ix2 a d)) = n from funext hn,
    show (fun d => (iblk m c 2 t : FVec Ideal S2048x512 .bf16) (ix2 d f)) = col (wA m c) (512 * (t.val % 11) + f.val) from funext fun d => gate_blk m c t d f,
    show (fun d => (iblk m c 3 t : FVec Ideal S2048x512 .bf16) (ix2 d f)) = col (wA m c) (5632 + (512 * (t.val % 11) + f.val)) from funext fun d => value_blk m c t d f]
  rfl

/-- After every point the scratch holds the tile's normalized rows, and the output block the rows plus the hidden entries so far. -/
theorem after (n : ℕ) : ∀ hn : n < cfg0.N, ∀ (a : Fin 512) (r : Fin 16384), r.val = 512 * (n / 11) + a.val →
    (∀ d, ((outsAt0 m c n hn).2.2 (ix2 a d) : EReal) = nrm m c r d)
    ∧ ∀ e, ((outsAt0 m c n hn).1 (ix2 a e) : EReal) = row (xA m c) r e
        + ∑ k ∈ Finset.range (512 * (n % 11 + 1)), term (nrm m c r) (col (wA m c)) (down (vA m c) e) k := by
  have first : ∀ t : Fin cfg0.N, t.val % 11 = 0 → ∀ (a : Fin 512) (r : Fin 16384), r.val = 512 * (t.val / 11) + a.val →
      (∀ d, ((outsAt0 m c t.val t.isLt).2.2 (ix2 a d) : EReal) = nrm m c r d)
      ∧ ∀ e, ((outsAt0 m c t.val t.isLt).1 (ix2 a e) : EReal) = row (xA m c) r e
          + ∑ k ∈ Finset.range (512 * (t.val % 11 + 1)), term (nrm m c r) (col (wA m c)) (down (vA m c) e) k := by
    intro t h a r hr
    have hs : ∀ d, (k0_pay2 (F := Ideal) (iblk m c 0 t) (iblk m c 1 t) (ix2 a d) : EReal) = nrm m c r d := fun d => by
      rw [pay_norm, show (fun d => (iblk m c 0 t : FVec Ideal S512x2048 .f32) (ix2 a d)) = row (xA m c) r from funext fun d => x_blk m c t a d r hr,
        show (fun d => (iblk m c 1 t : FVec Ideal S1x2048 .f32) (ix2 0 d)) = gain (gA m c) from funext fun d => g_blk m c t d]
    refine ⟨fun d => by rw [scratch_first m c t h]; exact hs d, fun e => ?_⟩
    rw [out_first m c t h]
    refine block_sum m c t _ _ a e _ hs _ ?_
    rw [pay_start, h]
    simpa using x_blk m c t a e r hr
  induction n with
  | zero => exact fun hn => first ⟨0, hn⟩ rfl
  | succ n ih =>
    intro hn a r hr
    by_cases h : (n + 1) % 11 = 0
    · exact first ⟨n + 1, hn⟩ h a r hr
    · obtain ⟨i1, i2⟩ := ih (by omega) a r (by omega)
      refine ⟨fun d => ?_, fun e => ?_⟩
      · rw [scratch_next m c ⟨n + 1, hn⟩ h]
        exact i1 d
      · rw [out_next m c ⟨n + 1, hn⟩ h]
        refine block_sum m c ⟨n + 1, hn⟩ _ _ a e _ i1 _ ?_
        rw [show (n + 1) % 11 = n % 11 + 1 by omega]
        exact i2 e

/-- A row of the first result. -/
abbrev out (r : Fin 16384) (e : Fin 2048) : EReal :=
  row (xA m c) r e + half * ∑ k ∈ Finset.range 5632, hid (nrm m c r) (col (wA m c)) k * down (vA m c) e k

/-- What the call leaves in its first result. -/
theorem result (r : Fin 16384) (e : Fin 2048) : ((G6 m c : FVec Ideal S16384x2048 .f32) (ix2 r e) : EReal)
    = out m c r e := by
  have hr := r.isLt
  have he := e.isLt
  have hp : pt6Of (ix2 r e) = 11 * (r.val / 512) + 10 := by
    show 11 * (1 * (r.val / 512 - 0) + 1 * (e.val / 2048 - 0)) + 10 = _
    omega
  have hN : cfg0.N = 352 := N_0
  have hlt : 11 * (r.val / 512) + 10 < cfg0.N := by omega
  have hl : loc6Of (ix2 r e) = ix2 ⟨r.val % 512, Nat.mod_lt _ (by decide)⟩ e := by
    funext a
    fin_cases a
    · rfl
    · exact Fin.ext (Nat.mod_eq_of_lt he)
  have key := (after m c (11 * (r.val / 512) + 10) hlt ⟨r.val % 512, Nat.mod_lt _ (by decide)⟩ r (by show r.val = 512 * _ + r.val % 512; omega)).2 e
  rw [show 512 * ((11 * (r.val / 512) + 10) % 11 + 1) = 5632 by omega, sum_term, outsAt0_sweep] at key
  refine Eq.trans ?_ key
  show G6 m c (ix2 r e) = _
  unfold G6
  rw [dif_pos (by rw [hp]; exact hlt), hl, fold0_congr m c _ _ _ _ hp]

/-- What the call leaves in its second result: the normalized rows of the first. -/
theorem result_normed (r : Fin 16384) (e : Fin 2048) : ((G7 m c : FVec Ideal S16384x2048 .bf16) (ix2 r e) : EReal)
    = norm (out m c r) (gain (g'A m c)) e := by
  have hr := r.isLt
  have he := e.isLt
  have hp : pt7Of (ix2 r e) = 11 * (r.val / 512) + 10 := by
    show 11 * (1 * (r.val / 512 - 0) + 1 * (e.val / 2048 - 0)) + 10 = _
    omega
  have hN : cfg0.N = 352 := N_0
  have hlt : 11 * (r.val / 512) + 10 < cfg0.N := by omega
  have hl : loc7Of (ix2 r e) = ix2 ⟨r.val % 512, Nat.mod_lt _ (by decide)⟩ e := by
    funext a
    fin_cases a
    · rfl
    · exact Fin.ext (Nat.mod_eq_of_lt he)
  have key := (after m c (11 * (r.val / 512) + 10) hlt ⟨r.val % 512, Nat.mod_lt _ (by decide)⟩ r (by show r.val = 512 * _ + r.val % 512; omega)).2
  rw [show 512 * ((11 * (r.val / 512) + 10) % 11 + 1) = 5632 by omega] at key
  simp only [sum_term] at key
  have last := normed_last m c ⟨11 * (r.val / 512) + 10, hlt⟩ (by show (11 * (r.val / 512) + 10) % 11 = 10; omega)
  have here := congrFun last (ix2 ⟨r.val % 512, Nat.mod_lt _ (by decide)⟩ e)
  dsimp only at here
  rw [pay_last, show (fun d => (outsAt0 m c (11 * (r.val / 512) + 10) hlt).1 (ix2 ⟨r.val % 512, Nat.mod_lt _ (by decide)⟩ d)) = out m c r from funext key,
    show (fun d => (iblk m c 5 ⟨11 * (r.val / 512) + 10, hlt⟩ : FVec Ideal S1x2048 .f32) (ix2 0 d)) = gain (g'A m c) from funext fun d => g'_blk m c _ d,
    outsAt0_sweep] at here
  refine Eq.trans ?_ here
  show G7 m c (ix2 r e) = _
  unfold G7
  rw [dif_pos (by rw [hp]; exact hlt), hl, fold0_congr m c _ _ _ _ hp]

end Cert.Ffn.First
end
-- ==== Proof.Ffn1Reference.lean ====
module
public import proofs.«01_k».proof.Proof.FfnSpec
public import proofs.«01_k».proof.Proof.Gen.Ffn1ReferenceIdeal.Read
public import Idealize.ShloMosaic.Lib.Tactic.CleanTypes
@[expose] public section
set_option maxRecDepth 16384
noncomputable section
namespace Cert.Ffn.Ref1
open Idealize.ShloMosaic Cert.Ffn Cert.Ffn1ReferenceIdeal Cert.Ffn1ReferenceIdeal.Gen Cert.Ffn1ReferenceIdeal.Read

variable (x : FVec Ideal S1x16384x2048 .f32) (g : FVec Ideal S1x2048 .f32) (w : FVec Ideal S1x2048x11264 .f32) (v : FVec Ideal S1x5632x2048 .f32) (g' : FVec Ideal S1x2048 .f32)

/-- The entry of the residual stream a row and a column name. -/
theorem x_at (r : Fin 16384) (d : Fin 2048) : val_main_v0 (F := Ideal) x (ix2 r d) = row x r d := by
  rw [val_main_v0_apply]
  refine congrArg x (funext fun a => Fin.ext ?_)
  have := r.isLt; have := d.isLt
  fin_cases a
  · rfl
  · show (r.val * 2048 + d.val) / 2048 % 16384 = r.val
    omega
  · show (r.val * 2048 + d.val) % 2048 = d.val
    omega

/-- The entry of the first weights a row and a column name. -/
theorem w_at (d : Fin 2048) (k : Fin 11264) : val_main_v15 (F := Ideal) w (ix2 d k) = col w k.val d := by
  rw [val_main_v15_apply, col, dif_pos k.isLt]
  refine congrArg w (funext fun a => Fin.ext ?_)
  have := k.isLt; have := d.isLt
  fin_cases a
  · rfl
  · show (d.val * 11264 + k.val) / 11264 % 2048 = d.val
    omega
  · show (d.val * 11264 + k.val) % 11264 = k.val
    omega

/-- The entry of the second weights a row and a column name. -/
theorem v_at (k : Fin 5632) (e : Fin 2048) : val_main_v21 (F := Ideal) v (ix2 k e) = down v e k.val := by
  rw [val_main_v21_apply, down, dif_pos k.isLt]
  refine congrArg v (funext fun a => Fin.ext ?_)
  have := k.isLt; have := e.isLt
  fin_cases a
  · rfl
  · show (k.val * 2048 + e.val) / 2048 % 5632 = k.val
    omega
  · show (k.val * 2048 + e.val) % 2048 = e.val
    omega

/-- The reference's normalized rows. -/
theorem normed (r : Fin 16384) (d : Fin 2048) : val_main_v14 (F := Ideal) x g (ix2 r d) = norm (row x r) (gain g) d := by
  rw [val_main_v14_apply, val_main_v13_apply, val_main_v12_apply, val_main_v11_apply, val_main_v10_apply, val_main_v9_apply, val_main_v8_apply,
    val_main_v7_apply, val_main_v6_apply, val_main_v5_apply, val_main_v4_apply, val_main_v3_apply, val_main_v1_apply, x_at]
  simp only [val_main_v2_apply, val_main_cst_apply, val_main_cst_0_apply, val_main_cst_1_apply]
  have e : ∀ k, idx_main_v3 (idx_main_v4 (idx_main_v10 (ix2 r d))) k = ix2 r k := fun k => by funext a; fin_cases a <;> rfl
  have e1 : g (idx_main_v1 (idx_main_v12 (idx_main_v13 (ix2 r d)))) = gain g d := congrArg g (by
    funext a
    fin_cases a
    · rfl
    · refine Fin.ext ?_
      first | rfl | exact Nat.mod_eq_of_lt d.isLt)
  simp only [e, x_at, e1]
  show row x r d * Ideal.rsqrt (Ideal.div (Ideal.ofBits .f32 0#32 + _) _ + _) * gain g d = _
  rw [Ideal.ofBits_zero_f32, zero_add]
  rfl

/-- The reference's first product. -/
theorem first (r : Fin 16384) (k : Fin 11264) : val_main_v16 (F := Ideal) x g w (ix2 r k) = dot (norm (row x r) (gain g)) (col w k.val) := by
  rw [val_main_v16_apply]
  have e : ∀ d, lidx_main_v16 (ix2 r k) d = ix2 r d := fun d => by funext a; fin_cases a <;> rfl
  have e' : ∀ d, ridx_main_v16 (ix2 r k) d = ix2 d k := fun d => by funext a; fin_cases a <;> rfl
  simp only [e, e', normed, w_at]
  rfl

/-- The literal 1. -/
theorem ofBits_one : Ideal.ofBits .f32 0x3F800000#32 = 1 := by
  simp [Ideal.ofBits, Ideal.ieee, -EReal.coe_mul]; norm_num

/-- The reference's hidden entries. -/
theorem hidden (r : Fin 16384) (k : Fin 5632) : val_main_v20 (F := Ideal) x g w (ix2 r k) = hid (norm (row x r) (gain g)) (col w) k.val := by
  rw [val_main_v20_apply, val_main_v18_apply]
  have e : idx_main_v18 (ix2 r k) = ix2 r ⟨5632 + k.val, by have := k.isLt; omega⟩ := by funext a; fin_cases a <;> rfl
  have e' : idx_main_v17 (ix2 r k) = ix2 r ⟨k.val, by have := k.isLt; omega⟩ := by
    funext a
    fin_cases a
    · rfl
    · refine Fin.ext ?_
      first | rfl | exact Nat.zero_add _
  rw [val_main_v19_apply, val_main_call0_v5_apply, val_main_call0_v4_apply, val_main_call0_cst_0_apply, val_main_call0_v3_apply, val_main_call0_v2_apply,
    val_main_call0_cst_apply, val_main_call0_v1_apply, val_main_call0_v0_apply, val_main_v17_apply, e, e', first, first]
  show (dot _ _ * Ideal.div (Ideal.ofBits .f32 0x3F800000#32) (Ideal.ofBits .f32 0x3F800000#32 + Ideal.exp (-dot _ _))) * dot _ _ = _
  rw [ofBits_one]
  rfl

/-- The reference's result. -/
theorem value (r : Fin 16384) (e : Fin 2048) : val_main_v25 (F := Ideal) x g w v (ix2 r e)
    = row x r e + half * ∑ k ∈ Finset.range 5632, hid (norm (row x r) (gain g)) (col w) k * down v e k := by
  rw [val_main_v25_apply, val_main_v24_apply, val_main_v23_apply, val_main_cst_2_apply, val_main_v22_apply, x_at]
  have e1 : ∀ d, lidx_main_v22 (ix2 r e) d = ix2 r d := fun d => by funext a; fin_cases a <;> rfl
  have e2 : ∀ d, ridx_main_v22 (ix2 r e) d = ix2 d e := fun d => by funext a; fin_cases a <;> rfl
  simp only [e1, e2, hidden, v_at]
  rw [← Finset.sum_range fun k => hid (norm (row x r) (gain g)) (col w) k * down v e k]
  rfl

/-- The reference's second result: the normalized rows of the first. -/
theorem value_normed (r : Fin 16384) (d : Fin 2048) : (val_main_v40 (F := Ideal) x g w v g' (ix2 r d) : EReal)
    = norm (fun e => row x r e + half * ∑ k ∈ Finset.range 5632, hid (norm (row x r) (gain g)) (col w) k * down v e k) (gain g') d := by
  rw [val_main_v40_apply, val_main_v39_apply, val_main_v38_apply, val_main_v37_apply, val_main_v36_apply, val_main_v35_apply, val_main_v34_apply, val_main_v33_apply,
    val_main_v32_apply, val_main_v31_apply, val_main_v30_apply, val_main_v29_apply, val_main_v28_apply, val_main_v26_apply, value]
  simp only [val_main_v27_apply, val_main_cst_3_apply, val_main_cst_4_apply, val_main_cst_5_apply]
  have e : ∀ k, idx_main_v28 (idx_main_v29 (idx_main_v35 (ix2 r d))) k = ix2 r k := fun k => by funext a; fin_cases a <;> rfl
  have e1 : g' (idx_main_v26 (idx_main_v37 (idx_main_v38 (ix2 r d)))) = gain g' d := congrArg g' (by
    funext a
    fin_cases a
    · rfl
    · refine Fin.ext ?_
      first | rfl | exact Nat.mod_eq_of_lt d.isLt)
  simp only [e, value, e1]
  show (_ * Ideal.rsqrt (Ideal.div (Ideal.ofBits .f32 0#32 + _) _ + _)) * gain g' d = _
  rw [Ideal.ofBits_zero_f32, zero_add]
  rfl

end Cert.Ffn.Ref1
end
-- ==== Proof.Ffn1Algebraic.lean ====
module
public import proofs.«01_k».proof.Defs
public import proofs.«01_k».proof.Proof.Ffn1Sum
public import proofs.«01_k».proof.Proof.Ffn1Reference
public import proofs.«01_k».proof.Proof.Gen.Ffn1ReferenceIdeal.Run
@[expose] public section
set_option maxRecDepth 16384
noncomputable section
namespace Cert.Proof
open Idealize.ShloMosaic Idealize.ShloMosaic.TcCoe Idealize.SL.Sem

/-- The first feed-forward half computes what the reference's does, on all arguments. -/
theorem algebraic_ffn1 : Cert.algebraic_Ffn1Ideal_Ffn1ReferenceIdeal (hFfn1Ideal := Cert.Ffn1Ideal.Gen.facts) (hFfn1ReferenceIdeal := Cert.Ffn1ReferenceIdeal.Gen.facts) := by
  intro m g m' g' _ hagree
  refine ⟨fun c => Cert.Ffn1Ideal.Value.G6 (F := Ideal) m c, fun c => Cert.Ffn1Ideal.Value.G7 (F := Ideal) m c,
    (θ_run _ _ _).mono (fun r h c => ?_) (Cert.Ffn1Ideal.Value.run (F := Ideal) m g),
    (θ_run _ _ _).mono (fun r h c => ⟨(h c).1.trans ?_, (h c).2.1.trans ?_, (h c).2.2⟩) (Cert.Ffn1ReferenceIdeal.Value.run (F := Ideal) m' g')⟩
  · exact h c
  · rw [Cert.Ffn1ReferenceIdeal.Read.val_main_v25_eq, (hagree c).1, (hagree c).2.1, (hagree c).2.2.1, (hagree c).2.2.2.1]
    funext i
    have ei : i = ValueIdx.ix2 (i 0) (i 1) := by funext a; fin_cases a <;> rfl
    rw [ei]
    exact (Cert.Ffn.Ref1.value _ _ _ _ (i 0) (i 1)).trans (Cert.Ffn.First.result m c (i 0) (i 1)).symm
  · rw [Cert.Ffn1ReferenceIdeal.Read.val_main_v40_eq, (hagree c).1, (hagree c).2.1, (hagree c).2.2.1, (hagree c).2.2.2.1, (hagree c).2.2.2.2]
    funext i
    have ei : i = ValueIdx.ix2 (i 0) (i 1) := by funext a; fin_cases a <;> rfl
    rw [ei]
    exact (Cert.Ffn.Ref1.value_normed _ _ _ _ _ (i 0) (i 1)).trans (Cert.Ffn.First.result_normed m c (i 0) (i 1)).symm

end Cert.Proof
end
-- ==== Proof.Ffn2Points.lean ====
module
public import proofs.«01_k».proof.Proof.FfnSpec
public import proofs.«01_k».proof.Proof.Gen.Ffn2Ideal.Value
public import Idealize.ShloMosaic.Lib.Tactic.CleanTypes
public import Idealize.ShloMosaic.Lib.Pipeline.ReadBack
@[expose] public section
set_option maxRecDepth 16384
noncomputable section
namespace Cert.Ffn.Second
open Idealize.ShloMosaic Idealize.ShloMosaic.TcCoe Cert.Ffn Cert.Ffn2Ideal Cert.Ffn2Ideal.Gen Cert.Ffn2Ideal.Value

/-- The normalized rows a first point computes. -/
theorem pay_norm (X : FVec Ideal S512x2048 .f32) (G : FVec Ideal S1x2048 .f32) (a : Fin 512) (d : Fin 2048) :
    (k0_pay2 (F := Ideal) X G (ix2 a d) : EReal) = norm (fun d => X (ix2 a d)) (fun d => G (ix2 0 d)) d := by
  unfold k0_pay2 k0_pay1
  pointwise
  rfl

/-- The output block after one more block of hidden entries. -/
theorem pay_out (N : FVec Ideal S512x2048 .bf16) (A B : FVec Ideal S2048x512 .bf16) (O : FVec Ideal S512x2048 .f32) (D : FVec Ideal S512x2048 .bf16)
    (a : Fin 512) (e : Fin 2048) :
    (k0_pay3 (F := Ideal) N A B O D (ix2 a e) : EReal) = O (ix2 a e) + ∑ f : Fin 512,
      (gated (dot (fun d => N (ix2 a d)) fun d => A (ix2 d f)) (dot (fun d => N (ix2 a d)) fun d => B (ix2 d f)) * half) * D (ix2 f e) := by
  unfold k0_pay3
  pointwise
  rfl

/-- A first point starts the output with the rows themselves. -/
theorem pay_start (X : FVec Ideal S512x2048 .f32) (a : Fin 512) (e : Fin 2048) : (k0_pay1 (F := Ideal) X (ix2 a e) : EReal) = X (ix2 a e) := by
  unfold k0_pay1
  pointwise

variable (m : (ℓ : Loc nD τ sig) → Buf (Elt Ideal) ℓ) (c : Dev nD)

/-- The normalized rows the first point of a tile keeps. -/
theorem scratch_first (t : Fin cfg0.N) (h : t.val % 11 = 0) :
    (outsAt0 m c t.val t.isLt).2 = k0_pay2 (iblk m c 0 t) (iblk m c 1 t) := by
  rw [outsAt0_A m c t h]
  dsimp only
  frame_out

/-- The later points keep what they find. -/
theorem scratch_next (t : Fin cfg0.N) (h : ¬ t.val % 11 = 0) :
    (outsAt0 m c t.val t.isLt).2 = (outsAt0 m c (t.val - 1) (Nat.lt_of_le_of_lt (Nat.sub_le _ _) t.isLt)).2 := by
  rw [outsAt0_B m c t h]
  rfl

/-- The output after the first point. -/
theorem out_first (t : Fin cfg0.N) (h : t.val % 11 = 0) :
    (outsAt0 m c t.val t.isLt).1 = k0_pay3 (k0_pay2 (iblk m c 0 t) (iblk m c 1 t)) (iblk m c 2 t) (iblk m c 3 t) (k0_pay1 (iblk m c 0 t)) (iblk m c 4 t) := by
  rw [outsAt0_A m c t h]
  dsimp only
  frame_out

/-- The output after the later points. -/
theorem out_next (t : Fin cfg0.N) (h : ¬ t.val % 11 = 0) :
    (outsAt0 m c t.val t.isLt).1 = k0_pay3 (outsAt0 m c (t.val - 1) (Nat.lt_of_le_of_lt (Nat.sub_le _ _) t.isLt)).2 (iblk m c 2 t) (iblk m c 3 t)
      (outsAt0 m c (t.val - 1) (Nat.lt_of_le_of_lt (Nat.sub_le _ _) t.isLt)).1 (iblk m c 4 t) := by
  rw [outsAt0_B m c t h]
  dsimp only
  frame_out
  simp only [read_unread_whole]

end Cert.Ffn.Second
end
-- ==== Proof.Ffn2Blocks.lean ====
module
public import proofs.«01_k».proof.Proof.Ffn2Points
@[expose] public section
set_option maxRecDepth 16384
noncomputable section
namespace Cert.Ffn.Second
open Idealize.ShloMosaic Idealize.ShloMosaic.TcCoe Cert.Ffn Cert.Ffn2Ideal Cert.Ffn2Ideal.Gen Cert.Ffn2Ideal.Value

variable (m : (ℓ : Loc nD τ sig) → Buf (Elt Ideal) ℓ) (c : Dev nD)

/-- The residual stream. -/
abbrev xA : FVec Ideal S1x16384x2048 .f32 := m ((c : Thread nD τ).loc main_arg0)
/-- The gains. -/
abbrev gA : FVec Ideal S1x2048 .f32 := m ((c : Thread nD τ).loc main_arg1)
/-- The first weights. -/
abbrev wA : FVec Ideal S1x2048x11264 .f32 := m ((c : Thread nD τ).loc main_arg2)
/-- The second weights. -/
abbrev vA : FVec Ideal S1x5632x2048 .f32 := m ((c : Thread nD τ).loc main_arg3)

/-- The rows the call reads. -/
theorem x_entry (r : Fin 16384) (d : Fin 2048) : (V m c main_v0 : FVec Ideal S16384x2048 .f32) (ix2 r d) = xA m c (ix3 0 r d) := by
  entry_read
  clean_types
  pointwise
/-- The gains the call reads. -/
theorem g_entry (d : Fin 2048) : (V m c main_v2 : FVec Ideal S1x2048 .f32) (ix2 0 d) = gA m c (ix2 0 d) := by
  entry_read
  clean_types
  pointwise
/-- The first weights the call reads. -/
theorem w_entry (d : Fin 2048) (k : Fin 11264) : (V m c main_v4 : FVec Ideal S2048x11264 .bf16) (ix2 d k) = wA m c (ix3 0 d k) := by
  entry_read
  clean_types
  pointwise
/-- The second weights the call reads. -/
theorem v_entry (k : Fin 5632) (e : Fin 2048) : (V m c main_v6 : FVec Ideal S5632x2048 .bf16) (ix2 k e) = vA m c (ix3 0 k e) := by
  entry_read
  clean_types
  pointwise

/-- Which block each window shows at a point of the grid: the tile of rows and the block of hidden entries. -/
theorem idx : ∀ t : Fin cfg0.N, win0_0.index t 0 = t.val / 11 ∧ win0_0.index t 1 = 0
    ∧ win0_1.index t 0 = 0 ∧ win0_1.index t 1 = 0
    ∧ win0_2.index t 0 = 0 ∧ win0_2.index t 1 = t.val % 11
    ∧ win0_3.index t 0 = 0 ∧ win0_3.index t 1 = t.val % 11 + 11
    ∧ win0_4.index t 0 = t.val % 11 ∧ win0_4.index t 1 = 0
    ∧ t.val < 352 := by decide +kernel

/-- The block of rows at a point. -/
theorem x_blk (t : Fin cfg0.N) (a : Fin 512) (d : Fin 2048) (r : Fin 16384) (er : r.val = 512 * (t.val / 11) + a.val) :
    (iblk m c 0 t : FVec Ideal S512x2048 .f32) (ix2 a d) = row (xA m c) r d := by
  show _ = xA m c (ix3 0 r d)
  rw [← x_entry m c r d]
  blk_ext [iblk, idx t]

/-- The gains at a point. -/
theorem g_blk (t : Fin cfg0.N) (d : Fin 2048) : (iblk m c 1 t : FVec Ideal S1x2048 .f32) (ix2 0 d) = gain (gA m c) d := by
  show _ = gA m c (ix2 0 d)
  rw [← g_entry m c d]
  blk_ext [iblk, idx t]

/-- The block of gate columns at a point. -/
theorem gate_blk (t : Fin cfg0.N) (d : Fin 2048) (f : Fin 512) :
    (iblk m c 2 t : FVec Ideal S2048x512 .bf16) (ix2 d f) = col (wA m c) (512 * (t.val % 11) + f.val) d := by
  have := f.isLt
  rw [col, dif_pos (by omega), ← w_entry m c]
  blk_ext [iblk, idx t]

/-- The block of value columns at a point. -/
theorem value_blk (t : Fin cfg0.N) (d : Fin 2048) (f : Fin 512) :
    (iblk m c 3 t : FVec Ideal S2048x512 .bf16) (ix2 d f) = col (wA m c) (5632 + (512 * (t.val % 11) + f.val)) d := by
  have := f.isLt
  rw [col, dif_pos (by omega), ← w_entry m c]
  blk_ext [iblk, idx t]

/-- The block of rows of the second weights at a point. -/
theorem down_blk (t : Fin cfg0.N) (f : Fin 512) (e : Fin 2048) :
    (iblk m c 4 t : FVec Ideal S512x2048 .bf16) (ix2 f e) = down (vA m c) e (512 * (t.val % 11) + f.val) := by
  have := f.isLt
  rw [down, dif_pos (by omega), ← v_entry m c]
  blk_ext [iblk, idx t]

end Cert.Ffn.Second
end
-- ==== Proof.Ffn2Sum.lean ====
module
public import proofs.«01_k».proof.Proof.Ffn2Blocks
@[expose] public section
set_option maxRecDepth 16384
noncomputable section
namespace Cert.Ffn.Second
open Idealize.ShloMosaic Idealize.ShloMosaic.TcCoe Cert.Ffn Cert.Ffn2Ideal Cert.Ffn2Ideal.Gen Cert.Ffn2Ideal.Value

variable (m : (ℓ : Loc nD τ sig) → Buf (Elt Ideal) ℓ) (c : Dev nD)

/-- The normalized row `r` of the residual stream. -/
abbrev nrm (r : Fin 16384) : Fin 2048 → EReal := norm (row (xA m c) r) (gain (gA m c))

/-- What a block of hidden entries puts into an output entry, from the blocks the point shows. -/
theorem block_sum (t : Fin cfg0.N) (N : FVec Ideal S512x2048 .bf16) (O : FVec Ideal S512x2048 .f32) (a : Fin 512) (e : Fin 2048) (n : Fin 2048 → EReal)
    (hn : ∀ d, N (ix2 a d) = n d) (s : EReal)
    (hs : O (ix2 a e) = s + ∑ k ∈ Finset.range (512 * (t.val % 11)), term n (col (wA m c)) (down (vA m c) e) k) :
    (k0_pay3 (F := Ideal) N (iblk m c 2 t) (iblk m c 3 t) O (iblk m c 4 t) (ix2 a e) : EReal)
      = s + ∑ k ∈ Finset.range (512 * (t.val % 11 + 1)), term n (col (wA m c)) (down (vA m c) e) k := by
  rw [pay_out, hs, sum_block, ← add_assoc]
  refine congrArg _ (Finset.sum_congr rfl fun f _ => ?_)
  rw [down_blk, show (fun d => N (ix2 a d)) = n from funext hn,
    show (fun d => (iblk m c 2 t : FVec Ideal S2048x512 .bf16) (ix2 d f)) = col (wA m c) (512 * (t.val % 11) + f.val) from funext fun d => gate_blk m c t d f,
    show (fun d => (iblk m c 3 t : FVec Ideal S2048x512 .bf16) (ix2 d f)) = col (wA m c) (5632 + (512 * (t.val % 11) + f.val)) from funext fun d => value_blk m c t d f]
  rfl

/-- After every point the scratch holds the tile's normalized rows, and the output block the rows plus the hidden entries so far. -/
theorem after (n : ℕ) : ∀ hn : n < cfg0.N, ∀ (a : Fin 512) (r : Fin 16384), r.val = 512 * (n / 11) + a.val →
    (∀ d, ((outsAt0 m c n hn).2 (ix2 a d) : EReal) = nrm m c r d)
    ∧ ∀ e, ((outsAt0 m c n hn).1 (ix2 a e) : EReal) = row (xA m c) r e
        + ∑ k ∈ Finset.range (512 * (n % 11 + 1)), term (nrm m c r) (col (wA m c)) (down (vA m c) e) k := by
  have first : ∀ t : Fin cfg0.N, t.val % 11 = 0 → ∀ (a : Fin 512) (r : Fin 16384), r.val = 512 * (t.val / 11) + a.val →
      (∀ d, ((outsAt0 m c t.val t.isLt).2 (ix2 a d) : EReal) = nrm m c r d)
      ∧ ∀ e, ((outsAt0 m c t.val t.isLt).1 (ix2 a e) : EReal) = row (xA m c) r e
          + ∑ k ∈ Finset.range (512 * (t.val % 11 + 1)), term (nrm m c r) (col (wA m c)) (down (vA m c) e) k := by
    intro t h a r hr
    have hs : ∀ d, (k0_pay2 (F := Ideal) (iblk m c 0 t) (iblk m c 1 t) (ix2 a d) : EReal) = nrm m c r d := fun d => by
      rw [pay_norm, show (fun d => (iblk m c 0 t : FVec Ideal S512x2048 .f32) (ix2 a d)) = row (xA m c) r from funext fun d => x_blk m c t a d r hr,
        show (fun d => (iblk m c 1 t : FVec Ideal S1x2048 .f32) (ix2 0 d)) = gain (gA m c) from funext fun d => g_blk m c t d]
    refine ⟨fun d => by rw [scratch_first m c t h]; exact hs d, fun e => ?_⟩
    rw [out_first m c t h]
    refine block_sum m c t _ _ a e _ hs _ ?_
    rw [pay_start, h]
    simpa using x_blk m c t a e r hr
  induction n with
  | zero => exact fun hn => first ⟨0, hn⟩ rfl
  | succ n ih =>
    intro hn a r hr
    by_cases h : (n + 1) % 11 = 0
    · exact first ⟨n + 1, hn⟩ h a r hr
    · obtain ⟨i1, i2⟩ := ih (by omega) a r (by omega)
      refine ⟨fun d => ?_, fun e => ?_⟩
      · rw [scratch_next m c ⟨n + 1, hn⟩ h]
        exact i1 d
      · rw [out_next m c ⟨n + 1, hn⟩ h]
        refine block_sum m c ⟨n + 1, hn⟩ _ _ a e _ i1 _ ?_
        rw [show (n + 1) % 11 = n % 11 + 1 by omega]
        exact i2 e

/-- What the call leaves in its result. -/
theorem result (r : Fin 16384) (e : Fin 2048) : ((G6 m c : FVec Ideal S16384x2048 .f32) (ix2 r e) : EReal)
    = row (xA m c) r e + half * ∑ k ∈ Finset.range 5632, hid (nrm m c r) (col (wA m c)) k * down (vA m c) e k := by
  have hr := r.isLt
  have he := e.isLt
  have hp : pt6Of (ix2 r e) = 11 * (r.val / 512) + 10 := by
    show 11 * (1 * (r.val / 512 - 0) + 1 * (e.val / 2048 - 0)) + 10 = _
    omega
  have hN : cfg0.N = 352 := N_0
  have hlt : 11 * (r.val / 512) + 10 < cfg0.N := by omega
  have hl : loc6Of (ix2 r e) = ix2 ⟨r.val % 512, Nat.mod_lt _ (by decide)⟩ e := by
    funext a
    fin_cases a
    · rfl
    · exact Fin.ext (Nat.mod_eq_of_lt he)
  have key := (after m c (11 * (r.val / 512) + 10) hlt ⟨r.val % 512, Nat.mod_lt _ (by decide)⟩ r (by show r.val = 512 * _ + r.val % 512; omega)).2 e
  rw [show 512 * ((11 * (r.val / 512) + 10) % 11 + 1) = 5632 by omega, sum_term, outsAt0_sweep] at key
  rw [← key]
  show G6 m c (ix2 r e) = _
  unfold G6
  rw [dif_pos (by rw [hp]; exact hlt), hl, fold0_congr m c _ _ _ _ hp]

end Cert.Ffn.Second
end
-- ==== Proof.Ffn2Reference.lean ====
module
public import proofs.«01_k».proof.Proof.FfnSpec
public import proofs.«01_k».proof.Proof.Gen.Ffn2ReferenceIdeal.Read
public import Idealize.ShloMosaic.Lib.Tactic.CleanTypes
@[expose] public section
set_option maxRecDepth 16384
noncomputable section
namespace Cert.Ffn.Ref2
open Idealize.ShloMosaic Cert.Ffn Cert.Ffn2ReferenceIdeal Cert.Ffn2ReferenceIdeal.Gen Cert.Ffn2ReferenceIdeal.Read

variable (x : FVec Ideal S1x16384x2048 .f32) (g : FVec Ideal S1x2048 .f32) (w : FVec Ideal S1x2048x11264 .f32) (v : FVec Ideal S1x5632x2048 .f32)

/-- The entry of the residual stream a row and a column name. -/
theorem x_at (r : Fin 16384) (d : Fin 2048) : val_main_v0 (F := Ideal) x (ix2 r d) = row x r d := by
  rw [val_main_v0_apply]
  refine congrArg x (funext fun a => Fin.ext ?_)
  have := r.isLt; have := d.isLt
  fin_cases a
  · rfl
  · show (r.val * 2048 + d.val) / 2048 % 16384 = r.val
    omega
  · show (r.val * 2048 + d.val) % 2048 = d.val
    omega

/-- The entry of the first weights a row and a column name. -/
theorem w_at (d : Fin 2048) (k : Fin 11264) : val_main_v15 (F := Ideal) w (ix2 d k) = col w k.val d := by
  rw [val_main_v15_apply, col, dif_pos k.isLt]
  refine congrArg w (funext fun a => Fin.ext ?_)
  have := k.isLt; have := d.isLt
  fin_cases a
  · rfl
  · show (d.val * 11264 + k.val) / 11264 % 2048 = d.val
    omega
  · show (d.val * 11264 + k.val) % 11264 = k.val
    omega

/-- The entry of the second weights a row and a column name. -/
theorem v_at (k : Fin 5632) (e : Fin 2048) : val_main_v21 (F := Ideal) v (ix2 k e) = down v e k.val := by
  rw [val_main_v21_apply, down, dif_pos k.isLt]
  refine congrArg v (funext fun a => Fin.ext ?_)
  have := k.isLt; have := e.isLt
  fin_cases a
  · rfl
  · show (k.val * 2048 + e.val) / 2048 % 5632 = k.val
    omega
  · show (k.val * 2048 + e.val) % 2048 = e.val
    omega

/-- The reference's normalized rows. -/
theorem normed (r : Fin 16384) (d : Fin 2048) : val_main_v14 (F := Ideal) x g (ix2 r d) = norm (row x r) (gain g) d := by
  rw [val_main_v14_apply, val_main_v13_apply, val_main_v12_apply, val_main_v11_apply, val_main_v10_apply, val_main_v9_apply, val_main_v8_apply,
    val_main_v7_apply, val_main_v6_apply, val_main_v5_apply, val_main_v4_apply, val_main_v3_apply, val_main_v1_apply, x_at]
  simp only [val_main_v2_apply, val_main_cst_apply, val_main_cst_0_apply, val_main_cst_1_apply]
  have e : ∀ k, idx_main_v3 (idx_main_v4 (idx_main_v10 (ix2 r d))) k = ix2 r k := fun k => by funext a; fin_cases a <;> rfl
  have e1 : g (idx_main_v1 (idx_main_v12 (idx_main_v13 (ix2 r d)))) = gain g d := congrArg g (by
    funext a
    fin_cases a
    · rfl
    · refine Fin.ext ?_
      first | rfl | exact Nat.mod_eq_of_lt d.isLt)
  simp only [e, x_at, e1]
  show row x r d * Ideal.rsqrt (Ideal.div (Ideal.ofBits .f32 0#32 + _) _ + _) * gain g d = _
  rw [Ideal.ofBits_zero_f32, zero_add]
  rfl

/-- The reference's first product. -/
theorem first (r : Fin 16384) (k : Fin 11264) : val_main_v16 (F := Ideal) x g w (ix2 r k) = dot (norm (row x r) (gain g)) (col w k.val) := by
  rw [val_main_v16_apply]
  have e : ∀ d, lidx_main_v16 (ix2 r k) d = ix2 r d := fun d => by funext a; fin_cases a <;> rfl
  have e' : ∀ d, ridx_main_v16 (ix2 r k) d = ix2 d k := fun d => by funext a; fin_cases a <;> rfl
  simp only [e, e', normed, w_at]
  rfl

/-- The literal 1. -/
theorem ofBits_one : Ideal.ofBits .f32 0x3F800000#32 = 1 := by
  simp [Ideal.ofBits, Ideal.ieee, -EReal.coe_mul]; norm_num

/-- The reference's hidden entries. -/
theorem hidden (r : Fin 16384) (k : Fin 5632) : val_main_v20 (F := Ideal) x g w (ix2 r k) = hid (norm (row x r) (gain g)) (col w) k.val := by
  rw [val_main_v20_apply, val_main_v18_apply]
  have e : idx_main_v18 (ix2 r k) = ix2 r ⟨5632 + k.val, by have := k.isLt; omega⟩ := by funext a; fin_cases a <;> rfl
  have e' : idx_main_v17 (ix2 r k) = ix2 r ⟨k.val, by have := k.isLt; omega⟩ := by
    funext a
    fin_cases a
    · rfl
    · refine Fin.ext ?_
      first | rfl | exact Nat.zero_add _
  rw [val_main_v19_apply, val_main_call0_v5_apply, val_main_call0_v4_apply, val_main_call0_cst_0_apply, val_main_call0_v3_apply, val_main_call0_v2_apply,
    val_main_call0_cst_apply, val_main_call0_v1_apply, val_main_call0_v0_apply, val_main_v17_apply, e, e', first, first]
  show (dot _ _ * Ideal.div (Ideal.ofBits .f32 0x3F800000#32) (Ideal.ofBits .f32 0x3F800000#32 + Ideal.exp (-dot _ _))) * dot _ _ = _
  rw [ofBits_one]
  rfl

/-- The reference's result. -/
theorem value (r : Fin 16384) (e : Fin 2048) : val_main_v25 (F := Ideal) x g w v (ix2 r e)
    = row x r e + half * ∑ k ∈ Finset.range 5632, hid (norm (row x r) (gain g)) (col w) k * down v e k := by
  rw [val_main_v25_apply, val_main_v24_apply, val_main_v23_apply, val_main_cst_2_apply, val_main_v22_apply, x_at]
  have e1 : ∀ d, lidx_main_v22 (ix2 r e) d = ix2 r d := fun d => by funext a; fin_cases a <;> rfl
  have e2 : ∀ d, ridx_main_v22 (ix2 r e) d = ix2 d e := fun d => by funext a; fin_cases a <;> rfl
  simp only [e1, e2, hidden, v_at]
  rw [← Finset.sum_range fun k => hid (norm (row x r) (gain g)) (col w) k * down v e k]
  rfl

end Cert.Ffn.Ref2
end
-- ==== Proof.Ffn2Algebraic.lean ====
module
public import proofs.«01_k».proof.Defs
public import proofs.«01_k».proof.Proof.Ffn2Sum
public import proofs.«01_k».proof.Proof.Ffn2Reference
public import proofs.«01_k».proof.Proof.Gen.Ffn2ReferenceIdeal.Run
@[expose] public section
set_option maxRecDepth 16384
noncomputable section
namespace Cert.Proof
open Idealize.ShloMosaic Idealize.ShloMosaic.TcCoe Idealize.SL.Sem

/-- The second feed-forward half computes what the reference's does, on all arguments. -/
theorem algebraic_ffn2 : Cert.algebraic_Ffn2Ideal_Ffn2ReferenceIdeal (hFfn2Ideal := Cert.Ffn2Ideal.Gen.facts) (hFfn2ReferenceIdeal := Cert.Ffn2ReferenceIdeal.Gen.facts) := by
  intro m g m' g' _ hagree
  refine ⟨fun c => Cert.Ffn2Ideal.Value.G6 (F := Ideal) m c,
    (θ_run _ _ _).mono (fun r h c => ?_) (Cert.Ffn2Ideal.Value.run (F := Ideal) m g),
    (θ_run _ _ _).mono (fun r h c => ⟨(h c).1.trans ?_, (h c).2⟩) (Cert.Ffn2ReferenceIdeal.Value.run (F := Ideal) m' g')⟩
  · exact h c
  · rw [Cert.Ffn2ReferenceIdeal.Read.val_main_v25_eq, (hagree c).1, (hagree c).2.1, (hagree c).2.2.1, (hagree c).2.2.2]
    funext i
    have ei : i = ValueIdx.ix2 (i 0) (i 1) := by funext a; fin_cases a <;> rfl
    rw [ei]
    exact (Cert.Ffn.Ref2.value _ _ _ _ (i 0) (i 1)).trans (Cert.Ffn.Second.result m c (i 0) (i 1)).symm

end Cert.Proof
end
-- ==== Proof.MemKvPoints.lean ====
module
public import Idealize.ShloMosaic.Lib.Tactic.CleanTypes
public import Idealize.ShloMosaic.Lib.Pipeline.ReadBack
public import proofs.«01_k».proof.Proof.FfnSpec
public import proofs.«01_k».proof.Proof.Gen.MemKvIdeal.Value
@[expose] public section
set_option maxRecDepth 16384
noncomputable section
namespace Cert.Layer.Kv
open Idealize.ShloMosaic Idealize.ShloMosaic.TcCoe Cert.Ffn Cert.MemKvIdeal Cert.MemKvIdeal.Gen Cert.MemKvIdeal.Value

/-- A head's row, normalized over the head, times its gains. -/
def headNorm (s g : Fin 256 → EReal) (d : Fin 256) : EReal :=
  (s d * Ideal.rsqrt (Ideal.div (∑ e, s e * s e) (Ideal.ofBits .f32 0x43800000#32) + Ideal.ofBits .f32 0x358637BD#32)) * g d

/-- Feature `d` of the head column `k` belongs to, among the keys' and values' columns. -/
abbrev wide (k : Fin 1024) (d : Fin 256) : Fin 2048 := ⟨256 * (k.val / 256) + d.val, by have := k.isLt; have := d.isLt; omega⟩
/-- The feature of its head a column is. -/
abbrev part (k : Fin 1024) : Fin 256 := ⟨k.val % 256, Nat.mod_lt _ (by omega)⟩
/-- A column of the values, among the keys' and values' columns. -/
abbrev late (k : Fin 1024) : Fin 2048 := ⟨1024 + k.val, by have := k.isLt; omega⟩

/-- An entry of the product of the normalized memory rows and the weights. -/
abbrev prod (X : FVec Ideal S256x2048 .f32) (G : FVec Ideal S1x2048 .f32) (W : FVec Ideal S2048x2048 .bf16) (a : Fin 256) (b : Fin 2048) : EReal :=
  dot (norm (fun d => X (ix2 a d)) fun d => G (ix2 0 d)) fun d => W (ix2 d b)

variable (X : FVec Ideal S256x2048 .f32) (G : FVec Ideal S1x2048 .f32) (W : FVec Ideal S2048x2048 .bf16) (H : FVec Ideal S1x256 .f32)

/-- The product the body computes. -/
theorem pay_prod (a : Fin 256) (b : Fin 2048) : (k0_pay3 (F := Ideal) X G W (ix2 a b) : EReal) = prod X G W a b := by
  unfold k0_pay3
  pointwise
  rfl

/-- The sums of a head's squares. -/
abbrev squares (T : FVec Ideal S256x256 .f32) : FVec Ideal S256 .f32 :=
  multiReduction .add [1] S256 (mulf T T) 0x00000000#32 reduces_S256x256_S256 (.inl rfl) rfl

/-- The keys of one head. -/
theorem pay_head (T : FVec Ideal S256x256 .f32) (a b : Fin 256) :
    (k0_pay7 (F := Ideal) T (squares T) H (ix2 a b) : EReal) = headNorm (fun d => T (ix2 a d)) (fun d => H (ix2 0 d)) b := by
  unfold k0_pay7 squares
  pointwise
  rfl

/-- Reading a whole buffer gives it. -/
theorem whole_eq : (View.ld (Val := Elt Ideal) (e' := .f32) X r0_0 : FVec Ideal S256x2048 .f32) = X
    ∧ (View.ld (Val := Elt Ideal) (e' := .f32) G r0_1 : FVec Ideal S1x2048 .f32) = G
    ∧ (View.ld (Val := Elt Ideal) (e' := .bf16) W r0_2 : FVec Ideal S2048x2048 .bf16) = W
    ∧ (View.ld (Val := Elt Ideal) (e' := .f32) H r0_3 : FVec Ideal S1x256 .f32) = H := by
  refine ⟨funext fun y => congrArg X ?_, funext fun y => congrArg G ?_, funext fun y => congrArg W ?_, funext fun y => congrArg H ?_⟩ <;>
    (funext a; fin_cases a <;> exact Fin.ext ((Nat.zero_add _).trans (Nat.one_mul _)))

/-- An entry of the keys, from the product. -/
abbrev key (P : Fin 256 → Fin 2048 → EReal) (h : Fin 256 → EReal) (y : S256x1024.Idx) : EReal :=
  headNorm (fun d => P (y 0) (wide (y 1) d)) h (part (y 1))

/-- The product's columns of one head, normalized, are that head's columns of the keys. -/
theorem piece (T : FVec Ideal S256x256 .f32) (o : Fin 4) (hT : ∀ a d : Fin 256, (T (ix2 a d) : EReal) = prod X G W a ⟨256 * o.val + d.val, by have := o.isLt; have := d.isLt; omega⟩)
    (x : S256x256.Idx) (y : S256x1024.Idx) (e0 : y 0 = x 0) (e1 : (y 1).val = 256 * o.val + (x 1).val) :
    (k0_pay7 (F := Ideal) T (squares T) H x : EReal) = key (prod X G W) (fun d => H (ix2 0 d)) y := by
  have hx : (x 1).val < 256 := (x 1).isLt
  refine ((congrArg _ (ValueIdx.eq_ix2 x)).trans (pay_head H T (x 0) (x 1))).trans ?_
  refine congrArg₂ (fun s k => headNorm s (fun d => H (ix2 0 d)) k) (funext fun d => ?_) (Fin.ext ?_)
  · refine (hT _ d).trans (congrArg₂ (prod X G W) e0.symm (Fin.ext ?_))
    show 256 * o.val + d.val = 256 * ((y 1).val / 256) + d.val
    omega
  · show (x 1).val = (y 1).val % 256
    omega

/-- What the body leaves in the keys' block. -/
theorem out_key (y : S256x1024.Idx) : (out0_4 (F := Ideal) X G W H y : EReal) = key (prod X G W) (fun d => H (ix2 0 d)) y := by
  unfold out0_4 k0_pay10
  rw [(whole_eq X G W H).1, (whole_eq X G W H).2.1, (whole_eq X G W H).2.2.1, (whole_eq X G W H).2.2.2]
  refine View.canon_apply_of_pieces (Val := Elt Ideal) (e := .bf16) (key (prod X G W) fun d => H (ix2 0 d)) _ ?_ y (cover0_4 _ _ _ _ y)
  intro pc hpc
  simp only [List.mem_cons, List.not_mem_nil, or_false] at hpc
  have hp := pay_prod X G W
  obtain rfl | rfl | rfl | rfl := hpc <;> intro x
  on_goal 1 =>
    show k0_pay7 (F := Ideal) (extractStridedSlice S256x256 ![0, 768] (k0_pay3 X G W) slices_S256x2048_o0_768_S256x256) (squares (extractStridedSlice S256x256 ![0, 768] (k0_pay3 X G W) slices_S256x2048_o0_768_S256x256)) H x = key (prod X G W) (fun d => H (ix2 0 d)) (r0_7.idx x)
    generalize k0_pay3 (F := Ideal) X G W = P at hp ⊢
    have hs : ∀ a d : Fin 256, (extractStridedSlice S256x256 ![0, 768] P slices_S256x2048_o0_768_S256x256 (ix2 a d) : EReal) = P (ix2 a ⟨768 + d.val, by have := d.isLt; omega⟩) := fun a d => by pointwise
    have e0 : (r0_7.idx x) 0 = x 0 := Fin.ext ((Nat.zero_add _).trans (Nat.one_mul _))
    have e1 : ((r0_7.idx x) 1).val = 256 * ((3 : Fin 4).val) + (x 1).val := by
      show 768 + 1 * (x 1).val = 768 + (x 1).val
      rw [Nat.one_mul]
    refine piece X G W H (extractStridedSlice S256x256 ![0, 768] P slices_S256x2048_o0_768_S256x256) 3 ?_ x (r0_7.idx x) e0 e1
    exact fun a d => (hs a d).trans (hp a _)
  on_goal 1 =>
    show k0_pay7 (F := Ideal) (extractStridedSlice S256x256 ![0, 512] (k0_pay3 X G W) slices_S256x2048_o0_512_S256x256) (squares (extractStridedSlice S256x256 ![0, 512] (k0_pay3 X G W) slices_S256x2048_o0_512_S256x256)) H x = key (prod X G W) (fun d => H (ix2 0 d)) (r0_6.idx x)
    generalize k0_pay3 (F := Ideal) X G W = P at hp ⊢
    have hs : ∀ a d : Fin 256, (extractStridedSlice S256x256 ![0, 512] P slices_S256x2048_o0_512_S256x256 (ix2 a d) : EReal) = P (ix2 a ⟨512 + d.val, by have := d.isLt; omega⟩) := fun a d => by pointwise
    have e0 : (r0_6.idx x) 0 = x 0 := Fin.ext ((Nat.zero_add _).trans (Nat.one_mul _))
    have e1 : ((r0_6.idx x) 1).val = 256 * ((2 : Fin 4).val) + (x 1).val := by
      show 512 + 1 * (x 1).val = 512 + (x 1).val
      rw [Nat.one_mul]
    refine piece X G W H (extractStridedSlice S256x256 ![0, 512] P slices_S256x2048_o0_512_S256x256) 2 ?_ x (r0_6.idx x) e0 e1
    exact fun a d => (hs a d).trans (hp a _)
  on_goal 1 =>
    show k0_pay7 (F := Ideal) (extractStridedSlice S256x256 ![0, 256] (k0_pay3 X G W) slices_S256x2048_o0_256_S256x256) (squares (extractStridedSlice S256x256 ![0, 256] (k0_pay3 X G W) slices_S256x2048_o0_256_S256x256)) H x = key (prod X G W) (fun d => H (ix2 0 d)) (r0_5.idx x)
    generalize k0_pay3 (F := Ideal) X G W = P at hp ⊢
    have hs : ∀ a d : Fin 256, (extractStridedSlice S256x256 ![0, 256] P slices_S256x2048_o0_256_S256x256 (ix2 a d) : EReal) = P (ix2 a ⟨256 + d.val, by have := d.isLt; omega⟩) := fun a d => by pointwise
    have e0 : (r0_5.idx x) 0 = x 0 := Fin.ext ((Nat.zero_add _).trans (Nat.one_mul _))
    have e1 : ((r0_5.idx x) 1).val = 256 * ((1 : Fin 4).val) + (x 1).val := by
      show 256 + 1 * (x 1).val = 256 + (x 1).val
      rw [Nat.one_mul]
    refine piece X G W H (extractStridedSlice S256x256 ![0, 256] P slices_S256x2048_o0_256_S256x256) 1 ?_ x (r0_5.idx x) e0 e1
    exact fun a d => (hs a d).trans (hp a _)
  on_goal 1 =>
    show k0_pay7 (F := Ideal) (extractStridedSlice S256x256 ![0, 0] (k0_pay3 X G W) slices_S256x2048_o0_0_S256x256) (squares (extractStridedSlice S256x256 ![0, 0] (k0_pay3 X G W) slices_S256x2048_o0_0_S256x256)) H x = key (prod X G W) (fun d => H (ix2 0 d)) (r0_4.idx x)
    generalize k0_pay3 (F := Ideal) X G W = P at hp ⊢
    have hs : ∀ a d : Fin 256, (extractStridedSlice S256x256 ![0, 0] P slices_S256x2048_o0_0_S256x256 (ix2 a d) : EReal) = P (ix2 a ⟨0 + d.val, by have := d.isLt; omega⟩) := fun a d => by pointwise
    have e0 : (r0_4.idx x) 0 = x 0 := Fin.ext ((Nat.zero_add _).trans (Nat.one_mul _))
    have e1 : ((r0_4.idx x) 1).val = 256 * ((0 : Fin 4).val) + (x 1).val := by
      show 0 + 1 * (x 1).val = 0 + (x 1).val
      rw [Nat.one_mul]
    refine piece X G W H (extractStridedSlice S256x256 ![0, 0] P slices_S256x2048_o0_0_S256x256) 0 ?_ x (r0_4.idx x) e0 e1
    exact fun a d => (hs a d).trans (hp a _)

/-- What the body leaves in the values' block. -/
theorem out_val (y : S256x1024.Idx) : (out0_5 (F := Ideal) X G W H y : EReal) = prod X G W (y 0) (late (y 1)) := by
  unfold out0_5 k0_pay10
  rw [(whole_eq X G W H).1, (whole_eq X G W H).2.1, (whole_eq X G W H).2.2.1]
  refine View.canon_apply_of_pieces (Val := Elt Ideal) (e := .bf16) (fun y => prod X G W (y 0) (late (y 1))) _ ?_ y (cover0_5 _ y)
  intro pc hpc
  simp only [List.mem_cons, List.not_mem_nil, or_false] at hpc
  obtain rfl := hpc
  intro x
  have e : r0_8.idx x = x := by funext a; fin_cases a <;> exact Fin.ext ((Nat.zero_add _).trans (Nat.one_mul _))
  have h : ∀ (P : FVec Ideal S256x2048 .f32) (a : Fin 256) (b : Fin 1024), (k0_pay2 (F := Ideal) P (ix2 a b) : EReal) = P (ix2 a (late b)) := fun P a b => by
    unfold k0_pay2
    pointwise
  refine Eq.trans ?_ (congrArg (fun y : S256x1024.Idx => prod X G W (y 0) (late (y 1))) e).symm
  exact ((congrArg _ (ValueIdx.eq_ix2 x)).trans (h _ (x 0) (x 1))).trans (pay_prod X G W _ _)

end Cert.Layer.Kv
end
-- ==== Proof.MemKvResult.lean ====
module
public import proofs.«01_k».proof.Defs
public import proofs.«01_k».proof.Proof.MemKvPoints
public import proofs.«01_k».proof.Proof.Gen.MemKvReferenceIdeal.Read
public import proofs.«01_k».proof.Proof.Gen.MemKvReferenceIdeal.Run
@[expose] public section
set_option maxRecDepth 16384
noncomputable section
namespace Cert.Layer.Kv
open Idealize.ShloMosaic Idealize.ShloMosaic.TcCoe Cert.Ffn Cert.MemKvIdeal Cert.MemKvIdeal.Gen Cert.MemKvIdeal.Value
open Idealize.SL.Sem

section Arguments
variable (x : FVec Ideal S1x256x2048 .f32) (g : FVec Ideal S1x2048 .f32) (w : FVec Ideal S1x2048x2048 .f32) (h : FVec Ideal S1x256 .f32)

/-- An entry of the product of the normalized memory rows and the weights, from the arguments. -/
abbrev full (a : Fin 256) (b : Fin 2048) : EReal :=
  dot (norm (fun d => x (ix3 0 a d)) fun d => g (ix2 0 d)) fun d => w (ix3 0 d b)

/-- The memory's keys. -/
abbrev keys : FVec Ideal S256x1024 .bf16 := fun y => key (full x g w) (fun d => h (ix2 0 d)) y
/-- The memory's values. -/
abbrev vals : FVec Ideal S256x1024 .bf16 := fun y => full x g w (y 0) (late (y 1))
end Arguments

variable (m : (ℓ : Loc nD τ sig) → Buf (Elt Ideal) ℓ) (c : Dev nD)

/-- The memory rows. -/
abbrev xA : FVec Ideal S1x256x2048 .f32 := m ((c : Thread nD τ).loc main_arg0)
/-- The gains of the normalization. -/
abbrev gA : FVec Ideal S1x2048 .f32 := m ((c : Thread nD τ).loc main_arg1)
/-- The weights of the keys and values. -/
abbrev wA : FVec Ideal S1x2048x2048 .f32 := m ((c : Thread nD τ).loc main_arg2)
/-- The gains of the keys. -/
abbrev hA : FVec Ideal S1x256 .f32 := m ((c : Thread nD τ).loc main_arg3)

/-- The memory rows the call reads. -/
theorem x_entry (a : Fin 256) (d : Fin 2048) : (V m c main_v0 : FVec Ideal S256x2048 .f32) (ix2 a d) = xA m c (ix3 0 a d) := by
  entry_read
  clean_types
  pointwise
/-- The gains the call reads. -/
theorem g_entry (d : Fin 2048) : (V m c main_v2 : FVec Ideal S1x2048 .f32) (ix2 0 d) = gA m c (ix2 0 d) := by
  entry_read
  clean_types
  pointwise
/-- The weights the call reads. -/
theorem w_entry (d b : Fin 2048) : (V m c main_v4 : FVec Ideal S2048x2048 .bf16) (ix2 d b) = wA m c (ix3 0 d b) := by
  entry_read
  clean_types
  pointwise
/-- The keys' gains the call reads. -/
theorem h_entry (d : Fin 256) : (V m c main_v6 : FVec Ideal S1x256 .f32) (ix2 0 d) = hA m c (ix2 0 d) := by
  entry_read
  clean_types
  pointwise

/-- Every window shows its whole array. -/
theorem idx : ∀ t : Fin cfg0.N, win0_0.index t 0 = 0 ∧ win0_0.index t 1 = 0
    ∧ win0_1.index t 0 = 0 ∧ win0_1.index t 1 = 0
    ∧ win0_2.index t 0 = 0 ∧ win0_2.index t 1 = 0
    ∧ win0_3.index t 0 = 0 ∧ win0_3.index t 1 = 0
    ∧ win0_4.index t 0 = 0 ∧ win0_4.index t 1 = 0
    ∧ win0_5.index t 0 = 0 ∧ win0_5.index t 1 = 0 := by decide +kernel

variable (t : Fin cfg0.N)

/-- The block of memory rows. -/
theorem x_blk (a : Fin 256) (d : Fin 2048) : (iblk m c 0 t : FVec Ideal S256x2048 .f32) (ix2 a d) = xA m c (ix3 0 a d) := by
  rw [← x_entry m c a d]
  blk_ext [iblk, idx t]
/-- The block of gains. -/
theorem g_blk (d : Fin 2048) : (iblk m c 1 t : FVec Ideal S1x2048 .f32) (ix2 0 d) = gA m c (ix2 0 d) := by
  rw [← g_entry m c d]
  blk_ext [iblk, idx t]
/-- The block of weights. -/
theorem w_blk (d b : Fin 2048) : (iblk m c 2 t : FVec Ideal S2048x2048 .bf16) (ix2 d b) = wA m c (ix3 0 d b) := by
  rw [← w_entry m c d b]
  blk_ext [iblk, idx t]
/-- The block of the keys' gains. -/
theorem h_blk (d : Fin 256) : (iblk m c 3 t : FVec Ideal S1x256 .f32) (ix2 0 d) = hA m c (ix2 0 d) := by
  rw [← h_entry m c d]
  blk_ext [iblk, idx t]

/-- The product the body computes, from the arguments. -/
theorem prod_blk (a : Fin 256) (b : Fin 2048) :
    prod (iblk m c 0 t : FVec Ideal S256x2048 .f32) (iblk m c 1 t : FVec Ideal S1x2048 .f32) (iblk m c 2 t : FVec Ideal S2048x2048 .bf16) a b
      = full (xA m c) (gA m c) (wA m c) a b :=
  congrArg₂ dot (congrArg₂ norm (funext fun d => x_blk m c t a d) (funext fun d => g_blk m c t d)) (funext fun d => w_blk m c t d b)

/-- What the call leaves in its first result. -/
theorem result_keys : (dats m 0 c).arrAt 4 cfg0.N = keys (xA m c) (gA m c) (wA m c) (hA m c) := by
  refine (dats m 0 c).arrAt_eq_of_covers 4 _ (by decide +kernel) fun t hf y => ?_
  have i0 := (idx t).2.2.2.2.2.2.2.2.1
  have i1 := (idx t).2.2.2.2.2.2.2.2.2.1
  blk_simp
  rw [after0_4]
  have e0 : ((win0_4.blk t).view.emb y) 0 = y 0 := by apply Fin.ext; blk_simp [i0]
  have e1 : ((win0_4.blk t).view.emb y) 1 = y 1 := by apply Fin.ext; blk_simp [i1]
  refine (out_key _ _ _ _ y).trans ?_
  unfold keys key
  rw [e0, e1]
  exact congrArg₂ (fun s g => headNorm s g (part (y 1))) (funext fun d => prod_blk m c t _ _) (funext fun d => h_blk m c t d)

/-- What the call leaves in its second result. -/
theorem result_vals : (dats m 0 c).arrAt 5 cfg0.N = vals (xA m c) (gA m c) (wA m c) := by
  refine (dats m 0 c).arrAt_eq_of_covers 5 _ (by decide +kernel) fun t hf y => ?_
  have i0 := (idx t).2.2.2.2.2.2.2.2.2.2.1
  have i1 := (idx t).2.2.2.2.2.2.2.2.2.2.2
  blk_simp
  rw [after0_5]
  have e0 : ((win0_5.blk t).view.emb y) 0 = y 0 := by apply Fin.ext; blk_simp [i0]
  have e1 : ((win0_5.blk t).view.emb y) 1 = y 1 := by apply Fin.ext; blk_simp [i1]
  refine (out_val _ _ _ _ y).trans ?_
  unfold vals
  rw [e0, e1]
  exact prod_blk m c t _ _

section Reference
open Cert.MemKvReferenceIdeal.Read

variable (x : FVec Ideal S1x256x2048 .f32) (g : FVec Ideal S1x2048 .f32) (w : FVec Ideal S1x2048x2048 .f32) (h : FVec Ideal S1x256 .f32)

/-- The memory entry a row and a column name. -/
theorem x_at (r : Fin 256) (d : Fin 2048) : val_main_v0 (F := Ideal) x (ix2 r d) = x (ix3 0 r d) := by
  rw [val_main_v0_apply]
  refine congrArg x (funext fun a => Fin.ext ?_)
  have := r.isLt; have := d.isLt
  fin_cases a
  · rfl
  · show (r.val * 2048 + d.val) / 2048 % 256 = r.val; omega
  · show (r.val * 2048 + d.val) % 2048 = d.val; omega

/-- The weight a row and a column name. -/
theorem w_at (d b : Fin 2048) : val_main_v15 (F := Ideal) w (ix2 d b) = w (ix3 0 d b) := by
  rw [val_main_v15_apply]
  refine congrArg w (funext fun a => Fin.ext ?_)
  have := b.isLt; have := d.isLt
  fin_cases a
  · rfl
  · show (d.val * 2048 + b.val) / 2048 % 2048 = d.val; omega
  · show (d.val * 2048 + b.val) % 2048 = b.val; omega

/-- The reference's normalized memory rows. -/
theorem normed (r : Fin 256) (d : Fin 2048) : val_main_v14 (F := Ideal) x g (ix2 r d) = norm (fun d => x (ix3 0 r d)) (fun d => g (ix2 0 d)) d := by
  rw [val_main_v14_apply, val_main_v13_apply, val_main_v12_apply, val_main_v11_apply, val_main_v10_apply, val_main_v9_apply, val_main_v8_apply,
    val_main_v7_apply, val_main_v6_apply, val_main_v5_apply, val_main_v4_apply, val_main_v3_apply, val_main_v1_apply, x_at]
  simp only [val_main_v2_apply, val_main_cst_apply, val_main_cst_0_apply, val_main_cst_1_apply]
  have e : ∀ k, idx_main_v3 (idx_main_v4 (idx_main_v10 (ix2 r d))) k = ix2 r k := fun k => by funext a; fin_cases a <;> rfl
  have e1 : g (idx_main_v1 (idx_main_v12 (idx_main_v13 (ix2 r d)))) = g (ix2 0 d) := congrArg g (by
    funext a
    fin_cases a
    · rfl
    · exact Fin.ext (Nat.mod_eq_of_lt d.isLt))
  simp only [e, x_at, e1]
  show x (ix3 0 r d) * Ideal.rsqrt (Ideal.div (Ideal.ofBits .f32 0#32 + _) _ + _) * g (ix2 0 d) = _
  rw [Ideal.ofBits_zero_f32, zero_add]
  rfl

/-- The reference's product. -/
theorem product (a : Fin 256) (b : Fin 2048) : val_main_v16 (F := Ideal) x g w (ix2 a b) = full x g w a b := by
  rw [val_main_v16_apply]
  have e : ∀ d, lidx_main_v16 (ix2 a b) d = ix2 a d := fun d => by funext i; fin_cases i <;> rfl
  have e' : ∀ d, ridx_main_v16 (ix2 a b) d = ix2 d b := fun d => by funext i; fin_cases i <;> rfl
  simp only [e, e', normed, w_at]
  rfl

/-- The column a head and a feature name. -/
abbrev flat (n : Fin 4) (d : Fin 256) : Fin 2048 := ⟨256 * n.val + d.val, by have := n.isLt; have := d.isLt; omega⟩

/-- The reference's keys before their normalization, by head. -/
theorem by_head (a : Fin 256) (n : Fin 4) (d : Fin 256) : val_main_v19 (F := Ideal) x g w (ix3 a n d) = full x g w a (flat n d) := by
  rw [val_main_v19_apply, val_main_v17_apply, ← product]
  refine congrArg (val_main_v16 (F := Ideal) x g w) (funext fun i => Fin.ext ?_)
  have := a.isLt; have := n.isLt; have := d.isLt
  fin_cases i
  · show ((a.val * 4 + n.val) * 256 + d.val) / 1024 = a.val; omega
  · show ((a.val * 4 + n.val) * 256 + d.val) % 1024 = 256 * n.val + d.val; omega

/-- The reference's keys by head. -/
theorem head_normed (a : Fin 256) (n : Fin 4) (d : Fin 256) :
    val_main_v33 (F := Ideal) x g w h (ix3 a n d) = headNorm (fun d => full x g w a (flat n d)) (fun d => h (ix2 0 d)) d := by
  rw [val_main_v33_apply, val_main_v32_apply, val_main_v31_apply, val_main_v30_apply, val_main_v29_apply, val_main_v28_apply, val_main_v27_apply,
    val_main_v26_apply, val_main_v25_apply, val_main_v24_apply, val_main_v23_apply, val_main_v22_apply, val_main_v20_apply, by_head]
  simp only [val_main_v21_apply, val_main_cst_2_apply, val_main_cst_3_apply, val_main_cst_4_apply]
  have e : ∀ k, idx_main_v22 (idx_main_v23 (idx_main_v29 (ix3 a n d))) k = ix3 a n k := fun k => by funext i; fin_cases i <;> rfl
  have e1 : h (idx_main_v20 (idx_main_v31 (idx_main_v32 (ix3 a n d)))) = h (ix2 0 d) := congrArg h (by
    funext i
    fin_cases i
    · rfl
    · exact Fin.ext (Nat.mod_eq_of_lt d.isLt))
  simp only [e, by_head, e1]
  show full x g w a (flat n d) * Ideal.rsqrt (Ideal.div (Ideal.ofBits .f32 0#32 + _) _ + _) * h (ix2 0 d) = _
  rw [Ideal.ofBits_zero_f32, zero_add]
  rfl

/-- The reference's first result. -/
theorem reference_keys : val_main_v35 (F := Ideal) x g w h = keys x g w h := by
  funext y
  have h0 : (y 0).val < 256 := (y 0).isLt
  have h1 : (y 1).val < 1024 := (y 1).isLt
  rw [val_main_v35_apply, val_main_v34_apply]
  have e : idx_main_v34 y = ix3 (y 0) ⟨(y 1).val / 256, by omega⟩ (part (y 1)) := by
    funext i
    fin_cases i <;> refine Fin.ext ?_
    · show ((y 0).val * 1024 + (y 1).val) / 1024 = (y 0).val; omega
    · show ((y 0).val * 1024 + (y 1).val) / 256 % 4 = (y 1).val / 256; omega
    · show ((y 0).val * 1024 + (y 1).val) % 256 = (y 1).val % 256; omega
  exact (congrArg (val_main_v33 (F := Ideal) x g w h) e).trans (head_normed x g w h _ _ _)

/-- The reference's second result. -/
theorem reference_vals : val_main_v36 (F := Ideal) x g w = vals x g w := by
  funext y
  rw [val_main_v36_apply, val_main_v18_apply]
  have e : idx_main_v18 y = ix2 (y 0) (late (y 1)) := by funext i; fin_cases i <;> rfl
  exact (congrArg (val_main_v16 (F := Ideal) x g w) e).trans (product x g w _ _)

end Reference

end Cert.Layer.Kv

namespace Cert.Proof
open Idealize.ShloMosaic Idealize.ShloMosaic.TcCoe Idealize.SL.Sem

/-- The memory's keys and values are the reference's, on all arguments. -/
theorem algebraic_memKv : Cert.algebraic_MemKvIdeal_MemKvReferenceIdeal (hMemKvIdeal := Cert.MemKvIdeal.Gen.facts) (hMemKvReferenceIdeal := Cert.MemKvReferenceIdeal.Gen.facts) := by
  intro m g m' g' _ hagree
  refine ⟨fun c => Cert.Layer.Kv.keys (Cert.Layer.Kv.xA m c) (Cert.Layer.Kv.gA m c) (Cert.Layer.Kv.wA m c) (Cert.Layer.Kv.hA m c),
    fun c => Cert.Layer.Kv.vals (Cert.Layer.Kv.xA m c) (Cert.Layer.Kv.gA m c) (Cert.Layer.Kv.wA m c),
    (θ_run _ _ _).mono (fun r h c => ⟨(h c).1.trans (Cert.Layer.Kv.result_keys m c), (h c).2.1.trans (Cert.Layer.Kv.result_vals m c), (h c).2.2⟩) (Cert.MemKvIdeal.Value.run_blocks (F := Ideal) m g),
    (θ_run _ _ _).mono (fun r h c => ⟨(h c).1.trans ?_, (h c).2.1.trans ?_, (h c).2.2⟩) (Cert.MemKvReferenceIdeal.Value.run (F := Ideal) m' g')⟩
  all_goals obtain ⟨e0, e1, e2, e3⟩ := hagree c
  · rw [Cert.MemKvReferenceIdeal.Read.val_main_v35_eq, e0, e1, e2, e3]
    exact Cert.Layer.Kv.reference_keys _ _ _ _
  · rw [Cert.MemKvReferenceIdeal.Read.val_main_v36_eq, e0, e1, e2]
    exact Cert.Layer.Kv.reference_vals _ _ _

end Cert.Proof
end
-- ==== Proof.MemAttnPoints.lean ====
module
public import Idealize.ShloMosaic.Lib.Tactic.CleanTypes
public import Idealize.ShloMosaic.Lib.Pipeline.ReadBack
public import Idealize.ShloMosaic.Lib.Pipeline.ValueKit
public import proofs.«01_k».proof.Proof.Gen.MemAttnIdeal.Value
@[expose] public section
set_option maxRecDepth 16384
noncomputable section
namespace Cert.Layer.Mem
open Idealize.ShloMosaic Idealize.ShloMosaic.TcCoe Cert.MemAttnIdeal Cert.MemAttnIdeal.Gen Cert.MemAttnIdeal.Value

/-- The softmax of the scores of the memory's places. -/
def soft (s : Fin 256 → EReal) (j : Fin 256) : EReal :=
  Ideal.div (Ideal.exp (s j - Finset.univ.sup s)) (∑ i, Ideal.exp (s i - Finset.univ.sup s))

/-- The score a query gives to a place. -/
def score (q k : Fin 256 → EReal) : EReal := ∑ d, q d * k d

/-- Two indices of a matrix with the same coordinates are one. -/
theorem ext2 {n k : ℕ} {i j : (⟨2, ![n, k]⟩ : Shape).Idx} (h0 : (i 0).val = (j 0).val) (h1 : (i 1).val = (j 1).val) : i = j := by
  funext a
  fin_cases a
  · exact Fin.ext h0
  · exact Fin.ext h1

/-- One head. -/
theorem pay (Q : FVec Ideal S512x256 .bf16) (K V : FVec Ideal S256x256 .bf16) (a : Fin 512) (b : Fin 256) :
    (k0_pay2 (F := Ideal) Q K V (ix2 a b) : EReal)
      = ∑ j : Fin 256, soft (fun j => score (fun d => Q (ix2 a d)) fun d => K (ix2 j d)) j * V (ix2 j b) := by
  unfold k0_pay2
  pointwise
  rfl

/-- Feature `d` of the head that column `k` belongs to. -/
abbrev feat (k : Fin 1024) (d : Fin 256) : Fin 1024 := ⟨256 * (k.val / 256) + d.val, by have := k.isLt; have := d.isLt; omega⟩

/-- An entry of the attention into the memory. -/
abbrev entry (Q : FVec Ideal S512x1024 .bf16) (K V : FVec Ideal S256x1024 .bf16) (y : S512x1024.Idx) : EReal :=
  ∑ j : Fin 256, soft (fun j => score (fun d => Q (ix2 (y 0) (feat (y 1) d))) fun d => K (ix2 j (feat (y 1) d))) j * V (ix2 j (y 1))

/-- What the body leaves in its block. -/
theorem out_eq (Q : FVec Ideal S512x1024 .bf16) (K V : FVec Ideal S256x1024 .bf16) (y : S512x1024.Idx) :
    (out0_3 (F := Ideal) Q K V y : EReal) = entry Q K V y := by
  unfold out0_3
  refine View.canon_apply_of_pieces (Val := Elt Ideal) (e := .bf16) (entry Q K V) _ ?_ y (cover0_3 _ _ _ _ y)
  intro pc hpc
  simp only [List.mem_cons, List.not_mem_nil, or_false] at hpc
  obtain rfl | rfl | rfl | rfl := hpc <;> intro x
  on_goal 1 => show k0_pay2 (F := Ideal) (View.ld Q r0_6) (View.ld K r0_7) (View.ld V r0_7) x = entry Q K V (r0_6.idx x)
  on_goal 2 => show k0_pay2 (F := Ideal) (View.ld Q r0_4) (View.ld K r0_5) (View.ld V r0_5) x = entry Q K V (r0_4.idx x)
  on_goal 3 => show k0_pay2 (F := Ideal) (View.ld Q r0_2) (View.ld K r0_3) (View.ld V r0_3) x = entry Q K V (r0_2.idx x)
  on_goal 4 => show k0_pay2 (F := Ideal) (View.ld Q r0_0) (View.ld K r0_1) (View.ld V r0_1) x = entry Q K V (r0_0.idx x)
  all_goals
    have x1 : (x 1).val < 256 := (x 1).isLt
    refine ((congrArg _ (ValueIdx.eq_ix2 x)).trans (pay _ _ _ (x 0) (x 1))).trans ?_
    refine Finset.sum_congr rfl fun j _ => congrArg₂ (fun a b : EReal => a * b)
      (congrArg (fun s => soft s j) (funext fun i => congrArg₂ score (funext fun d => congrArg Q ?_) (funext fun d => congrArg K ?_))) (congrArg V ?_)
  · exact ext2 rfl (by show 768 + 1 * d.val = 256 * ((768 + 1 * (x 1).val) / 256) + d.val; omega)
  · exact ext2 (by show 0 + 1 * i.val = i.val; omega) (by show 768 + 1 * d.val = 256 * ((768 + 1 * (x 1).val) / 256) + d.val; omega)
  · exact ext2 (by show 0 + 1 * j.val = j.val; omega) rfl
  · exact ext2 rfl (by show 512 + 1 * d.val = 256 * ((512 + 1 * (x 1).val) / 256) + d.val; omega)
  · exact ext2 (by show 0 + 1 * i.val = i.val; omega) (by show 512 + 1 * d.val = 256 * ((512 + 1 * (x 1).val) / 256) + d.val; omega)
  · exact ext2 (by show 0 + 1 * j.val = j.val; omega) rfl
  · exact ext2 rfl (by show 256 + 1 * d.val = 256 * ((256 + 1 * (x 1).val) / 256) + d.val; omega)
  · exact ext2 (by show 0 + 1 * i.val = i.val; omega) (by show 256 + 1 * d.val = 256 * ((256 + 1 * (x 1).val) / 256) + d.val; omega)
  · exact ext2 (by show 0 + 1 * j.val = j.val; omega) rfl
  · exact ext2 rfl (by show 0 + 1 * d.val = 256 * ((0 + 1 * (x 1).val) / 256) + d.val; omega)
  · exact ext2 (by show 0 + 1 * i.val = i.val; omega) (by show 0 + 1 * d.val = 256 * ((0 + 1 * (x 1).val) / 256) + d.val; omega)
  · exact ext2 (by show 0 + 1 * j.val = j.val; omega) rfl

end Cert.Layer.Mem
end
-- ==== Proof.MemAttnResult.lean ====
module
public import proofs.«01_k».proof.Defs
public import proofs.«01_k».proof.Proof.Math0
public import proofs.«01_k».proof.Proof.MemAttnPoints
public import proofs.«01_k».proof.Proof.Gen.MemAttnReferenceIdeal.Read
public import proofs.«01_k».proof.Proof.Gen.MemAttnReferenceIdeal.Run
@[expose] public section
set_option maxRecDepth 16384
noncomputable section
namespace Cert.Layer.Mem
open Idealize.ShloMosaic Idealize.ShloMosaic.TcCoe Cert.MemAttnIdeal Cert.MemAttnIdeal.Gen Cert.MemAttnIdeal.Value
open Idealize.SL.Sem

/-- One sixteenth, one over the square root of the length of a head. -/
def sixteenth : EReal := Ideal.ofBits .f32 0x3D800000#32

/-- One sixteenth is a real that is not negative. -/
theorem sixteenth_real : ∃ c : ℝ, 0 ≤ c ∧ sixteenth = (c : EReal) := by
  refine ⟨_, ?_, show _ = ((_ : ℝ) : EReal) by unfold sixteenth; simp [Ideal.ofBits, Ideal.ieee, -EReal.coe_mul]; rfl⟩
  positivity

/-- Scaling the query scales the score. -/
theorem score_scale (q k : Fin 256 → EReal) : score (fun d => q d * sixteenth) k = score q k * sixteenth := by
  obtain ⟨c, hc, e⟩ := sixteenth_real
  have h : ∀ s : Finset (Fin 256), ∑ d ∈ s, (q d * sixteenth) * k d = (∑ d ∈ s, q d * k d) * sixteenth := by
    intro s
    rw [e]
    induction s using Finset.induction_on with
    | empty => simp
    | insert d s hd ih =>
      rw [Finset.sum_insert hd, Finset.sum_insert hd, ih, mul_right_comm]
      exact (EReal.right_distrib_of_nonneg_of_ne_top (EReal.coe_nonneg.mpr hc) (EReal.coe_ne_top c) _ _).symm
  exact h Finset.univ

/-- The head a column belongs to. -/
abbrev head (k : Fin 1024) : Fin 4 := ⟨k.val / 256, by have := k.isLt; omega⟩
/-- The feature of the head a column is. -/
abbrev part (k : Fin 1024) : Fin 256 := ⟨k.val % 256, Nat.mod_lt _ (by omega)⟩

/-- The attention into the memory: the values weighted by the softmax of the scaled scores. -/
abbrev whole (q : FVec Ideal S1x16384x4x256 .f32) (k v : FVec Ideal S1x256x4x256 .f32) : FVec Ideal S16384x1024 .bf16 := fun y =>
  (∑ j : Fin 256, soft (fun j => score (fun d => q (ix4 0 (y 0) (head (y 1)) d)) (fun d => k (ix4 0 j (head (y 1)) d)) * sixteenth) j
    * v (ix4 0 j (head (y 1)) (part (y 1))) : EReal)

variable (m : (ℓ : Loc nD τ sig) → Buf (Elt Ideal) ℓ) (c : Dev nD)

/-- The queries. -/
abbrev qA : FVec Ideal S1x16384x4x256 .f32 := m ((c : Thread nD τ).loc main_arg0)
/-- The memory's keys. -/
abbrev kA : FVec Ideal S1x256x4x256 .f32 := m ((c : Thread nD τ).loc main_arg1)
/-- The memory's values. -/
abbrev vA : FVec Ideal S1x256x4x256 .f32 := m ((c : Thread nD τ).loc main_arg2)

/-- The scaled queries the call reads. -/
theorem q_entry (r : Fin 16384) (k : Fin 1024) :
    ((V m c main_v3 : FVec Ideal S16384x1024 .bf16) (ix2 r k) : EReal) = qA m c (ix4 0 r (head k) (part k)) * sixteenth := by
  entry_read
  clean_types
  pointwise
  rfl
/-- The keys the call reads. -/
theorem k_entry (j : Fin 256) (k : Fin 1024) : (V m c main_v5 : FVec Ideal S256x1024 .bf16) (ix2 j k) = kA m c (ix4 0 j (head k) (part k)) := by
  entry_read
  clean_types
  pointwise
/-- The values the call reads. -/
theorem v_entry (j : Fin 256) (k : Fin 1024) : (V m c main_v7 : FVec Ideal S256x1024 .bf16) (ix2 j k) = vA m c (ix4 0 j (head k) (part k)) := by
  entry_read
  clean_types
  pointwise

/-- Which block each window shows at a point of the grid. -/
theorem idx : ∀ t : Fin cfg0.N, win0_0.index t 0 = t.val ∧ win0_0.index t 1 = 0
    ∧ win0_1.index t 0 = 0 ∧ win0_1.index t 1 = 0
    ∧ win0_2.index t 0 = 0 ∧ win0_2.index t 1 = 0
    ∧ win0_3.index t 0 = t.val ∧ win0_3.index t 1 = 0
    ∧ t.val < 32 := by decide +kernel

/-- A feature of a column's head, found again from its number. -/
theorem feat_eq (k : Fin 1024) (d : Fin 256) : head (feat k d) = head k ∧ part (feat k d) = d := by
  have hk := k.isLt
  have hd := d.isLt
  exact ⟨Fin.ext (by show (256 * (k.val / 256) + d.val) / 256 = k.val / 256; omega), Fin.ext (by show (256 * (k.val / 256) + d.val) % 256 = d.val; omega)⟩

variable (t : Fin cfg0.N)

/-- The block of scaled queries at a point. -/
theorem q_blk (a : Fin 512) (k : Fin 1024) (d : Fin 256) (r : Fin 16384) (er : r.val = 512 * t.val + a.val) :
    ((iblk m c 0 t : FVec Ideal S512x1024 .bf16) (ix2 a (feat k d)) : EReal) = qA m c (ix4 0 r (head k) d) * sixteenth := by
  have e := q_entry m c r (feat k d)
  rw [(feat_eq k d).1, (feat_eq k d).2] at e
  rw [← e]
  generalize feat k d = f
  blk_ext [iblk, idx t]
/-- The keys at a point. -/
theorem k_blk (j : Fin 256) (k : Fin 1024) (d : Fin 256) :
    (iblk m c 1 t : FVec Ideal S256x1024 .bf16) (ix2 j (feat k d)) = kA m c (ix4 0 j (head k) d) := by
  have e := k_entry m c j (feat k d)
  rw [(feat_eq k d).1, (feat_eq k d).2] at e
  rw [← e]
  generalize feat k d = f
  blk_ext [iblk, idx t]
/-- The values at a point. -/
theorem v_blk (j : Fin 256) (k : Fin 1024) :
    (iblk m c 2 t : FVec Ideal S256x1024 .bf16) (ix2 j k) = vA m c (ix4 0 j (head k) (part k)) := by
  rw [← v_entry m c j k]
  blk_ext [iblk, idx t]

/-- What the call leaves in its result. -/
theorem result : (dats m 0 c).arrAt 3 cfg0.N = whole (qA m c) (kA m c) (vA m c) := by
  refine (dats m 0 c).arrAt_eq_of_covers 3 _ (by decide +kernel) fun t hf y => ?_
  have i0 := (idx t).2.2.2.2.2.2.1
  have i1 := (idx t).2.2.2.2.2.2.2.1
  have ht := (idx t).2.2.2.2.2.2.2.2
  blk_simp
  rw [after0_3]
  have y0 : (y 0).val < 512 := (y 0).isLt
  have y1 : (y 1).val < 1024 := (y 1).isLt
  have e0 : (((win0_3.blk t).view.emb y) 0).val = 512 * t.val + (y 0).val := by blk_simp [i0]; omega
  have e1 : ((win0_3.blk t).view.emb y) 1 = y 1 := by apply Fin.ext; blk_simp [i1]
  refine (out_eq _ _ _ y).trans ?_
  unfold entry whole
  rw [e1]
  refine Finset.sum_congr rfl fun j _ => congrArg₂ (fun a b : EReal => a * b) (congrArg (fun s => soft s j) (funext fun i => ?_)) (v_blk m c t _ _)
  exact (congrArg₂ score (funext fun d => q_blk m c t (y 0) (y 1) d _ e0) (funext fun d => k_blk m c t i (y 1) d)).trans (score_scale _ _)

section Reference
open Cert.MemAttnReferenceIdeal.Read

variable (q : FVec Ideal S1x16384x4x256 .f32) (k v : FVec Ideal S1x256x4x256 .f32)

/-- The scaled scores of a row. -/
abbrev sc (h : Fin 4) (r : Fin 16384) (j : Fin 256) : EReal := score (fun d => q (ix4 0 r h d)) (fun d => k (ix4 0 j h d)) * sixteenth

/-- The reference's scores. -/
theorem scores (h : Fin 4) (r : Fin 16384) (j : Fin 256) : val_main_v2 (F := Ideal) q k (ix4 0 h r j) = sc q k h r j := by
  rw [val_main_v2_apply, val_main_v1_apply, val_main_cst_apply, val_main_v0_apply]
  have e : ∀ d, lidx_main_v0 (ix4 0 h r j) d = ix4 0 r h d := fun d => by funext a; fin_cases a <;> rfl
  have e' : ∀ d, ridx_main_v0 (ix4 0 h r j) d = ix4 0 j h d := fun d => by funext a; fin_cases a <;> rfl
  simp only [e, e']
  rfl

/-- The largest score of a row. -/
theorem row_max (h : Fin 4) (r : Fin 16384) : val_main_v3 (F := Ideal) q k (ix3 0 h r) = Finset.univ.sup (sc q k h r) := by
  have e : sc q k h r = fun j => (val_main_v2 (F := Ideal) q k (ix4 0 h r j) : EReal) := funext fun j => (scores q k h r j).symm
  rw [e]
  unfold val_main_v3
  generalize val_main_v2 (F := Ideal) q k = y
  unfold val_main_cst_0
  pointwise
  rw [Cert.Attn.ofBits_bot]
  rfl

/-- The reference's softmax. -/
theorem probs (h : Fin 4) (r : Fin 16384) (j : Fin 256) : val_main_v13 (F := Ideal) q k (ix4 0 h r j) = soft (sc q k h r) j := by
  have e9 : ∀ j, val_main_v9 (F := Ideal) q k (ix4 0 h r j) = Ideal.exp (sc q k h r j - Finset.univ.sup (sc q k h r)) := by
    intro j
    rw [val_main_v9_apply, val_main_v8_apply, val_main_v7_apply, val_main_v6_apply, val_main_v5_apply, val_main_v4_apply, val_main_cst_1_apply, scores]
    have ei : idx_main_v6 (idx_main_v7 (ix4 0 h r j)) = ix3 0 h r := by funext a; fin_cases a <;> rfl
    rw [ei, row_max]
    show Ideal.exp (_ - max (Ideal.ofBits .f32 0xFF800000#32) _) = _
    rw [Cert.Attn.ofBits_bot, max_eq_right bot_le]
  rw [val_main_v13_apply, val_main_v12_apply, val_main_v11_apply, val_main_v10_apply, val_main_cst_2_apply, e9]
  have ei : ∀ x, idx_main_v10 (idx_main_v11 (idx_main_v12 (ix4 0 h r j))) x = ix4 0 h r x := fun x => by funext a; fin_cases a <;> rfl
  simp only [ei, e9]
  show Ideal.div _ (Ideal.ofBits .f32 0#32 + _) = _
  rw [Ideal.ofBits_zero_f32, zero_add]
  rfl

/-- The reference's result. -/
theorem reference : val_main_v17 (F := Ideal) q k v = whole q k v := by
  funext y
  have h0 : (y 0).val < 16384 := (y 0).isLt
  have h1 : (y 1).val < 1024 := (y 1).isLt
  rw [val_main_v17_apply, val_main_v16_apply, val_main_v15_apply]
  show val_main_v14 (F := Ideal) q k v _ = _
  rw [val_main_v14_apply]
  refine Finset.sum_congr rfl fun j _ => ?_
  have eL : lidx_main_v14 (idx_main_v15 (idx_main_v16 y)) j = ix4 0 j (head (y 1)) (part (y 1)) := by
    funext a
    fin_cases a <;> refine Fin.ext ?_
    · rfl
    · rfl
    · show ((y 0).val * 1024 + (y 1).val) / 256 % 4 = (y 1).val / 256; omega
    · show ((y 0).val * 1024 + (y 1).val) % 256 = (y 1).val % 256; omega
  have eR : ridx_main_v14 (idx_main_v15 (idx_main_v16 y)) j = ix4 0 (head (y 1)) (y 0) j := by
    funext a
    fin_cases a <;> refine Fin.ext ?_
    · rfl
    · show ((y 0).val * 1024 + (y 1).val) / 256 % 4 = (y 1).val / 256; omega
    · show ((y 0).val * 1024 + (y 1).val) / 1024 % 16384 = (y 0).val; omega
    · rfl
  exact (congrArg₂ (fun a b : EReal => a * b) (congrArg v eL)
    ((congrArg (val_main_v13 (F := Ideal) q k) eR).trans (probs q k _ _ j))).trans (mul_comm _ _)

end Reference

end Cert.Layer.Mem

namespace Cert.Proof
open Idealize.ShloMosaic Idealize.ShloMosaic.TcCoe Idealize.SL.Sem

/-- The attention into the memory computes what the reference's does, on all arguments. -/
theorem algebraic_memAttn : Cert.algebraic_MemAttnIdeal_MemAttnReferenceIdeal (hMemAttnIdeal := Cert.MemAttnIdeal.Gen.facts) (hMemAttnReferenceIdeal := Cert.MemAttnReferenceIdeal.Gen.facts) := by
  intro m g m' g' _ hagree
  refine ⟨fun c => Cert.Layer.Mem.whole (Cert.Layer.Mem.qA m c) (Cert.Layer.Mem.kA m c) (Cert.Layer.Mem.vA m c),
    (θ_run _ _ _).mono (fun r h c => ⟨(h c).1.trans (Cert.Layer.Mem.result m c), (h c).2⟩) (Cert.MemAttnIdeal.Value.run_blocks (F := Ideal) m g),
    (θ_run _ _ _).mono (fun r h c => ⟨(h c).1.trans ?_, (h c).2⟩) (Cert.MemAttnReferenceIdeal.Value.run (F := Ideal) m' g')⟩
  obtain ⟨e0, e1, e2⟩ := hagree c
  rw [Cert.MemAttnReferenceIdeal.Read.val_main_v17_eq, e0, e1, e2]
  exact Cert.Layer.Mem.reference _ _ _

end Cert.Proof
end
-- ==== Proof.MergePoints.lean ====
module
public import Idealize.ShloMosaic.Lib.Tactic.CleanTypes
public import Idealize.ShloMosaic.Lib.Pipeline.ReadBack
public import Idealize.ShloMosaic.Lib.Pipeline.ValueKit
public import proofs.«01_k».proof.Proof.Gen.MergeIdeal.Value
@[expose] public section
set_option maxRecDepth 16384
noncomputable section
namespace Cert.Layer.Merge
open Idealize.ShloMosaic Idealize.ShloMosaic.TcCoe Cert.MergeIdeal Cert.MergeIdeal.Gen Cert.MergeIdeal.Value

variable (A O : FVec Ideal S512x1536 .bf16) (U : FVec Ideal S512x1024 .bf16)

/-- An entry of the merged block: the three branches' products with their weights, each times its gate. -/
abbrev entry (G0 G1 G2 : FVec Ideal S512x2048 .bf16) (WA WO : FVec Ideal S1536x2048 .bf16) (WU : FVec Ideal S1024x2048 .bf16) (y : S512x2048.Idx) : EReal :=
  G0 y * (∑ d : Fin 1536, A (ix2 (y 0) d) * WA (ix2 d (y 1))) + G1 y * (∑ d : Fin 1536, O (ix2 (y 0) d) * WO (ix2 d (y 1)))
    + G2 y * (∑ d : Fin 1024, U (ix2 (y 0) d) * WU (ix2 d (y 1)))

/-- One strip of 512 columns. -/
theorem pay (G0 G1 G2 : FVec Ideal S512x512 .bf16) (WA WO : FVec Ideal S1536x512 .bf16) (WU : FVec Ideal S1024x512 .bf16) (a b : Fin 512) :
    (k0_pay5 (F := Ideal) A O U G0 WA G1 WO G2 WU (ix2 a b) : EReal)
      = G0 (ix2 a b) * (∑ d : Fin 1536, A (ix2 a d) * WA (ix2 d b)) + G1 (ix2 a b) * (∑ d : Fin 1536, O (ix2 a d) * WO (ix2 d b))
        + G2 (ix2 a b) * (∑ d : Fin 1024, U (ix2 a d) * WU (ix2 d b)) := by
  unfold k0_pay5 k0_pay2 k0_pay3 k0_pay4
  pointwise

/-- What the body leaves in its block. -/
theorem out_eq (G0 G1 G2 : FVec Ideal S512x2048 .bf16) (WA WO : FVec Ideal S1536x2048 .bf16) (WU : FVec Ideal S1024x2048 .bf16) (y : S512x2048.Idx) :
    (out0_9 (F := Ideal) A O U G0 G1 G2 WA WO WU y : EReal) = entry A O U G0 G1 G2 WA WO WU y := by
  unfold out0_9
  refine View.canon_apply_of_pieces (Val := Elt Ideal) (e := .bf16) (entry A O U G0 G1 G2 WA WO WU) _ ?_ y (cover0_9 _ _ _ _ y)
  intro pc hpc
  simp only [List.mem_cons, List.not_mem_nil, or_false] at hpc
  obtain rfl | rfl | rfl | rfl := hpc <;> intro x
  on_goal 1 => show k0_pay5 (F := Ideal) (View.ld A r0_0) (View.ld O r0_0) (View.ld U r0_1) (View.ld G0 r0_11) (View.ld WA r0_12) (View.ld G1 r0_11) (View.ld WO r0_12) (View.ld G2 r0_11) (View.ld WU r0_13) x = entry A O U G0 G1 G2 WA WO WU (r0_11.idx x)
  on_goal 2 => show k0_pay5 (F := Ideal) (View.ld A r0_0) (View.ld O r0_0) (View.ld U r0_1) (View.ld G0 r0_8) (View.ld WA r0_9) (View.ld G1 r0_8) (View.ld WO r0_9) (View.ld G2 r0_8) (View.ld WU r0_10) x = entry A O U G0 G1 G2 WA WO WU (r0_8.idx x)
  on_goal 3 => show k0_pay5 (F := Ideal) (View.ld A r0_0) (View.ld O r0_0) (View.ld U r0_1) (View.ld G0 r0_5) (View.ld WA r0_6) (View.ld G1 r0_5) (View.ld WO r0_6) (View.ld G2 r0_5) (View.ld WU r0_7) x = entry A O U G0 G1 G2 WA WO WU (r0_5.idx x)
  on_goal 4 => show k0_pay5 (F := Ideal) (View.ld A r0_0) (View.ld O r0_0) (View.ld U r0_1) (View.ld G0 r0_2) (View.ld WA r0_3) (View.ld G1 r0_2) (View.ld WO r0_3) (View.ld G2 r0_2) (View.ld WU r0_4) x = entry A O U G0 G1 G2 WA WO WU (r0_2.idx x)
  all_goals
    refine ((congrArg _ (ValueIdx.eq_ix2 x)).trans (pay _ _ _ _ _ _ _ _ _ (x 0) (x 1))).trans ?_
    refine congrArg₂ (fun a b : EReal => a + b) (congrArg₂ (fun a b : EReal => a + b)
        (congrArg₂ (fun a b : EReal => a * b) (congrArg G0 (congrArg _ (ValueIdx.eq_ix2 x).symm)) (Finset.sum_congr rfl fun d _ => congrArg₂ (fun a b : EReal => a * b) (congrArg A ?_) (congrArg WA ?_)))
        (congrArg₂ (fun a b : EReal => a * b) (congrArg G1 (congrArg _ (ValueIdx.eq_ix2 x).symm)) (Finset.sum_congr rfl fun d _ => congrArg₂ (fun a b : EReal => a * b) (congrArg O ?_) (congrArg WO ?_))))
        (congrArg₂ (fun a b : EReal => a * b) (congrArg G2 (congrArg _ (ValueIdx.eq_ix2 x).symm)) (Finset.sum_congr rfl fun d _ => congrArg₂ (fun a b : EReal => a * b) (congrArg U ?_) (congrArg WU ?_))) <;>
      (funext a; fin_cases a <;> refine Fin.ext ?_ <;> first | rfl | exact (Nat.zero_add _).trans (Nat.one_mul _))

end Cert.Layer.Merge
end
-- ==== Proof.MergeResult.lean ====
module
public import proofs.«01_k».proof.Defs
public import proofs.«01_k».proof.Proof.MergePoints
public import proofs.«01_k».proof.Proof.Gen.MergeReferenceIdeal.Read
public import proofs.«01_k».proof.Proof.Gen.MergeReferenceIdeal.Run
@[expose] public section
set_option maxRecDepth 16384
noncomputable section
namespace Cert.Layer.Merge
open Idealize.ShloMosaic Idealize.ShloMosaic.TcCoe Cert.MergeIdeal Cert.MergeIdeal.Gen Cert.MergeIdeal.Value
open Idealize.SL.Sem

/-- Feature `k` of the heads laid one after another. -/
abbrev heads (o : FVec Ideal S1x16384x12x128 .f32) (r : Fin 16384) (k : Fin 1536) : EReal :=
  o (ix4 0 r ⟨k.val / 128, by have := k.isLt; omega⟩ ⟨k.val % 128, Nat.mod_lt _ (by omega)⟩)

/-- The gated merge: each branch's rows times its weights, times its gate, summed. -/
abbrev whole (a : FVec Ideal S1x16384x1536 .f32) (o : FVec Ideal S1x16384x12x128 .f32) (u : FVec Ideal S1x16384x1024 .f32) (g : FVec Ideal S1x16384x3x2048 .f32)
    (wa wo : FVec Ideal S1x1536x2048 .f32) (wu : FVec Ideal S1x1024x2048 .f32) : FVec Ideal S16384x2048 .bf16 := fun y =>
  (g (ix4 0 (y 0) 0 (y 1)) * (∑ d : Fin 1536, a (ix3 0 (y 0) d) * wa (ix3 0 d (y 1)))
    + g (ix4 0 (y 0) 1 (y 1)) * (∑ d : Fin 1536, heads o (y 0) d * wo (ix3 0 d (y 1)))
    + g (ix4 0 (y 0) 2 (y 1)) * (∑ d : Fin 1024, u (ix3 0 (y 0) d) * wu (ix3 0 d (y 1))) : EReal)

variable (m : (ℓ : Loc nD τ sig) → Buf (Elt Ideal) ℓ) (c : Dev nD)

/-- The convolution branch. -/
abbrev aA : FVec Ideal S1x16384x1536 .f32 := m ((c : Thread nD τ).loc main_arg0)
/-- The attention. -/
abbrev oA : FVec Ideal S1x16384x12x128 .f32 := m ((c : Thread nD τ).loc main_arg1)
/-- The attention into the memory. -/
abbrev uA : FVec Ideal S1x16384x1024 .f32 := m ((c : Thread nD τ).loc main_arg2)
/-- The gates. -/
abbrev gA : FVec Ideal S1x16384x3x2048 .f32 := m ((c : Thread nD τ).loc main_arg3)
/-- The convolution branch's weights. -/
abbrev waA : FVec Ideal S1x1536x2048 .f32 := m ((c : Thread nD τ).loc main_arg4)
/-- The attention's weights. -/
abbrev woA : FVec Ideal S1x1536x2048 .f32 := m ((c : Thread nD τ).loc main_arg5)
/-- The memory's weights. -/
abbrev wuA : FVec Ideal S1x1024x2048 .f32 := m ((c : Thread nD τ).loc main_arg6)

/-- The convolution branch's rows as the call reads them. -/
theorem a_entry (r : Fin 16384) (d : Fin 1536) : (V m c main_v1 : FVec Ideal S16384x1536 .bf16) (ix2 r d) = aA m c (ix3 0 r d) := by
  entry_read
  clean_types
  pointwise
/-- The attention's rows as the call reads them. -/
theorem o_entry (r : Fin 16384) (d : Fin 1536) : (V m c main_v3 : FVec Ideal S16384x1536 .bf16) (ix2 r d) = heads (oA m c) r d := by
  entry_read
  clean_types
  pointwise
/-- The memory's rows as the call reads them. -/
theorem u_entry (r : Fin 16384) (d : Fin 1024) : (V m c main_v5 : FVec Ideal S16384x1024 .bf16) (ix2 r d) = uA m c (ix3 0 r d) := by
  entry_read
  clean_types
  pointwise
/-- The gates as the call reads them. -/
theorem g_entry (r : Fin 16384) (n : Fin 3) (d : Fin 2048) (k : Fin 6144) (ek : k.val = 2048 * n.val + d.val) :
    (V m c main_v7 : FVec Ideal S16384x6144 .bf16) (ix2 r k) = gA m c (ix4 0 r n d) := by
  have hd := d.isLt
  have en : n = ⟨k.val / 2048, by have := k.isLt; omega⟩ := Fin.ext (by show n.val = k.val / 2048; omega)
  have ed : d = ⟨k.val % 2048, Nat.mod_lt _ (by omega)⟩ := Fin.ext (by show d.val = k.val % 2048; omega)
  refine Eq.trans ?_ (congrArg₂ (fun n d => gA m c (ix4 0 r n d)) en ed).symm
  entry_read
  clean_types
  pointwise
/-- The convolution branch's weights as the call reads them. -/
theorem wa_entry (d : Fin 1536) (e : Fin 2048) : (V m c main_v9 : FVec Ideal S1536x2048 .bf16) (ix2 d e) = waA m c (ix3 0 d e) := by
  entry_read
  clean_types
  pointwise
/-- The attention's weights as the call reads them. -/
theorem wo_entry (d : Fin 1536) (e : Fin 2048) : (V m c main_v11 : FVec Ideal S1536x2048 .bf16) (ix2 d e) = woA m c (ix3 0 d e) := by
  entry_read
  clean_types
  pointwise
/-- The memory's weights as the call reads them. -/
theorem wu_entry (d : Fin 1024) (e : Fin 2048) : (V m c main_v13 : FVec Ideal S1024x2048 .bf16) (ix2 d e) = wuA m c (ix3 0 d e) := by
  entry_read
  clean_types
  pointwise

/-- Which block of rows each window shows at a point of the grid. -/
theorem idx : ∀ t : Fin cfg0.N, win0_0.index t 0 = t.val ∧ win0_0.index t 1 = 0
    ∧ win0_1.index t 0 = t.val ∧ win0_1.index t 1 = 0
    ∧ win0_2.index t 0 = t.val ∧ win0_2.index t 1 = 0
    ∧ win0_3.index t 0 = t.val ∧ win0_3.index t 1 = 0
    ∧ win0_4.index t 0 = t.val ∧ win0_4.index t 1 = 1
    ∧ win0_5.index t 0 = t.val ∧ win0_5.index t 1 = 2
    ∧ win0_9.index t 0 = t.val ∧ win0_9.index t 1 = 0
    ∧ t.val < 32 := by decide +kernel

/-- The weights are shown whole at every point. -/
theorem idxW : ∀ t : Fin cfg0.N, win0_6.index t 0 = 0 ∧ win0_6.index t 1 = 0
    ∧ win0_7.index t 0 = 0 ∧ win0_7.index t 1 = 0
    ∧ win0_8.index t 0 = 0 ∧ win0_8.index t 1 = 0 := by decide +kernel

variable (t : Fin cfg0.N)

/-- The convolution branch's rows at a point. -/
theorem a_blk (a : Fin 512) (d : Fin 1536) (r : Fin 16384) (er : r.val = 512 * t.val + a.val) :
    (iblk m c 0 t : FVec Ideal S512x1536 .bf16) (ix2 a d) = aA m c (ix3 0 r d) := by
  rw [← a_entry m c r d]
  blk_ext [iblk, idx t]
/-- The attention's rows at a point. -/
theorem o_blk (a : Fin 512) (d : Fin 1536) (r : Fin 16384) (er : r.val = 512 * t.val + a.val) :
    (iblk m c 1 t : FVec Ideal S512x1536 .bf16) (ix2 a d) = heads (oA m c) r d := by
  rw [← o_entry m c r d]
  blk_ext [iblk, idx t]
/-- The memory's rows at a point. -/
theorem u_blk (a : Fin 512) (d : Fin 1024) (r : Fin 16384) (er : r.val = 512 * t.val + a.val) :
    (iblk m c 2 t : FVec Ideal S512x1024 .bf16) (ix2 a d) = uA m c (ix3 0 r d) := by
  rw [← u_entry m c r d]
  blk_ext [iblk, idx t]
/-- The convolution branch's gates at a point. -/
theorem g0_blk (a : Fin 512) (d : Fin 2048) (r : Fin 16384) (er : r.val = 512 * t.val + a.val) :
    (iblk m c 3 t : FVec Ideal S512x2048 .bf16) (ix2 a d) = gA m c (ix4 0 r 0 d) := by
  rw [← g_entry m c r 0 d ⟨d.val, by have := d.isLt; omega⟩ (by show d.val = 2048 * 0 + d.val; omega)]
  blk_ext [iblk, idx t]
/-- The attention's gates at a point. -/
theorem g1_blk (a : Fin 512) (d : Fin 2048) (r : Fin 16384) (er : r.val = 512 * t.val + a.val) :
    (iblk m c 4 t : FVec Ideal S512x2048 .bf16) (ix2 a d) = gA m c (ix4 0 r 1 d) := by
  rw [← g_entry m c r 1 d ⟨2048 + d.val, by have := d.isLt; omega⟩ (by show 2048 + d.val = 2048 * 1 + d.val; omega)]
  blk_ext [iblk, idx t]
/-- The memory's gates at a point. -/
theorem g2_blk (a : Fin 512) (d : Fin 2048) (r : Fin 16384) (er : r.val = 512 * t.val + a.val) :
    (iblk m c 5 t : FVec Ideal S512x2048 .bf16) (ix2 a d) = gA m c (ix4 0 r 2 d) := by
  rw [← g_entry m c r 2 d ⟨4096 + d.val, by have := d.isLt; omega⟩ (by show 4096 + d.val = 2048 * 2 + d.val; omega)]
  blk_ext [iblk, idx t]
/-- The convolution branch's weights at a point. -/
theorem wa_blk (d : Fin 1536) (e : Fin 2048) : (iblk m c 6 t : FVec Ideal S1536x2048 .bf16) (ix2 d e) = waA m c (ix3 0 d e) := by
  rw [← wa_entry m c d e]
  blk_ext [iblk, idxW t]
/-- The attention's weights at a point. -/
theorem wo_blk (d : Fin 1536) (e : Fin 2048) : (iblk m c 7 t : FVec Ideal S1536x2048 .bf16) (ix2 d e) = woA m c (ix3 0 d e) := by
  rw [← wo_entry m c d e]
  blk_ext [iblk, idxW t]
/-- The memory's weights at a point. -/
theorem wu_blk (d : Fin 1024) (e : Fin 2048) : (iblk m c 8 t : FVec Ideal S1024x2048 .bf16) (ix2 d e) = wuA m c (ix3 0 d e) := by
  rw [← wu_entry m c d e]
  blk_ext [iblk, idxW t]

/-- What the call leaves in its result. -/
theorem result : (dats m 0 c).arrAt 9 cfg0.N = whole (aA m c) (oA m c) (uA m c) (gA m c) (waA m c) (woA m c) (wuA m c) := by
  refine (dats m 0 c).arrAt_eq_of_covers 9 _ (by decide +kernel) fun t hf y => ?_
  have i0 := (idx t).2.2.2.2.2.2.2.2.2.2.2.2.1
  have i1 := (idx t).2.2.2.2.2.2.2.2.2.2.2.2.2.1
  have ht := (idx t).2.2.2.2.2.2.2.2.2.2.2.2.2.2
  blk_simp
  rw [after0_9]
  have y0 : (y 0).val < 512 := (y 0).isLt
  have y1 : (y 1).val < 2048 := (y 1).isLt
  have e0 : (((win0_9.blk t).view.emb y) 0).val = 512 * t.val + (y 0).val := by blk_simp [i0]; omega
  have e1 : ((win0_9.blk t).view.emb y) 1 = y 1 := by apply Fin.ext; blk_simp [i1]
  refine (out_eq _ _ _ _ _ _ _ _ _ y).trans ?_
  unfold entry whole
  rw [e1]
  have key : y = ix2 (y 0) (y 1) := ValueIdx.eq_ix2 y
  exact congrArg₂ (fun a b : EReal => a + b) (congrArg₂ (fun a b : EReal => a + b)
      (congrArg₂ (fun a b : EReal => a * b) ((congrArg _ key).trans (g0_blk m c t (y 0) (y 1) _ e0)) (Finset.sum_congr rfl fun d _ => congrArg₂ (fun a b : EReal => a * b) (a_blk m c t _ _ _ e0) (wa_blk m c t _ _)))
      (congrArg₂ (fun a b : EReal => a * b) ((congrArg _ key).trans (g1_blk m c t (y 0) (y 1) _ e0)) (Finset.sum_congr rfl fun d _ => congrArg₂ (fun a b : EReal => a * b) (o_blk m c t _ _ _ e0) (wo_blk m c t _ _))))
      (congrArg₂ (fun a b : EReal => a * b) ((congrArg _ key).trans (g2_blk m c t (y 0) (y 1) _ e0)) (Finset.sum_congr rfl fun d _ => congrArg₂ (fun a b : EReal => a * b) (u_blk m c t _ _ _ e0) (wu_blk m c t _ _)))

section Reference
open Cert.MergeReferenceIdeal.Read

variable (a : FVec Ideal S1x16384x1536 .f32) (o : FVec Ideal S1x16384x12x128 .f32) (u : FVec Ideal S1x16384x1024 .f32) (g : FVec Ideal S1x16384x3x2048 .f32)
  (wa wo : FVec Ideal S1x1536x2048 .f32) (wu : FVec Ideal S1x1024x2048 .f32)

/-- The reference's gates, each at its branch. -/
theorem gates (y : S16384x2048.Idx) : val_main_v11 (F := Ideal) g y = g (ix4 0 (y 0) 0 (y 1)) ∧ val_main_v14 (F := Ideal) g y = g (ix4 0 (y 0) 1 (y 1))
    ∧ val_main_v18 (F := Ideal) g y = g (ix4 0 (y 0) 2 (y 1)) := by
  have h0 : (y 0).val < 16384 := (y 0).isLt
  have h1 : (y 1).val < 2048 := (y 1).isLt
  rw [val_main_v11_apply, val_main_v10_apply, val_main_v9_apply, val_main_v14_apply, val_main_v13_apply, val_main_v9_apply,
    val_main_v18_apply, val_main_v17_apply, val_main_v9_apply]
  refine ⟨congrArg g ?_, congrArg g ?_, congrArg g ?_⟩
  · funext a
    fin_cases a <;> refine Fin.ext ?_
    · rfl
    · show ((((y 0).val * 2048 + (y 1).val) / 2048 * 3 + 0) * 2048 + ((y 0).val * 2048 + (y 1).val) % 2048) / 6144 % 16384 = (y 0).val; omega
    · show ((((y 0).val * 2048 + (y 1).val) / 2048 * 3 + 0) * 2048 + ((y 0).val * 2048 + (y 1).val) % 2048) / 2048 % 3 = 0; omega
    · show ((((y 0).val * 2048 + (y 1).val) / 2048 * 3 + 0) * 2048 + ((y 0).val * 2048 + (y 1).val) % 2048) % 2048 = (y 1).val; omega
  · funext a
    fin_cases a <;> refine Fin.ext ?_
    · rfl
    · show ((((y 0).val * 2048 + (y 1).val) / 2048 * 3 + (1 + 0)) * 2048 + ((y 0).val * 2048 + (y 1).val) % 2048) / 6144 % 16384 = (y 0).val; omega
    · show ((((y 0).val * 2048 + (y 1).val) / 2048 * 3 + (1 + 0)) * 2048 + ((y 0).val * 2048 + (y 1).val) % 2048) / 2048 % 3 = 1; omega
    · show ((((y 0).val * 2048 + (y 1).val) / 2048 * 3 + (1 + 0)) * 2048 + ((y 0).val * 2048 + (y 1).val) % 2048) % 2048 = (y 1).val; omega
  · funext a
    fin_cases a <;> refine Fin.ext ?_
    · rfl
    · show ((((y 0).val * 2048 + (y 1).val) / 2048 * 3 + (2 + 0)) * 2048 + ((y 0).val * 2048 + (y 1).val) % 2048) / 6144 % 16384 = (y 0).val; omega
    · show ((((y 0).val * 2048 + (y 1).val) / 2048 * 3 + (2 + 0)) * 2048 + ((y 0).val * 2048 + (y 1).val) % 2048) / 2048 % 3 = 2; omega
    · show ((((y 0).val * 2048 + (y 1).val) / 2048 * 3 + (2 + 0)) * 2048 + ((y 0).val * 2048 + (y 1).val) % 2048) % 2048 = (y 1).val; omega

/-- The reference's result. -/
theorem reference : val_main_v21 (F := Ideal) a o u g wa wo wu = whole a o u g wa wo wu := by
  funext y
  have h0 : (y 0).val < 16384 := (y 0).isLt
  have h1 : (y 1).val < 2048 := (y 1).isLt
  rw [val_main_v21_apply, val_main_v20_apply, val_main_v16_apply, val_main_v12_apply, val_main_v15_apply, val_main_v19_apply,
    (gates g y).1, (gates g y).2.1, (gates g y).2.2, val_main_v2_apply, val_main_v5_apply, val_main_v8_apply]
  simp only [val_main_v0_apply, val_main_v1_apply, val_main_v3_apply, val_main_v4_apply, val_main_v6_apply, val_main_v7_apply]
  refine congrArg₂ (fun a b : EReal => a + b) (congrArg₂ (fun a b : EReal => a + b)
      (congrArg₂ (fun a b : EReal => a * b) rfl (Finset.sum_congr rfl fun d _ => congrArg₂ (fun a b : EReal => a * b) (congrArg a ?_) (congrArg wa ?_)))
      (congrArg₂ (fun a b : EReal => a * b) rfl (Finset.sum_congr rfl fun d _ => congrArg₂ (fun a b : EReal => a * b) (congrArg o ?_) (congrArg wo ?_))))
      (congrArg₂ (fun a b : EReal => a * b) rfl (Finset.sum_congr rfl fun d _ => congrArg₂ (fun a b : EReal => a * b) (congrArg u ?_) (congrArg wu ?_)))
  · have hd := d.isLt
    funext a
    fin_cases a <;> refine Fin.ext ?_
    · rfl
    · show ((y 0).val * 1536 + d.val) / 1536 % 16384 = (y 0).val; omega
    · show ((y 0).val * 1536 + d.val) % 1536 = d.val; omega
  · have hd := d.isLt
    funext a
    fin_cases a <;> refine Fin.ext ?_
    · rfl
    · show (d.val * 2048 + (y 1).val) / 2048 % 1536 = d.val; omega
    · show (d.val * 2048 + (y 1).val) % 2048 = (y 1).val; omega
  · have hd := d.isLt
    funext a
    fin_cases a <;> refine Fin.ext ?_
    · rfl
    · show ((y 0).val * 1536 + d.val) / 1536 % 16384 = (y 0).val; omega
    · show ((y 0).val * 1536 + d.val) / 128 % 12 = d.val / 128; omega
    · show ((y 0).val * 1536 + d.val) % 128 = d.val % 128; omega
  · have hd := d.isLt
    funext a
    fin_cases a <;> refine Fin.ext ?_
    · rfl
    · show (d.val * 2048 + (y 1).val) / 2048 % 1536 = d.val; omega
    · show (d.val * 2048 + (y 1).val) % 2048 = (y 1).val; omega
  · have hd := d.isLt
    funext a
    fin_cases a <;> refine Fin.ext ?_
    · rfl
    · show ((y 0).val * 1024 + d.val) / 1024 % 16384 = (y 0).val; omega
    · show ((y 0).val * 1024 + d.val) % 1024 = d.val; omega
  · have hd := d.isLt
    funext a
    fin_cases a <;> refine Fin.ext ?_
    · rfl
    · show (d.val * 2048 + (y 1).val) / 2048 % 1024 = d.val; omega
    · show (d.val * 2048 + (y 1).val) % 2048 = (y 1).val; omega

end Reference

end Cert.Layer.Merge

namespace Cert.Proof
open Idealize.ShloMosaic Idealize.ShloMosaic.TcCoe Idealize.SL.Sem

/-- The gated merge computes what the reference's does, on all arguments. -/
theorem algebraic_merge : Cert.algebraic_MergeIdeal_MergeReferenceIdeal (hMergeIdeal := Cert.MergeIdeal.Gen.facts) (hMergeReferenceIdeal := Cert.MergeReferenceIdeal.Gen.facts) := by
  intro m g m' g' _ hagree
  refine ⟨fun c => Cert.Layer.Merge.whole (Cert.Layer.Merge.aA m c) (Cert.Layer.Merge.oA m c) (Cert.Layer.Merge.uA m c) (Cert.Layer.Merge.gA m c) (Cert.Layer.Merge.waA m c)
      (Cert.Layer.Merge.woA m c) (Cert.Layer.Merge.wuA m c),
    (θ_run _ _ _).mono (fun r h c => ⟨(h c).1.trans (Cert.Layer.Merge.result m c), (h c).2⟩) (Cert.MergeIdeal.Value.run_blocks (F := Ideal) m g),
    (θ_run _ _ _).mono (fun r h c => ⟨(h c).1.trans ?_, (h c).2⟩) (Cert.MergeReferenceIdeal.Value.run (F := Ideal) m' g')⟩
  obtain ⟨e0, e1, e2, e3, e4, e5, e6⟩ := hagree c
  rw [Cert.MergeReferenceIdeal.Read.val_main_v21_eq, e0, e1, e2, e3, e4, e5, e6]
  exact Cert.Layer.Merge.reference _ _ _ _ _ _ _

end Cert.Proof
end
-- ==== Proof.OutProjPoints.lean ====
module
public import Idealize.ShloMosaic.Lib.Tactic.CleanTypes
public import Idealize.ShloMosaic.Lib.Pipeline.ReadBack
public import proofs.«01_k».proof.Proof.FfnSpec
public import proofs.«01_k».proof.Proof.Gen.OutProjIdeal.Value
@[expose] public section
set_option maxRecDepth 16384
noncomputable section
namespace Cert.Layer.Out
open Idealize.ShloMosaic Idealize.ShloMosaic.TcCoe Cert.Ffn Cert.OutProjIdeal Cert.OutProjIdeal.Gen Cert.OutProjIdeal.Value

/-- An entry of the output projection's block: the residual entry plus the product of a merged row with a column of the weights. -/
abbrev entry (X : FVec Ideal S512x2048 .f32) (M : FVec Ideal S512x2048 .bf16) (W : FVec Ideal S2048x2048 .bf16) (y : S512x2048.Idx) : EReal :=
  X y + ∑ d : Fin 2048, M (ix2 (y 0) d) * W (ix2 d (y 1))

variable (X : FVec Ideal S512x2048 .f32) (M : FVec Ideal S512x2048 .bf16) (W : FVec Ideal S2048x2048 .bf16)

/-- One strip of 512 columns. -/
theorem pay (Y : FVec Ideal S512x512 .f32) (V : FVec Ideal S2048x512 .bf16) (a b : Fin 512) :
    (k0_pay3 (F := Ideal) M Y V (ix2 a b) : EReal) = Y (ix2 a b) + ∑ d : Fin 2048, M (ix2 a d) * V (ix2 d b) := by
  unfold k0_pay3 k0_pay2
  pointwise

/-- What the body leaves in its block. -/
theorem out_eq (y : S512x2048.Idx) : (out0_3 (F := Ideal) X M W y : EReal) = entry X M W y := by
  unfold out0_3
  refine View.canon_apply_of_pieces (Val := Elt Ideal) (e := .f32) (entry X M W) _ ?_ y (cover0_3 _ _ _ _ y)
  intro pc hpc
  simp only [List.mem_cons, List.not_mem_nil, or_false] at hpc
  obtain rfl | rfl | rfl | rfl := hpc <;> intro x
  on_goal 1 => show k0_pay3 (F := Ideal) (View.ld M r0_0) (View.ld X r0_7) (View.ld W r0_8) x = entry X M W (r0_7.idx x)
  on_goal 2 => show k0_pay3 (F := Ideal) (View.ld M r0_0) (View.ld X r0_5) (View.ld W r0_6) x = entry X M W (r0_5.idx x)
  on_goal 3 => show k0_pay3 (F := Ideal) (View.ld M r0_0) (View.ld X r0_3) (View.ld W r0_4) x = entry X M W (r0_3.idx x)
  on_goal 4 => show k0_pay3 (F := Ideal) (View.ld M r0_0) (View.ld X r0_1) (View.ld W r0_2) x = entry X M W (r0_1.idx x)
  all_goals
    refine ((congrArg _ (ValueIdx.eq_ix2 x)).trans (pay _ _ _ (x 0) (x 1))).trans ?_
    refine congrArg₂ (fun a b : EReal => a + b) (congrArg X (congrArg _ (ValueIdx.eq_ix2 x).symm)) (Finset.sum_congr rfl fun d _ => congrArg₂ (fun a b : EReal => a * b) (congrArg M ?_) (congrArg W ?_)) <;>
      (funext a; fin_cases a <;> refine Fin.ext ?_ <;> first | rfl | exact (Nat.zero_add _).trans (Nat.one_mul _))

end Cert.Layer.Out
end
-- ==== Proof.OutProjResult.lean ====
module
public import proofs.«01_k».proof.Defs
public import proofs.«01_k».proof.Proof.OutProjPoints
public import proofs.«01_k».proof.Proof.Gen.OutProjReferenceIdeal.Read
public import proofs.«01_k».proof.Proof.Gen.OutProjReferenceIdeal.Run
@[expose] public section
set_option maxRecDepth 16384
noncomputable section
namespace Cert.Layer.Out
open Idealize.ShloMosaic Idealize.ShloMosaic.TcCoe Cert.Ffn Cert.OutProjIdeal Cert.OutProjIdeal.Gen Cert.OutProjIdeal.Value
open Idealize.SL.Sem

/-- The residual stream plus the merged rows times the weights. -/
abbrev whole (x v : FVec Ideal S1x16384x2048 .f32) (w : FVec Ideal S1x2048x2048 .f32) : FVec Ideal S16384x2048 .f32 := fun y =>
  (x (ix3 0 (y 0) (y 1)) + ∑ d : Fin 2048, v (ix3 0 (y 0) d) * w (ix3 0 d (y 1)) : EReal)

variable (m : (ℓ : Loc nD τ sig) → Buf (Elt Ideal) ℓ) (c : Dev nD)

/-- The residual stream. -/
abbrev xA : FVec Ideal S1x16384x2048 .f32 := m ((c : Thread nD τ).loc main_arg0)
/-- The merged rows. -/
abbrev vA : FVec Ideal S1x16384x2048 .f32 := m ((c : Thread nD τ).loc main_arg1)
/-- The weights. -/
abbrev wA : FVec Ideal S1x2048x2048 .f32 := m ((c : Thread nD τ).loc main_arg2)

/-- The residual rows the call reads. -/
theorem x_entry (r : Fin 16384) (d : Fin 2048) : (V m c main_v0 : FVec Ideal S16384x2048 .f32) (ix2 r d) = xA m c (ix3 0 r d) := by
  entry_read
  clean_types
  pointwise
/-- The merged rows the call reads. -/
theorem v_entry (r : Fin 16384) (d : Fin 2048) : (V m c main_v2 : FVec Ideal S16384x2048 .bf16) (ix2 r d) = vA m c (ix3 0 r d) := by
  entry_read
  clean_types
  pointwise
/-- The weights the call reads. -/
theorem w_entry (d e : Fin 2048) : (V m c main_v4 : FVec Ideal S2048x2048 .bf16) (ix2 d e) = wA m c (ix3 0 d e) := by
  entry_read
  clean_types
  pointwise

/-- Which block each window shows at a point of the grid. -/
theorem idx : ∀ t : Fin cfg0.N, win0_0.index t 0 = t.val ∧ win0_0.index t 1 = 0
    ∧ win0_1.index t 0 = t.val ∧ win0_1.index t 1 = 0
    ∧ win0_2.index t 0 = 0 ∧ win0_2.index t 1 = 0
    ∧ win0_3.index t 0 = t.val ∧ win0_3.index t 1 = 0
    ∧ t.val < 32 := by decide +kernel

/-- The block of residual rows at a point. -/
theorem x_blk (t : Fin cfg0.N) (a : Fin 512) (d : Fin 2048) (r : Fin 16384) (er : r.val = 512 * t.val + a.val) :
    (iblk m c 0 t : FVec Ideal S512x2048 .f32) (ix2 a d) = xA m c (ix3 0 r d) := by
  rw [← x_entry m c r d]
  blk_ext [iblk, idx t]

/-- The block of merged rows at a point. -/
theorem v_blk (t : Fin cfg0.N) (a : Fin 512) (d : Fin 2048) (r : Fin 16384) (er : r.val = 512 * t.val + a.val) :
    (iblk m c 1 t : FVec Ideal S512x2048 .bf16) (ix2 a d) = vA m c (ix3 0 r d) := by
  rw [← v_entry m c r d]
  blk_ext [iblk, idx t]

/-- The weights at a point. -/
theorem w_blk (t : Fin cfg0.N) (d e : Fin 2048) :
    (iblk m c 2 t : FVec Ideal S2048x2048 .bf16) (ix2 d e) = wA m c (ix3 0 d e) := by
  rw [← w_entry m c d e]
  blk_ext [iblk, idx t]

/-- What the call leaves in its result. -/
theorem result : (dats m 0 c).arrAt 3 cfg0.N = whole (xA m c) (vA m c) (wA m c) := by
  refine (dats m 0 c).arrAt_eq_of_covers 3 _ (by decide +kernel) fun t hf y => ?_
  have i0 := (idx t).2.2.2.2.2.2.1
  have i1 := (idx t).2.2.2.2.2.2.2.1
  have ht := (idx t).2.2.2.2.2.2.2.2
  blk_simp
  rw [after0_3]
  have y0 : (y 0).val < 512 := (y 0).isLt
  have y1 : (y 1).val < 2048 := (y 1).isLt
  have e0 : (((win0_3.blk t).view.emb y) 0).val = 512 * t.val + (y 0).val := by blk_simp [i0]; omega
  have e1 : ((win0_3.blk t).view.emb y) 1 = y 1 := by apply Fin.ext; blk_simp [i1]
  refine (out_eq _ _ _ y).trans ?_
  unfold entry whole
  rw [e1]
  refine congrArg₂ (fun a b : EReal => a + b) ?_ (Finset.sum_congr rfl fun d _ => congrArg₂ (fun a b : EReal => a * b) (v_blk m c t _ _ _ e0) (w_blk m c t _ _))
  exact (congrArg _ (ValueIdx.eq_ix2 y)).trans (x_blk m c t (y 0) (y 1) _ e0)

section Reference
open Cert.OutProjReferenceIdeal.Read

/-- The reference's result. -/
theorem reference (x v : FVec Ideal S1x16384x2048 .f32) (w : FVec Ideal S1x2048x2048 .f32) : val_main_v4 (F := Ideal) x v w = whole x v w := by
  funext y
  have h0 : (y 0).val < 16384 := (y 0).isLt
  have h1 : (y 1).val < 2048 := (y 1).isLt
  rw [val_main_v4_apply, val_main_v0_apply, val_main_v3_apply]
  refine congrArg₂ (fun a b : EReal => a + b) (congrArg x ?_) (Finset.sum_congr rfl fun d _ => ?_)
  · funext a
    fin_cases a <;> refine Fin.ext ?_
    · rfl
    · show ((y 0).val * 2048 + (y 1).val) / 2048 % 16384 = (y 0).val; omega
    · show ((y 0).val * 2048 + (y 1).val) % 2048 = (y 1).val; omega
  · rw [val_main_v1_apply, val_main_v2_apply]
    have hd := d.isLt
    refine congrArg₂ (fun a b : EReal => a * b) (congrArg v ?_) (congrArg w ?_)
    · funext a
      fin_cases a <;> refine Fin.ext ?_
      · rfl
      · show ((y 0).val * 2048 + d.val) / 2048 % 16384 = (y 0).val; omega
      · show ((y 0).val * 2048 + d.val) % 2048 = d.val; omega
    · funext a
      fin_cases a <;> refine Fin.ext ?_
      · rfl
      · show (d.val * 2048 + (y 1).val) / 2048 % 2048 = d.val; omega
      · show (d.val * 2048 + (y 1).val) % 2048 = (y 1).val; omega

end Reference

end Cert.Layer.Out

namespace Cert.Proof
open Idealize.ShloMosaic Idealize.ShloMosaic.TcCoe Idealize.SL.Sem

/-- The output projection computes what the reference's does, on all arguments. -/
theorem algebraic_outProj : Cert.algebraic_OutProjIdeal_OutProjReferenceIdeal (hOutProjIdeal := Cert.OutProjIdeal.Gen.facts) (hOutProjReferenceIdeal := Cert.OutProjReferenceIdeal.Gen.facts) := by
  intro m g m' g' _ hagree
  refine ⟨fun c => Cert.Layer.Out.whole (Cert.Layer.Out.xA m c) (Cert.Layer.Out.vA m c) (Cert.Layer.Out.wA m c),
    (θ_run _ _ _).mono (fun r h c => ⟨(h c).1.trans (Cert.Layer.Out.result m c), (h c).2⟩) (Cert.OutProjIdeal.Value.run_blocks (F := Ideal) m g),
    (θ_run _ _ _).mono (fun r h c => ⟨(h c).1.trans ?_, (h c).2⟩) (Cert.OutProjReferenceIdeal.Value.run (F := Ideal) m' g')⟩
  rw [Cert.OutProjReferenceIdeal.Read.val_main_v4_eq, (hagree c).1, (hagree c).2.1, (hagree c).2.2]
  exact Cert.Layer.Out.reference _ _ _

end Cert.Proof
end
-- ==== Proof.GluWeightResult.lean ====
module
public import proofs.«01_k».proof.Defs
public import Idealize.ShloMosaic.Lib.Tactic.CleanTypes
public import Idealize.ShloMosaic.Lib.Pipeline.ReadBack
public import proofs.«01_k».proof.Proof.FfnSpec
public import proofs.«01_k».proof.Proof.Gen.GluWeightIdeal.Value
public import proofs.«01_k».proof.Proof.Gen.GluWeightReferenceIdeal.Read
public import proofs.«01_k».proof.Proof.Gen.GluWeightReferenceIdeal.Run
@[expose] public section
set_option maxRecDepth 16384
noncomputable section
namespace Cert.Layer.Glu
open Idealize.ShloMosaic Idealize.ShloMosaic.TcCoe Cert.Ffn Cert.GluWeightIdeal Cert.GluWeightIdeal.Gen Cert.GluWeightIdeal.Value
open Idealize.SL.Sem

/-- The first 3072 columns of the input weights. -/
abbrev whole (w : FVec Ideal S1x2048x11328 .f32) : FVec Ideal S2048x3072 .bf16 := fun y =>
  (w (ix3 0 (y 0) ⟨(y 1).val, by have h : (y 1).val < 3072 := (y 1).isLt; omega⟩) : EReal)

variable (m : (ℓ : Loc nD τ sig) → Buf (Elt Ideal) ℓ) (c : Dev nD)

/-- The weights. -/
abbrev wA : FVec Ideal S1x2048x11328 .f32 := m ((c : Thread nD τ).loc main_arg0)

/-- The transposed weights the call reads. -/
theorem w_entry (e : Fin 11328) (d : Fin 2048) : (V m c main_v1 : FVec Ideal S11328x2048 .f32) (ix2 e d) = wA m c (ix3 0 d e) := by
  entry_read
  clean_types
  pointwise

/-- Which block each window shows at a point of the grid. -/
theorem idx : ∀ t : Fin cfg0.N, win0_0.index t 0 = t.val ∧ win0_0.index t 1 = 0
    ∧ win0_2.index t 0 = 0 ∧ win0_2.index t 1 = t.val
    ∧ t.val < 6 := by decide +kernel

/-- The block of transposed weights at a point. -/
theorem w_blk (t : Fin cfg0.N) (a : Fin 512) (d : Fin 2048) (e : Fin 11328) (he : e.val = 512 * t.val + a.val) :
    (X0_0 m c t : FVec Ideal S512x2048 .f32) (ix2 a d) = wA m c (ix3 0 d e) := by
  rw [← w_entry m c e d]
  unfold X0_0 Pipeline.Window.fill
  refine (dif_pos (moved0_0 t (ix2 a d))).trans ?_
  blk_ext [iblk, idx t]

/-- A block of the result: a block of transposed weights, transposed back. -/
theorem pay (W : FVec Ideal S512x2048 .f32) (d : Fin 2048) (b : Fin 512) : (k0_pay2 (F := Ideal) (k0_pay1 (F := Ideal) W) (ix2 d b) : EReal) = W (ix2 b d) := by
  unfold k0_pay2 k0_pay1
  pointwise

/-- What the body leaves in its block. -/
theorem out_eq (t : Fin cfg0.N) : (outsAt0 m c t : FVec Ideal S2048x512 .bf16) = k0_pay2 (F := Ideal) (k0_pay1 (X0_0 m c t)) := by
  unfold outsAt0
  frame_out

/-- What the call leaves in its result. -/
theorem result : (dats m 0 c).arrAt 2 cfg0.N = whole (wA m c) := by
  refine (dats m 0 c).arrAt_eq_of_covers 2 _ (by decide +kernel) fun t hf y => ?_
  have i0 := (idx t).2.2.1
  have i1 := (idx t).2.2.2.1
  have ht := (idx t).2.2.2.2
  blk_simp
  rw [after0_2]
  have y0 : (y 0).val < 2048 := (y 0).isLt
  have y1 : (y 1).val < 512 := (y 1).isLt
  have e0 : ((win0_2.blk t).view.emb y) 0 = y 0 := by apply Fin.ext; blk_simp [i0]
  have e1 : (((win0_2.blk t).view.emb y) 1).val = 512 * t.val + (y 1).val := by blk_simp [i1]; omega
  rw [out_eq]
  refine ((congrArg _ (ValueIdx.eq_ix2 y)).trans (pay _ (y 0) (y 1))).trans ?_
  unfold whole
  rw [e0]
  exact w_blk m c t _ _ _ e1

section Reference
open Cert.GluWeightReferenceIdeal.Read

/-- The reference's result. -/
theorem reference (w : FVec Ideal S1x2048x11328 .f32) : val_main_v2 (F := Ideal) w = whole w := by
  funext y
  have h0 : (y 0).val < 2048 := (y 0).isLt
  have h1 : (y 1).val < 3072 := (y 1).isLt
  rw [val_main_v2_apply, val_main_v1_apply, val_main_v0_apply]
  refine congrArg w ?_
  funext a
  fin_cases a <;> refine Fin.ext ?_
  · rfl
  · show ((y 0).val * 11328 + (y 1).val) / 11328 % 2048 = (y 0).val; omega
  · show ((y 0).val * 11328 + (y 1).val) % 11328 = (y 1).val; omega

end Reference

end Cert.Layer.Glu

namespace Cert.Proof
open Idealize.ShloMosaic Idealize.ShloMosaic.TcCoe Idealize.SL.Sem

/-- The gated columns of the input weights are packed as the reference takes them, on all arguments. -/
theorem algebraic_gluWeight : Cert.algebraic_GluWeightIdeal_GluWeightReferenceIdeal (hGluWeightIdeal := Cert.GluWeightIdeal.Gen.facts) (hGluWeightReferenceIdeal := Cert.GluWeightReferenceIdeal.Gen.facts) := by
  intro m g m' g' _ hagree
  refine ⟨fun c => Cert.Layer.Glu.whole (Cert.Layer.Glu.wA m c),
    (θ_run _ _ _).mono (fun r h c => ⟨(h c).1.trans (Cert.Layer.Glu.result m c), (h c).2⟩) (Cert.GluWeightIdeal.Value.run_blocks (F := Ideal) m g),
    (θ_run _ _ _).mono (fun r h c => ⟨(h c).1.trans ?_, (h c).2⟩) (Cert.GluWeightReferenceIdeal.Value.run (F := Ideal) m' g')⟩
  rw [Cert.GluWeightReferenceIdeal.Read.val_main_v2_eq, hagree c]
  exact Cert.Layer.Glu.reference _

end Cert.Proof
end
-- ==== Proof.GateWeightResult.lean ====
module
public import proofs.«01_k».proof.Defs
public import Idealize.ShloMosaic.Lib.Tactic.CleanTypes
public import Idealize.ShloMosaic.Lib.Pipeline.ReadBack
public import proofs.«01_k».proof.Proof.FfnSpec
public import proofs.«01_k».proof.Proof.Gen.GateWeightIdeal.Value
public import proofs.«01_k».proof.Proof.Gen.GateWeightReferenceIdeal.Read
public import proofs.«01_k».proof.Proof.Gen.GateWeightReferenceIdeal.Run
@[expose] public section
set_option maxRecDepth 16384
noncomputable section
namespace Cert.Layer.Gate
open Idealize.ShloMosaic Idealize.ShloMosaic.TcCoe Cert.Ffn Cert.GateWeightIdeal Cert.GateWeightIdeal.Gen Cert.GateWeightIdeal.Value
open Idealize.SL.Sem

/-- The last 6144 columns of the input weights. -/
abbrev whole (w : FVec Ideal S1x2048x11328 .f32) : FVec Ideal S2048x6144 .bf16 := fun y =>
  (w (ix3 0 (y 0) ⟨5184 + (y 1).val, by have h : (y 1).val < 6144 := (y 1).isLt; omega⟩) : EReal)

variable (m : (ℓ : Loc nD τ sig) → Buf (Elt Ideal) ℓ) (c : Dev nD)

/-- The weights. -/
abbrev wA : FVec Ideal S1x2048x11328 .f32 := m ((c : Thread nD τ).loc main_arg0)

/-- The transposed weights the call reads. -/
theorem w_entry (e : Fin 11328) (d : Fin 2048) : (V m c main_v1 : FVec Ideal S11328x2048 .f32) (ix2 e d) = wA m c (ix3 0 d e) := by
  entry_read
  clean_types
  pointwise

/-- Which block each window shows at a point of the grid. -/
theorem idx : ∀ t : Fin cfg0.N, win0_0.index t 0 = t.val + 10 ∧ win0_0.index t 1 = 0
    ∧ win0_1.index t 0 = 8 * t.val + 88 ∧ win0_1.index t 1 = 0
    ∧ win0_2.index t 0 = 0 ∧ win0_2.index t 1 = t.val
    ∧ t.val < 12 := by decide +kernel

/-- The block of transposed weights at a point. -/
theorem w_blk (t : Fin cfg0.N) (a : Fin 512) (d : Fin 2048) (e : Fin 11328) (he : e.val = 5120 + 512 * t.val + a.val) :
    (X0_0 m c t : FVec Ideal S512x2048 .f32) (ix2 a d) = wA m c (ix3 0 d e) := by
  rw [← w_entry m c e d]
  unfold X0_0 Pipeline.Window.fill
  refine (dif_pos (moved0_0 t (ix2 a d))).trans ?_
  blk_ext [iblk, idx t]

/-- The rows of transposed weights that follow the block. -/
theorem n_blk (t : Fin cfg0.N) (a : Fin 64) (d : Fin 2048) (e : Fin 11328) (he : e.val = 5632 + 512 * t.val + a.val) :
    (iblk m c 1 t : FVec Ideal S64x2048 .f32) (ix2 a d) = wA m c (ix3 0 d e) := by
  rw [← w_entry m c e d]
  blk_ext [iblk, idx t]

/-- A block of the result: the kept rows, transposed back. -/
theorem pay (W : FVec Ideal S512x2048 .f32) (d : Fin 2048) (b : Fin 512) : (k0_pay3 (F := Ideal) W (ix2 d b) : EReal) = W (ix2 b d) := by
  unfold k0_pay3
  pointwise

/-- Copying the kept rows of a block changes nothing. -/
theorem pay_rows (W : FVec Ideal S448x2048 .f32) (x : S448x2048.Idx) : (k0_pay1 (F := Ideal) W x : EReal) = W x := by
  unfold k0_pay1
  pointwise

/-- Copying the rows that follow changes nothing. -/
theorem pay_next (W : FVec Ideal S64x2048 .f32) (x : S64x2048.Idx) : (k0_pay2 (F := Ideal) W x : EReal) = W x := by
  unfold k0_pay2
  pointwise

/-- The rows kept in the scratch buffer: a block without its first 64 rows, then the 64 rows that follow it. -/
theorem kept (X : FVec Ideal S512x2048 .f32) (N : FVec Ideal S64x2048 .f32) (G : S512x2048.Idx → EReal)
    (hX : ∀ (a : Fin 448) (d : Fin 2048), (X (ix2 ⟨64 + a.val, by omega⟩ d) : EReal) = G (ix2 ⟨a.val, by omega⟩ d))
    (hN : ∀ (a : Fin 64) (d : Fin 2048), (N (ix2 a d) : EReal) = G (ix2 ⟨448 + a.val, by omega⟩ d)) (y : S512x2048.Idx) :
    View.canon (Val := Elt Ideal) (s := S512x2048) (e := .f32) [⟨Rect.unit ![448, 0] ![64, 2048] inb_S512x2048_S64x2048_448_0, k0_pay2 (F := Ideal) N⟩,
      ⟨Rect.unit ![0, 0] ![448, 2048] inb_S512x2048_S448x2048_0_0,
        k0_pay1 (F := Ideal) (View.ld (Val := Elt Ideal) (e' := .f32) X (Rect.unit ![64, 0] ![448, 2048] inb_S512x2048_S448x2048_64_0))⟩] y = G y := by
  refine View.canon_apply_of_pieces (Val := Elt Ideal) (e := .f32) (S := S512x2048) G _ ?_ _ ?_
  · intro pc hpc
    simp only [List.mem_cons, List.not_mem_nil, or_false] at hpc
    obtain rfl | rfl := hpc <;> intro x
    · refine (pay_next N x).trans ((congrArg N (ValueIdx.eq_ix2 x)).trans ((hN (x 0) (x 1)).trans (congrArg G ?_)))
      funext a
      fin_cases a <;> refine Fin.ext ?_
      · show 448 + (x 0).val = 448 + 1 * (x 0).val; omega
      · show (x 1).val = 0 + 1 * (x 1).val; omega
    · refine (pay_rows (View.ld (Val := Elt Ideal) (e' := .f32) X (Rect.unit ![64, 0] ![448, 2048] inb_S512x2048_S448x2048_64_0)) x).trans (Eq.trans (b := X _) (congrArg X ?_) ((hX (x 0) (x 1)).trans (congrArg G ?_))) <;>
        (funext a; fin_cases a <;> refine Fin.ext ?_)
      · show 64 + 1 * (x 0).val = 64 + (x 0).val; omega
      · show 0 + 1 * (x 1).val = (x 1).val; omega
      · show (x 0).val = 0 + 1 * (x 0).val; omega
      · show (x 1).val = 0 + 1 * (x 1).val; omega
  · have h0 : (y 0).val < 512 := (y 0).isLt
    have h1 : (y 1).val < 2048 := (y 1).isLt
    by_cases hb : (y 0).val < 448
    · refine ⟨_, List.mem_cons_of_mem _ (List.mem_singleton_self _), (Rect.mem_set_unit (inb := inb_S512x2048_S448x2048_0_0)).mpr fun a => ?_⟩
      fin_cases a
      · show 0 ≤ (y 0).val ∧ (y 0).val < 0 + 448; omega
      · show 0 ≤ (y 1).val ∧ (y 1).val < 0 + 2048; omega
    · refine ⟨_, List.mem_cons_self, (Rect.mem_set_unit (inb := inb_S512x2048_S64x2048_448_0)).mpr fun a => ?_⟩
      fin_cases a
      · show 448 ≤ (y 0).val ∧ (y 0).val < 448 + 64; omega
      · show 0 ≤ (y 1).val ∧ (y 1).val < 0 + 2048; omega

/-- What the body leaves in its block, over the rows kept in the scratch buffer. -/
theorem body (t : Fin cfg0.N) (d : Fin 2048) (b : Fin 512) (G : S512x2048.Idx → EReal)
    (hG : ∀ y, View.canon (Val := Elt Ideal) (s := S512x2048) (e := .f32) [⟨Rect.unit ![448, 0] ![64, 2048] inb_S512x2048_S64x2048_448_0, k0_pay2 (F := Ideal) (iblk m c 1 t)⟩,
      ⟨Rect.unit ![0, 0] ![448, 2048] inb_S512x2048_S448x2048_0_0,
        k0_pay1 (F := Ideal) (View.ld (Val := Elt Ideal) (e' := .f32) (X0_0 m c t) (Rect.unit ![64, 0] ![448, 2048] inb_S512x2048_S448x2048_64_0))⟩] y = G y) :
    ((outsAt0 m c t : FVec Ideal S2048x512 .bf16) (ix2 d b) : EReal) = G (ix2 b d) := by
  unfold outsAt0
  frame_out
  refine (pay _ d b).trans ?_
  rw [View.readCov_eq_canon']
  refine (hG _).trans (congrArg G ?_)
  funext a
  fin_cases a <;> refine Fin.ext ?_
  · show 0 + 1 * b.val = b.val; omega
  · show 0 + 1 * d.val = d.val; omega

/-- What the body leaves in its block. -/
theorem out_eq (t : Fin cfg0.N) (d : Fin 2048) (b : Fin 512) (e : Fin 11328) (he : e.val = 5184 + 512 * t.val + b.val) :
    ((outsAt0 m c t : FVec Ideal S2048x512 .bf16) (ix2 d b) : EReal) = wA m c (ix3 0 d e) := by
  have ht := (idx t).2.2.2.2.2.2
  have hX := fun a d => w_blk m c t a d
  have hN := fun a d => n_blk m c t a d
  refine (body m c t d b (fun y => wA m c (ix3 0 (y 1) ⟨5184 + 512 * t.val + (y 0).val, by have h : (y 0).val < 512 := (y 0).isLt; omega⟩)) ?_).trans ?_
  · generalize X0_0 m c t = X at hX ⊢
    generalize iblk m c 1 t = N at hN ⊢
    refine kept X N _ ?_ ?_
    · intro a d
      exact hX _ _ _ (by show 5184 + 512 * t.val + a.val = 5120 + 512 * t.val + (64 + a.val); omega)
    · intro a d
      exact hN _ _ _ (by show 5184 + 512 * t.val + (448 + a.val) = 5632 + 512 * t.val + a.val; omega)
  · exact congrArg (fun e => wA m c (ix3 0 d e)) (Fin.ext he.symm)

/-- What the call leaves in its result. -/
theorem result : (dats m 0 c).arrAt 2 cfg0.N = whole (wA m c) := by
  refine (dats m 0 c).arrAt_eq_of_covers 2 _ (by decide +kernel) fun t hf y => ?_
  have i0 := (idx t).2.2.2.2.1
  have i1 := (idx t).2.2.2.2.2.1
  have ht := (idx t).2.2.2.2.2.2
  blk_simp
  rw [after0_2]
  have y0 : (y 0).val < 2048 := (y 0).isLt
  have y1 : (y 1).val < 512 := (y 1).isLt
  have e0 : ((win0_2.blk t).view.emb y) 0 = y 0 := by apply Fin.ext; blk_simp [i0]
  have e1 : (((win0_2.blk t).view.emb y) 1).val = 512 * t.val + (y 1).val := by blk_simp [i1]; omega
  refine (congrArg _ (ValueIdx.eq_ix2 y)).trans ?_
  unfold whole
  rw [e0]
  exact out_eq m c t _ _ _ (by show 5184 + _ = _; rw [e1]; omega)

section Reference
open Cert.GateWeightReferenceIdeal.Read

/-- The reference's result. -/
theorem reference (w : FVec Ideal S1x2048x11328 .f32) : val_main_v2 (F := Ideal) w = whole w := by
  funext y
  have h0 : (y 0).val < 2048 := (y 0).isLt
  have h1 : (y 1).val < 6144 := (y 1).isLt
  rw [val_main_v2_apply, val_main_v1_apply, val_main_v0_apply]
  refine congrArg w ?_
  funext a
  fin_cases a <;> refine Fin.ext ?_
  · rfl
  · show ((y 0).val * 11328 + (5184 + (y 1).val)) / 11328 % 2048 = (y 0).val; omega
  · show ((y 0).val * 11328 + (5184 + (y 1).val)) % 11328 = 5184 + (y 1).val; omega

end Reference

end Cert.Layer.Gate

namespace Cert.Proof
open Idealize.ShloMosaic Idealize.ShloMosaic.TcCoe Idealize.SL.Sem

/-- The columns of the three gates of the input weights are packed as the reference takes them, on all arguments. -/
theorem algebraic_gateWeight : Cert.algebraic_GateWeightIdeal_GateWeightReferenceIdeal (hGateWeightIdeal := Cert.GateWeightIdeal.Gen.facts) (hGateWeightReferenceIdeal := Cert.GateWeightReferenceIdeal.Gen.facts) := by
  intro m g m' g' _ hagree
  refine ⟨fun c => Cert.Layer.Gate.whole (Cert.Layer.Gate.wA m c),
    (θ_run _ _ _).mono (fun r h c => ⟨(h c).1.trans (Cert.Layer.Gate.result m c), (h c).2⟩) (Cert.GateWeightIdeal.Value.run_blocks (F := Ideal) m g),
    (θ_run _ _ _).mono (fun r h c => ⟨(h c).1.trans ?_, (h c).2⟩) (Cert.GateWeightReferenceIdeal.Value.run (F := Ideal) m' g')⟩
  rw [Cert.GateWeightReferenceIdeal.Read.val_main_v2_eq, hagree c]
  exact Cert.Layer.Gate.reference _

end Cert.Proof
end
-- ==== Proof.lean ====
module

public import proofs.«01_k».proof.Defs
public import proofs.«01_k».proof.Proof.Frames
public import proofs.«01_k».proof.Proof.Algebraic
public import proofs.«01_k».proof.Proof.FfnFrames
public import proofs.«01_k».proof.Proof.LayerFrames
public import proofs.«01_k».proof.Proof.Ffn1Algebraic
public import proofs.«01_k».proof.Proof.Ffn2Algebraic
public import proofs.«01_k».proof.Proof.MemKvResult
public import proofs.«01_k».proof.Proof.MemAttnResult
public import proofs.«01_k».proof.Proof.MergeResult
public import proofs.«01_k».proof.Proof.OutProjResult
public import proofs.«01_k».proof.Proof.GluWeightResult
public import proofs.«01_k».proof.Proof.GateWeightResult

@[expose] public section

noncomputable section

namespace Cert.Proof

open Idealize.ShloMosaic

/-- All that is claimed. -/
theorem claim : Cert.Claim :=
  ⟨Cert.Kernel.Gen.facts, Cert.KernelIdeal.Gen.facts, Cert.ReferenceIdeal.Gen.facts,
    Cert.Ffn2.Gen.facts, Cert.Ffn2Ideal.Gen.facts, Cert.Ffn2ReferenceIdeal.Gen.facts,
    Cert.Ffn1.Gen.facts, Cert.Ffn1Ideal.Gen.facts, Cert.Ffn1ReferenceIdeal.Gen.facts,
    Cert.MemKv.Gen.facts, Cert.MemKvIdeal.Gen.facts, Cert.MemKvReferenceIdeal.Gen.facts,
    Cert.MemAttn.Gen.facts, Cert.MemAttnIdeal.Gen.facts, Cert.MemAttnReferenceIdeal.Gen.facts,
    Cert.Merge.Gen.facts, Cert.MergeIdeal.Gen.facts, Cert.MergeReferenceIdeal.Gen.facts,
    Cert.OutProj.Gen.facts, Cert.OutProjIdeal.Gen.facts, Cert.OutProjReferenceIdeal.Gen.facts,
    Cert.GluWeight.Gen.facts, Cert.GluWeightIdeal.Gen.facts, Cert.GluWeightReferenceIdeal.Gen.facts,
    Cert.GateWeight.Gen.facts, Cert.GateWeightIdeal.Gen.facts, Cert.GateWeightReferenceIdeal.Gen.facts, preFacts,
    frame_kernel, frame_kernelIdeal, @frame_kernelIdeal_pre preFacts, frame_reference, @frame_reference_pre preFacts,
    frame_ffn2, frame_ffn2Ideal, frame_ffn2Reference, frame_ffn1, frame_ffn1Ideal, frame_ffn1Reference,
    frame_memKv, frame_memKvIdeal, frame_memKvReference,
    frame_memAttn, frame_memAttnIdeal, frame_memAttnReference,
    frame_merge, frame_mergeIdeal, frame_mergeReference,
    frame_outProj, frame_outProjIdeal, frame_outProjReference,
    frame_gluWeight, frame_gluWeightIdeal, frame_gluWeightReference,
    frame_gateWeight, frame_gateWeightIdeal, frame_gateWeightReference,
    preserves, @algebraic preFacts, preserves_ffn2, algebraic_ffn2, preserves_ffn1, algebraic_ffn1,
    preserves_memKv, algebraic_memKv,
    preserves_memAttn, algebraic_memAttn,
    preserves_merge, algebraic_merge,
    preserves_outProj, algebraic_outProj,
    preserves_gluWeight, algebraic_gluWeight,
    preserves_gateWeight, algebraic_gateWeight⟩

end Cert.Proof

end
